-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15)
      ∧ r.2.mem ((c.tc : Thread Cert.Kernel9.nD Cert.Kernel9.τ).loc Cert.Kernel9.main_arg16) = m ((c.tc : Thread Cert.Kernel9.nD Cert.Kernel9.τ).loc Cert.Kernel9.main_arg16)
      ∧ r.2.mem ((c.tc : Thread Cert.Kernel9.nD Cert.Kernel9.τ).loc Cert.Kernel9.main_arg17) = m ((c.tc : Thread Cert.Kernel9.nD Cert.Kernel9.τ).loc Cert.Kernel9.main_arg17)
      ∧ r.2.mem ((c.tc : Thread Cert.Kernel9.nD Cert.Kernel9.τ).loc Cert.Kernel9.main_arg18) = m ((c.tc : Thread Cert.Kernel9.nD Cert.Kernel9.τ).loc Cert.Kernel9.main_arg18)
      ∧ r.2.mem ((c.tc : Thread Cert.Kernel9.nD Cert.Kernel9.τ).loc Cert.Kernel9.main_arg19) = m ((c.tc : Thread Cert.Kernel9.nD Cert.Kernel9.τ).loc Cert.Kernel9.main_arg19)
      ∧ r.2.mem ((c.tc : Thread Cert.Kernel9.nD Cert.Kernel9.τ).loc Cert.Kernel9.main_arg20) = m ((c.tc : Thread Cert.Kernel9.nD Cert.Kernel9.τ).loc Cert.Kernel9.main_arg20)
      ∧ r.2.mem ((c.tc : Thread Cert.Kernel9.nD Cert.Kernel9.τ).loc Cert.Kernel9.main_arg21) = m ((c.tc : Thread Cert.Kernel9.nD Cert.Kernel9.τ).loc Cert.Kernel9.main_arg21)
      ∧ r.2.mem ((c.tc : Thread Cert.Kernel9.nD Cert.Kernel9.τ).loc Cert.Kernel9.main_arg22) = m ((c.tc : Thread Cert.Kernel9.nD Cert.Kernel9.τ).loc Cert.Kernel9.main_arg22)
      ∧ r.2.mem ((c.tc : Thread Cert.Kernel9.nD Cert.Kernel9.τ).loc Cert.Kernel9.main_arg23) = m ((c.tc : Thread Cert.Kernel9.nD Cert.Kernel9.τ).loc Cert.Kernel9.main_arg23)
      ∧ r.2.mem ((c.tc : Thread Cert.Kernel9.nD Cert.Kernel9.τ).loc Cert.Kernel9.main_arg24) = m ((c.tc : Thread Cert.Kernel9.nD Cert.Kernel9.τ).loc Cert.Kernel9.main_arg24)
      ∧ r.2.mem ((c.tc : Thread Cert.Kernel9.nD Cert.Kernel9.τ).loc Cert.Kernel9.main_arg25) = m ((c.tc : Thread Cert.Kernel9.nD Cert.Kernel9.τ).loc Cert.Kernel9.main_arg25)
      ∧ r.2.mem ((c.tc : Thread Cert.Kernel9.nD Cert.Kernel9.τ).loc Cert.Kernel9.main_arg26) = m ((c.tc : Thread Cert.Kernel9.nD Cert.Kernel9.τ).loc Cert.Kernel9.main_arg26)
      ∧ r.2.mem ((c.tc : Thread Cert.Kernel9.nD Cert.Kernel9.τ).loc Cert.Kernel9.main_arg27) = m ((c.tc : Thread Cert.Kernel9.nD Cert.Kernel9.τ).loc Cert.Kernel9.main_arg27))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
      ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
      ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
      ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
      ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
      ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
      ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
      ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
      ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
      ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
      ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
      ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
      ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15)
      ∧ r.2.mem ((c.tc : Thread Cert.Reference9Ideal.nD Cert.Reference9Ideal.τ).loc Cert.Reference9Ideal.main_arg16) = m ((c.tc : Thread Cert.Reference9Ideal.nD Cert.Reference9Ideal.τ).loc Cert.Reference9Ideal.main_arg16)
      ∧ r.2.mem ((c.tc : Thread Cert.Reference9Ideal.nD Cert.Reference9Ideal.τ).loc Cert.Reference9Ideal.main_arg17) = m ((c.tc : Thread Cert.Reference9Ideal.nD Cert.Reference9Ideal.τ).loc Cert.Reference9Ideal.main_arg17)
      ∧ r.2.mem ((c.tc : Thread Cert.Reference9Ideal.nD Cert.Reference9Ideal.τ).loc Cert.Reference9Ideal.main_arg18) = m ((c.tc : Thread Cert.Reference9Ideal.nD Cert.Reference9Ideal.τ).loc Cert.Reference9Ideal.main_arg18)
      ∧ r.2.mem ((c.tc : Thread Cert.Reference9Ideal.nD Cert.Reference9Ideal.τ).loc Cert.Reference9Ideal.main_arg19) = m ((c.tc : Thread Cert.Reference9Ideal.nD Cert.Reference9Ideal.τ).loc Cert.Reference9Ideal.main_arg19)
      ∧ r.2.mem ((c.tc : Thread Cert.Reference9Ideal.nD Cert.Reference9Ideal.τ).loc Cert.Reference9Ideal.main_arg20) = m ((c.tc : Thread Cert.Reference9Ideal.nD Cert.Reference9Ideal.τ).loc Cert.Reference9Ideal.main_arg20)
      ∧ r.2.mem ((c.tc : Thread Cert.Reference9Ideal.nD Cert.Reference9Ideal.τ).loc Cert.Reference9Ideal.main_arg21) = m ((c.tc : Thread Cert.Reference9Ideal.nD Cert.Reference9Ideal.τ).loc Cert.Reference9Ideal.main_arg21)
      ∧ r.2.mem ((c.tc : Thread Cert.Reference9Ideal.nD Cert.Reference9Ideal.τ).loc Cert.Reference9Ideal.main_arg22) = m ((c.tc : Thread Cert.Reference9Ideal.nD Cert.Reference9Ideal.τ).loc Cert.Reference9Ideal.main_arg22)
      ∧ r.2.mem ((c.tc : Thread Cert.Reference9Ideal.nD Cert.Reference9Ideal.τ).loc Cert.Reference9Ideal.main_arg23) = m ((c.tc : Thread Cert.Reference9Ideal.nD Cert.Reference9Ideal.τ).loc Cert.Reference9Ideal.main_arg23)
      ∧ r.2.mem ((c.tc : Thread Cert.Reference9Ideal.nD Cert.Reference9Ideal.τ).loc Cert.Reference9Ideal.main_arg24) = m ((c.tc : Thread Cert.Reference9Ideal.nD Cert.Reference9Ideal.τ).loc Cert.Reference9Ideal.main_arg24)
      ∧ r.2.mem ((c.tc : Thread Cert.Reference9Ideal.nD Cert.Reference9Ideal.τ).loc Cert.Reference9Ideal.main_arg25) = m ((c.tc : Thread Cert.Reference9Ideal.nD Cert.Reference9Ideal.τ).loc Cert.Reference9Ideal.main_arg25)
      ∧ r.2.mem ((c.tc : Thread Cert.Reference9Ideal.nD Cert.Reference9Ideal.τ).loc Cert.Reference9Ideal.main_arg26) = m ((c.tc : Thread Cert.Reference9Ideal.nD Cert.Reference9Ideal.τ).loc Cert.Reference9Ideal.main_arg26)
      ∧ r.2.mem ((c.tc : Thread Cert.Reference9Ideal.nD Cert.Reference9Ideal.τ).loc Cert.Reference9Ideal.main_arg27) = m ((c.tc : Thread Cert.Reference9Ideal.nD Cert.Reference9Ideal.τ).loc Cert.Reference9Ideal.main_arg27))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v4)) (v2 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v11) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_v6) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)
      ∧ m' ((c.tc : Thread Cert.Reference9Ideal.nD Cert.Reference9Ideal.τ).loc Cert.Reference9Ideal.main_arg16) = m ((c.tc : Thread Cert.Kernel9Ideal.nD Cert.Kernel9Ideal.τ).loc Cert.Kernel9Ideal.main_arg16)
      ∧ m' ((c.tc : Thread Cert.Reference9Ideal.nD Cert.Reference9Ideal.τ).loc Cert.Reference9Ideal.main_arg17) = m ((c.tc : Thread Cert.Kernel9Ideal.nD Cert.Kernel9Ideal.τ).loc Cert.Kernel9Ideal.main_arg17)
      ∧ m' ((c.tc : Thread Cert.Reference9Ideal.nD Cert.Reference9Ideal.τ).loc Cert.Reference9Ideal.main_arg18) = m ((c.tc : Thread Cert.Kernel9Ideal.nD Cert.Kernel9Ideal.τ).loc Cert.Kernel9Ideal.main_arg18)
      ∧ m' ((c.tc : Thread Cert.Reference9Ideal.nD Cert.Reference9Ideal.τ).loc Cert.Reference9Ideal.main_arg19) = m ((c.tc : Thread Cert.Kernel9Ideal.nD Cert.Kernel9Ideal.τ).loc Cert.Kernel9Ideal.main_arg19)
      ∧ m' ((c.tc : Thread Cert.Reference9Ideal.nD Cert.Reference9Ideal.τ).loc Cert.Reference9Ideal.main_arg20) = m ((c.tc : Thread Cert.Kernel9Ideal.nD Cert.Kernel9Ideal.τ).loc Cert.Kernel9Ideal.main_arg20)
      ∧ m' ((c.tc : Thread Cert.Reference9Ideal.nD Cert.Reference9Ideal.τ).loc Cert.Reference9Ideal.main_arg21) = m ((c.tc : Thread Cert.Kernel9Ideal.nD Cert.Kernel9Ideal.τ).loc Cert.Kernel9Ideal.main_arg21)
      ∧ m' ((c.tc : Thread Cert.Reference9Ideal.nD Cert.Reference9Ideal.τ).loc Cert.Reference9Ideal.main_arg22) = m ((c.tc : Thread Cert.Kernel9Ideal.nD Cert.Kernel9Ideal.τ).loc Cert.Kernel9Ideal.main_arg22)
      ∧ m' ((c.tc : Thread Cert.Reference9Ideal.nD Cert.Reference9Ideal.τ).loc Cert.Reference9Ideal.main_arg23) = m ((c.tc : Thread Cert.Kernel9Ideal.nD Cert.Kernel9Ideal.τ).loc Cert.Kernel9Ideal.main_arg23)
      ∧ m' ((c.tc : Thread Cert.Reference9Ideal.nD Cert.Reference9Ideal.τ).loc Cert.Reference9Ideal.main_arg24) = m ((c.tc : Thread Cert.Kernel9Ideal.nD Cert.Kernel9Ideal.τ).loc Cert.Kernel9Ideal.main_arg24)
      ∧ m' ((c.tc : Thread Cert.Reference9Ideal.nD Cert.Reference9Ideal.τ).loc Cert.Reference9Ideal.main_arg25) = m ((c.tc : Thread Cert.Kernel9Ideal.nD Cert.Kernel9Ideal.τ).loc Cert.Kernel9Ideal.main_arg25)
      ∧ m' ((c.tc : Thread Cert.Reference9Ideal.nD Cert.Reference9Ideal.τ).loc Cert.Reference9Ideal.main_arg26) = m ((c.tc : Thread Cert.Kernel9Ideal.nD Cert.Kernel9Ideal.τ).loc Cert.Kernel9Ideal.main_arg26)
      ∧ m' ((c.tc : Thread Cert.Reference9Ideal.nD Cert.Reference9Ideal.τ).loc Cert.Reference9Ideal.main_arg27) = m ((c.tc : Thread Cert.Kernel9Ideal.nD Cert.Kernel9Ideal.τ).loc Cert.Kernel9Ideal.main_arg27)) →
    ∃ (v0 : (c : Dev Cert.Kernel9Ideal.nD) → Buf (Elt Ideal) ((c.tc : Thread Cert.Kernel9Ideal.nD Cert.Kernel9Ideal.τ).loc Cert.Kernel9Ideal.main_v0_1)) (v1 : (c : Dev Cert.Kernel9Ideal.nD) → Buf (Elt Ideal) ((c.tc : Thread Cert.Kernel9Ideal.nD Cert.Kernel9Ideal.τ).loc Cert.Kernel9Ideal.main_v0_2)) (v2 : (c : Dev Cert.Kernel9Ideal.nD) → Buf (Elt Ideal) ((c.tc : Thread Cert.Kernel9Ideal.nD Cert.Kernel9Ideal.τ).loc Cert.Kernel9Ideal.main_v0_3)) (v3 : (c : Dev Cert.Kernel9Ideal.nD) → Buf (Elt Ideal) ((c.tc : Thread Cert.Kernel9Ideal.nD Cert.Kernel9Ideal.τ).loc Cert.Kernel9Ideal.main_v1_1)) (v4 : (c : Dev Cert.Kernel9Ideal.nD) → Buf (Elt Ideal) ((c.tc : Thread Cert.Kernel9Ideal.nD Cert.Kernel9Ideal.τ).loc Cert.Kernel9Ideal.main_v1_2)) (v5 : (c : Dev Cert.Kernel9Ideal.nD) → Buf (Elt Ideal) ((c.tc : Thread Cert.Kernel9Ideal.nD Cert.Kernel9Ideal.τ).loc Cert.Kernel9Ideal.main_v1_3)) (v6 : (c : Dev Cert.Kernel9Ideal.nD) → Buf (Elt Ideal) ((c.tc : Thread Cert.Kernel9Ideal.nD Cert.Kernel9Ideal.τ).loc Cert.Kernel9Ideal.main_v2_1)) (v7 : (c : Dev Cert.Kernel9Ideal.nD) → Buf (Elt Ideal) ((c.tc : Thread Cert.Kernel9Ideal.nD Cert.Kernel9Ideal.τ).loc Cert.Kernel9Ideal.main_v2_2)) (v8 : (c : Dev Cert.Kernel9Ideal.nD) → Buf (Elt Ideal) ((c.tc : Thread Cert.Kernel9Ideal.nD Cert.Kernel9Ideal.τ).loc Cert.Kernel9Ideal.main_v2_3)) (v9 : (c : Dev Cert.Kernel9Ideal.nD) → Buf (Elt Ideal) ((c.tc : Thread Cert.Kernel9Ideal.nD Cert.Kernel9Ideal.τ).loc Cert.Kernel9Ideal.main_v3_1)) (v10 : (c : Dev Cert.Kernel9Ideal.nD) → Buf (Elt Ideal) ((c.tc : Thread Cert.Kernel9Ideal.nD Cert.Kernel9Ideal.τ).loc Cert.Kernel9Ideal.main_v3_2)) (v11 : (c : Dev Cert.Kernel9Ideal.nD) → Buf (Elt Ideal) ((c.tc : Thread Cert.Kernel9Ideal.nD Cert.Kernel9Ideal.τ).loc Cert.Kernel9Ideal.main_v3_3)) (v12 : (c : Dev Cert.Kernel9Ideal.nD) → Buf (Elt Ideal) ((c.tc : Thread Cert.Kernel9Ideal.nD Cert.Kernel9Ideal.τ).loc Cert.Kernel9Ideal.main_v4_1)) (v13 : (c : Dev Cert.Kernel9Ideal.nD) → Buf (Elt Ideal) ((c.tc : Thread Cert.Kernel9Ideal.nD Cert.Kernel9Ideal.τ).loc Cert.Kernel9Ideal.main_v4_2)) (v14 : (c : Dev Cert.Kernel9Ideal.nD) → Buf (Elt Ideal) ((c.tc : Thread Cert.Kernel9Ideal.nD Cert.Kernel9Ideal.τ).loc Cert.Kernel9Ideal.main_v4_3)) (v15 : (c : Dev Cert.Kernel9Ideal.nD) → Buf (Elt Ideal) ((c.tc : Thread Cert.Kernel9Ideal.nD Cert.Kernel9Ideal.τ).loc Cert.Kernel9Ideal.main_v5_1)) (v16 : (c : Dev Cert.Kernel9Ideal.nD) → Buf (Elt Ideal) ((c.tc : Thread Cert.Kernel9Ideal.nD Cert.Kernel9Ideal.τ).loc Cert.Kernel9Ideal.main_v5_2)) (v17 : (c : Dev Cert.Kernel9Ideal.nD) → Buf (Elt Ideal) ((c.tc : Thread Cert.Kernel9Ideal.nD Cert.Kernel9Ideal.τ).loc Cert.Kernel9Ideal.main_v5_3)) (v18 : (c : Dev Cert.Kernel9Ideal.nD) → Buf (Elt Ideal) ((c.tc : Thread Cert.Kernel9Ideal.nD Cert.Kernel9Ideal.τ).loc Cert.Kernel9Ideal.main_v6_1)) (v19 : (c : Dev Cert.Kernel9Ideal.nD) → Buf (Elt Ideal) ((c.tc : Thread Cert.Kernel9Ideal.nD Cert.Kernel9Ideal.τ).loc Cert.Kernel9Ideal.main_v6_2)) (v20 : (c : Dev Cert.Kernel9Ideal.nD) → Buf (Elt Ideal) ((c.tc : Thread Cert.Kernel9Ideal.nD Cert.Kernel9Ideal.τ).loc Cert.Kernel9Ideal.main_v6_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_1) = v0 c
          ∧ r.2.mem ((c.tc : Thread Cert.Kernel9Ideal.nD Cert.Kernel9Ideal.τ).loc Cert.Kernel9Ideal.main_v0_2) = v1 c
          ∧ r.2.mem ((c.tc : Thread Cert.Kernel9Ideal.nD Cert.Kernel9Ideal.τ).loc Cert.Kernel9Ideal.main_v0_3) = v2 c
          ∧ r.2.mem ((c.tc : Thread Cert.Kernel9Ideal.nD Cert.Kernel9Ideal.τ).loc Cert.Kernel9Ideal.main_v1_1) = v3 c
          ∧ r.2.mem ((c.tc : Thread Cert.Kernel9Ideal.nD Cert.Kernel9Ideal.τ).loc Cert.Kernel9Ideal.main_v1_2) = v4 c
          ∧ r.2.mem ((c.tc : Thread Cert.Kernel9Ideal.nD Cert.Kernel9Ideal.τ).loc Cert.Kernel9Ideal.main_v1_3) = v5 c
          ∧ r.2.mem ((c.tc : Thread Cert.Kernel9Ideal.nD Cert.Kernel9Ideal.τ).loc Cert.Kernel9Ideal.main_v2_1) = v6 c
          ∧ r.2.mem ((c.tc : Thread Cert.Kernel9Ideal.nD Cert.Kernel9Ideal.τ).loc Cert.Kernel9Ideal.main_v2_2) = v7 c
          ∧ r.2.mem ((c.tc : Thread Cert.Kernel9Ideal.nD Cert.Kernel9Ideal.τ).loc Cert.Kernel9Ideal.main_v2_3) = v8 c
          ∧ r.2.mem ((c.tc : Thread Cert.Kernel9Ideal.nD Cert.Kernel9Ideal.τ).loc Cert.Kernel9Ideal.main_v3_1) = v9 c
          ∧ r.2.mem ((c.tc : Thread Cert.Kernel9Ideal.nD Cert.Kernel9Ideal.τ).loc Cert.Kernel9Ideal.main_v3_2) = v10 c
          ∧ r.2.mem ((c.tc : Thread Cert.Kernel9Ideal.nD Cert.Kernel9Ideal.τ).loc Cert.Kernel9Ideal.main_v3_3) = v11 c
          ∧ r.2.mem ((c.tc : Thread Cert.Kernel9Ideal.nD Cert.Kernel9Ideal.τ).loc Cert.Kernel9Ideal.main_v4_1) = v12 c
          ∧ r.2.mem ((c.tc : Thread Cert.Kernel9Ideal.nD Cert.Kernel9Ideal.τ).loc Cert.Kernel9Ideal.main_v4_2) = v13 c
          ∧ r.2.mem ((c.tc : Thread Cert.Kernel9Ideal.nD Cert.Kernel9Ideal.τ).loc Cert.Kernel9Ideal.main_v4_3) = v14 c
          ∧ r.2.mem ((c.tc : Thread Cert.Kernel9Ideal.nD Cert.Kernel9Ideal.τ).loc Cert.Kernel9Ideal.main_v5_1) = v15 c
          ∧ r.2.mem ((c.tc : Thread Cert.Kernel9Ideal.nD Cert.Kernel9Ideal.τ).loc Cert.Kernel9Ideal.main_v5_2) = v16 c
          ∧ r.2.mem ((c.tc : Thread Cert.Kernel9Ideal.nD Cert.Kernel9Ideal.τ).loc Cert.Kernel9Ideal.main_v5_3) = v17 c
          ∧ r.2.mem ((c.tc : Thread Cert.Kernel9Ideal.nD Cert.Kernel9Ideal.τ).loc Cert.Kernel9Ideal.main_v6_1) = v18 c
          ∧ r.2.mem ((c.tc : Thread Cert.Kernel9Ideal.nD Cert.Kernel9Ideal.τ).loc Cert.Kernel9Ideal.main_v6_2) = v19 c
          ∧ r.2.mem ((c.tc : Thread Cert.Kernel9Ideal.nD Cert.Kernel9Ideal.τ).loc Cert.Kernel9Ideal.main_v6_3) = v20 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
          ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
          ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
          ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
          ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
          ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
          ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
          ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
          ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
          ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
          ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
          ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
          ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v47) = v3 c
          ∧ r.2.mem ((c.tc : Thread Cert.Reference9Ideal.nD Cert.Reference9Ideal.τ).loc Cert.Reference9Ideal.main_v28) = v4 c
          ∧ r.2.mem ((c.tc : Thread Cert.Reference9Ideal.nD Cert.Reference9Ideal.τ).loc Cert.Reference9Ideal.main_v34) = v5 c
          ∧ r.2.mem ((c.tc : Thread Cert.Reference9Ideal.nD Cert.Reference9Ideal.τ).loc Cert.Reference9Ideal.main_v71) = v6 c
          ∧ r.2.mem ((c.tc : Thread Cert.Reference9Ideal.nD Cert.Reference9Ideal.τ).loc Cert.Reference9Ideal.main_v52) = v7 c
          ∧ r.2.mem ((c.tc : Thread Cert.Reference9Ideal.nD Cert.Reference9Ideal.τ).loc Cert.Reference9Ideal.main_v58) = v8 c
          ∧ r.2.mem ((c.tc : Thread Cert.Reference9Ideal.nD Cert.Reference9Ideal.τ).loc Cert.Reference9Ideal.main_v95) = v9 c
          ∧ r.2.mem ((c.tc : Thread Cert.Reference9Ideal.nD Cert.Reference9Ideal.τ).loc Cert.Reference9Ideal.main_v76) = v10 c
          ∧ r.2.mem ((c.tc : Thread Cert.Reference9Ideal.nD Cert.Reference9Ideal.τ).loc Cert.Reference9Ideal.main_v82) = v11 c
          ∧ r.2.mem ((c.tc : Thread Cert.Reference9Ideal.nD Cert.Reference9Ideal.τ).loc Cert.Reference9Ideal.main_v119) = v12 c
          ∧ r.2.mem ((c.tc : Thread Cert.Reference9Ideal.nD Cert.Reference9Ideal.τ).loc Cert.Reference9Ideal.main_v100) = v13 c
          ∧ r.2.mem ((c.tc : Thread Cert.Reference9Ideal.nD Cert.Reference9Ideal.τ).loc Cert.Reference9Ideal.main_v106) = v14 c
          ∧ r.2.mem ((c.tc : Thread Cert.Reference9Ideal.nD Cert.Reference9Ideal.τ).loc Cert.Reference9Ideal.main_v143) = v15 c
          ∧ r.2.mem ((c.tc : Thread Cert.Reference9Ideal.nD Cert.Reference9Ideal.τ).loc Cert.Reference9Ideal.main_v124) = v16 c
          ∧ r.2.mem ((c.tc : Thread Cert.Reference9Ideal.nD Cert.Reference9Ideal.τ).loc Cert.Reference9Ideal.main_v130) = v17 c
          ∧ r.2.mem ((c.tc : Thread Cert.Reference9Ideal.nD Cert.Reference9Ideal.τ).loc Cert.Reference9Ideal.main_v167) = v18 c
          ∧ r.2.mem ((c.tc : Thread Cert.Reference9Ideal.nD Cert.Reference9Ideal.τ).loc Cert.Reference9Ideal.main_v148) = v19 c
          ∧ r.2.mem ((c.tc : Thread Cert.Reference9Ideal.nD Cert.Reference9Ideal.τ).loc Cert.Reference9Ideal.main_v154) = v20 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15)
          ∧ r.2.mem ((c.tc : Thread Cert.Reference9Ideal.nD Cert.Reference9Ideal.τ).loc Cert.Reference9Ideal.main_arg16) = m' ((c.tc : Thread Cert.Reference9Ideal.nD Cert.Reference9Ideal.τ).loc Cert.Reference9Ideal.main_arg16)
          ∧ r.2.mem ((c.tc : Thread Cert.Reference9Ideal.nD Cert.Reference9Ideal.τ).loc Cert.Reference9Ideal.main_arg17) = m' ((c.tc : Thread Cert.Reference9Ideal.nD Cert.Reference9Ideal.τ).loc Cert.Reference9Ideal.main_arg17)
          ∧ r.2.mem ((c.tc : Thread Cert.Reference9Ideal.nD Cert.Reference9Ideal.τ).loc Cert.Reference9Ideal.main_arg18) = m' ((c.tc : Thread Cert.Reference9Ideal.nD Cert.Reference9Ideal.τ).loc Cert.Reference9Ideal.main_arg18)
          ∧ r.2.mem ((c.tc : Thread Cert.Reference9Ideal.nD Cert.Reference9Ideal.τ).loc Cert.Reference9Ideal.main_arg19) = m' ((c.tc : Thread Cert.Reference9Ideal.nD Cert.Reference9Ideal.τ).loc Cert.Reference9Ideal.main_arg19)
          ∧ r.2.mem ((c.tc : Thread Cert.Reference9Ideal.nD Cert.Reference9Ideal.τ).loc Cert.Reference9Ideal.main_arg20) = m' ((c.tc : Thread Cert.Reference9Ideal.nD Cert.Reference9Ideal.τ).loc Cert.Reference9Ideal.main_arg20)
          ∧ r.2.mem ((c.tc : Thread Cert.Reference9Ideal.nD Cert.Reference9Ideal.τ).loc Cert.Reference9Ideal.main_arg21) = m' ((c.tc : Thread Cert.Reference9Ideal.nD Cert.Reference9Ideal.τ).loc Cert.Reference9Ideal.main_arg21)
          ∧ r.2.mem ((c.tc : Thread Cert.Reference9Ideal.nD Cert.Reference9Ideal.τ).loc Cert.Reference9Ideal.main_arg22) = m' ((c.tc : Thread Cert.Reference9Ideal.nD Cert.Reference9Ideal.τ).loc Cert.Reference9Ideal.main_arg22)
          ∧ r.2.mem ((c.tc : Thread Cert.Reference9Ideal.nD Cert.Reference9Ideal.τ).loc Cert.Reference9Ideal.main_arg23) = m' ((c.tc : Thread Cert.Reference9Ideal.nD Cert.Reference9Ideal.τ).loc Cert.Reference9Ideal.main_arg23)
          ∧ r.2.mem ((c.tc : Thread Cert.Reference9Ideal.nD Cert.Reference9Ideal.τ).loc Cert.Reference9Ideal.main_arg24) = m' ((c.tc : Thread Cert.Reference9Ideal.nD Cert.Reference9Ideal.τ).loc Cert.Reference9Ideal.main_arg24)
          ∧ r.2.mem ((c.tc : Thread Cert.Reference9Ideal.nD Cert.Reference9Ideal.τ).loc Cert.Reference9Ideal.main_arg25) = m' ((c.tc : Thread Cert.Reference9Ideal.nD Cert.Reference9Ideal.τ).loc Cert.Reference9Ideal.main_arg25)
          ∧ r.2.mem ((c.tc : Thread Cert.Reference9Ideal.nD Cert.Reference9Ideal.τ).loc Cert.Reference9Ideal.main_arg26) = m' ((c.tc : Thread Cert.Reference9Ideal.nD Cert.Reference9Ideal.τ).loc Cert.Reference9Ideal.main_arg26)
          ∧ r.2.mem ((c.tc : Thread Cert.Reference9Ideal.nD Cert.Reference9Ideal.τ).loc Cert.Reference9Ideal.main_arg27) = m' ((c.tc : Thread Cert.Reference9Ideal.nD Cert.Reference9Ideal.τ).loc Cert.Reference9Ideal.main_arg27))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite2.lean ====
abbrev S4096x2048 : Shape := ⟨2, ![4096, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v4 : IVec S_ 1) (main_v9 : IVec S_ 1) (main_v14 : IVec S_ 1) (main_v16 : FVec F S4096x2048 .f32) (main_cst_4 : FVec F S_ .f32) : IVec S_ 1 :=
  let main_v17 : FVec F S4096x2048 .f32 := broadcastInDim S4096x2048 ![] bcast_S_S4096x2048 main_cst_4
  let main_v18 : IVec S4096x2048 1 := cmpf .olt main_v16 main_v17
  let main_c_5 : IVec S_ 1 := constantI S_ 1 1#1
  let main_v19 : IVec S_ 1 := (fun x v => Host.reduce IntOp.andi x v reducesTo_S4096x2048_S_d0_1 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S4096x2048 .bf16) (main_arg1 : FVec F S2048x5632 .bf16) (main_arg2 : FVec F S2048x5632 .bf16) (main_arg3 : FVec F S5632x2048 .bf16) (main_arg4 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x5632 .f32 := (extf .f32 · bitsLt_bf16_f32) main_arg2
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : FVec F S5632x2048 .f32 := (extf .f32 · bitsLt_bf16_f32) main_arg3
  let main_v11 : FVec F S5632x2048 .f32 := Host.absf main_v10
  let main_cst_2 : FVec F S_ .f32 := constant S_ .f32 0x7F800000#32
  let main_v12 : FVec F S5632x2048 .f32 := broadcastInDim S5632x2048 ![] bcast_S_S5632x2048 main_cst_2
  let main_v13 : IVec S5632x2048 1 := cmpf .olt main_v11 main_v12
  let main_c_3 : IVec S_ 1 := constantI S_ 1 1#1
  let main_v14 : IVec S_ 1 := (fun x v => Host.reduce IntOp.andi x v reducesTo_S5632x2048_S_d0_1 h_S_) main_v13 main_c_3
  let main_v15 : FVec F S4096x2048 .f32 := (extf .f32 · bitsLt_bf16_f32) main_arg4
  let main_v16 : FVec F S4096x2048 .f32 := Host.absf main_v15
  let main_cst_4 : FVec F S_ .f32 := constant S_ .f32 0x7F800000#32
  fn_part1 (F := F) main_v4 main_v9 main_v14 main_v16 main_cst_4
-- ==== Kernel.lean ====
abbrev S4096x1024 : Shape := ⟨2, ![4096, 1024]⟩
abbrev S4096x7168 : Shape := ⟨2, ![4096, 7168]⟩
abbrev S1x8 : Shape := ⟨2, ![1, 8]⟩
abbrev S8 : Shape := ⟨1, ![8]⟩
abbrev S4096x128 : Shape := ⟨2, ![4096, 128]⟩
abbrev S32x128x128 : Shape := ⟨3, ![32, 128, 128]⟩
abbrev S1 : Shape := ⟨1, ![1]⟩
abbrev S128x128 : Shape := ⟨2, ![128, 128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 11
  | .vmem => 9
  | .smem => 2
  | _ => 0

abbrev bufTy : (tb : Table) → Fin (tcTables nBuf tb) → BufTy
  | .hbm, ⟨0, _⟩ => ⟨S4096x1024, .bf16⟩
  | .hbm, ⟨1, _⟩ => ⟨S4096x7168, .bf16⟩
  | .hbm, ⟨2, _⟩ => ⟨S1x8, .f32⟩
  | .hbm, ⟨3, _⟩ => ⟨S1x8, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S32x128x128, .bf16⟩
  | .local _ .smem, ⟨0, _⟩ => ⟨S8, .f32⟩
  | .local _ .smem, ⟨1, _⟩ => ⟨S8, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let c0_i32 : BitVec 32 := 0#32
  let arg0 : BitVec 32 := BitVec.ofNat 32 (i 0).val
  let v0 : BitVec 32 := Scalar.addi c0_i32 arg0
  let v1 : Index := Scalar.indexCast v0
  ![v1.toNat]
@[reducible] def k0_t1_loop : Scf.Loop 32 :=
  let c0_i32_13 : BitVec 32 := 0#32
  let c4_i32 : BitVec 32 := 4#32
  let v60 : BitVec 32 := Scalar.addi c0_i32_13 c4_i32
  let c1_i32 : BitVec 32 := 1#32
  ⟨c0_i32_13, v60, c1_i32⟩
def k0_off2 (k0_t1 : Fin k0_t1_loop.trips) (c0_i32_20 : BitVec 32) : Fin 3 → Nat :=
  let c31_i32 : BitVec 32 := 31#32
  let c0_i32_13 : BitVec 32 := 0#32
  let c1_i32 : BitVec 32 := 1#32
  let arg8 : BitVec 32 := Scf.iv c0_i32_13 c1_i32 k0_t1
  let c8_i32 : BitVec 32 := 8#32
  let v65 : BitVec 32 := Scalar.muli arg8 c8_i32
  let v66 : BitVec 32 := Scalar.addi v65 c0_i32_20
  let v67 : BitVec 32 := Scalar.subi c31_i32 v66
  let v69 : Index := Scalar.indexCast v67
  let c0 : Index := 0#32
  let c0_21 : Index := 0#32
  ![v69.toNat, 0, 0]
def k0_mult1 (k0_t1 : Fin k0_t1_loop.trips) : BitVec 32 :=
  let c31_i32 : BitVec 32 := 31#32
  let c0_i32_13 : BitVec 32 := 0#32
  let c1_i32 : BitVec 32 := 1#32
  let arg8 : BitVec 32 := Scf.iv c0_i32_13 c1_i32 k0_t1
  let c8_i32 : BitVec 32 := 8#32
  let v65 : BitVec 32 := Scalar.muli arg8 c8_i32
  let c0_i32_20 : BitVec 32 := 0#32
  let v66 : BitVec 32 := Scalar.addi v65 c0_i32_20
  let v67 : BitVec 32 := Scalar.subi c31_i32 v66
  let c128_i32 : BitVec 32 := 128#32
  let v73 : BitVec 32 := Scalar.muli v67 c128_i32
  v73
def k0_off3 (k0_t1 : Fin k0_t1_loop.trips) (c0_i32_20 : BitVec 32) : Fin 2 → Nat :=
  let c31_i32 : BitVec 32 := 31#32
  let c0_i32_13 : BitVec 32 := 0#32
  let c1_i32 : BitVec 32 := 1#32
  let arg8 : BitVec 32 := Scf.iv c0_i32_13 c1_i32 k0_t1
  let c8_i32 : BitVec 32 := 8#32
  let v65 : BitVec 32 := Scalar.muli arg8 c8_i32
  let v66 : BitVec 32 := Scalar.addi v65 c0_i32_20
  let v67 : BitVec 32 := Scalar.subi c31_i32 v66
  let c128_i32 : BitVec 32 := 128#32
  let v73 : BitVec 32 := Scalar.muli v67 c128_i32
  let v74 : BitVec 32 := v73
  let v77 : Index := Scalar.indexCast v74
  let c0_22 : Index := 0#32
  ![v77.toNat, 0]
def k0_mult2 (k0_t1 : Fin k0_t1_loop.trips) : BitVec 32 :=
  let c31_i32_27 : BitVec 32 := 31#32
  let c0_i32_13 : BitVec 32 := 0#32
  let c1_i32 : BitVec 32 := 1#32
  let arg8 : BitVec 32 := Scf.iv c0_i32_13 c1_i32 k0_t1
  let c8_i32_25 : BitVec 32 := 8#32
  let v87 : BitVec 32 := Scalar.muli arg8 c8_i32_25
  let c1_i32_26 : BitVec 32 := 1#32
  let v88 : BitVec 32 := Scalar.addi v87 c1_i32_26
  let v89 : BitVec 32 := Scalar.subi c31_i32_27 v88
  let c128_i32_30 : BitVec 32 := 128#32
  let v95 : BitVec 32 := Scalar.muli v89 c128_i32_30
  v95
def k0_mult3 (k0_t1 : Fin k0_t1_loop.trips) : BitVec 32 :=
  let c31_i32_35 : BitVec 32 := 31#32
  let c0_i32_13 : BitVec 32 := 0#32
  let c1_i32 : BitVec 32 := 1#32
  let arg8 : BitVec 32 := Scf.iv c0_i32_13 c1_i32 k0_t1
  let c8_i32_34 : BitVec 32 := 8#32
  let v109 : BitVec 32 := Scalar.muli arg8 c8_i32_34
  let c2_i32 : BitVec 32 := 2#32
  let v110 : BitVec 32 := Scalar.addi v109 c2_i32
  let v111 : BitVec 32 := Scalar.subi c31_i32_35 v110
  let c128_i32_38 : BitVec 32 := 128#32
  let v117 : BitVec 32 := Scalar.muli v111 c128_i32_38
  v117
def k0_mult4 (k0_t1 : Fin k0_t1_loop.trips) : BitVec 32 :=
  let c31_i32_43 : BitVec 32 := 31#32
  let c0_i32_13 : BitVec 32 := 0#32
  let c1_i32 : BitVec 32 := 1#32
  let arg8 : BitVec 32 := Scf.iv c0_i32_13 c1_i32 k0_t1
  let c8_i32_42 : BitVec 32 := 8#32
  let v131 : BitVec 32 := Scalar.muli arg8 c8_i32_42
  let c3_i32 : BitVec 32 := 3#32
  let v132 : BitVec 32 := Scalar.addi v131 c3_i32
  let v133 : BitVec 32 := Scalar.subi c31_i32_43 v132
  let c128_i32_46 : BitVec 32 := 128#32
  let v139 : BitVec 32 := Scalar.muli v133 c128_i32_46
  v139
def k0_mult5 (k0_t1 : Fin k0_t1_loop.trips) : BitVec 32 :=
  let c31_i32_52 : BitVec 32 := 31#32
  let c0_i32_13 : BitVec 32 := 0#32
  let c1_i32 : BitVec 32 := 1#32
  let arg8 : BitVec 32 := Scf.iv c0_i32_13 c1_i32 k0_t1
  let c8_i32_50 : BitVec 32 := 8#32
  let v153 : BitVec 32 := Scalar.muli arg8 c8_i32_50
  let c4_i32_51 : BitVec 32 := 4#32
  let v154 : BitVec 32 := Scalar.addi v153 c4_i32_51
  let v155 : BitVec 32 := Scalar.subi c31_i32_52 v154
  let c128_i32_55 : BitVec 32 := 128#32
  let v161 : BitVec 32 := Scalar.muli v155 c128_i32_55
  v161
def k0_mult6 (k0_t1 : Fin k0_t1_loop.trips) : BitVec 32 :=
  let c31_i32_60 : BitVec 32 := 31#32
  let c0_i32_13 : BitVec 32 := 0#32
  let c1_i32 : BitVec 32 := 1#32
  let arg8 : BitVec 32 := Scf.iv c0_i32_13 c1_i32 k0_t1
  let c8_i32_59 : BitVec 32 := 8#32
  let v175 : BitVec 32 := Scalar.muli arg8 c8_i32_59
  let c5_i32 : BitVec 32 := 5#32
  let v176 : BitVec 32 := Scalar.addi v175 c5_i32
  let v177 : BitVec 32 := Scalar.subi c31_i32_60 v176
  let c128_i32_63 : BitVec 32 := 128#32
  let v183 : BitVec 32 := Scalar.muli v177 c128_i32_63
  v183
def k0_mult7 (k0_t1 : Fin k0_t1_loop.trips) : BitVec 32 :=
  let c31_i32_68 : BitVec 32 := 31#32
  let c0_i32_13 : BitVec 32 := 0#32
  let c1_i32 : BitVec 32 := 1#32
  let arg8 : BitVec 32 := Scf.iv c0_i32_13 c1_i32 k0_t1
  let c8_i32_67 : BitVec 32 := 8#32
  let v197 : BitVec 32 := Scalar.muli arg8 c8_i32_67
  let c6_i32 : BitVec 32 := 6#32
  let v198 : BitVec 32 := Scalar.addi v197 c6_i32
  let v199 : BitVec 32 := Scalar.subi c31_i32_68 v198
  let c128_i32_71 : BitVec 32 := 128#32
  let v205 : BitVec 32 := Scalar.muli v199 c128_i32_71
  v205
def k0_mult8 (k0_t1 : Fin k0_t1_loop.trips) : BitVec 32 :=
  let c31_i32_76 : BitVec 32 := 31#32
  let c0_i32_13 : BitVec 32 := 0#32
  let c1_i32 : BitVec 32 := 1#32
  let arg8 : BitVec 32 := Scf.iv c0_i32_13 c1_i32 k0_t1
  let c8_i32_75 : BitVec 32 := 8#32
  let v219 : BitVec 32 := Scalar.muli arg8 c8_i32_75
  let c7_i32 : BitVec 32 := 7#32
  let v220 : BitVec 32 := Scalar.addi v219 c7_i32
  let v221 : BitVec 32 := Scalar.subi c31_i32_76 v220
  let c128_i32_79 : BitVec 32 := 128#32
  let v227 : BitVec 32 := Scalar.muli v221 c128_i32_79
  v227
@[reducible] def k0_t2_loop : Scf.Loop 32 :=
  let c0_i32_16 : BitVec 32 := 0#32
  let c4_i32_17 : BitVec 32 := 4#32
  let v63 : BitVec 32 := Scalar.addi c0_i32_16 c4_i32_17
  let c1_i32_18 : BitVec 32 := 1#32
  ⟨c0_i32_16, v63, c1_i32_18⟩
def k0_mult9 (k0_t2 : Fin k0_t2_loop.trips) : BitVec 32 :=
  let c0_i32_16 : BitVec 32 := 0#32
  let c1_i32_18 : BitVec 32 := 1#32
  let arg8 : BitVec 32 := Scf.iv c0_i32_16 c1_i32_18 k0_t2
  let c8_i32 : BitVec 32 := 8#32
  let v65 : BitVec 32 := Scalar.muli arg8 c8_i32
  let c0_i32_20 : BitVec 32 := 0#32
  let v66 : BitVec 32 := Scalar.addi v65 c0_i32_20
  let c128_i32 : BitVec 32 := 128#32
  let v67 : BitVec 32 := Scalar.muli v66 c128_i32
  v67
def k0_off4 (k0_t2 : Fin k0_t2_loop.trips) (c0_i32_20 : BitVec 32) : Fin 2 → Nat :=
  let c0_i32_16 : BitVec 32 := 0#32
  let c1_i32_18 : BitVec 32 := 1#32
  let arg8 : BitVec 32 := Scf.iv c0_i32_16 c1_i32_18 k0_t2
  let c8_i32 : BitVec 32 := 8#32
  let v65 : BitVec 32 := Scalar.muli arg8 c8_i32
  let v66 : BitVec 32 := Scalar.addi v65 c0_i32_20
  let c128_i32 : BitVec 32 := 128#32
  let v67 : BitVec 32 := Scalar.muli v66 c128_i32
  let v68 : BitVec 32 := v67
  let v69 : Index := Scalar.indexCast v68
  let c0 : Index := 0#32
  ![v69.toNat, 0]
def k0_off5 (k0_t2 : Fin k0_t2_loop.trips) (c0_i32_20 : BitVec 32) : Fin 3 → Nat :=
  let c0_i32_16 : BitVec 32 := 0#32
  let c1_i32_18 : BitVec 32 := 1#32
  let arg8 : BitVec 32 := Scf.iv c0_i32_16 c1_i32_18 k0_t2
  let c8_i32 : BitVec 32 := 8#32
  let v65 : BitVec 32 := Scalar.muli arg8 c8_i32
  let v66 : BitVec 32 := Scalar.addi v65 c0_i32_20
  let v90 : Index := Scalar.indexCast v66
  let c0_26 : Index := 0#32
  let c0_27 : Index := 0#32
  ![v90.toNat, 0, 0]
def k0_mult10 (k0_t2 : Fin k0_t2_loop.trips) : BitVec 32 :=
  let c0_i32_16 : BitVec 32 := 0#32
  let c1_i32_18 : BitVec 32 := 1#32
  let arg8 : BitVec 32 := Scf.iv c0_i32_16 c1_i32_18 k0_t2
  let c8_i32_32 : BitVec 32 := 8#32
  let v108 : BitVec 32 := Scalar.muli arg8 c8_i32_32
  let c1_i32_33 : BitVec 32 := 1#32
  let v109 : BitVec 32 := Scalar.addi v108 c1_i32_33
  let c128_i32_34 : BitVec 32 := 128#32
  let v110 : BitVec 32 := Scalar.muli v109 c128_i32_34
  v110
def k0_mult11 (k0_t2 : Fin k0_t2_loop.trips) : BitVec 32 :=
  let c0_i32_16 : BitVec 32 := 0#32
  let c1_i32_18 : BitVec 32 := 1#32
  let arg8 : BitVec 32 := Scf.iv c0_i32_16 c1_i32_18 k0_t2
  let c8_i32_47 : BitVec 32 := 8#32
  let v151 : BitVec 32 := Scalar.muli arg8 c8_i32_47
  let c2_i32 : BitVec 32 := 2#32
  let v152 : BitVec 32 := Scalar.addi v151 c2_i32
  let c128_i32_48 : BitVec 32 := 128#32
  let v153 : BitVec 32 := Scalar.muli v152 c128_i32_48
  v153
def k0_mult12 (k0_t2 : Fin k0_t2_loop.trips) : BitVec 32 :=
  let c0_i32_16 : BitVec 32 := 0#32
  let c1_i32_18 : BitVec 32 := 1#32
  let arg8 : BitVec 32 := Scf.iv c0_i32_16 c1_i32_18 k0_t2
  let c8_i32_61 : BitVec 32 := 8#32
  let v194 : BitVec 32 := Scalar.muli arg8 c8_i32_61
  let c3_i32 : BitVec 32 := 3#32
  let v195 : BitVec 32 := Scalar.addi v194 c3_i32
  let c128_i32_62 : BitVec 32 := 128#32
  let v196 : BitVec 32 := Scalar.muli v195 c128_i32_62
  v196
def k0_mult13 (k0_t2 : Fin k0_t2_loop.trips) : BitVec 32 :=
  let c0_i32_16 : BitVec 32 := 0#32
  let c1_i32_18 : BitVec 32 := 1#32
  let arg8 : BitVec 32 := Scf.iv c0_i32_16 c1_i32_18 k0_t2
  let c8_i32_75 : BitVec 32 := 8#32
  let v237 : BitVec 32 := Scalar.muli arg8 c8_i32_75
  let c4_i32_76 : BitVec 32 := 4#32
  let v238 : BitVec 32 := Scalar.addi v237 c4_i32_76
  let c128_i32_77 : BitVec 32 := 128#32
  let v239 : BitVec 32 := Scalar.muli v238 c128_i32_77
  v239
def k0_mult14 (k0_t2 : Fin k0_t2_loop.trips) : BitVec 32 :=
  let c0_i32_16 : BitVec 32 := 0#32
  let c1_i32_18 : BitVec 32 := 1#32
  let arg8 : BitVec 32 := Scf.iv c0_i32_16 c1_i32_18 k0_t2
  let c8_i32_90 : BitVec 32 := 8#32
  let v280 : BitVec 32 := Scalar.muli arg8 c8_i32_90
  let c5_i32 : BitVec 32 := 5#32
  let v281 : BitVec 32 := Scalar.addi v280 c5_i32
  let c128_i32_91 : BitVec 32 := 128#32
  let v282 : BitVec 32 := Scalar.muli v281 c128_i32_91
  v282
def k0_mult15 (k0_t2 : Fin k0_t2_loop.trips) : BitVec 32 :=
  let c0_i32_16 : BitVec 32 := 0#32
  let c1_i32_18 : BitVec 32 := 1#32
  let arg8 : BitVec 32 := Scf.iv c0_i32_16 c1_i32_18 k0_t2
  let c8_i32_104 : BitVec 32 := 8#32
  let v323 : BitVec 32 := Scalar.muli arg8 c8_i32_104
  let c6_i32 : BitVec 32 := 6#32
  let v324 : BitVec 32 := Scalar.addi v323 c6_i32
  let c128_i32_105 : BitVec 32 := 128#32
  let v325 : BitVec 32 := Scalar.muli v324 c128_i32_105
  v325
def k0_mult16 (k0_t2 : Fin k0_t2_loop.trips) : BitVec 32 :=
  let c0_i32_16 : BitVec 32 := 0#32
  let c1_i32_18 : BitVec 32 := 1#32
  let arg8 : BitVec 32 := Scf.iv c0_i32_16 c1_i32_18 k0_t2
  let c8_i32_118 : BitVec 32 := 8#32
  let v366 : BitVec 32 := Scalar.muli arg8 c8_i32_118
  let c7_i32 : BitVec 32 := 7#32
  let v367 : BitVec 32 := Scalar.addi v366 c7_i32
  let c128_i32_119 : BitVec 32 := 128#32
  let v368 : BitVec 32 := Scalar.muli v367 c128_i32_119
  v368
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x1024 : Shape := ⟨2, ![4096, 1024]⟩
abbrev S4096x7168 : Shape := ⟨2, ![4096, 7168]⟩
abbrev S1x8 : Shape := ⟨2, ![1, 8]⟩
abbrev S1x4096x1024 : Shape := ⟨3, ![1, 4096, 1024]⟩
abbrev S1x4096x8x128 : Shape := ⟨4, ![1, 4096, 8, 128]⟩
abbrev S1x8x4096x128 : Shape := ⟨4, ![1, 8, 4096, 128]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S1x8x128x128 : Shape := ⟨4, ![1, 8, 128, 128]⟩
abbrev S1x8x32x128x128 : Shape := ⟨5, ![1, 8, 32, 128, 128]⟩
abbrev S32x1x8x128x128 : Shape := ⟨5, ![32, 1, 8, 128, 128]⟩
abbrev S1x8x128x1 : Shape := ⟨4, ![1, 8, 128, 1]⟩
abbrev S1x8x1x1 : Shape := ⟨4, ![1, 8, 1, 1]⟩
abbrev S1x1x8x128x128 : Shape := ⟨5, ![1, 1, 8, 128, 128]⟩

abbrev nBuf : Space → Nat
  | .hbm => 419
  | .vmem => 0
  | .smem => 0
  | _ => 0

abbrev hbmTy0_0 (i : Nat) : BufTy := match i % 128 with
  | 0 => ⟨S4096x1024, .bf16⟩
  | 1 => ⟨S4096x7168, .bf16⟩
  | 2 => ⟨S1x8, .f32⟩
  | 3 => ⟨S1x8, .f32⟩
  | 4 => ⟨S4096x1024, .bf16⟩
  | 5 => ⟨S1x4096x1024, .bf16⟩
  | 6 => ⟨S1x4096x1024, .f32⟩
  | 7 => ⟨S1x4096x8x128, .f32⟩
  | 8 => ⟨S1x8x4096x128, .f32⟩
  | 9 => ⟨S4096x1024, .bf16⟩
  | 10 => ⟨S1x4096x1024, .bf16⟩
  | 11 => ⟨S1x4096x1024, .f32⟩
  | 12 => ⟨S1x4096x8x128, .f32⟩
  | 13 => ⟨S1x8x4096x128, .f32⟩
  | 14 => ⟨S4096x1024, .bf16⟩
  | 15 => ⟨S1x4096x1024, .bf16⟩
  | 16 => ⟨S1x4096x1024, .f32⟩
  | 17 => ⟨S1x4096x8x128, .f32⟩
  | 18 => ⟨S1x8x4096x128, .f32⟩
  | 19 => ⟨S8, .f32⟩
  | 20 => ⟨S8, .f32⟩
  | 21 => ⟨S_, .f32⟩
  | 22 => ⟨S1x8x4096x128, .f32⟩
  | 23 => ⟨S1x8x4096x128, .f32⟩
  | 24 => ⟨S8, .f32⟩
  | 25 => ⟨S8, .f32⟩
  | 26 => ⟨S8, .f32⟩
  | 27 => ⟨S8, .f32⟩
  | 28 => ⟨S128, .f32⟩
  | 29 => ⟨S128x1, .f32⟩
  | 30 => ⟨S1x128, .f32⟩
  | 31 => ⟨S128x128, .f32⟩
  | 32 => ⟨S128x128, .f32⟩
  | 33 => ⟨S128x128, .f32⟩
  | 34 => ⟨S_, .f32⟩
  | 35 => ⟨S128x128, .f32⟩
  | 36 => ⟨S128x128, .i1⟩
  | 37 => ⟨S8x1x1, .f32⟩
  | 38 => ⟨S_, .f32⟩
  | 39 => ⟨S128x128, .f32⟩
  | 40 => ⟨S128x128, .f32⟩
  | 41 => ⟨S1x128x128, .f32⟩
  | 42 => ⟨S8x128x128, .f32⟩
  | 43 => ⟨S8x128x128, .f32⟩
  | 44 => ⟨S8x128x128, .f32⟩
  | 45 => ⟨S8x128x128, .f32⟩
  | 46 => ⟨S_, .f32⟩
  | 47 => ⟨S_, .f32⟩
  | 48 => ⟨S8x128x128, .i1⟩
  | 49 => ⟨S8x128x128, .f32⟩
  | 50 => ⟨S8x128x128, .f32⟩
  | 51 => ⟨S8x1, .f32⟩
  | 52 => ⟨S_, .f32⟩
  | 53 => ⟨S128, .f32⟩
  | 54 => ⟨S128, .f32⟩
  | 55 => ⟨S1x128, .f32⟩
  | 56 => ⟨S8x128, .f32⟩
  | 57 => ⟨S8x128, .f32⟩
  | 58 => ⟨S8x128, .f32⟩
  | 59 => ⟨S8x128, .f32⟩
  | 60 => ⟨S8x128x1, .f32⟩
  | 61 => ⟨S8x1, .f32⟩
  | 62 => ⟨S_, .f32⟩
  | 63 => ⟨S128, .f32⟩
  | 64 => ⟨S128, .f32⟩
  | 65 => ⟨S1x128, .f32⟩
  | 66 => ⟨S8x128, .f32⟩
  | 67 => ⟨S8x128, .f32⟩
  | 68 => ⟨S8x128, .f32⟩
  | 69 => ⟨S8x128, .f32⟩
  | 70 => ⟨S8x128x1, .f32⟩
  | 71 => ⟨S_, .f32⟩
  | 72 => ⟨S8, .f32⟩
  | 73 => ⟨S8, .f32⟩
  | 74 => ⟨S8, .f32⟩
  | 75 => ⟨S8x1x1, .f32⟩
  | 76 => ⟨S_, .f32⟩
  | 77 => ⟨S1x8x128x128, .f32⟩
  | 78 => ⟨S1x8x32x128x128, .f32⟩
  | 79 => ⟨S32x1x8x128x128, .f32⟩
  | 80 => ⟨S1x8x32x128x128, .f32⟩
  | 81 => ⟨S32x1x8x128x128, .f32⟩
  | 82 => ⟨S1x8x32x128x128, .f32⟩
  | 83 => ⟨S32x1x8x128x128, .f32⟩
  | 84 => ⟨S1x8x128x128, .f32⟩
  | 85 => ⟨S1x8x128x1, .f32⟩
  | 86 => ⟨S1x8x1x1, .f32⟩
  | 87 => ⟨S1x8x128x1, .f32⟩
  | 88 => ⟨S_, .f32⟩
  | 89 => ⟨S32x1x8x128x128, .f32⟩
  | 90 => ⟨S_, .f32⟩
  | 91 => ⟨S32x1x8x128x128, .f32⟩
  | 92 => ⟨S_, .i32⟩
  | 93 => ⟨S32x1x8x128x128, .f32⟩
  | 94 => ⟨S32x1x8x128x128, .f32⟩
  | 95 => ⟨S32x1x8x128x128, .f32⟩
  | 96 => ⟨S1x8x1x1, .f32⟩
  | 97 => ⟨S1x8x128x1, .f32⟩
  | 98 => ⟨S1x8x128x128, .f32⟩
  | 99 => ⟨S1x8x128x1, .f32⟩
  | 100 => ⟨S_, .i32⟩
  | 101 => ⟨S1x8x128x128, .f32⟩
  | 102 => ⟨S32x1x8x128x128, .f32⟩
  | 103 => ⟨S32x1x8x128x128, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S1x1x8x128x128, .f32⟩
  | 111 => ⟨S1x8x128x128, .f32⟩
  | 112 => ⟨S_, .i32⟩
  | 113 => ⟨S_, .i32⟩
  | 114 => ⟨S_, .i32⟩
  | 115 => ⟨S_, .i32⟩
  | 116 => ⟨S1x1x8x128x128, .f32⟩
  | 117 => ⟨S1x8x128x128, .f32⟩
  | 118 => ⟨S_, .i32⟩
  | 119 => ⟨S_, .i32⟩
  | 120 => ⟨S_, .i32⟩
  | 121 => ⟨S_, .i32⟩
  | 122 => ⟨S1x1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S1x8x128x128, .f32⟩
  | _ => ⟨S4096x1024, .bf16⟩

abbrev hbmTy0_1 (i : Nat) : BufTy := match i % 128 with
  | 0 => ⟨S1x8x128x128, .f32⟩
  | 1 => ⟨S1x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x1x8x128x128, .f32⟩
  | 10 => ⟨S_, .i32⟩
  | 11 => ⟨S_, .i32⟩
  | 12 => ⟨S_, .i32⟩
  | 13 => ⟨S_, .i32⟩
  | 14 => ⟨S32x1x8x128x128, .f32⟩
  | 15 => ⟨S1x1x8x128x128, .f32⟩
  | 16 => ⟨S_, .i32⟩
  | 17 => ⟨S_, .i32⟩
  | 18 => ⟨S_, .i32⟩
  | 19 => ⟨S_, .i32⟩
  | 20 => ⟨S32x1x8x128x128, .f32⟩
  | 21 => ⟨S_, .i32⟩
  | 22 => ⟨S_, .i32⟩
  | 23 => ⟨S1x8x32x128x128, .f32⟩
  | 24 => ⟨S1x8x4096x128, .f32⟩
  | 25 => ⟨S1x8x4096x128, .f32⟩
  | 26 => ⟨S1x8x4096x128, .f32⟩
  | 27 => ⟨S1x8x4096x128, .f32⟩
  | 28 => ⟨S128, .f32⟩
  | 29 => ⟨S128x1, .f32⟩
  | 30 => ⟨S1x128, .f32⟩
  | 31 => ⟨S128x128, .f32⟩
  | 32 => ⟨S128x128, .f32⟩
  | 33 => ⟨S128x128, .f32⟩
  | 34 => ⟨S_, .f32⟩
  | 35 => ⟨S128x128, .f32⟩
  | 36 => ⟨S128x128, .i1⟩
  | 37 => ⟨S8x1x1, .f32⟩
  | 38 => ⟨S_, .f32⟩
  | 39 => ⟨S128x128, .f32⟩
  | 40 => ⟨S128x128, .f32⟩
  | 41 => ⟨S1x128x128, .f32⟩
  | 42 => ⟨S8x128x128, .f32⟩
  | 43 => ⟨S8x128x128, .f32⟩
  | 44 => ⟨S8x128x128, .f32⟩
  | 45 => ⟨S8x128x128, .f32⟩
  | 46 => ⟨S_, .f32⟩
  | 47 => ⟨S_, .f32⟩
  | 48 => ⟨S8x128x128, .i1⟩
  | 49 => ⟨S8x128x128, .f32⟩
  | 50 => ⟨S8x128x128, .f32⟩
  | 51 => ⟨S8x1, .f32⟩
  | 52 => ⟨S_, .f32⟩
  | 53 => ⟨S128, .f32⟩
  | 54 => ⟨S128, .f32⟩
  | 55 => ⟨S1x128, .f32⟩
  | 56 => ⟨S8x128, .f32⟩
  | 57 => ⟨S8x128, .f32⟩
  | 58 => ⟨S8x128, .f32⟩
  | 59 => ⟨S8x128, .f32⟩
  | 60 => ⟨S8x128x1, .f32⟩
  | 61 => ⟨S8x1, .f32⟩
  | 62 => ⟨S_, .f32⟩
  | 63 => ⟨S128, .f32⟩
  | 64 => ⟨S128, .f32⟩
  | 65 => ⟨S1x128, .f32⟩
  | 66 => ⟨S8x128, .f32⟩
  | 67 => ⟨S8x128, .f32⟩
  | 68 => ⟨S8x128, .f32⟩
  | 69 => ⟨S8x128, .f32⟩
  | 70 => ⟨S8x128x1, .f32⟩
  | 71 => ⟨S_, .f32⟩
  | 72 => ⟨S8, .f32⟩
  | 73 => ⟨S8, .f32⟩
  | 74 => ⟨S8, .f32⟩
  | 75 => ⟨S8x1x1, .f32⟩
  | 76 => ⟨S_, .f32⟩
  | 77 => ⟨S1x8x128x128, .f32⟩
  | 78 => ⟨S1x8x32x128x128, .f32⟩
  | 79 => ⟨S32x1x8x128x128, .f32⟩
  | 80 => ⟨S1x8x32x128x128, .f32⟩
  | 81 => ⟨S32x1x8x128x128, .f32⟩
  | 82 => ⟨S1x8x32x128x128, .f32⟩
  | 83 => ⟨S32x1x8x128x128, .f32⟩
  | 84 => ⟨S1x8x128x128, .f32⟩
  | 85 => ⟨S1x8x128x1, .f32⟩
  | 86 => ⟨S1x8x1x1, .f32⟩
  | 87 => ⟨S1x8x128x1, .f32⟩
  | 88 => ⟨S_, .f32⟩
  | 89 => ⟨S32x1x8x128x128, .f32⟩
  | 90 => ⟨S_, .f32⟩
  | 91 => ⟨S32x1x8x128x128, .f32⟩
  | 92 => ⟨S_, .i32⟩
  | 93 => ⟨S32x1x8x128x128, .f32⟩
  | 94 => ⟨S32x1x8x128x128, .f32⟩
  | 95 => ⟨S32x1x8x128x128, .f32⟩
  | 96 => ⟨S1x8x1x1, .f32⟩
  | 97 => ⟨S1x8x128x1, .f32⟩
  | 98 => ⟨S1x8x128x128, .f32⟩
  | 99 => ⟨S1x8x128x1, .f32⟩
  | 100 => ⟨S_, .i32⟩
  | 101 => ⟨S1x8x128x128, .f32⟩
  | 102 => ⟨S32x1x8x128x128, .f32⟩
  | 103 => ⟨S32x1x8x128x128, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S1x1x8x128x128, .f32⟩
  | 111 => ⟨S1x8x128x128, .f32⟩
  | 112 => ⟨S_, .i32⟩
  | 113 => ⟨S_, .i32⟩
  | 114 => ⟨S_, .i32⟩
  | 115 => ⟨S_, .i32⟩
  | 116 => ⟨S1x1x8x128x128, .f32⟩
  | 117 => ⟨S1x8x128x128, .f32⟩
  | 118 => ⟨S_, .i32⟩
  | 119 => ⟨S_, .i32⟩
  | 120 => ⟨S_, .i32⟩
  | 121 => ⟨S_, .i32⟩
  | 122 => ⟨S1x1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S1x8x128x128, .f32⟩
  | _ => ⟨S4096x1024, .bf16⟩

abbrev hbmTy0_2 (i : Nat) : BufTy := match i % 128 with
  | 0 => ⟨S1x8x128x128, .f32⟩
  | 1 => ⟨S1x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x1x8x128x128, .f32⟩
  | 10 => ⟨S_, .i32⟩
  | 11 => ⟨S_, .i32⟩
  | 12 => ⟨S_, .i32⟩
  | 13 => ⟨S_, .i32⟩
  | 14 => ⟨S32x1x8x128x128, .f32⟩
  | 15 => ⟨S1x1x8x128x128, .f32⟩
  | 16 => ⟨S_, .i32⟩
  | 17 => ⟨S_, .i32⟩
  | 18 => ⟨S_, .i32⟩
  | 19 => ⟨S_, .i32⟩
  | 20 => ⟨S32x1x8x128x128, .f32⟩
  | 21 => ⟨S_, .i32⟩
  | 22 => ⟨S_, .i32⟩
  | 23 => ⟨S1x8x32x128x128, .f32⟩
  | 24 => ⟨S1x8x4096x128, .f32⟩
  | 25 => ⟨S1x8x4096x128, .f32⟩
  | 26 => ⟨S1x8x4096x128, .f32⟩
  | 27 => ⟨S1x4096x8x128, .f32⟩
  | 28 => ⟨S1x4096x1024, .f32⟩
  | 29 => ⟨S1x4096x1024, .bf16⟩
  | 30 => ⟨S1x4096x1024, .f32⟩
  | 31 => ⟨S1x4096x8x128, .f32⟩
  | 32 => ⟨S1x8x4096x128, .f32⟩
  | 33 => ⟨S1x8x4096x128, .f32⟩
  | 34 => ⟨S1x8x32x128x128, .f32⟩
  | 35 => ⟨S32x1x8x128x128, .f32⟩
  | 36 => ⟨S_, .f32⟩
  | 37 => ⟨S32x1x8x128x128, .f32⟩
  | 38 => ⟨S_, .i32⟩
  | 39 => ⟨S32x1x8x128x128, .f32⟩
  | 40 => ⟨S32x1x8x128x128, .f32⟩
  | 41 => ⟨S32x1x8x128x128, .f32⟩
  | 42 => ⟨S32x1x8x128x128, .f32⟩
  | 43 => ⟨S1x8x128x128, .f32⟩
  | 44 => ⟨S1x8x128x1, .f32⟩
  | 45 => ⟨S_, .i32⟩
  | 46 => ⟨S32x1x8x128x128, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S1x1x8x128x128, .f32⟩
  | 58 => ⟨S1x8x128x128, .f32⟩
  | 59 => ⟨S_, .i32⟩
  | 60 => ⟨S_, .i32⟩
  | 61 => ⟨S_, .i32⟩
  | 62 => ⟨S_, .i32⟩
  | 63 => ⟨S1x1x8x128x128, .f32⟩
  | 64 => ⟨S1x8x128x128, .f32⟩
  | 65 => ⟨S_, .i32⟩
  | 66 => ⟨S_, .i32⟩
  | 67 => ⟨S_, .i32⟩
  | 68 => ⟨S_, .i32⟩
  | 69 => ⟨S1x1x8x128x128, .f32⟩
  | 70 => ⟨S1x8x128x128, .f32⟩
  | 71 => ⟨S_, .i32⟩
  | 72 => ⟨S_, .i32⟩
  | 73 => ⟨S_, .i32⟩
  | 74 => ⟨S_, .i32⟩
  | 75 => ⟨S1x1x8x128x128, .f32⟩
  | 76 => ⟨S1x8x128x128, .f32⟩
  | 77 => ⟨S1x8x128x128, .f32⟩
  | 78 => ⟨S1x8x128x128, .f32⟩
  | 79 => ⟨S1x8x128x128, .f32⟩
  | 80 => ⟨S1x8x128x128, .f32⟩
  | 81 => ⟨S1x8x128x128, .f32⟩
  | 82 => ⟨S1x8x128x128, .f32⟩
  | 83 => ⟨S1x8x128x128, .f32⟩
  | 84 => ⟨S1x1x8x128x128, .f32⟩
  | 85 => ⟨S_, .i32⟩
  | 86 => ⟨S_, .i32⟩
  | 87 => ⟨S_, .i32⟩
  | 88 => ⟨S_, .i32⟩
  | 89 => ⟨S32x1x8x128x128, .f32⟩
  | 90 => ⟨S_, .i32⟩
  | 91 => ⟨S_, .i32⟩
  | 92 => ⟨S1x8x32x128x128, .f32⟩
  | 93 => ⟨S1x8x4096x128, .f32⟩
  | 94 => ⟨S1x8x4096x128, .f32⟩
  | 95 => ⟨S1x8x32x128x128, .f32⟩
  | 96 => ⟨S32x1x8x128x128, .f32⟩
  | 97 => ⟨S_, .f32⟩
  | 98 => ⟨S32x1x8x128x128, .f32⟩
  | 99 => ⟨S_, .i32⟩
  | 100 => ⟨S32x1x8x128x128, .f32⟩
  | 101 => ⟨S32x1x8x128x128, .f32⟩
  | 102 => ⟨S32x1x8x128x128, .f32⟩
  | 103 => ⟨S32x1x8x128x128, .f32⟩
  | 104 => ⟨S1x8x128x128, .f32⟩
  | 105 => ⟨S1x8x128x1, .f32⟩
  | 106 => ⟨S_, .i32⟩
  | 107 => ⟨S32x1x8x128x128, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S1x1x8x128x128, .f32⟩
  | 119 => ⟨S1x8x128x128, .f32⟩
  | 120 => ⟨S_, .i32⟩
  | 121 => ⟨S_, .i32⟩
  | 122 => ⟨S_, .i32⟩
  | 123 => ⟨S_, .i32⟩
  | 124 => ⟨S1x1x8x128x128, .f32⟩
  | 125 => ⟨S1x8x128x128, .f32⟩
  | 126 => ⟨S_, .i32⟩
  | 127 => ⟨S_, .i32⟩
  | _ => ⟨S4096x1024, .bf16⟩

abbrev hbmTy0_3 (i : Nat) : BufTy := match i % 128 with
  | 0 => ⟨S_, .i32⟩
  | 1 => ⟨S_, .i32⟩
  | 2 => ⟨S1x1x8x128x128, .f32⟩
  | 3 => ⟨S1x8x128x128, .f32⟩
  | 4 => ⟨S_, .i32⟩
  | 5 => ⟨S_, .i32⟩
  | 6 => ⟨S_, .i32⟩
  | 7 => ⟨S_, .i32⟩
  | 8 => ⟨S1x1x8x128x128, .f32⟩
  | 9 => ⟨S1x8x128x128, .f32⟩
  | 10 => ⟨S1x8x128x128, .f32⟩
  | 11 => ⟨S1x8x128x128, .f32⟩
  | 12 => ⟨S1x8x128x128, .f32⟩
  | 13 => ⟨S1x8x128x128, .f32⟩
  | 14 => ⟨S1x8x128x128, .f32⟩
  | 15 => ⟨S1x8x128x128, .f32⟩
  | 16 => ⟨S1x8x128x128, .f32⟩
  | 17 => ⟨S1x1x8x128x128, .f32⟩
  | 18 => ⟨S_, .i32⟩
  | 19 => ⟨S_, .i32⟩
  | 20 => ⟨S_, .i32⟩
  | 21 => ⟨S_, .i32⟩
  | 22 => ⟨S32x1x8x128x128, .f32⟩
  | 23 => ⟨S_, .i32⟩
  | 24 => ⟨S_, .i32⟩
  | 25 => ⟨S1x8x32x128x128, .f32⟩
  | 26 => ⟨S1x8x4096x128, .f32⟩
  | 27 => ⟨S1x8x4096x128, .f32⟩
  | 28 => ⟨S_, .f32⟩
  | 29 => ⟨S1x8x4096x128, .f32⟩
  | 30 => ⟨S1x8x4096x128, .f32⟩
  | 31 => ⟨S1x4096x8x128, .f32⟩
  | 32 => ⟨S1x4096x1024, .f32⟩
  | 33 => ⟨S4096x1024, .f32⟩
  | 34 => ⟨S4096x1024, .bf16⟩
  | _ => ⟨S4096x1024, .bf16⟩

abbrev hbmTy (i : Nat) : BufTy := match i / 128 with
  | 0 => hbmTy0_0 i
  | 1 => hbmTy0_1 i
  | 2 => hbmTy0_2 i
  | 3 => hbmTy0_3 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_7 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_c : Ref sig .tc := ⟨.hbm, 92, rfl⟩
abbrev main_v75_0 : Ref sig .tc := ⟨.hbm, 93, rfl⟩
abbrev main_v75_1 : Ref sig .tc := ⟨.hbm, 94, rfl⟩
abbrev main_v75_2 : Ref sig .tc := ⟨.hbm, 95, rfl⟩
abbrev main_v75_3 : Ref sig .tc := ⟨.hbm, 96, rfl⟩
abbrev main_v75_4 : Ref sig .tc := ⟨.hbm, 97, rfl⟩
abbrev main_v75_5 : Ref sig .tc := ⟨.hbm, 98, rfl⟩
abbrev main_v75_6 : Ref sig .tc := ⟨.hbm, 99, rfl⟩
abbrev main_v75_7 : Ref sig .tc := ⟨.hbm, 100, rfl⟩
abbrev main_v75_8 : Ref sig .tc := ⟨.hbm, 101, rfl⟩
abbrev main_v75_9 : Ref sig .tc := ⟨.hbm, 102, rfl⟩
abbrev main_v75_10 : Ref sig .tc := ⟨.hbm, 103, rfl⟩
abbrev main_while0c_c_34 : Ref sig .tc := ⟨.hbm, 104, rfl⟩
abbrev main_while0c_v165 : Ref sig .tc := ⟨.hbm, 105, rfl⟩
abbrev main_while0b_call1_c : Ref sig .tc := ⟨.hbm, 106, rfl⟩
abbrev main_while0b_call1_c_0 : Ref sig .tc := ⟨.hbm, 107, rfl⟩
abbrev main_while0b_call1_c_1 : Ref sig .tc := ⟨.hbm, 108, rfl⟩
abbrev main_while0b_call1_c_2 : Ref sig .tc := ⟨.hbm, 109, rfl⟩
abbrev main_while0b_call1_v0 : Ref sig .tc := ⟨.hbm, 110, rfl⟩
abbrev main_while0b_v165 : Ref sig .tc := ⟨.hbm, 111, rfl⟩
abbrev main_while0b_call2_c : Ref sig .tc := ⟨.hbm, 112, rfl⟩
abbrev main_while0b_call2_c_0 : Ref sig .tc := ⟨.hbm, 113, rfl⟩
abbrev main_while0b_call2_c_1 : Ref sig .tc := ⟨.hbm, 114, rfl⟩
abbrev main_while0b_call2_c_2 : Ref sig .tc := ⟨.hbm, 115, rfl⟩
abbrev main_while0b_call2_v0 : Ref sig .tc := ⟨.hbm, 116, rfl⟩
abbrev main_while0b_v166 : Ref sig .tc := ⟨.hbm, 117, rfl⟩
abbrev main_while0b_call3_c : Ref sig .tc := ⟨.hbm, 118, rfl⟩
abbrev main_while0b_call3_c_0 : Ref sig .tc := ⟨.hbm, 119, rfl⟩
abbrev main_while0b_call3_c_1 : Ref sig .tc := ⟨.hbm, 120, rfl⟩
abbrev main_while0b_call3_c_2 : Ref sig .tc := ⟨.hbm, 121, rfl⟩
abbrev main_while0b_call3_v0 : Ref sig .tc := ⟨.hbm, 122, rfl⟩
abbrev main_while0b_v167 : Ref sig .tc := ⟨.hbm, 123, rfl⟩
abbrev main_while0b_v168 : Ref sig .tc := ⟨.hbm, 124, rfl⟩
abbrev main_while0b_v169 : Ref sig .tc := ⟨.hbm, 125, rfl⟩
abbrev main_while0b_v170 : Ref sig .tc := ⟨.hbm, 126, rfl⟩
abbrev main_while0b_v171 : Ref sig .tc := ⟨.hbm, 127, rfl⟩
abbrev main_while0b_v172 : Ref sig .tc := ⟨.hbm, 128, rfl⟩
abbrev main_while0b_v173 : Ref sig .tc := ⟨.hbm, 129, rfl⟩
abbrev main_while0b_v174 : Ref sig .tc := ⟨.hbm, 130, rfl⟩
abbrev main_while0b_v175 : Ref sig .tc := ⟨.hbm, 131, rfl⟩
abbrev main_while0b_v176 : Ref sig .tc := ⟨.hbm, 132, rfl⟩
abbrev main_while0b_v177 : Ref sig .tc := ⟨.hbm, 133, rfl⟩
abbrev main_while0b_v178 : Ref sig .tc := ⟨.hbm, 134, rfl⟩
abbrev main_while0b_v179 : Ref sig .tc := ⟨.hbm, 135, rfl⟩
abbrev main_while0b_v180 : Ref sig .tc := ⟨.hbm, 136, rfl⟩
abbrev main_while0b_call4_v0 : Ref sig .tc := ⟨.hbm, 137, rfl⟩
abbrev main_while0b_call4_c : Ref sig .tc := ⟨.hbm, 138, rfl⟩
abbrev main_while0b_call4_c_0 : Ref sig .tc := ⟨.hbm, 139, rfl⟩
abbrev main_while0b_call4_c_1 : Ref sig .tc := ⟨.hbm, 140, rfl⟩
abbrev main_while0b_call4_c_2 : Ref sig .tc := ⟨.hbm, 141, rfl⟩
abbrev main_while0b_v181 : Ref sig .tc := ⟨.hbm, 142, rfl⟩
abbrev main_while0b_call5_v0 : Ref sig .tc := ⟨.hbm, 143, rfl⟩
abbrev main_while0b_call5_c : Ref sig .tc := ⟨.hbm, 144, rfl⟩
abbrev main_while0b_call5_c_0 : Ref sig .tc := ⟨.hbm, 145, rfl⟩
abbrev main_while0b_call5_c_1 : Ref sig .tc := ⟨.hbm, 146, rfl⟩
abbrev main_while0b_call5_c_2 : Ref sig .tc := ⟨.hbm, 147, rfl⟩
abbrev main_while0b_v182 : Ref sig .tc := ⟨.hbm, 148, rfl⟩
abbrev main_while0b_c_34 : Ref sig .tc := ⟨.hbm, 149, rfl⟩
abbrev main_while0b_v183 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_cst_9 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_cst_10 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_cst_11 : Ref sig .tc := ⟨.hbm, 174, rfl⟩
abbrev main_call9_v0 : Ref sig .tc := ⟨.hbm, 175, rfl⟩
abbrev main_call9_v1 : Ref sig .tc := ⟨.hbm, 176, rfl⟩
abbrev main_call9_v2 : Ref sig .tc := ⟨.hbm, 177, rfl⟩
abbrev main_v97 : Ref sig .tc := ⟨.hbm, 178, rfl⟩
abbrev main_v98 : Ref sig .tc := ⟨.hbm, 179, rfl⟩
abbrev main_cst_12 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_cst_13 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_cst_14 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_15 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_16 : Ref sig .tc := ⟨.hbm, 216, rfl⟩
abbrev main_v131 : Ref sig .tc := ⟨.hbm, 217, rfl⟩
abbrev main_cst_17 : Ref sig .tc := ⟨.hbm, 218, rfl⟩
abbrev main_v132 : Ref sig .tc := ⟨.hbm, 219, rfl⟩
abbrev main_c_18 : Ref sig .tc := ⟨.hbm, 220, rfl⟩
abbrev main_v133_0 : Ref sig .tc := ⟨.hbm, 221, rfl⟩
abbrev main_v133_1 : Ref sig .tc := ⟨.hbm, 222, rfl⟩
abbrev main_v133_2 : Ref sig .tc := ⟨.hbm, 223, rfl⟩
abbrev main_v133_3 : Ref sig .tc := ⟨.hbm, 224, rfl⟩
abbrev main_v133_4 : Ref sig .tc := ⟨.hbm, 225, rfl⟩
abbrev main_v133_5 : Ref sig .tc := ⟨.hbm, 226, rfl⟩
abbrev main_v133_6 : Ref sig .tc := ⟨.hbm, 227, rfl⟩
abbrev main_v133_7 : Ref sig .tc := ⟨.hbm, 228, rfl⟩
abbrev main_v133_8 : Ref sig .tc := ⟨.hbm, 229, rfl⟩
abbrev main_v133_9 : Ref sig .tc := ⟨.hbm, 230, rfl⟩
abbrev main_v133_10 : Ref sig .tc := ⟨.hbm, 231, rfl⟩
abbrev main_while1c_c_34 : Ref sig .tc := ⟨.hbm, 232, rfl⟩
abbrev main_while1c_v165 : Ref sig .tc := ⟨.hbm, 233, rfl⟩
abbrev main_while1b_call10_c : Ref sig .tc := ⟨.hbm, 234, rfl⟩
abbrev main_while1b_call10_c_0 : Ref sig .tc := ⟨.hbm, 235, rfl⟩
abbrev main_while1b_call10_c_1 : Ref sig .tc := ⟨.hbm, 236, rfl⟩
abbrev main_while1b_call10_c_2 : Ref sig .tc := ⟨.hbm, 237, rfl⟩
abbrev main_while1b_call10_v0 : Ref sig .tc := ⟨.hbm, 238, rfl⟩
abbrev main_while1b_v165 : Ref sig .tc := ⟨.hbm, 239, rfl⟩
abbrev main_while1b_call11_c : Ref sig .tc := ⟨.hbm, 240, rfl⟩
abbrev main_while1b_call11_c_0 : Ref sig .tc := ⟨.hbm, 241, rfl⟩
abbrev main_while1b_call11_c_1 : Ref sig .tc := ⟨.hbm, 242, rfl⟩
abbrev main_while1b_call11_c_2 : Ref sig .tc := ⟨.hbm, 243, rfl⟩
abbrev main_while1b_call11_v0 : Ref sig .tc := ⟨.hbm, 244, rfl⟩
abbrev main_while1b_v166 : Ref sig .tc := ⟨.hbm, 245, rfl⟩
abbrev main_while1b_call12_c : Ref sig .tc := ⟨.hbm, 246, rfl⟩
abbrev main_while1b_call12_c_0 : Ref sig .tc := ⟨.hbm, 247, rfl⟩
abbrev main_while1b_call12_c_1 : Ref sig .tc := ⟨.hbm, 248, rfl⟩
abbrev main_while1b_call12_c_2 : Ref sig .tc := ⟨.hbm, 249, rfl⟩
abbrev main_while1b_call12_v0 : Ref sig .tc := ⟨.hbm, 250, rfl⟩
abbrev main_while1b_v167 : Ref sig .tc := ⟨.hbm, 251, rfl⟩
abbrev main_while1b_v168 : Ref sig .tc := ⟨.hbm, 252, rfl⟩
abbrev main_while1b_v169 : Ref sig .tc := ⟨.hbm, 253, rfl⟩
abbrev main_while1b_v170 : Ref sig .tc := ⟨.hbm, 254, rfl⟩
abbrev main_while1b_v171 : Ref sig .tc := ⟨.hbm, 255, rfl⟩
abbrev main_while1b_v172 : Ref sig .tc := ⟨.hbm, 256, rfl⟩
abbrev main_while1b_v173 : Ref sig .tc := ⟨.hbm, 257, rfl⟩
abbrev main_while1b_v174 : Ref sig .tc := ⟨.hbm, 258, rfl⟩
abbrev main_while1b_v175 : Ref sig .tc := ⟨.hbm, 259, rfl⟩
abbrev main_while1b_v176 : Ref sig .tc := ⟨.hbm, 260, rfl⟩
abbrev main_while1b_v177 : Ref sig .tc := ⟨.hbm, 261, rfl⟩
abbrev main_while1b_v178 : Ref sig .tc := ⟨.hbm, 262, rfl⟩
abbrev main_while1b_v179 : Ref sig .tc := ⟨.hbm, 263, rfl⟩
abbrev main_while1b_v180 : Ref sig .tc := ⟨.hbm, 264, rfl⟩
abbrev main_while1b_call13_v0 : Ref sig .tc := ⟨.hbm, 265, rfl⟩
abbrev main_while1b_call13_c : Ref sig .tc := ⟨.hbm, 266, rfl⟩
abbrev main_while1b_call13_c_0 : Ref sig .tc := ⟨.hbm, 267, rfl⟩
abbrev main_while1b_call13_c_1 : Ref sig .tc := ⟨.hbm, 268, rfl⟩
abbrev main_while1b_call13_c_2 : Ref sig .tc := ⟨.hbm, 269, rfl⟩
abbrev main_while1b_v181 : Ref sig .tc := ⟨.hbm, 270, rfl⟩
abbrev main_while1b_call14_v0 : Ref sig .tc := ⟨.hbm, 271, rfl⟩
abbrev main_while1b_call14_c : Ref sig .tc := ⟨.hbm, 272, rfl⟩
abbrev main_while1b_call14_c_0 : Ref sig .tc := ⟨.hbm, 273, rfl⟩
abbrev main_while1b_call14_c_1 : Ref sig .tc := ⟨.hbm, 274, rfl⟩
abbrev main_while1b_call14_c_2 : Ref sig .tc := ⟨.hbm, 275, rfl⟩
abbrev main_while1b_v182 : Ref sig .tc := ⟨.hbm, 276, rfl⟩
abbrev main_while1b_c_34 : Ref sig .tc := ⟨.hbm, 277, rfl⟩
abbrev main_while1b_v183 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_v137 : Ref sig .tc := ⟨.hbm, 282, rfl⟩
abbrev main_v138 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_v146 : Ref sig .tc := ⟨.hbm, 291, rfl⟩
abbrev main_cst_19 : Ref sig .tc := ⟨.hbm, 292, rfl⟩
abbrev main_v147 : Ref sig .tc := ⟨.hbm, 293, rfl⟩
abbrev main_c_20 : Ref sig .tc := ⟨.hbm, 294, rfl⟩
abbrev main_v148_0 : Ref sig .tc := ⟨.hbm, 295, rfl⟩
abbrev main_v148_1 : Ref sig .tc := ⟨.hbm, 296, rfl⟩
abbrev main_v148_2 : Ref sig .tc := ⟨.hbm, 297, rfl⟩
abbrev main_v148_3 : Ref sig .tc := ⟨.hbm, 298, rfl⟩
abbrev main_v148_4 : Ref sig .tc := ⟨.hbm, 299, rfl⟩
abbrev main_v148_5 : Ref sig .tc := ⟨.hbm, 300, rfl⟩
abbrev main_v148_6 : Ref sig .tc := ⟨.hbm, 301, rfl⟩
abbrev main_v148_7 : Ref sig .tc := ⟨.hbm, 302, rfl⟩
abbrev main_while2c_c_31 : Ref sig .tc := ⟨.hbm, 303, rfl⟩
abbrev main_while2c_v165 : Ref sig .tc := ⟨.hbm, 304, rfl⟩
abbrev main_while2b_c_31 : Ref sig .tc := ⟨.hbm, 305, rfl⟩
abbrev main_while2b_v165 : Ref sig .tc := ⟨.hbm, 306, rfl⟩
abbrev main_while2b_c_32 : Ref sig .tc := ⟨.hbm, 307, rfl⟩
abbrev main_while2b_v166 : Ref sig .tc := ⟨.hbm, 308, rfl⟩
abbrev main_while2b_call17_c : Ref sig .tc := ⟨.hbm, 309, rfl⟩
abbrev main_while2b_call17_c_0 : Ref sig .tc := ⟨.hbm, 310, rfl⟩
abbrev main_while2b_call17_c_1 : Ref sig .tc := ⟨.hbm, 311, rfl⟩
abbrev main_while2b_call17_c_2 : Ref sig .tc := ⟨.hbm, 312, rfl⟩
abbrev main_while2b_call17_v0 : Ref sig .tc := ⟨.hbm, 313, rfl⟩
abbrev main_while2b_v167 : Ref sig .tc := ⟨.hbm, 314, rfl⟩
abbrev main_while2b_call18_c : Ref sig .tc := ⟨.hbm, 315, rfl⟩
abbrev main_while2b_call18_c_0 : Ref sig .tc := ⟨.hbm, 316, rfl⟩
abbrev main_while2b_call18_c_1 : Ref sig .tc := ⟨.hbm, 317, rfl⟩
abbrev main_while2b_call18_c_2 : Ref sig .tc := ⟨.hbm, 318, rfl⟩
abbrev main_while2b_call18_v0 : Ref sig .tc := ⟨.hbm, 319, rfl⟩
abbrev main_while2b_v168 : Ref sig .tc := ⟨.hbm, 320, rfl⟩
abbrev main_while2b_call19_c : Ref sig .tc := ⟨.hbm, 321, rfl⟩
abbrev main_while2b_call19_c_0 : Ref sig .tc := ⟨.hbm, 322, rfl⟩
abbrev main_while2b_call19_c_1 : Ref sig .tc := ⟨.hbm, 323, rfl⟩
abbrev main_while2b_call19_c_2 : Ref sig .tc := ⟨.hbm, 324, rfl⟩
abbrev main_while2b_call19_v0 : Ref sig .tc := ⟨.hbm, 325, rfl⟩
abbrev main_while2b_v169 : Ref sig .tc := ⟨.hbm, 326, rfl⟩
abbrev main_while2b_call20_c : Ref sig .tc := ⟨.hbm, 327, rfl⟩
abbrev main_while2b_call20_c_0 : Ref sig .tc := ⟨.hbm, 328, rfl⟩
abbrev main_while2b_call20_c_1 : Ref sig .tc := ⟨.hbm, 329, rfl⟩
abbrev main_while2b_call20_c_2 : Ref sig .tc := ⟨.hbm, 330, rfl⟩
abbrev main_while2b_call20_v0 : Ref sig .tc := ⟨.hbm, 331, rfl⟩
abbrev main_while2b_v170 : Ref sig .tc := ⟨.hbm, 332, rfl⟩
abbrev main_while2b_v171 : Ref sig .tc := ⟨.hbm, 333, rfl⟩
abbrev main_while2b_v172 : Ref sig .tc := ⟨.hbm, 334, rfl⟩
abbrev main_while2b_v173 : Ref sig .tc := ⟨.hbm, 335, rfl⟩
abbrev main_while2b_v174 : Ref sig .tc := ⟨.hbm, 336, rfl⟩
abbrev main_while2b_v175 : Ref sig .tc := ⟨.hbm, 337, rfl⟩
abbrev main_while2b_v176 : Ref sig .tc := ⟨.hbm, 338, rfl⟩
abbrev main_while2b_v177 : Ref sig .tc := ⟨.hbm, 339, rfl⟩
abbrev main_while2b_call21_v0 : Ref sig .tc := ⟨.hbm, 340, rfl⟩
abbrev main_while2b_call21_c : Ref sig .tc := ⟨.hbm, 341, rfl⟩
abbrev main_while2b_call21_c_0 : Ref sig .tc := ⟨.hbm, 342, rfl⟩
abbrev main_while2b_call21_c_1 : Ref sig .tc := ⟨.hbm, 343, rfl⟩
abbrev main_while2b_call21_c_2 : Ref sig .tc := ⟨.hbm, 344, rfl⟩
abbrev main_while2b_v178 : Ref sig .tc := ⟨.hbm, 345, rfl⟩
abbrev main_while2b_c_33 : Ref sig .tc := ⟨.hbm, 346, rfl⟩
abbrev main_while2b_v179 : Ref sig .tc := ⟨.hbm, 347, rfl⟩
abbrev main_v149 : Ref sig .tc := ⟨.hbm, 348, rfl⟩
abbrev main_v150 : Ref sig .tc := ⟨.hbm, 349, rfl⟩
abbrev main_v151 : Ref sig .tc := ⟨.hbm, 350, rfl⟩
abbrev main_v152 : Ref sig .tc := ⟨.hbm, 351, rfl⟩
abbrev main_v153 : Ref sig .tc := ⟨.hbm, 352, rfl⟩
abbrev main_cst_21 : Ref sig .tc := ⟨.hbm, 353, rfl⟩
abbrev main_v154 : Ref sig .tc := ⟨.hbm, 354, rfl⟩
abbrev main_c_22 : Ref sig .tc := ⟨.hbm, 355, rfl⟩
abbrev main_v155_0 : Ref sig .tc := ⟨.hbm, 356, rfl⟩
abbrev main_v155_1 : Ref sig .tc := ⟨.hbm, 357, rfl⟩
abbrev main_v155_2 : Ref sig .tc := ⟨.hbm, 358, rfl⟩
abbrev main_v155_3 : Ref sig .tc := ⟨.hbm, 359, rfl⟩
abbrev main_v155_4 : Ref sig .tc := ⟨.hbm, 360, rfl⟩
abbrev main_v155_5 : Ref sig .tc := ⟨.hbm, 361, rfl⟩
abbrev main_v155_6 : Ref sig .tc := ⟨.hbm, 362, rfl⟩
abbrev main_v155_7 : Ref sig .tc := ⟨.hbm, 363, rfl⟩
abbrev main_while3c_c_31 : Ref sig .tc := ⟨.hbm, 364, rfl⟩
abbrev main_while3c_v165 : Ref sig .tc := ⟨.hbm, 365, rfl⟩
abbrev main_while3b_c_31 : Ref sig .tc := ⟨.hbm, 366, rfl⟩
abbrev main_while3b_v165 : Ref sig .tc := ⟨.hbm, 367, rfl⟩
abbrev main_while3b_c_32 : Ref sig .tc := ⟨.hbm, 368, rfl⟩
abbrev main_while3b_v166 : Ref sig .tc := ⟨.hbm, 369, rfl⟩
abbrev main_while3b_call23_c : Ref sig .tc := ⟨.hbm, 370, rfl⟩
abbrev main_while3b_call23_c_0 : Ref sig .tc := ⟨.hbm, 371, rfl⟩
abbrev main_while3b_call23_c_1 : Ref sig .tc := ⟨.hbm, 372, rfl⟩
abbrev main_while3b_call23_c_2 : Ref sig .tc := ⟨.hbm, 373, rfl⟩
abbrev main_while3b_call23_v0 : Ref sig .tc := ⟨.hbm, 374, rfl⟩
abbrev main_while3b_v167 : Ref sig .tc := ⟨.hbm, 375, rfl⟩
abbrev main_while3b_call24_c : Ref sig .tc := ⟨.hbm, 376, rfl⟩
abbrev main_while3b_call24_c_0 : Ref sig .tc := ⟨.hbm, 377, rfl⟩
abbrev main_while3b_call24_c_1 : Ref sig .tc := ⟨.hbm, 378, rfl⟩
abbrev main_while3b_call24_c_2 : Ref sig .tc := ⟨.hbm, 379, rfl⟩
abbrev main_while3b_call24_v0 : Ref sig .tc := ⟨.hbm, 380, rfl⟩
abbrev main_while3b_v168 : Ref sig .tc := ⟨.hbm, 381, rfl⟩
abbrev main_while3b_call25_c : Ref sig .tc := ⟨.hbm, 382, rfl⟩
abbrev main_while3b_call25_c_0 : Ref sig .tc := ⟨.hbm, 383, rfl⟩
abbrev main_while3b_call25_c_1 : Ref sig .tc := ⟨.hbm, 384, rfl⟩
abbrev main_while3b_call25_c_2 : Ref sig .tc := ⟨.hbm, 385, rfl⟩
abbrev main_while3b_call25_v0 : Ref sig .tc := ⟨.hbm, 386, rfl⟩
abbrev main_while3b_v169 : Ref sig .tc := ⟨.hbm, 387, rfl⟩
abbrev main_while3b_call26_c : Ref sig .tc := ⟨.hbm, 388, rfl⟩
abbrev main_while3b_call26_c_0 : Ref sig .tc := ⟨.hbm, 389, rfl⟩
abbrev main_while3b_call26_c_1 : Ref sig .tc := ⟨.hbm, 390, rfl⟩
abbrev main_while3b_call26_c_2 : Ref sig .tc := ⟨.hbm, 391, rfl⟩
abbrev main_while3b_call26_v0 : Ref sig .tc := ⟨.hbm, 392, rfl⟩
abbrev main_while3b_v170 : Ref sig .tc := ⟨.hbm, 393, rfl⟩
abbrev main_while3b_v171 : Ref sig .tc := ⟨.hbm, 394, rfl⟩
abbrev main_while3b_v172 : Ref sig .tc := ⟨.hbm, 395, rfl⟩
abbrev main_while3b_v173 : Ref sig .tc := ⟨.hbm, 396, rfl⟩
abbrev main_while3b_v174 : Ref sig .tc := ⟨.hbm, 397, rfl⟩
abbrev main_while3b_v175 : Ref sig .tc := ⟨.hbm, 398, rfl⟩
abbrev main_while3b_v176 : Ref sig .tc := ⟨.hbm, 399, rfl⟩
abbrev main_while3b_v177 : Ref sig .tc := ⟨.hbm, 400, rfl⟩
abbrev main_while3b_call27_v0 : Ref sig .tc := ⟨.hbm, 401, rfl⟩
abbrev main_while3b_call27_c : Ref sig .tc := ⟨.hbm, 402, rfl⟩
abbrev main_while3b_call27_c_0 : Ref sig .tc := ⟨.hbm, 403, rfl⟩
abbrev main_while3b_call27_c_1 : Ref sig .tc := ⟨.hbm, 404, rfl⟩
abbrev main_while3b_call27_c_2 : Ref sig .tc := ⟨.hbm, 405, rfl⟩
abbrev main_while3b_v178 : Ref sig .tc := ⟨.hbm, 406, rfl⟩
abbrev main_while3b_c_33 : Ref sig .tc := ⟨.hbm, 407, rfl⟩
abbrev main_while3b_v179 : Ref sig .tc := ⟨.hbm, 408, rfl⟩
abbrev main_v156 : Ref sig .tc := ⟨.hbm, 409, rfl⟩
abbrev main_v157 : Ref sig .tc := ⟨.hbm, 410, rfl⟩
abbrev main_v158 : Ref sig .tc := ⟨.hbm, 411, rfl⟩
abbrev main_cst_23 : Ref sig .tc := ⟨.hbm, 412, rfl⟩
abbrev main_v159 : Ref sig .tc := ⟨.hbm, 413, rfl⟩
abbrev main_v160 : Ref sig .tc := ⟨.hbm, 414, rfl⟩
abbrev main_v161 : Ref sig .tc := ⟨.hbm, 415, rfl⟩
abbrev main_v162 : Ref sig .tc := ⟨.hbm, 416, rfl⟩
abbrev main_v163 : Ref sig .tc := ⟨.hbm, 417, rfl⟩
abbrev main_v164 : Ref sig .tc := ⟨.hbm, 418, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩

abbrev main_while2_count : Scf.Loop 32 := ⟨0#32, 32#32, 1#32⟩

abbrev main_while3_count : Scf.Loop 32 := ⟨0#32, 32#32, 1#32⟩
-- ==== Kernel2.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩
abbrev S256x2048 : Shape := ⟨2, ![256, 2048]⟩
abbrev S1024x256 : Shape := ⟨2, ![1024, 256]⟩
abbrev S4096x1408 : Shape := ⟨2, ![4096, 1408]⟩
abbrev S4096x512 : Shape := ⟨2, ![4096, 512]⟩
abbrev S1408x512 : Shape := ⟨2, ![1408, 512]⟩
abbrev S4096x1024 : Shape := ⟨2, ![4096, 1024]⟩

abbrev nBuf : Space → Nat
  | .hbm => 13
  | .vmem => 42
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S4096x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .hbm, ⟨10, _⟩ => ⟨S5632x2048, .f32⟩
  | .hbm, ⟨11, _⟩ => ⟨S2048x5632, .f32⟩
  | .hbm, ⟨12, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S4096x1408, .bf16⟩
  | .local _ .vmem, ⟨25, _⟩ => ⟨S4096x1408, .bf16⟩
  | .local _ .vmem, ⟨26, _⟩ => ⟨S4096x512, .bf16⟩
  | .local _ .vmem, ⟨27, _⟩ => ⟨S4096x512, .bf16⟩
  | .local _ .vmem, ⟨28, _⟩ => ⟨S1408x512, .f32⟩
  | .local _ .vmem, ⟨29, _⟩ => ⟨S1408x512, .f32⟩
  | .local _ .vmem, ⟨30, _⟩ => ⟨S4096x1024, .bf16⟩
  | .local _ .vmem, ⟨31, _⟩ => ⟨S4096x1024, .bf16⟩
  | .local _ .vmem, ⟨32, _⟩ => ⟨S4096x512, .bf16⟩
  | .local _ .vmem, ⟨33, _⟩ => ⟨S4096x512, .bf16⟩
  | .local _ .vmem, ⟨34, _⟩ => ⟨S1024x512, .f32⟩
  | .local _ .vmem, ⟨35, _⟩ => ⟨S1024x512, .f32⟩
  | .local _ .vmem, ⟨36, _⟩ => ⟨S4096x1024, .bf16⟩
  | .local _ .vmem, ⟨37, _⟩ => ⟨S4096x1024, .bf16⟩
  | .local _ .vmem, ⟨38, _⟩ => ⟨S4096x512, .bf16⟩
  | .local _ .vmem, ⟨39, _⟩ => ⟨S4096x512, .bf16⟩
  | .local _ .vmem, ⟨40, _⟩ => ⟨S1024x512, .f32⟩
  | .local _ .vmem, ⟨41, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![4, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 11, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference2Ideal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S4096x2048, .bf16⟩
  | .hbm, ⟨5, _⟩ => ⟨S4096x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S4096x2048, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S2048x5632, .f32⟩
  | .hbm, ⟨28, _⟩ => ⟨S5632x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S5632x2048, .f32⟩
  | .hbm, ⟨33, _⟩ => ⟨S2048x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S5632x2048, .f32⟩
  | .hbm, ⟨39, _⟩ => ⟨S2048x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 7
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S4096x1024, .bf16⟩
  | .local _ .vmem, ⟨15, _⟩ => ⟨S4096x1024, .bf16⟩
  | .local _ .vmem, ⟨16, _⟩ => ⟨S4096x512, .bf16⟩
  | .local _ .vmem, ⟨17, _⟩ => ⟨S4096x512, .bf16⟩
  | .local _ .vmem, ⟨18, _⟩ => ⟨S1024x512, .f32⟩
  | .local _ .vmem, ⟨19, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference3Ideal.lean ====
abbrev S4096x2048 : Shape := ⟨2, ![4096, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S4096x2048, .f32⟩
  | .hbm, ⟨12, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S2048x7168 : Shape := ⟨2, ![2048, 7168]⟩
abbrev S4096x2048 : Shape := ⟨2, ![4096, 2048]⟩
abbrev S512x1024 : Shape := ⟨2, ![512, 1024]⟩
abbrev S1024x7168 : Shape := ⟨2, ![1024, 7168]⟩
abbrev S1024x1024 : Shape := ⟨2, ![1024, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S2048x7168, .bf16⟩
  | .hbm, ⟨8, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x7168, .bf16⟩
  | .local _ .vmem, ⟨15, _⟩ => ⟨S1024x7168, .bf16⟩
  | .local _ .vmem, ⟨16, _⟩ => ⟨S512x1024, .f32⟩
  | .local _ .vmem, ⟨17, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4096x1024 : Shape := ⟨2, ![4096, 1024]⟩
abbrev S2048x7168 : Shape := ⟨2, ![2048, 7168]⟩
abbrev S4096x7168 : Shape := ⟨2, ![4096, 7168]⟩
abbrev S7168x2048 : Shape := ⟨2, ![7168, 2048]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S2048x7168, .bf16⟩
  | .hbm, ⟨8, _⟩ => ⟨S4096x7168, .bf16⟩
  | .hbm, ⟨9, _⟩ => ⟨S4096x7168, .f32⟩
  | .hbm, ⟨10, _⟩ => ⟨S2048x7168, .f32⟩
  | .hbm, ⟨11, _⟩ => ⟨S7168x2048, .f32⟩
  | .hbm, ⟨12, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]
-- ==== Kernel5.lean ====
abbrev S4096x2048 : Shape := ⟨2, ![4096, 2048]⟩
abbrev S4096x5632 : Shape := ⟨2, ![4096, 5632]⟩
abbrev S5632x2048 : Shape := ⟨2, ![5632, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .bf16⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S4096x5632 : Shape := ⟨2, ![4096, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .bf16⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x5632 : Shape := ⟨2, ![4096, 5632]⟩
abbrev S2048x5632 : Shape := ⟨2, ![2048, 5632]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S4096x5632 : Shape := ⟨2, ![4096, 5632]⟩
abbrev S2048x5632 : Shape := ⟨2, ![2048, 5632]⟩
abbrev S5632x2048 : Shape := ⟨2, ![5632, 2048]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x5632, .f32⟩
  | .hbm, ⟨5, _⟩ => ⟨S4096x5632, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S4096x2048, .f32⟩
  | .hbm, ⟨10, _⟩ => ⟨S5632x2048, .f32⟩
  | .hbm, ⟨11, _⟩ => ⟨S4096x2048, .f32⟩
  | .hbm, ⟨12, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S4096x2048 : Shape := ⟨2, ![4096, 2048]⟩
abbrev S4096x1024 : Shape := ⟨2, ![4096, 1024]⟩
abbrev S2048x7168 : Shape := ⟨2, ![2048, 7168]⟩
abbrev S4096x512 : Shape := ⟨2, ![4096, 512]⟩
abbrev S1024x512 : Shape := ⟨2, ![1024, 512]⟩

abbrev nBuf : Space → Nat
  | .hbm => 10
  | .vmem => 22
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S2048x7168, .f32⟩
  | .hbm, ⟨9, _⟩ => ⟨S2048x7168, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S1024x512, .f32⟩
  | .local _ .vmem, ⟨11, _⟩ => ⟨S1024x512, .f32⟩
  | .local _ .vmem, ⟨12, _⟩ => ⟨S4096x1024, .bf16⟩
  | .local _ .vmem, ⟨13, _⟩ => ⟨S4096x1024, .bf16⟩
  | .local _ .vmem, ⟨14, _⟩ => ⟨S4096x512, .bf16⟩
  | .local _ .vmem, ⟨15, _⟩ => ⟨S4096x512, .bf16⟩
  | .local _ .vmem, ⟨16, _⟩ => ⟨S4096x512, .bf16⟩
  | .local _ .vmem, ⟨17, _⟩ => ⟨S4096x512, .bf16⟩
  | .local _ .vmem, ⟨18, _⟩ => ⟨S4096x512, .bf16⟩
  | .local _ .vmem, ⟨19, _⟩ => ⟨S4096x512, .bf16⟩
  | .local _ .vmem, ⟨20, _⟩ => ⟨S1024x512, .f32⟩
  | .local _ .vmem, ⟨21, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 6], ![false, false]⟩

def k1_cond1 (i : grid1.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k1_cond2 (i : grid1.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k1_cond3 (i : grid1.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference7Ideal.lean ====
abbrev S4096x2048 : Shape := ⟨2, ![4096, 2048]⟩
abbrev S4096x1024 : Shape := ⟨2, ![4096, 1024]⟩
abbrev S4096x7168 : Shape := ⟨2, ![4096, 7168]⟩
abbrev S2048x4096 : Shape := ⟨2, ![2048, 4096]⟩
abbrev S2048x7168 : Shape := ⟨2, ![2048, 7168]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x7168, .bf16⟩
  | .hbm, ⟨9, _⟩ => ⟨S4096x2048, .f32⟩
  | .hbm, ⟨10, _⟩ => ⟨S2048x4096, .f32⟩
  | .hbm, ⟨11, _⟩ => ⟨S4096x7168, .f32⟩
  | .hbm, ⟨12, _⟩ => ⟨S2048x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]
-- ==== Kernel8.lean ====
abbrev S4096x2048 : Shape := ⟨2, ![4096, 2048]⟩
abbrev S2048x7168 : Shape := ⟨2, ![2048, 7168]⟩
abbrev S_ : Shape := ⟨0, ![]⟩
abbrev S1 : Shape := ⟨1, ![1]⟩
abbrev S4 : Shape := ⟨1, ![4]⟩
abbrev S4096x7168 : Shape := ⟨2, ![4096, 7168]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 15
  | .vmem => 20
  | .smem => 1
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S4, .i32⟩
  | .hbm, ⟨11, _⟩ => ⟨S4096x7168, .bf16⟩
  | .hbm, ⟨12, _⟩ => ⟨S4096x7168, .bf16⟩
  | .hbm, ⟨13, _⟩ => ⟨S4096x7168, .bf16⟩
  | .hbm, ⟨14, _⟩ => ⟨S4096x7168, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1792, .bf16⟩
  | .local _ .vmem, ⟨8, _⟩ => ⟨S1024x1792, .bf16⟩
  | .local _ .vmem, ⟨9, _⟩ => ⟨S1024x1792, .bf16⟩
  | .local _ .vmem, ⟨10, _⟩ => ⟨S1024x2048, .bf16⟩
  | .local _ .vmem, ⟨11, _⟩ => ⟨S1024x2048, .bf16⟩
  | .local _ .vmem, ⟨12, _⟩ => ⟨S2048x1792, .bf16⟩
  | .local _ .vmem, ⟨13, _⟩ => ⟨S1024x1792, .bf16⟩
  | .local _ .vmem, ⟨14, _⟩ => ⟨S1024x1792, .bf16⟩
  | .local _ .vmem, ⟨15, _⟩ => ⟨S1024x2048, .bf16⟩
  | .local _ .vmem, ⟨16, _⟩ => ⟨S1024x2048, .bf16⟩
  | .local _ .vmem, ⟨17, _⟩ => ⟨S2048x1792, .bf16⟩
  | .local _ .vmem, ⟨18, _⟩ => ⟨S1024x1792, .bf16⟩
  | .local _ .vmem, ⟨19, _⟩ => ⟨S1024x1792, .bf16⟩
  | .local _ .smem, ⟨0, _⟩ => ⟨S4, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![c0_i32.toNat, v0.toNat]

def cc0_transform_2 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

abbrev pre1 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (inb_S4_S1_1 : ∀ a, (![1] : Fin 1 → Nat) a + S1.size a ≤ S4.size a) (numel1_S1 : S1.numel = 1) (pf : pre1.Contents (Elt F)) (i : grid1.Coords) : Fin 2 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![c0_i32.toNat, v0.toNat]

def cc1_transform_3 (inb_S4_S1_1 : ∀ a, (![1] : Fin 1 → Nat) a + S1.size a ≤ S4.size a) (numel1_S1 : S1.numel = 1) (pf : pre1.Contents (Elt F)) (i : grid1.Coords) : Fin 2 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  ![arg0.toNat, v0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1792 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1792 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

abbrev pre2 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (inb_S4_S1_2 : ∀ a, (![2] : Fin 1 → Nat) a + S1.size a ≤ S4.size a) (numel1_S1 : S1.numel = 1) (pf : pre2.Contents (Elt F)) (i : grid2.Coords) : Fin 2 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![c0_i32.toNat, v0.toNat]

def cc2_transform_3 (inb_S4_S1_2 : ∀ a, (![2] : Fin 1 → Nat) a + S1.size a ≤ S4.size a) (numel1_S1 : S1.numel = 1) (pf : pre2.Contents (Elt F)) (i : grid2.Coords) : Fin 2 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  ![arg0.toNat, v0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1792 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1792 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

abbrev pre3 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (inb_S4_S1_3 : ∀ a, (![3] : Fin 1 → Nat) a + S1.size a ≤ S4.size a) (numel1_S1 : S1.numel = 1) (pf : pre3.Contents (Elt F)) (i : grid3.Coords) : Fin 2 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![c0_i32.toNat, v0.toNat]

def cc3_transform_3 (inb_S4_S1_3 : ∀ a, (![3] : Fin 1 → Nat) a + S1.size a ≤ S4.size a) (numel1_S1 : S1.numel = 1) (pf : pre3.Contents (Elt F)) (i : grid3.Coords) : Fin 2 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  ![arg0.toNat, v0.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1792 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1792 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== Reference8Ideal.lean ====
abbrev S4096x2048 : Shape := ⟨2, ![4096, 2048]⟩
abbrev S2048x7168 : Shape := ⟨2, ![2048, 7168]⟩
abbrev S4096x7168 : Shape := ⟨2, ![4096, 7168]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S4096x2048, .f32⟩
  | .hbm, ⟨3, _⟩ => ⟨S2048x7168, .f32⟩
  | .hbm, ⟨4, _⟩ => ⟨S4096x7168, .f32⟩
  | .hbm, ⟨5, _⟩ => ⟨S4096x7168, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x1792 : Shape := ⟨2, ![2048, 1792]⟩
abbrev S512x2048 : Shape := ⟨2, ![512, 2048]⟩
abbrev S2048x1408 : Shape := ⟨2, ![2048, 1408]⟩
abbrev S1408x2048 : Shape := ⟨2, ![1408, 2048]⟩
abbrev S1x2048 : Shape := ⟨2, ![1, 2048]⟩
abbrev S1x1024 : Shape := ⟨2, ![1, 1024]⟩
abbrev S1x8 : Shape := ⟨2, ![1, 8]⟩
abbrev S256x1792 : Shape := ⟨2, ![256, 1792]⟩
abbrev S256x2048 : Shape := ⟨2, ![256, 2048]⟩
abbrev S256x1408 : Shape := ⟨2, ![256, 1408]⟩
abbrev S176x2048 : Shape := ⟨2, ![176, 2048]⟩

abbrev nBuf : Space → Nat
  | .hbm => 56
  | .vmem => 88
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S2048x1408, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S1408x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x8, .f32⟩
  | .hbm, ⟨25, _⟩ => ⟨S1x8, .f32⟩
  | .hbm, ⟨26, _⟩ => ⟨S1x8, .f32⟩
  | .hbm, ⟨27, _⟩ => ⟨S1x8, .f32⟩
  | .hbm, ⟨28, _⟩ => ⟨S2048x1792, .f32⟩
  | .hbm, ⟨29, _⟩ => ⟨S2048x1792, .f32⟩
  | .hbm, ⟨30, _⟩ => ⟨S2048x1792, .f32⟩
  | .hbm, ⟨31, _⟩ => ⟨S2048x1792, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S2048x1408, .f32⟩
  | .hbm, ⟨40, _⟩ => ⟨S1408x2048, .f32⟩
  | .hbm, ⟨41, _⟩ => ⟨S1408x2048, .f32⟩
  | .hbm, ⟨42, _⟩ => ⟨S1408x2048, .f32⟩
  | .hbm, ⟨43, _⟩ => ⟨S1408x2048, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S1x2048, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x8, .f32⟩
  | .hbm, ⟨53, _⟩ => ⟨S1x8, .f32⟩
  | .hbm, ⟨54, _⟩ => ⟨S1x8, .f32⟩
  | .hbm, ⟨55, _⟩ => ⟨S1x8, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x1408, .f32⟩
  | .local _ .vmem, ⟨33, _⟩ => ⟨S256x1408, .f32⟩
  | .local _ .vmem, ⟨34, _⟩ => ⟨S256x1408, .f32⟩
  | .local _ .vmem, ⟨35, _⟩ => ⟨S256x1408, .f32⟩
  | .local _ .vmem, ⟨36, _⟩ => ⟨S256x1408, .f32⟩
  | .local _ .vmem, ⟨37, _⟩ => ⟨S256x1408, .f32⟩
  | .local _ .vmem, ⟨38, _⟩ => ⟨S256x1408, .f32⟩
  | .local _ .vmem, ⟨39, _⟩ => ⟨S256x1408, .f32⟩
  | .local _ .vmem, ⟨40, _⟩ => ⟨S256x1408, .f32⟩
  | .local _ .vmem, ⟨41, _⟩ => ⟨S256x1408, .f32⟩
  | .local _ .vmem, ⟨42, _⟩ => ⟨S256x1408, .f32⟩
  | .local _ .vmem, ⟨43, _⟩ => ⟨S256x1408, .f32⟩
  | .local _ .vmem, ⟨44, _⟩ => ⟨S256x1408, .f32⟩
  | .local _ .vmem, ⟨45, _⟩ => ⟨S256x1408, .f32⟩
  | .local _ .vmem, ⟨46, _⟩ => ⟨S256x1408, .f32⟩
  | .local _ .vmem, ⟨47, _⟩ => ⟨S256x1408, .f32⟩
  | .local _ .vmem, ⟨48, _⟩ => ⟨S176x2048, .f32⟩
  | .local _ .vmem, ⟨49, _⟩ => ⟨S176x2048, .f32⟩
  | .local _ .vmem, ⟨50, _⟩ => ⟨S176x2048, .f32⟩
  | .local _ .vmem, ⟨51, _⟩ => ⟨S176x2048, .f32⟩
  | .local _ .vmem, ⟨52, _⟩ => ⟨S176x2048, .f32⟩
  | .local _ .vmem, ⟨53, _⟩ => ⟨S176x2048, .f32⟩
  | .local _ .vmem, ⟨54, _⟩ => ⟨S176x2048, .f32⟩
  | .local _ .vmem, ⟨55, _⟩ => ⟨S176x2048, .f32⟩
  | .local _ .vmem, ⟨56, _⟩ => ⟨S176x2048, .f32⟩
  | .local _ .vmem, ⟨57, _⟩ => ⟨S176x2048, .f32⟩
  | .local _ .vmem, ⟨58, _⟩ => ⟨S176x2048, .f32⟩
  | .local _ .vmem, ⟨59, _⟩ => ⟨S176x2048, .f32⟩
  | .local _ .vmem, ⟨60, _⟩ => ⟨S176x2048, .f32⟩
  | .local _ .vmem, ⟨61, _⟩ => ⟨S176x2048, .f32⟩
  | .local _ .vmem, ⟨62, _⟩ => ⟨S176x2048, .f32⟩
  | .local _ .vmem, ⟨63, _⟩ => ⟨S176x2048, .f32⟩
  | .local _ .vmem, ⟨64, _⟩ => ⟨S1x2048, .f32⟩
  | .local _ .vmem, ⟨65, _⟩ => ⟨S1x2048, .f32⟩
  | .local _ .vmem, ⟨66, _⟩ => ⟨S1x2048, .f32⟩
  | .local _ .vmem, ⟨67, _⟩ => ⟨S1x2048, .f32⟩
  | .local _ .vmem, ⟨68, _⟩ => ⟨S1x2048, .f32⟩
  | .local _ .vmem, ⟨69, _⟩ => ⟨S1x2048, .f32⟩
  | .local _ .vmem, ⟨70, _⟩ => ⟨S1x2048, .f32⟩
  | .local _ .vmem, ⟨71, _⟩ => ⟨S1x2048, .f32⟩
  | .local _ .vmem, ⟨72, _⟩ => ⟨S1x1024, .f32⟩
  | .local _ .vmem, ⟨73, _⟩ => ⟨S1x1024, .f32⟩
  | .local _ .vmem, ⟨74, _⟩ => ⟨S1x1024, .f32⟩
  | .local _ .vmem, ⟨75, _⟩ => ⟨S1x1024, .f32⟩
  | .local _ .vmem, ⟨76, _⟩ => ⟨S1x1024, .f32⟩
  | .local _ .vmem, ⟨77, _⟩ => ⟨S1x1024, .f32⟩
  | .local _ .vmem, ⟨78, _⟩ => ⟨S1x1024, .f32⟩
  | .local _ .vmem, ⟨79, _⟩ => ⟨S1x1024, .f32⟩
  | .local _ .vmem, ⟨80, _⟩ => ⟨S1x8, .f32⟩
  | .local _ .vmem, ⟨81, _⟩ => ⟨S1x8, .f32⟩
  | .local _ .vmem, ⟨82, _⟩ => ⟨S1x8, .f32⟩
  | .local _ .vmem, ⟨83, _⟩ => ⟨S1x8, .f32⟩
  | .local _ .vmem, ⟨84, _⟩ => ⟨S1x8, .f32⟩
  | .local _ .vmem, ⟨85, _⟩ => ⟨S1x8, .f32⟩
  | .local _ .vmem, ⟨86, _⟩ => ⟨S1x8, .f32⟩
  | .local _ .vmem, ⟨87, _⟩ => ⟨S1x8, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v0_3 : Ref sig .tc := ⟨.hbm, 31, rfl⟩
abbrev main_v1_0 : Ref sig .tc := ⟨.hbm, 32, rfl⟩
abbrev main_v1_1 : Ref sig .tc := ⟨.hbm, 33, rfl⟩
abbrev main_v1_2 : Ref sig .tc := ⟨.hbm, 34, rfl⟩
abbrev main_v1_3 : Ref sig .tc := ⟨.hbm, 35, rfl⟩
abbrev main_v2_0 : Ref sig .tc := ⟨.hbm, 36, rfl⟩
abbrev main_v2_1 : Ref sig .tc := ⟨.hbm, 37, rfl⟩
abbrev main_v2_2 : Ref sig .tc := ⟨.hbm, 38, rfl⟩
abbrev main_v2_3 : Ref sig .tc := ⟨.hbm, 39, rfl⟩
abbrev main_v3_0 : Ref sig .tc := ⟨.hbm, 40, rfl⟩
abbrev main_v3_1 : Ref sig .tc := ⟨.hbm, 41, rfl⟩
abbrev main_v3_2 : Ref sig .tc := ⟨.hbm, 42, rfl⟩
abbrev main_v3_3 : Ref sig .tc := ⟨.hbm, 43, rfl⟩
abbrev main_v4_0 : Ref sig .tc := ⟨.hbm, 44, rfl⟩
abbrev main_v4_1 : Ref sig .tc := ⟨.hbm, 45, rfl⟩
abbrev main_v4_2 : Ref sig .tc := ⟨.hbm, 46, rfl⟩
abbrev main_v4_3 : Ref sig .tc := ⟨.hbm, 47, rfl⟩
abbrev main_v5_0 : Ref sig .tc := ⟨.hbm, 48, rfl⟩
abbrev main_v5_1 : Ref sig .tc := ⟨.hbm, 49, rfl⟩
abbrev main_v5_2 : Ref sig .tc := ⟨.hbm, 50, rfl⟩
abbrev main_v5_3 : Ref sig .tc := ⟨.hbm, 51, rfl⟩
abbrev main_v6_0 : Ref sig .tc := ⟨.hbm, 52, rfl⟩
abbrev main_v6_1 : Ref sig .tc := ⟨.hbm, 53, rfl⟩
abbrev main_v6_2 : Ref sig .tc := ⟨.hbm, 54, rfl⟩
abbrev main_v6_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc4_stg0_0 : Ref sig .tc := ⟨.vmem, 64, rfl⟩
abbrev cc4_stg1_0 : Ref sig .tc := ⟨.vmem, 65, rfl⟩
abbrev cc4_stg2_0 : Ref sig .tc := ⟨.vmem, 66, rfl⟩
abbrev cc4_stg3_0 : Ref sig .tc := ⟨.vmem, 67, rfl⟩
abbrev cc4_stg4_0 : Ref sig .tc := ⟨.vmem, 68, rfl⟩
abbrev cc4_stg5_0 : Ref sig .tc := ⟨.vmem, 69, rfl⟩
abbrev cc4_stg6_0 : Ref sig .tc := ⟨.vmem, 70, rfl⟩
abbrev cc4_stg7_0 : Ref sig .tc := ⟨.vmem, 71, rfl⟩
abbrev cc5_stg0_0 : Ref sig .tc := ⟨.vmem, 72, rfl⟩
abbrev cc5_stg1_0 : Ref sig .tc := ⟨.vmem, 73, rfl⟩
abbrev cc5_stg2_0 : Ref sig .tc := ⟨.vmem, 74, rfl⟩
abbrev cc5_stg3_0 : Ref sig .tc := ⟨.vmem, 75, rfl⟩
abbrev cc5_stg4_0 : Ref sig .tc := ⟨.vmem, 76, rfl⟩
abbrev cc5_stg5_0 : Ref sig .tc := ⟨.vmem, 77, rfl⟩
abbrev cc5_stg6_0 : Ref sig .tc := ⟨.vmem, 78, rfl⟩
abbrev cc5_stg7_0 : Ref sig .tc := ⟨.vmem, 79, rfl⟩
abbrev cc6_stg0_0 : Ref sig .tc := ⟨.vmem, 80, rfl⟩
abbrev cc6_stg1_0 : Ref sig .tc := ⟨.vmem, 81, rfl⟩
abbrev cc6_stg2_0 : Ref sig .tc := ⟨.vmem, 82, rfl⟩
abbrev cc6_stg3_0 : Ref sig .tc := ⟨.vmem, 83, rfl⟩
abbrev cc6_stg4_0 : Ref sig .tc := ⟨.vmem, 84, rfl⟩
abbrev cc6_stg5_0 : Ref sig .tc := ⟨.vmem, 85, rfl⟩
abbrev cc6_stg6_0 : Ref sig .tc := ⟨.vmem, 86, rfl⟩
abbrev cc6_stg7_0 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc4_sem0_0 : DmaSem sig := 64
abbrev cc4_sem1_0 : DmaSem sig := 65
abbrev cc4_sem2_0 : DmaSem sig := 66
abbrev cc4_sem3_0 : DmaSem sig := 67
abbrev cc4_sem4_0 : DmaSem sig := 68
abbrev cc4_sem5_0 : DmaSem sig := 69
abbrev cc4_sem6_0 : DmaSem sig := 70
abbrev cc4_sem7_0 : DmaSem sig := 71
abbrev cc5_sem0_0 : DmaSem sig := 72
abbrev cc5_sem1_0 : DmaSem sig := 73
abbrev cc5_sem2_0 : DmaSem sig := 74
abbrev cc5_sem3_0 : DmaSem sig := 75
abbrev cc5_sem4_0 : DmaSem sig := 76
abbrev cc5_sem5_0 : DmaSem sig := 77
abbrev cc5_sem6_0 : DmaSem sig := 78
abbrev cc5_sem7_0 : DmaSem sig := 79
abbrev cc6_sem0_0 : DmaSem sig := 80
abbrev cc6_sem1_0 : DmaSem sig := 81
abbrev cc6_sem2_0 : DmaSem sig := 82
abbrev cc6_sem3_0 : DmaSem sig := 83
abbrev cc6_sem4_0 : DmaSem sig := 84
abbrev cc6_sem5_0 : DmaSem sig := 85
abbrev cc6_sem6_0 : DmaSem sig := 86
abbrev cc6_sem7_0 : DmaSem sig := 87

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1408 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1408 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1408 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1408 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S176x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S176x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S176x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S176x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S176x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S176x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S176x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S176x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S1x2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S1x2048 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev stage4_7 : Fin 1 → Memref sig .tc .vmem S1x2048 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S1x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev stage5_7 : Fin 1 → Memref sig .tc .vmem S1x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1x8 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1x8 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S1x8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S1x8 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S1x8 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S1x8 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S1x8 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev stage6_7 : Fin 1 → Memref sig .tc .vmem S1x8 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![true]
-- ==== Reference9Ideal.lean ====
abbrev S2048x1792 : Shape := ⟨2, ![2048, 1792]⟩
abbrev S512x2048 : Shape := ⟨2, ![512, 2048]⟩
abbrev S2048x1408 : Shape := ⟨2, ![2048, 1408]⟩
abbrev S1408x2048 : Shape := ⟨2, ![1408, 2048]⟩
abbrev S1x2048 : Shape := ⟨2, ![1, 2048]⟩
abbrev S1x1024 : Shape := ⟨2, ![1, 1024]⟩
abbrev S1x8 : Shape := ⟨2, ![1, 8]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S2048x1792, .f32⟩
  | 1 => ⟨S2048x1792, .f32⟩
  | 2 => ⟨S2048x1792, .f32⟩
  | 3 => ⟨S2048x1792, .f32⟩
  | 4 => ⟨S512x2048, .f32⟩
  | 5 => ⟨S512x2048, .f32⟩
  | 6 => ⟨S512x2048, .f32⟩
  | 7 => ⟨S512x2048, .f32⟩
  | 8 => ⟨S2048x1408, .f32⟩
  | 9 => ⟨S2048x1408, .f32⟩
  | 10 => ⟨S2048x1408, .f32⟩
  | 11 => ⟨S2048x1408, .f32⟩
  | 12 => ⟨S1408x2048, .f32⟩
  | 13 => ⟨S1408x2048, .f32⟩
  | 14 => ⟨S1408x2048, .f32⟩
  | 15 => ⟨S1408x2048, .f32⟩
  | 16 => ⟨S1x2048, .f32⟩
  | 17 => ⟨S1x2048, .f32⟩
  | 18 => ⟨S1x2048, .f32⟩
  | 19 => ⟨S1x2048, .f32⟩
  | 20 => ⟨S1x1024, .f32⟩
  | 21 => ⟨S1x1024, .f32⟩
  | 22 => ⟨S1x1024, .f32⟩
  | 23 => ⟨S1x1024, .f32⟩
  | 24 => ⟨S1x8, .f32⟩
  | 25 => ⟨S1x8, .f32⟩
  | 26 => ⟨S1x8, .f32⟩
  | 27 => ⟨S1x8, .f32⟩
  | 28 => ⟨S_, .f32⟩
  | 29 => ⟨S2048x1792, .f32⟩
  | 30 => ⟨S2048x1792, .f32⟩
  | 31 => ⟨S_, .f32⟩
  | 32 => ⟨S2048x1792, .f32⟩
  | 33 => ⟨S2048x1792, .f32⟩
  | 34 => ⟨S2048x1792, .f32⟩
  | 35 => ⟨S_, .f32⟩
  | 36 => ⟨S2048x1792, .f32⟩
  | 37 => ⟨S2048x1792, .f32⟩
  | 38 => ⟨S2048x1792, .f32⟩
  | 39 => ⟨S_, .f32⟩
  | 40 => ⟨S2048x1792, .f32⟩
  | 41 => ⟨S2048x1792, .f32⟩
  | 42 => ⟨S2048x1792, .f32⟩
  | 43 => ⟨S_, .f32⟩
  | 44 => ⟨S2048x1792, .f32⟩
  | 45 => ⟨S2048x1792, .f32⟩
  | 46 => ⟨S_, .f32⟩
  | 47 => ⟨S2048x1792, .f32⟩
  | 48 => ⟨S2048x1792, .f32⟩
  | 49 => ⟨S2048x1792, .f32⟩
  | 50 => ⟨S_, .f32⟩
  | 51 => ⟨S2048x1792, .f32⟩
  | 52 => ⟨S2048x1792, .f32⟩
  | 53 => ⟨S2048x1792, .f32⟩
  | 54 => ⟨S_, .f32⟩
  | 55 => ⟨S2048x1792, .f32⟩
  | 56 => ⟨S2048x1792, .f32⟩
  | 57 => ⟨S2048x1792, .f32⟩
  | 58 => ⟨S_, .f32⟩
  | 59 => ⟨S2048x1792, .f32⟩
  | 60 => ⟨S2048x1792, .f32⟩
  | 61 => ⟨S_, .f32⟩
  | 62 => ⟨S512x2048, .f32⟩
  | 63 => ⟨S512x2048, .f32⟩
  | 64 => ⟨S_, .f32⟩
  | 65 => ⟨S512x2048, .f32⟩
  | 66 => ⟨S512x2048, .f32⟩
  | 67 => ⟨S512x2048, .f32⟩
  | 68 => ⟨S_, .f32⟩
  | 69 => ⟨S512x2048, .f32⟩
  | 70 => ⟨S512x2048, .f32⟩
  | 71 => ⟨S512x2048, .f32⟩
  | 72 => ⟨S_, .f32⟩
  | 73 => ⟨S512x2048, .f32⟩
  | 74 => ⟨S512x2048, .f32⟩
  | 75 => ⟨S512x2048, .f32⟩
  | 76 => ⟨S_, .f32⟩
  | 77 => ⟨S512x2048, .f32⟩
  | 78 => ⟨S512x2048, .f32⟩
  | 79 => ⟨S_, .f32⟩
  | 80 => ⟨S512x2048, .f32⟩
  | 81 => ⟨S512x2048, .f32⟩
  | 82 => ⟨S512x2048, .f32⟩
  | 83 => ⟨S_, .f32⟩
  | 84 => ⟨S512x2048, .f32⟩
  | 85 => ⟨S512x2048, .f32⟩
  | 86 => ⟨S512x2048, .f32⟩
  | 87 => ⟨S_, .f32⟩
  | 88 => ⟨S512x2048, .f32⟩
  | 89 => ⟨S512x2048, .f32⟩
  | 90 => ⟨S512x2048, .f32⟩
  | 91 => ⟨S_, .f32⟩
  | 92 => ⟨S512x2048, .f32⟩
  | 93 => ⟨S512x2048, .f32⟩
  | 94 => ⟨S_, .f32⟩
  | 95 => ⟨S2048x1408, .f32⟩
  | 96 => ⟨S2048x1408, .f32⟩
  | 97 => ⟨S_, .f32⟩
  | 98 => ⟨S2048x1408, .f32⟩
  | 99 => ⟨S2048x1408, .f32⟩
  | 100 => ⟨S2048x1408, .f32⟩
  | 101 => ⟨S_, .f32⟩
  | 102 => ⟨S2048x1408, .f32⟩
  | 103 => ⟨S2048x1408, .f32⟩
  | 104 => ⟨S2048x1408, .f32⟩
  | 105 => ⟨S_, .f32⟩
  | 106 => ⟨S2048x1408, .f32⟩
  | 107 => ⟨S2048x1408, .f32⟩
  | 108 => ⟨S2048x1408, .f32⟩
  | 109 => ⟨S_, .f32⟩
  | 110 => ⟨S2048x1408, .f32⟩
  | 111 => ⟨S2048x1408, .f32⟩
  | 112 => ⟨S_, .f32⟩
  | 113 => ⟨S2048x1408, .f32⟩
  | 114 => ⟨S2048x1408, .f32⟩
  | 115 => ⟨S2048x1408, .f32⟩
  | 116 => ⟨S_, .f32⟩
  | 117 => ⟨S2048x1408, .f32⟩
  | 118 => ⟨S2048x1408, .f32⟩
  | 119 => ⟨S2048x1408, .f32⟩
  | 120 => ⟨S_, .f32⟩
  | 121 => ⟨S2048x1408, .f32⟩
  | 122 => ⟨S2048x1408, .f32⟩
  | 123 => ⟨S2048x1408, .f32⟩
  | 124 => ⟨S_, .f32⟩
  | 125 => ⟨S2048x1408, .f32⟩
  | 126 => ⟨S2048x1408, .f32⟩
  | 127 => ⟨S_, .f32⟩
  | _ => ⟨S2048x1792, .f32⟩

abbrev hbmTy0_1 (i : Nat) : BufTy := match i % 128 with
  | 0 => ⟨S1408x2048, .f32⟩
  | 1 => ⟨S1408x2048, .f32⟩
  | 2 => ⟨S_, .f32⟩
  | 3 => ⟨S1408x2048, .f32⟩
  | 4 => ⟨S1408x2048, .f32⟩
  | 5 => ⟨S1408x2048, .f32⟩
  | 6 => ⟨S_, .f32⟩
  | 7 => ⟨S1408x2048, .f32⟩
  | 8 => ⟨S1408x2048, .f32⟩
  | 9 => ⟨S1408x2048, .f32⟩
  | 10 => ⟨S_, .f32⟩
  | 11 => ⟨S1408x2048, .f32⟩
  | 12 => ⟨S1408x2048, .f32⟩
  | 13 => ⟨S1408x2048, .f32⟩
  | 14 => ⟨S_, .f32⟩
  | 15 => ⟨S1408x2048, .f32⟩
  | 16 => ⟨S1408x2048, .f32⟩
  | 17 => ⟨S_, .f32⟩
  | 18 => ⟨S1408x2048, .f32⟩
  | 19 => ⟨S1408x2048, .f32⟩
  | 20 => ⟨S1408x2048, .f32⟩
  | 21 => ⟨S_, .f32⟩
  | 22 => ⟨S1408x2048, .f32⟩
  | 23 => ⟨S1408x2048, .f32⟩
  | 24 => ⟨S1408x2048, .f32⟩
  | 25 => ⟨S_, .f32⟩
  | 26 => ⟨S1408x2048, .f32⟩
  | 27 => ⟨S1408x2048, .f32⟩
  | 28 => ⟨S1408x2048, .f32⟩
  | 29 => ⟨S_, .f32⟩
  | 30 => ⟨S1408x2048, .f32⟩
  | 31 => ⟨S1408x2048, .f32⟩
  | 32 => ⟨S_, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S1x8, .f32⟩
  | 100 => ⟨S1x8, .f32⟩
  | 101 => ⟨S_, .f32⟩
  | 102 => ⟨S1x8, .f32⟩
  | 103 => ⟨S1x8, .f32⟩
  | 104 => ⟨S1x8, .f32⟩
  | 105 => ⟨S_, .f32⟩
  | 106 => ⟨S1x8, .f32⟩
  | 107 => ⟨S1x8, .f32⟩
  | 108 => ⟨S1x8, .f32⟩
  | 109 => ⟨S_, .f32⟩
  | 110 => ⟨S1x8, .f32⟩
  | 111 => ⟨S1x8, .f32⟩
  | 112 => ⟨S1x8, .f32⟩
  | 113 => ⟨S_, .f32⟩
  | 114 => ⟨S1x8, .f32⟩
  | 115 => ⟨S1x8, .f32⟩
  | 116 => ⟨S_, .f32⟩
  | 117 => ⟨S1x8, .f32⟩
  | 118 => ⟨S1x8, .f32⟩
  | 119 => ⟨S1x8, .f32⟩
  | 120 => ⟨S_, .f32⟩
  | 121 => ⟨S1x8, .f32⟩
  | 122 => ⟨S1x8, .f32⟩
  | 123 => ⟨S1x8, .f32⟩
  | 124 => ⟨S_, .f32⟩
  | 125 => ⟨S1x8, .f32⟩
  | 126 => ⟨S1x8, .f32⟩
  | 127 => ⟨S1x8, .f32⟩
  | _ => ⟨S2048x1792, .f32⟩

abbrev hbmTy0_2 (i : Nat) : BufTy := match i % 128 with
  | 0 => ⟨S_, .f32⟩
  | 1 => ⟨S1x8, .f32⟩
  | 2 => ⟨S1x8, .f32⟩
  | _ => ⟨S2048x1792, .f32⟩

abbrev hbmTy (i : Nat) : BufTy := match i / 128 with
  | 0 => hbmTy0_0 i
  | 1 => hbmTy0_1 i
  | 2 => hbmTy0_2 i
  | _ => ⟨S2048x1792, .f32⟩

abbrev bufTy : (tb : Table) → Fin (tcTables nBuf tb) → BufTy
  | .hbm, ⟨i, _⟩ => hbmTy i
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Proof.OptimiserFrames.lean ====
/-
  The frames of the optimiser's programs.
-/
module

public import proofs.«01_k».proof.Defs
public import proofs.«01_k».proof.Proof.Gen.Kernel9.Frame
public import proofs.«01_k».proof.Proof.Gen.Kernel9Ideal.Frame
public import proofs.«01_k».proof.Proof.Gen.Reference9Ideal.Read
public import Idealize.ShloMosaic.Adequacy
public import Idealize.ShloMosaic.Init

@[expose] public section

noncomputable section

namespace Cert.Proof

open Idealize.ShloMosaic Idealize.SL.Sem

theorem frame_kernel9 : Cert.quiescent_Kernel9 := fun m ρ _ => Cert.Kernel9.Gen.frame m ρ

theorem frame_ideal9 : Cert.quiescent_Kernel9Ideal := fun m ρ _ => Cert.Kernel9Ideal.Gen.frame m ρ

/-- Every semaphore counter of the reference's program is zero: it has none. -/
theorem reference_run9 (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15)
      ∧ r.2.mem ((c.tc : Thread Cert.Reference9Ideal.nD Cert.Reference9Ideal.τ).loc Cert.Reference9Ideal.main_arg16) = m ((c.tc : Thread Cert.Reference9Ideal.nD Cert.Reference9Ideal.τ).loc Cert.Reference9Ideal.main_arg16)
      ∧ r.2.mem ((c.tc : Thread Cert.Reference9Ideal.nD Cert.Reference9Ideal.τ).loc Cert.Reference9Ideal.main_arg17) = m ((c.tc : Thread Cert.Reference9Ideal.nD Cert.Reference9Ideal.τ).loc Cert.Reference9Ideal.main_arg17)
      ∧ r.2.mem ((c.tc : Thread Cert.Reference9Ideal.nD Cert.Reference9Ideal.τ).loc Cert.Reference9Ideal.main_arg18) = m ((c.tc : Thread Cert.Reference9Ideal.nD Cert.Reference9Ideal.τ).loc Cert.Reference9Ideal.main_arg18)
      ∧ r.2.mem ((c.tc : Thread Cert.Reference9Ideal.nD Cert.Reference9Ideal.τ).loc Cert.Reference9Ideal.main_arg19) = m ((c.tc : Thread Cert.Reference9Ideal.nD Cert.Reference9Ideal.τ).loc Cert.Reference9Ideal.main_arg19)
      ∧ r.2.mem ((c.tc : Thread Cert.Reference9Ideal.nD Cert.Reference9Ideal.τ).loc Cert.Reference9Ideal.main_arg20) = m ((c.tc : Thread Cert.Reference9Ideal.nD Cert.Reference9Ideal.τ).loc Cert.Reference9Ideal.main_arg20)
      ∧ r.2.mem ((c.tc : Thread Cert.Reference9Ideal.nD Cert.Reference9Ideal.τ).loc Cert.Reference9Ideal.main_arg21) = m ((c.tc : Thread Cert.Reference9Ideal.nD Cert.Reference9Ideal.τ).loc Cert.Reference9Ideal.main_arg21)
      ∧ r.2.mem ((c.tc : Thread Cert.Reference9Ideal.nD Cert.Reference9Ideal.τ).loc Cert.Reference9Ideal.main_arg22) = m ((c.tc : Thread Cert.Reference9Ideal.nD Cert.Reference9Ideal.τ).loc Cert.Reference9Ideal.main_arg22)
      ∧ r.2.mem ((c.tc : Thread Cert.Reference9Ideal.nD Cert.Reference9Ideal.τ).loc Cert.Reference9Ideal.main_arg23) = m ((c.tc : Thread Cert.Reference9Ideal.nD Cert.Reference9Ideal.τ).loc Cert.Reference9Ideal.main_arg23)
      ∧ r.2.mem ((c.tc : Thread Cert.Reference9Ideal.nD Cert.Reference9Ideal.τ).loc Cert.Reference9Ideal.main_arg24) = m ((c.tc : Thread Cert.Reference9Ideal.nD Cert.Reference9Ideal.τ).loc Cert.Reference9Ideal.main_arg24)
      ∧ r.2.mem ((c.tc : Thread Cert.Reference9Ideal.nD Cert.Reference9Ideal.τ).loc Cert.Reference9Ideal.main_arg25) = m ((c.tc : Thread Cert.Reference9Ideal.nD Cert.Reference9Ideal.τ).loc Cert.Reference9Ideal.main_arg25)
      ∧ r.2.mem ((c.tc : Thread Cert.Reference9Ideal.nD Cert.Reference9Ideal.τ).loc Cert.Reference9Ideal.main_arg26) = m ((c.tc : Thread Cert.Reference9Ideal.nD Cert.Reference9Ideal.τ).loc Cert.Reference9Ideal.main_arg26)
      ∧ r.2.mem ((c.tc : Thread Cert.Reference9Ideal.nD Cert.Reference9Ideal.τ).loc Cert.Reference9Ideal.main_arg27) = m ((c.tc : Thread Cert.Reference9Ideal.nD Cert.Reference9Ideal.τ).loc Cert.Reference9Ideal.main_arg27))
      ∧ r.2.sem = fun _ => 0) :=
  (θ_run Cert.Reference9Ideal.defs _ _).mono (fun r h => ⟨fun c => (h c).2.2.2.2.2.2.2.2.2.2.2.2.2.2.2.2.2.2.2.2.2, sem_eq_zero_of_no_sems (by decide) r.2⟩) (Cert.Reference9Ideal.Value.run m ρ)

theorem frame_reference9 : Cert.quiescent_Reference9Ideal := fun m ρ _ => reference_run9 m ρ

end Cert.Proof

end
-- ==== Proof.Optimiser.lean ====
/-
  The optimiser's launches, one for each shape of a weight: the update and the two new moments they write are the
  reference's.
-/
module

public import proofs.«01_k».proof.Proof.Gen.Kernel9Ideal.Frame
public import proofs.«01_k».proof.Proof.Gen.Reference9Ideal.Read
public import Idealize.ShloMosaic.Lib.Pipeline.ValueKit
public import Idealize.ShloMosaic.Lib.Pointwise

@[expose] public section

set_option maxRecDepth 16384

noncomputable section

namespace Cert.Kernel9Ideal.Result

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel9Ideal Cert.Kernel9Ideal.Gen
open Cert.Reference9Ideal.Read (val_main_v23 val_main_v4 val_main_v10 val_main_v47 val_main_v28 val_main_v34
  val_main_v71 val_main_v52 val_main_v58 val_main_v95 val_main_v76 val_main_v82
  val_main_v119 val_main_v100 val_main_v106 val_main_v143 val_main_v124 val_main_v130
  val_main_v167 val_main_v148 val_main_v154)

/-- A new first moment, from the gradient and the old one. -/
def mean (g m : Ideal .f32) : Ideal .f32 :=
  FloatOps.addf (FloatOps.mulf (FloatOps.ofBits .f32 0x3F666666#32) m) (FloatOps.mulf (FloatOps.ofBits .f32 0x3DCCCCCD#32) g)

/-- A new second moment, from the gradient and the old one. -/
def square (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The update of a weight, from the weight, its gradient and its moments. -/
def step (w g m v : Ideal .f32) : Ideal .f32 :=
  FloatOps.mulf (FloatOps.ofBits .f32 0xBA83126F#32)
    (FloatOps.addf
      (FloatOps.divf (FloatOps.divf (mean g m) (FloatOps.ofBits .f32 0x3F26BD02#32))
        (FloatOps.addf (FloatOps.sqrt (FloatOps.divf (square g v) (FloatOps.ofBits .f32 0x3C231ACC#32)))
          (FloatOps.ofBits .f32 0x322BCC77#32)))
      (FloatOps.mulf (FloatOps.ofBits .f32 0x3C23D70A#32) w))

/-! The weights of one row are a single block; of them the update is read entry by entry. -/

theorem update4 (w g m v : Vec Ideal S1x2048 .f32) (i : S1x2048.Idx) :
    out4_5 (F := Ideal) w g m v i = step (w i) (g i) (m i) (v i) := by
  frame_out
  rfl

theorem reference4 (w g m v : Vec Ideal S1x2048 .f32) (i : S1x2048.Idx) :
    val_main_v119 (F := Ideal) w g m v i = step (w i) (g i) (m i) (v i) := rfl

theorem update5 (w g m v : Vec Ideal S1x1024 .f32) (i : S1x1024.Idx) :
    out5_5 (F := Ideal) w g m v i = step (w i) (g i) (m i) (v i) := by
  frame_out
  rfl

theorem reference5 (w g m v : Vec Ideal S1x1024 .f32) (i : S1x1024.Idx) :
    val_main_v143 (F := Ideal) w g m v i = step (w i) (g i) (m i) (v i) := rfl

theorem update6 (w g m v : Vec Ideal S1x8 .f32) (i : S1x8.Idx) :
    out6_5 (F := Ideal) w g m v i = step (w i) (g i) (m i) (v i) := by
  frame_out
  rfl

theorem reference6 (w g m v : Vec Ideal S1x8 .f32) (i : S1x8.Idx) :
    val_main_v167 (F := Ideal) w g m v i = step (w i) (g i) (m i) (v i) := rfl

section Regions

variable (V : (c : Dev nD) → (b : Ref sig .tc) → Buf (Elt Ideal) ((c : Thread nD τ).loc b))

/-- The launch of `w_in`'s shape: the update, the first moment and the second. -/
theorem launch0 (c : Dev nD) :
    (dat0 V c).arrAt 5 cfg0.N = val_main_v23 (F := Ideal) (V c main_arg0) (V c main_arg1) (V c main_arg2) (V c main_arg3)
      ∧ (dat0 V c).arrAt 6 cfg0.N = val_main_v4 (F := Ideal) (V c main_arg1) (V c main_arg2)
      ∧ (dat0 V c).arrAt 7 cfg0.N = val_main_v10 (F := Ideal) (V c main_arg1) (V c main_arg3) := by
  refine ⟨(dat0 V c).arrAt_eq_of_covers 5 _ (by decide +kernel) fun t hf y => ?_,
    (dat0 V c).arrAt_eq_of_covers 6 _ (by decide +kernel) fun t hf y => ?_,
    (dat0 V c).arrAt_eq_of_covers 7 _ (by decide +kernel) fun t hf y => ?_⟩ <;> blk_simp
  · rw [after0_5]
    frame_out
    rfl
  · rw [after0_6]
    frame_out
    rfl
  · rw [after0_7]
    frame_out
    rfl

/-- The launch of `w_out`'s shape: the update, the first moment and the second. -/
theorem launch1 (c : Dev nD) :
    (dat1 V c).arrAt 5 cfg1.N = val_main_v47 (F := Ideal) (V c main_arg4) (V c main_arg5) (V c main_arg6) (V c main_arg7)
      ∧ (dat1 V c).arrAt 6 cfg1.N = val_main_v28 (F := Ideal) (V c main_arg5) (V c main_arg6)
      ∧ (dat1 V c).arrAt 7 cfg1.N = val_main_v34 (F := Ideal) (V c main_arg5) (V c main_arg7) := by
  refine ⟨(dat1 V c).arrAt_eq_of_covers 5 _ (by decide +kernel) fun t hf y => ?_,
    (dat1 V c).arrAt_eq_of_covers 6 _ (by decide +kernel) fun t hf y => ?_,
    (dat1 V c).arrAt_eq_of_covers 7 _ (by decide +kernel) fun t hf y => ?_⟩ <;> blk_simp
  · rw [after1_5]
    frame_out
    rfl
  · rw [after1_6]
    frame_out
    rfl
  · rw [after1_7]
    frame_out
    rfl

/-- The launch of `w_gate`'s shape: the update, the first moment and the second. -/
theorem launch2 (c : Dev nD) :
    (dat2 V c).arrAt 5 cfg2.N = val_main_v71 (F := Ideal) (V c main_arg8) (V c main_arg9) (V c main_arg10) (V c main_arg11)
      ∧ (dat2 V c).arrAt 6 cfg2.N = val_main_v52 (F := Ideal) (V c main_arg9) (V c main_arg10)
      ∧ (dat2 V c).arrAt 7 cfg2.N = val_main_v58 (F := Ideal) (V c main_arg9) (V c main_arg11) := by
  refine ⟨(dat2 V c).arrAt_eq_of_covers 5 _ (by decide +kernel) fun t hf y => ?_,
    (dat2 V c).arrAt_eq_of_covers 6 _ (by decide +kernel) fun t hf y => ?_,
    (dat2 V c).arrAt_eq_of_covers 7 _ (by decide +kernel) fun t hf y => ?_⟩ <;> blk_simp
  · rw [after2_5]
    frame_out
    rfl
  · rw [after2_6]
    frame_out
    rfl
  · rw [after2_7]
    frame_out
    rfl

/-- The launch of `w_down`'s shape: the update, the first moment and the second. -/
theorem launch3 (c : Dev nD) :
    (dat3 V c).arrAt 5 cfg3.N = val_main_v95 (F := Ideal) (V c main_arg12) (V c main_arg13) (V c main_arg14) (V c main_arg15)
      ∧ (dat3 V c).arrAt 6 cfg3.N = val_main_v76 (F := Ideal) (V c main_arg13) (V c main_arg14)
      ∧ (dat3 V c).arrAt 7 cfg3.N = val_main_v82 (F := Ideal) (V c main_arg13) (V c main_arg15) := by
  refine ⟨(dat3 V c).arrAt_eq_of_covers 5 _ (by decide +kernel) fun t hf y => ?_,
    (dat3 V c).arrAt_eq_of_covers 6 _ (by decide +kernel) fun t hf y => ?_,
    (dat3 V c).arrAt_eq_of_covers 7 _ (by decide +kernel) fun t hf y => ?_⟩ <;> blk_simp
  · rw [after3_5]
    frame_out
    rfl
  · rw [after3_6]
    frame_out
    rfl
  · rw [after3_7]
    frame_out
    rfl

/-- The launch of `norm_mix_w`'s shape: the update, the first moment and the second. -/
theorem launch4 (c : Dev nD) :
    (dat4 V c).arrAt 5 cfg4.N = val_main_v119 (F := Ideal) (V c main_arg16) (V c main_arg17) (V c main_arg18) (V c main_arg19)
      ∧ (dat4 V c).arrAt 6 cfg4.N = val_main_v100 (F := Ideal) (V c main_arg17) (V c main_arg18)
      ∧ (dat4 V c).arrAt 7 cfg4.N = val_main_v106 (F := Ideal) (V c main_arg17) (V c main_arg19) := by
  refine ⟨(dat4 V c).arrAt_eq_of_covers 5 _ (by decide +kernel) fun t hf y => ?_,
    (dat4 V c).arrAt_eq_of_covers 6 _ (by decide +kernel) fun t hf y => ?_,
    (dat4 V c).arrAt_eq_of_covers 7 _ (by decide +kernel) fun t hf y => ?_⟩ <;> blk_simp
  · rw [after4_5, update4, reference4]
    rfl
  · rw [after4_6]
    frame_out
    rfl
  · rw [after4_7]
    frame_out
    rfl

/-- The launch of `ret_norm_w`'s shape: the update, the first moment and the second. -/
theorem launch5 (c : Dev nD) :
    (dat5 V c).arrAt 5 cfg5.N = val_main_v143 (F := Ideal) (V c main_arg20) (V c main_arg21) (V c main_arg22) (V c main_arg23)
      ∧ (dat5 V c).arrAt 6 cfg5.N = val_main_v124 (F := Ideal) (V c main_arg21) (V c main_arg22)
      ∧ (dat5 V c).arrAt 7 cfg5.N = val_main_v130 (F := Ideal) (V c main_arg21) (V c main_arg23) := by
  refine ⟨(dat5 V c).arrAt_eq_of_covers 5 _ (by decide +kernel) fun t hf y => ?_,
    (dat5 V c).arrAt_eq_of_covers 6 _ (by decide +kernel) fun t hf y => ?_,
    (dat5 V c).arrAt_eq_of_covers 7 _ (by decide +kernel) fun t hf y => ?_⟩ <;> blk_simp
  · rw [after5_5, update5, reference5]
    rfl
  · rw [after5_6]
    frame_out
    rfl
  · rw [after5_7]
    frame_out
    rfl

/-- The launch of `ret_decay_fwd`'s shape: the update, the first moment and the second. -/
theorem launch6 (c : Dev nD) :
    (dat6 V c).arrAt 5 cfg6.N = val_main_v167 (F := Ideal) (V c main_arg24) (V c main_arg25) (V c main_arg26) (V c main_arg27)
      ∧ (dat6 V c).arrAt 6 cfg6.N = val_main_v148 (F := Ideal) (V c main_arg25) (V c main_arg26)
      ∧ (dat6 V c).arrAt 7 cfg6.N = val_main_v154 (F := Ideal) (V c main_arg25) (V c main_arg27) := by
  refine ⟨(dat6 V c).arrAt_eq_of_covers 5 _ (by decide +kernel) fun t hf y => ?_,
    (dat6 V c).arrAt_eq_of_covers 6 _ (by decide +kernel) fun t hf y => ?_,
    (dat6 V c).arrAt_eq_of_covers 7 _ (by decide +kernel) fun t hf y => ?_⟩ <;> blk_simp
  · rw [after6_5, update6, reference6]
    rfl
  · rw [after6_6]
    frame_out
    rfl
  · rw [after6_7]
    frame_out
    rfl

end Regions

variable (m : (ℓ : Loc nD τ sig) → Buf (Elt Ideal) ℓ) (ρ : Dev nD → PrngReg)

/-- Every buffer of the program after the seven launches. -/
theorem after : θ_run defs (onTc (τ := τ) (main (F := Ideal))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- What the launch of `w_in`'s shape leaves at the end of the run. -/
theorem left0 (c : Dev nD) :
    W7 m ρ c (Proc.devRef .tc main_v0_1) = val_main_v23 (F := Ideal)
        (m ((c : Thread nD τ).loc main_arg0)) (m ((c : Thread nD τ).loc main_arg1))
        (m ((c : Thread nD τ).loc main_arg2)) (m ((c : Thread nD τ).loc main_arg3))
      ∧ W7 m ρ c (Proc.devRef .tc main_v0_2) = val_main_v4 (F := Ideal)
        (m ((c : Thread nD τ).loc main_arg1)) (m ((c : Thread nD τ).loc main_arg2))
      ∧ W7 m ρ c (Proc.devRef .tc main_v0_3) = val_main_v10 (F := Ideal)
        (m ((c : Thread nD τ).loc main_arg1)) (m ((c : Thread nD τ).loc main_arg3)) := by
  rw [W7_of m ρ c main_v0_1 (by decide), W6_of m ρ c main_v0_1 (by decide), W5_of m ρ c main_v0_1 (by decide), W4_of m ρ c main_v0_1 (by decide), W3_of m ρ c main_v0_1 (by decide), W2_of m ρ c main_v0_1 (by decide),
    W7_of m ρ c main_v0_2 (by decide), W6_of m ρ c main_v0_2 (by decide), W5_of m ρ c main_v0_2 (by decide), W4_of m ρ c main_v0_2 (by decide), W3_of m ρ c main_v0_2 (by decide), W2_of m ρ c main_v0_2 (by decide),
    W7_of m ρ c main_v0_3 (by decide), W6_of m ρ c main_v0_3 (by decide), W5_of m ρ c main_v0_3 (by decide), W4_of m ρ c main_v0_3 (by decide), W3_of m ρ c main_v0_3 (by decide), W2_of m ρ c main_v0_3 (by decide)]
  have h := launch0 (V0 m ρ) c
  exact ⟨(W1_arr m ρ c 5).trans h.1, (W1_arr m ρ c 6).trans h.2.1, (W1_arr m ρ c 7).trans h.2.2⟩

/-- What the launch of `w_out`'s shape leaves at the end of the run. -/
theorem left1 (c : Dev nD) :
    W7 m ρ c (Proc.devRef .tc main_v1_1) = val_main_v47 (F := Ideal)
        (m ((c : Thread nD τ).loc main_arg4)) (m ((c : Thread nD τ).loc main_arg5))
        (m ((c : Thread nD τ).loc main_arg6)) (m ((c : Thread nD τ).loc main_arg7))
      ∧ W7 m ρ c (Proc.devRef .tc main_v1_2) = val_main_v28 (F := Ideal)
        (m ((c : Thread nD τ).loc main_arg5)) (m ((c : Thread nD τ).loc main_arg6))
      ∧ W7 m ρ c (Proc.devRef .tc main_v1_3) = val_main_v34 (F := Ideal)
        (m ((c : Thread nD τ).loc main_arg5)) (m ((c : Thread nD τ).loc main_arg7)) := by
  rw [W7_of m ρ c main_v1_1 (by decide), W6_of m ρ c main_v1_1 (by decide), W5_of m ρ c main_v1_1 (by decide), W4_of m ρ c main_v1_1 (by decide), W3_of m ρ c main_v1_1 (by decide),
    W7_of m ρ c main_v1_2 (by decide), W6_of m ρ c main_v1_2 (by decide), W5_of m ρ c main_v1_2 (by decide), W4_of m ρ c main_v1_2 (by decide), W3_of m ρ c main_v1_2 (by decide),
    W7_of m ρ c main_v1_3 (by decide), W6_of m ρ c main_v1_3 (by decide), W5_of m ρ c main_v1_3 (by decide), W4_of m ρ c main_v1_3 (by decide), W3_of m ρ c main_v1_3 (by decide)]
  have h := launch1 (V1 m ρ) c
  rw [show V1 m ρ c main_arg4 = m ((c : Thread nD τ).loc main_arg4) from W1_args m ρ c main_arg4 (by decide),
    show V1 m ρ c main_arg5 = m ((c : Thread nD τ).loc main_arg5) from W1_args m ρ c main_arg5 (by decide),
    show V1 m ρ c main_arg6 = m ((c : Thread nD τ).loc main_arg6) from W1_args m ρ c main_arg6 (by decide),
    show V1 m ρ c main_arg7 = m ((c : Thread nD τ).loc main_arg7) from W1_args m ρ c main_arg7 (by decide)] at h
  exact ⟨(W2_arr m ρ c 5).trans h.1, (W2_arr m ρ c 6).trans h.2.1, (W2_arr m ρ c 7).trans h.2.2⟩

/-- What the launch of `w_gate`'s shape leaves at the end of the run. -/
theorem left2 (c : Dev nD) :
    W7 m ρ c (Proc.devRef .tc main_v2_1) = val_main_v71 (F := Ideal)
        (m ((c : Thread nD τ).loc main_arg8)) (m ((c : Thread nD τ).loc main_arg9))
        (m ((c : Thread nD τ).loc main_arg10)) (m ((c : Thread nD τ).loc main_arg11))
      ∧ W7 m ρ c (Proc.devRef .tc main_v2_2) = val_main_v52 (F := Ideal)
        (m ((c : Thread nD τ).loc main_arg9)) (m ((c : Thread nD τ).loc main_arg10))
      ∧ W7 m ρ c (Proc.devRef .tc main_v2_3) = val_main_v58 (F := Ideal)
        (m ((c : Thread nD τ).loc main_arg9)) (m ((c : Thread nD τ).loc main_arg11)) := by
  rw [W7_of m ρ c main_v2_1 (by decide), W6_of m ρ c main_v2_1 (by decide), W5_of m ρ c main_v2_1 (by decide), W4_of m ρ c main_v2_1 (by decide),
    W7_of m ρ c main_v2_2 (by decide), W6_of m ρ c main_v2_2 (by decide), W5_of m ρ c main_v2_2 (by decide), W4_of m ρ c main_v2_2 (by decide),
    W7_of m ρ c main_v2_3 (by decide), W6_of m ρ c main_v2_3 (by decide), W5_of m ρ c main_v2_3 (by decide), W4_of m ρ c main_v2_3 (by decide)]
  have h := launch2 (V2 m ρ) c
  rw [show V2 m ρ c main_arg8 = m ((c : Thread nD τ).loc main_arg8) from W2_args m ρ c main_arg8 (by decide),
    show V2 m ρ c main_arg9 = m ((c : Thread nD τ).loc main_arg9) from W2_args m ρ c main_arg9 (by decide),
    show V2 m ρ c main_arg10 = m ((c : Thread nD τ).loc main_arg10) from W2_args m ρ c main_arg10 (by decide),
    show V2 m ρ c main_arg11 = m ((c : Thread nD τ).loc main_arg11) from W2_args m ρ c main_arg11 (by decide)] at h
  exact ⟨(W3_arr m ρ c 5).trans h.1, (W3_arr m ρ c 6).trans h.2.1, (W3_arr m ρ c 7).trans h.2.2⟩

/-- What the launch of `w_down`'s shape leaves at the end of the run. -/
theorem left3 (c : Dev nD) :
    W7 m ρ c (Proc.devRef .tc main_v3_1) = val_main_v95 (F := Ideal)
        (m ((c : Thread nD τ).loc main_arg12)) (m ((c : Thread nD τ).loc main_arg13))
        (m ((c : Thread nD τ).loc main_arg14)) (m ((c : Thread nD τ).loc main_arg15))
      ∧ W7 m ρ c (Proc.devRef .tc main_v3_2) = val_main_v76 (F := Ideal)
        (m ((c : Thread nD τ).loc main_arg13)) (m ((c : Thread nD τ).loc main_arg14))
      ∧ W7 m ρ c (Proc.devRef .tc main_v3_3) = val_main_v82 (F := Ideal)
        (m ((c : Thread nD τ).loc main_arg13)) (m ((c : Thread nD τ).loc main_arg15)) := by
  rw [W7_of m ρ c main_v3_1 (by decide), W6_of m ρ c main_v3_1 (by decide), W5_of m ρ c main_v3_1 (by decide),
    W7_of m ρ c main_v3_2 (by decide), W6_of m ρ c main_v3_2 (by decide), W5_of m ρ c main_v3_2 (by decide),
    W7_of m ρ c main_v3_3 (by decide), W6_of m ρ c main_v3_3 (by decide), W5_of m ρ c main_v3_3 (by decide)]
  have h := launch3 (V3 m ρ) c
  rw [show V3 m ρ c main_arg12 = m ((c : Thread nD τ).loc main_arg12) from W3_args m ρ c main_arg12 (by decide),
    show V3 m ρ c main_arg13 = m ((c : Thread nD τ).loc main_arg13) from W3_args m ρ c main_arg13 (by decide),
    show V3 m ρ c main_arg14 = m ((c : Thread nD τ).loc main_arg14) from W3_args m ρ c main_arg14 (by decide),
    show V3 m ρ c main_arg15 = m ((c : Thread nD τ).loc main_arg15) from W3_args m ρ c main_arg15 (by decide)] at h
  exact ⟨(W4_arr m ρ c 5).trans h.1, (W4_arr m ρ c 6).trans h.2.1, (W4_arr m ρ c 7).trans h.2.2⟩

/-- What the launch of `norm_mix_w`'s shape leaves at the end of the run. -/
theorem left4 (c : Dev nD) :
    W7 m ρ c (Proc.devRef .tc main_v4_1) = val_main_v119 (F := Ideal)
        (m ((c : Thread nD τ).loc main_arg16)) (m ((c : Thread nD τ).loc main_arg17))
        (m ((c : Thread nD τ).loc main_arg18)) (m ((c : Thread nD τ).loc main_arg19))
      ∧ W7 m ρ c (Proc.devRef .tc main_v4_2) = val_main_v100 (F := Ideal)
        (m ((c : Thread nD τ).loc main_arg17)) (m ((c : Thread nD τ).loc main_arg18))
      ∧ W7 m ρ c (Proc.devRef .tc main_v4_3) = val_main_v106 (F := Ideal)
        (m ((c : Thread nD τ).loc main_arg17)) (m ((c : Thread nD τ).loc main_arg19)) := by
  rw [W7_of m ρ c main_v4_1 (by decide), W6_of m ρ c main_v4_1 (by decide),
    W7_of m ρ c main_v4_2 (by decide), W6_of m ρ c main_v4_2 (by decide),
    W7_of m ρ c main_v4_3 (by decide), W6_of m ρ c main_v4_3 (by decide)]
  have h := launch4 (V4 m ρ) c
  rw [show V4 m ρ c main_arg16 = m ((c : Thread nD τ).loc main_arg16) from W4_args m ρ c main_arg16 (by decide),
    show V4 m ρ c main_arg17 = m ((c : Thread nD τ).loc main_arg17) from W4_args m ρ c main_arg17 (by decide),
    show V4 m ρ c main_arg18 = m ((c : Thread nD τ).loc main_arg18) from W4_args m ρ c main_arg18 (by decide),
    show V4 m ρ c main_arg19 = m ((c : Thread nD τ).loc main_arg19) from W4_args m ρ c main_arg19 (by decide)] at h
  exact ⟨(W5_arr m ρ c 5).trans h.1, (W5_arr m ρ c 6).trans h.2.1, (W5_arr m ρ c 7).trans h.2.2⟩

/-- What the launch of `ret_norm_w`'s shape leaves at the end of the run. -/
theorem left5 (c : Dev nD) :
    W7 m ρ c (Proc.devRef .tc main_v5_1) = val_main_v143 (F := Ideal)
        (m ((c : Thread nD τ).loc main_arg20)) (m ((c : Thread nD τ).loc main_arg21))
        (m ((c : Thread nD τ).loc main_arg22)) (m ((c : Thread nD τ).loc main_arg23))
      ∧ W7 m ρ c (Proc.devRef .tc main_v5_2) = val_main_v124 (F := Ideal)
        (m ((c : Thread nD τ).loc main_arg21)) (m ((c : Thread nD τ).loc main_arg22))
      ∧ W7 m ρ c (Proc.devRef .tc main_v5_3) = val_main_v130 (F := Ideal)
        (m ((c : Thread nD τ).loc main_arg21)) (m ((c : Thread nD τ).loc main_arg23)) := by
  rw [W7_of m ρ c main_v5_1 (by decide),
    W7_of m ρ c main_v5_2 (by decide),
    W7_of m ρ c main_v5_3 (by decide)]
  have h := launch5 (V5 m ρ) c
  rw [show V5 m ρ c main_arg20 = m ((c : Thread nD τ).loc main_arg20) from W5_args m ρ c main_arg20 (by decide),
    show V5 m ρ c main_arg21 = m ((c : Thread nD τ).loc main_arg21) from W5_args m ρ c main_arg21 (by decide),
    show V5 m ρ c main_arg22 = m ((c : Thread nD τ).loc main_arg22) from W5_args m ρ c main_arg22 (by decide),
    show V5 m ρ c main_arg23 = m ((c : Thread nD τ).loc main_arg23) from W5_args m ρ c main_arg23 (by decide)] at h
  exact ⟨(W6_arr m ρ c 5).trans h.1, (W6_arr m ρ c 6).trans h.2.1, (W6_arr m ρ c 7).trans h.2.2⟩

/-- What the launch of `ret_decay_fwd`'s shape leaves at the end of the run. -/
theorem left6 (c : Dev nD) :
    W7 m ρ c (Proc.devRef .tc main_v6_1) = val_main_v167 (F := Ideal)
        (m ((c : Thread nD τ).loc main_arg24)) (m ((c : Thread nD τ).loc main_arg25))
        (m ((c : Thread nD τ).loc main_arg26)) (m ((c : Thread nD τ).loc main_arg27))
      ∧ W7 m ρ c (Proc.devRef .tc main_v6_2) = val_main_v148 (F := Ideal)
        (m ((c : Thread nD τ).loc main_arg25)) (m ((c : Thread nD τ).loc main_arg26))
      ∧ W7 m ρ c (Proc.devRef .tc main_v6_3) = val_main_v154 (F := Ideal)
        (m ((c : Thread nD τ).loc main_arg25)) (m ((c : Thread nD τ).loc main_arg27)) := by
  have h := launch6 (V6 m ρ) c
  rw [show V6 m ρ c main_arg24 = m ((c : Thread nD τ).loc main_arg24) from W6_args m ρ c main_arg24 (by decide),
    show V6 m ρ c main_arg25 = m ((c : Thread nD τ).loc main_arg25) from W6_args m ρ c main_arg25 (by decide),
    show V6 m ρ c main_arg26 = m ((c : Thread nD τ).loc main_arg26) from W6_args m ρ c main_arg26 (by decide),
    show V6 m ρ c main_arg27 = m ((c : Thread nD τ).loc main_arg27) from W6_args m ρ c main_arg27 (by decide)] at h
  exact ⟨(W7_arr m ρ c 5).trans h.1, (W7_arr m ρ c 6).trans h.2.1, (W7_arr m ρ c 7).trans h.2.2⟩

/-- The twenty-one result arrays after the run. -/
theorem run : θ_run defs (onTc (τ := τ) (main (F := Ideal))) ⟨m, fun _ => 0, ρ⟩ (fun r => ∀ c : Dev nD,
      r.2.mem ((c : Thread nD τ).loc main_v0_1) = val_main_v23 (F := Ideal)
        (m ((c : Thread nD τ).loc main_arg0)) (m ((c : Thread nD τ).loc main_arg1))
        (m ((c : Thread nD τ).loc main_arg2)) (m ((c : Thread nD τ).loc main_arg3))
      ∧ r.2.mem ((c : Thread nD τ).loc main_v0_2) = val_main_v4 (F := Ideal)
        (m ((c : Thread nD τ).loc main_arg1)) (m ((c : Thread nD τ).loc main_arg2))
      ∧ r.2.mem ((c : Thread nD τ).loc main_v0_3) = val_main_v10 (F := Ideal)
        (m ((c : Thread nD τ).loc main_arg1)) (m ((c : Thread nD τ).loc main_arg3))
      ∧ r.2.mem ((c : Thread nD τ).loc main_v1_1) = val_main_v47 (F := Ideal)
        (m ((c : Thread nD τ).loc main_arg4)) (m ((c : Thread nD τ).loc main_arg5))
        (m ((c : Thread nD τ).loc main_arg6)) (m ((c : Thread nD τ).loc main_arg7))
      ∧ r.2.mem ((c : Thread nD τ).loc main_v1_2) = val_main_v28 (F := Ideal)
        (m ((c : Thread nD τ).loc main_arg5)) (m ((c : Thread nD τ).loc main_arg6))
      ∧ r.2.mem ((c : Thread nD τ).loc main_v1_3) = val_main_v34 (F := Ideal)
        (m ((c : Thread nD τ).loc main_arg5)) (m ((c : Thread nD τ).loc main_arg7))
      ∧ r.2.mem ((c : Thread nD τ).loc main_v2_1) = val_main_v71 (F := Ideal)
        (m ((c : Thread nD τ).loc main_arg8)) (m ((c : Thread nD τ).loc main_arg9))
        (m ((c : Thread nD τ).loc main_arg10)) (m ((c : Thread nD τ).loc main_arg11))
      ∧ r.2.mem ((c : Thread nD τ).loc main_v2_2) = val_main_v52 (F := Ideal)
        (m ((c : Thread nD τ).loc main_arg9)) (m ((c : Thread nD τ).loc main_arg10))
      ∧ r.2.mem ((c : Thread nD τ).loc main_v2_3) = val_main_v58 (F := Ideal)
        (m ((c : Thread nD τ).loc main_arg9)) (m ((c : Thread nD τ).loc main_arg11))
      ∧ r.2.mem ((c : Thread nD τ).loc main_v3_1) = val_main_v95 (F := Ideal)
        (m ((c : Thread nD τ).loc main_arg12)) (m ((c : Thread nD τ).loc main_arg13))
        (m ((c : Thread nD τ).loc main_arg14)) (m ((c : Thread nD τ).loc main_arg15))
      ∧ r.2.mem ((c : Thread nD τ).loc main_v3_2) = val_main_v76 (F := Ideal)
        (m ((c : Thread nD τ).loc main_arg13)) (m ((c : Thread nD τ).loc main_arg14))
      ∧ r.2.mem ((c : Thread nD τ).loc main_v3_3) = val_main_v82 (F := Ideal)
        (m ((c : Thread nD τ).loc main_arg13)) (m ((c : Thread nD τ).loc main_arg15))
      ∧ r.2.mem ((c : Thread nD τ).loc main_v4_1) = val_main_v119 (F := Ideal)
        (m ((c : Thread nD τ).loc main_arg16)) (m ((c : Thread nD τ).loc main_arg17))
        (m ((c : Thread nD τ).loc main_arg18)) (m ((c : Thread nD τ).loc main_arg19))
      ∧ r.2.mem ((c : Thread nD τ).loc main_v4_2) = val_main_v100 (F := Ideal)
        (m ((c : Thread nD τ).loc main_arg17)) (m ((c : Thread nD τ).loc main_arg18))
      ∧ r.2.mem ((c : Thread nD τ).loc main_v4_3) = val_main_v106 (F := Ideal)
        (m ((c : Thread nD τ).loc main_arg17)) (m ((c : Thread nD τ).loc main_arg19))
      ∧ r.2.mem ((c : Thread nD τ).loc main_v5_1) = val_main_v143 (F := Ideal)
        (m ((c : Thread nD τ).loc main_arg20)) (m ((c : Thread nD τ).loc main_arg21))
        (m ((c : Thread nD τ).loc main_arg22)) (m ((c : Thread nD τ).loc main_arg23))
      ∧ r.2.mem ((c : Thread nD τ).loc main_v5_2) = val_main_v124 (F := Ideal)
        (m ((c : Thread nD τ).loc main_arg21)) (m ((c : Thread nD τ).loc main_arg22))
      ∧ r.2.mem ((c : Thread nD τ).loc main_v5_3) = val_main_v130 (F := Ideal)
        (m ((c : Thread nD τ).loc main_arg21)) (m ((c : Thread nD τ).loc main_arg23))
      ∧ r.2.mem ((c : Thread nD τ).loc main_v6_1) = val_main_v167 (F := Ideal)
        (m ((c : Thread nD τ).loc main_arg24)) (m ((c : Thread nD τ).loc main_arg25))
        (m ((c : Thread nD τ).loc main_arg26)) (m ((c : Thread nD τ).loc main_arg27))
      ∧ r.2.mem ((c : Thread nD τ).loc main_v6_2) = val_main_v148 (F := Ideal)
        (m ((c : Thread nD τ).loc main_arg25)) (m ((c : Thread nD τ).loc main_arg26))
      ∧ r.2.mem ((c : Thread nD τ).loc main_v6_3) = val_main_v154 (F := Ideal)
        (m ((c : Thread nD τ).loc main_arg25)) (m ((c : Thread nD τ).loc main_arg27))) :=
  (θ_run defs _ _).mono (fun _ h c =>
    ⟨(h c _ (mem_uc main_v0_1 (by decide))).trans (left0 m ρ c).1,
      (h c _ (mem_uc main_v0_2 (by decide))).trans (left0 m ρ c).2.1,
      (h c _ (mem_uc main_v0_3 (by decide))).trans (left0 m ρ c).2.2,
      (h c _ (mem_uc main_v1_1 (by decide))).trans (left1 m ρ c).1,
      (h c _ (mem_uc main_v1_2 (by decide))).trans (left1 m ρ c).2.1,
      (h c _ (mem_uc main_v1_3 (by decide))).trans (left1 m ρ c).2.2,
      (h c _ (mem_uc main_v2_1 (by decide))).trans (left2 m ρ c).1,
      (h c _ (mem_uc main_v2_2 (by decide))).trans (left2 m ρ c).2.1,
      (h c _ (mem_uc main_v2_3 (by decide))).trans (left2 m ρ c).2.2,
      (h c _ (mem_uc main_v3_1 (by decide))).trans (left3 m ρ c).1,
      (h c _ (mem_uc main_v3_2 (by decide))).trans (left3 m ρ c).2.1,
      (h c _ (mem_uc main_v3_3 (by decide))).trans (left3 m ρ c).2.2,
      (h c _ (mem_uc main_v4_1 (by decide))).trans (left4 m ρ c).1,
      (h c _ (mem_uc main_v4_2 (by decide))).trans (left4 m ρ c).2.1,
      (h c _ (mem_uc main_v4_3 (by decide))).trans (left4 m ρ c).2.2,
      (h c _ (mem_uc main_v5_1 (by decide))).trans (left5 m ρ c).1,
      (h c _ (mem_uc main_v5_2 (by decide))).trans (left5 m ρ c).2.1,
      (h c _ (mem_uc main_v5_3 (by decide))).trans (left5 m ρ c).2.2,
      (h c _ (mem_uc main_v6_1 (by decide))).trans (left6 m ρ c).1,
      (h c _ (mem_uc main_v6_2 (by decide))).trans (left6 m ρ c).2.1,
      (h c _ (mem_uc main_v6_3 (by decide))).trans (left6 m ρ c).2.2⟩) (after m ρ)

end Cert.Kernel9Ideal.Result
-- ==== Proof.OptimiserValues.lean ====
/-
  The optimiser's programs compute one function of their arguments.
-/
module

public import proofs.«01_k».proof.Defs
public import proofs.«01_k».proof.Proof.Optimiser
public import Idealize.ShloMosaic.Adequacy
public import Idealize.ShloMosaic.Init

@[expose] public section

noncomputable section

namespace Cert.Proof

open Idealize.ShloMosaic Idealize.SL.Sem

set_option maxHeartbeats 4000000 in
theorem value9 : Cert.algebraic_Kernel9Ideal_Reference9Ideal := by
  intro m g m' g' _ hm
  refine ⟨fun c => Cert.Reference9Ideal.Read.val_main_v23 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)),
    fun c => Cert.Reference9Ideal.Read.val_main_v4 (F := Ideal) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    fun c => Cert.Reference9Ideal.Read.val_main_v10 (F := Ideal) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg3)),
    fun c => Cert.Reference9Ideal.Read.val_main_v47 (F := Ideal) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)),
    fun c => Cert.Reference9Ideal.Read.val_main_v28 (F := Ideal) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)),
    fun c => Cert.Reference9Ideal.Read.val_main_v34 (F := Ideal) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg7)),
    fun c => Cert.Reference9Ideal.Read.val_main_v71 (F := Ideal) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)),
    fun c => Cert.Reference9Ideal.Read.val_main_v52 (F := Ideal) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)),
    fun c => Cert.Reference9Ideal.Read.val_main_v58 (F := Ideal) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg11)),
    fun c => Cert.Reference9Ideal.Read.val_main_v95 (F := Ideal) (m ((c.tc : Thread Cert.Kernel9Ideal.nD Cert.Kernel9Ideal.τ).loc Cert.Kernel9Ideal.main_arg12)) (m ((c.tc : Thread Cert.Kernel9Ideal.nD Cert.Kernel9Ideal.τ).loc Cert.Kernel9Ideal.main_arg13)) (m ((c.tc : Thread Cert.Kernel9Ideal.nD Cert.Kernel9Ideal.τ).loc Cert.Kernel9Ideal.main_arg14)) (m ((c.tc : Thread Cert.Kernel9Ideal.nD Cert.Kernel9Ideal.τ).loc Cert.Kernel9Ideal.main_arg15)),
    fun c => Cert.Reference9Ideal.Read.val_main_v76 (F := Ideal) (m ((c.tc : Thread Cert.Kernel9Ideal.nD Cert.Kernel9Ideal.τ).loc Cert.Kernel9Ideal.main_arg13)) (m ((c.tc : Thread Cert.Kernel9Ideal.nD Cert.Kernel9Ideal.τ).loc Cert.Kernel9Ideal.main_arg14)),
    fun c => Cert.Reference9Ideal.Read.val_main_v82 (F := Ideal) (m ((c.tc : Thread Cert.Kernel9Ideal.nD Cert.Kernel9Ideal.τ).loc Cert.Kernel9Ideal.main_arg13)) (m ((c.tc : Thread Cert.Kernel9Ideal.nD Cert.Kernel9Ideal.τ).loc Cert.Kernel9Ideal.main_arg15)),
    fun c => Cert.Reference9Ideal.Read.val_main_v119 (F := Ideal) (m ((c.tc : Thread Cert.Kernel9Ideal.nD Cert.Kernel9Ideal.τ).loc Cert.Kernel9Ideal.main_arg16)) (m ((c.tc : Thread Cert.Kernel9Ideal.nD Cert.Kernel9Ideal.τ).loc Cert.Kernel9Ideal.main_arg17)) (m ((c.tc : Thread Cert.Kernel9Ideal.nD Cert.Kernel9Ideal.τ).loc Cert.Kernel9Ideal.main_arg18)) (m ((c.tc : Thread Cert.Kernel9Ideal.nD Cert.Kernel9Ideal.τ).loc Cert.Kernel9Ideal.main_arg19)),
    fun c => Cert.Reference9Ideal.Read.val_main_v100 (F := Ideal) (m ((c.tc : Thread Cert.Kernel9Ideal.nD Cert.Kernel9Ideal.τ).loc Cert.Kernel9Ideal.main_arg17)) (m ((c.tc : Thread Cert.Kernel9Ideal.nD Cert.Kernel9Ideal.τ).loc Cert.Kernel9Ideal.main_arg18)),
    fun c => Cert.Reference9Ideal.Read.val_main_v106 (F := Ideal) (m ((c.tc : Thread Cert.Kernel9Ideal.nD Cert.Kernel9Ideal.τ).loc Cert.Kernel9Ideal.main_arg17)) (m ((c.tc : Thread Cert.Kernel9Ideal.nD Cert.Kernel9Ideal.τ).loc Cert.Kernel9Ideal.main_arg19)),
    fun c => Cert.Reference9Ideal.Read.val_main_v143 (F := Ideal) (m ((c.tc : Thread Cert.Kernel9Ideal.nD Cert.Kernel9Ideal.τ).loc Cert.Kernel9Ideal.main_arg20)) (m ((c.tc : Thread Cert.Kernel9Ideal.nD Cert.Kernel9Ideal.τ).loc Cert.Kernel9Ideal.main_arg21)) (m ((c.tc : Thread Cert.Kernel9Ideal.nD Cert.Kernel9Ideal.τ).loc Cert.Kernel9Ideal.main_arg22)) (m ((c.tc : Thread Cert.Kernel9Ideal.nD Cert.Kernel9Ideal.τ).loc Cert.Kernel9Ideal.main_arg23)),
    fun c => Cert.Reference9Ideal.Read.val_main_v124 (F := Ideal) (m ((c.tc : Thread Cert.Kernel9Ideal.nD Cert.Kernel9Ideal.τ).loc Cert.Kernel9Ideal.main_arg21)) (m ((c.tc : Thread Cert.Kernel9Ideal.nD Cert.Kernel9Ideal.τ).loc Cert.Kernel9Ideal.main_arg22)),
    fun c => Cert.Reference9Ideal.Read.val_main_v130 (F := Ideal) (m ((c.tc : Thread Cert.Kernel9Ideal.nD Cert.Kernel9Ideal.τ).loc Cert.Kernel9Ideal.main_arg21)) (m ((c.tc : Thread Cert.Kernel9Ideal.nD Cert.Kernel9Ideal.τ).loc Cert.Kernel9Ideal.main_arg23)),
    fun c => Cert.Reference9Ideal.Read.val_main_v167 (F := Ideal) (m ((c.tc : Thread Cert.Kernel9Ideal.nD Cert.Kernel9Ideal.τ).loc Cert.Kernel9Ideal.main_arg24)) (m ((c.tc : Thread Cert.Kernel9Ideal.nD Cert.Kernel9Ideal.τ).loc Cert.Kernel9Ideal.main_arg25)) (m ((c.tc : Thread Cert.Kernel9Ideal.nD Cert.Kernel9Ideal.τ).loc Cert.Kernel9Ideal.main_arg26)) (m ((c.tc : Thread Cert.Kernel9Ideal.nD Cert.Kernel9Ideal.τ).loc Cert.Kernel9Ideal.main_arg27)),
    fun c => Cert.Reference9Ideal.Read.val_main_v148 (F := Ideal) (m ((c.tc : Thread Cert.Kernel9Ideal.nD Cert.Kernel9Ideal.τ).loc Cert.Kernel9Ideal.main_arg25)) (m ((c.tc : Thread Cert.Kernel9Ideal.nD Cert.Kernel9Ideal.τ).loc Cert.Kernel9Ideal.main_arg26)),
    fun c => Cert.Reference9Ideal.Read.val_main_v154 (F := Ideal) (m ((c.tc : Thread Cert.Kernel9Ideal.nD Cert.Kernel9Ideal.τ).loc Cert.Kernel9Ideal.main_arg25)) (m ((c.tc : Thread Cert.Kernel9Ideal.nD Cert.Kernel9Ideal.τ).loc Cert.Kernel9Ideal.main_arg27)),
    (θ_run Cert.Kernel9Ideal.defs _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1, (h.1 c).2.2.2.2.2.2.2.2.2.2.2.2.2.2.1, (h.1 c).2.2.2.2.2.2.2.2.2.2.2.2.2.2.2.1, (h.1 c).2.2.2.2.2.2.2.2.2.2.2.2.2.2.2.2.1, (h.1 c).2.2.2.2.2.2.2.2.2.2.2.2.2.2.2.2.2.1, (h.1 c).2.2.2.2.2.2.2.2.2.2.2.2.2.2.2.2.2.2.1, (h.1 c).2.2.2.2.2.2.2.2.2.2.2.2.2.2.2.2.2.2.2.1, (h.1 c).2.2.2.2.2.2.2.2.2.2.2.2.2.2.2.2.2.2.2.2, h.2.1 c⟩)
      (θ_run_and (Cert.Kernel9Ideal.Result.run m g) (Cert.Kernel9Ideal.Gen.frame m g)), ?_⟩
  refine (θ_run Cert.Reference9Ideal.defs _ _).mono (fun r h c => ?_) (Cert.Reference9Ideal.Value.run m' g')
  obtain ⟨e0, e1, e2, e3, e4, e5, e6, e7, e8, e9, e10, e11, e12, e13, e14, e15, e16, e17, e18, e19, e20, e21, e22, e23, e24, e25, e26, e27⟩ := hm c
  obtain ⟨r0, r1, r2, r3, r4, r5, r6, r7, r8, r9, r10, r11, r12, r13, r14, r15, r16, r17, r18, r19, r20, hargs⟩ := h c
  refine ⟨?_, ?_, ?_, ?_, ?_, ?_, ?_, ?_, ?_, ?_, ?_, ?_, ?_, ?_, ?_, ?_, ?_, ?_, ?_, ?_, ?_, hargs⟩
  · exact (r0.trans (Cert.Reference9Ideal.Read.val_main_v23_eq (StableHlo.launchContents m' c))).trans
      (congr (congr (congr (congrArg (Cert.Reference9Ideal.Read.val_main_v23 (F := Ideal)) e0) e1) e2) e3)
  · exact (r1.trans (Cert.Reference9Ideal.Read.val_main_v4_eq (StableHlo.launchContents m' c))).trans
      (congr (congrArg (Cert.Reference9Ideal.Read.val_main_v4 (F := Ideal)) e1) e2)
  · exact (r2.trans (Cert.Reference9Ideal.Read.val_main_v10_eq (StableHlo.launchContents m' c))).trans
      (congr (congrArg (Cert.Reference9Ideal.Read.val_main_v10 (F := Ideal)) e1) e3)
  · exact (r3.trans (Cert.Reference9Ideal.Read.val_main_v47_eq (StableHlo.launchContents m' c))).trans
      (congr (congr (congr (congrArg (Cert.Reference9Ideal.Read.val_main_v47 (F := Ideal)) e4) e5) e6) e7)
  · exact (r4.trans (Cert.Reference9Ideal.Read.val_main_v28_eq (StableHlo.launchContents m' c))).trans
      (congr (congrArg (Cert.Reference9Ideal.Read.val_main_v28 (F := Ideal)) e5) e6)
  · exact (r5.trans (Cert.Reference9Ideal.Read.val_main_v34_eq (StableHlo.launchContents m' c))).trans
      (congr (congrArg (Cert.Reference9Ideal.Read.val_main_v34 (F := Ideal)) e5) e7)
  · exact (r6.trans (Cert.Reference9Ideal.Read.val_main_v71_eq (StableHlo.launchContents m' c))).trans
      (congr (congr (congr (congrArg (Cert.Reference9Ideal.Read.val_main_v71 (F := Ideal)) e8) e9) e10) e11)
  · exact (r7.trans (Cert.Reference9Ideal.Read.val_main_v52_eq (StableHlo.launchContents m' c))).trans
      (congr (congrArg (Cert.Reference9Ideal.Read.val_main_v52 (F := Ideal)) e9) e10)
  · exact (r8.trans (Cert.Reference9Ideal.Read.val_main_v58_eq (StableHlo.launchContents m' c))).trans
      (congr (congrArg (Cert.Reference9Ideal.Read.val_main_v58 (F := Ideal)) e9) e11)
  · exact (r9.trans (Cert.Reference9Ideal.Read.val_main_v95_eq (StableHlo.launchContents m' c))).trans
      (congr (congr (congr (congrArg (Cert.Reference9Ideal.Read.val_main_v95 (F := Ideal)) e12) e13) e14) e15)
  · exact (r10.trans (Cert.Reference9Ideal.Read.val_main_v76_eq (StableHlo.launchContents m' c))).trans
      (congr (congrArg (Cert.Reference9Ideal.Read.val_main_v76 (F := Ideal)) e13) e14)
  · exact (r11.trans (Cert.Reference9Ideal.Read.val_main_v82_eq (StableHlo.launchContents m' c))).trans
      (congr (congrArg (Cert.Reference9Ideal.Read.val_main_v82 (F := Ideal)) e13) e15)
  · exact (r12.trans (Cert.Reference9Ideal.Read.val_main_v119_eq (StableHlo.launchContents m' c))).trans
      (congr (congr (congr (congrArg (Cert.Reference9Ideal.Read.val_main_v119 (F := Ideal)) e16) e17) e18) e19)
  · exact (r13.trans (Cert.Reference9Ideal.Read.val_main_v100_eq (StableHlo.launchContents m' c))).trans
      (congr (congrArg (Cert.Reference9Ideal.Read.val_main_v100 (F := Ideal)) e17) e18)
  · exact (r14.trans (Cert.Reference9Ideal.Read.val_main_v106_eq (StableHlo.launchContents m' c))).trans
      (congr (congrArg (Cert.Reference9Ideal.Read.val_main_v106 (F := Ideal)) e17) e19)
  · exact (r15.trans (Cert.Reference9Ideal.Read.val_main_v143_eq (StableHlo.launchContents m' c))).trans
      (congr (congr (congr (congrArg (Cert.Reference9Ideal.Read.val_main_v143 (F := Ideal)) e20) e21) e22) e23)
  · exact (r16.trans (Cert.Reference9Ideal.Read.val_main_v124_eq (StableHlo.launchContents m' c))).trans
      (congr (congrArg (Cert.Reference9Ideal.Read.val_main_v124 (F := Ideal)) e21) e22)
  · exact (r17.trans (Cert.Reference9Ideal.Read.val_main_v130_eq (StableHlo.launchContents m' c))).trans
      (congr (congrArg (Cert.Reference9Ideal.Read.val_main_v130 (F := Ideal)) e21) e23)
  · exact (r18.trans (Cert.Reference9Ideal.Read.val_main_v167_eq (StableHlo.launchContents m' c))).trans
      (congr (congr (congr (congrArg (Cert.Reference9Ideal.Read.val_main_v167 (F := Ideal)) e24) e25) e26) e27)
  · exact (r19.trans (Cert.Reference9Ideal.Read.val_main_v148_eq (StableHlo.launchContents m' c))).trans
      (congr (congrArg (Cert.Reference9Ideal.Read.val_main_v148 (F := Ideal)) e25) e26)
  · exact (r20.trans (Cert.Reference9Ideal.Read.val_main_v154_eq (StableHlo.launchContents m' c))).trans
      (congr (congrArg (Cert.Reference9Ideal.Read.val_main_v154 (F := Ideal)) e25) e27)

end Cert.Proof

end
-- ==== Proof.InProjLaunches.lean ====
/-
  The input projection's four launches, each at the part of the columns that the table names: what each leaves, and that the
  program leaves its arguments as they were.
-/
module

public import proofs.«01_k».proof.Proof.Gen.Kernel8Ideal.Regions
public import Idealize.ShloMosaic.Lib.Pipeline.RegionArraysTS
public import Idealize.ShloMosaic.Lib.Pipeline.FrameBody
public import Idealize.ShloMosaic.Lib.Pipeline.FrameTail
public import Idealize.ShloMosaic.Lib.Exec
public import Idealize.ShloMosaic.Lib.Pipeline.ValueKit
public import Idealize.ShloMosaic.Lib.WordCmp
public import Idealize.ShloMosaic.Lib.Tactic
public import Idealize.ShloMosaic.Lib.Ring
public import Idealize.ShloMosaic.Lib.Pipeline.FrameSuffix
public import Idealize.ShloMosaic.Lib.Pipeline.RegionsLoop

@[expose] public section

set_option maxRecDepth 16384

noncomputable section

namespace Cert.Kernel8Ideal.Launches

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel8Ideal Cert.Kernel8Ideal.Gen

variable {F : FTy → Type} [FloatOps F]

/-- What the assertions of this file are about. -/
abbrev World (F : FTy → Type) [FloatOps F] : Type := MT nD τ sig Unit (Elt F) ℕ (UR sig nD τ) ℕ

/-! ## The table -/

/-- Which part of the columns each launch works on. -/
abbrev ids : S4.Idx → BitVec 32 := fun j => ![0#32, 2#32, 1#32, 3#32] (j 0)

/-- The table as the launches read it. -/
def tab : pre0.Contents (Elt F) := fun | 0 => ids | ⟨_ + 1, h⟩ => absurd h (Nat.not_lt.2 (Nat.le_add_left _ _))

/-- The parts of the weight lie inside it. -/
theorem weight_in (n : Nat) (hn : n < 4) :
    ∃ h : ∀ a, ((![0, n] : Fin 2 → Nat) a + 1) * S2048x1792.size a ≤ S2048x7168.size a,
      EltTy.bits .bf16 = 32 ∨ (Rect.block (s := S2048x7168) S2048x1792.size ![0, n] h).WholeWords (EltTy.packing .bf16) :=
  ⟨fun a => by fin_cases a <;> simp [S2048x1792, S2048x7168] <;> omega, .inr (Affine.block_words_dvd (of_decide_eq_true rfl) (by decide))⟩

/-- The result's blocks lie inside it. -/
theorem result_in (r n : Nat) (hr : r < 4) (hn : n < 4) :
    ∃ h : ∀ a, ((![r, n] : Fin 2 → Nat) a + 1) * S1024x1792.size a ≤ S4096x7168.size a,
      EltTy.bits .bf16 = 32 ∨ (Rect.block (s := S4096x7168) S1024x1792.size ![r, n] h).WholeWords (EltTy.packing .bf16) :=
  ⟨fun a => by fin_cases a <;> simp [S1024x1792, S4096x7168] <;> omega, .inr (Affine.block_words_dvd (of_decide_eq_true rfl) (by decide))⟩

/-- A grid coordinate as the index map computes it. -/
theorem row_lt (r : Fin 4) : (BitVec.ofNat 32 r.val).toNat < 4 := by
  rw [BitVec.toNat_ofNat, Nat.mod_eq_of_lt] <;> omega

theorem ok_0 : ok0 (F := F) tab := ⟨fun _ => weight_in 0 (by decide), fun i => result_in _ 0 (row_lt (i 0)) (by decide)⟩
theorem ok_1 : ok1 (F := F) tab := ⟨fun _ => weight_in 2 (by decide), fun i => result_in _ 2 (row_lt (i 0)) (by decide)⟩
theorem ok_2 : ok2 (F := F) tab := ⟨fun _ => weight_in 1 (by decide), fun i => result_in _ 1 (row_lt (i 0)) (by decide)⟩
theorem ok_3 : ok3 (F := F) tab := ⟨fun _ => weight_in 3 (by decide), fun i => result_in _ 3 (row_lt (i 0)) (by decide)⟩

/-! ## What a grid point computes -/

abbrev rIn : Rect S1024x2048 := Rect.unit (s := S1024x2048) ![0, 0] S1024x2048.size inb_S1024x2048_S1024x2048_0_0
abbrev rWt : Rect S2048x1792 := Rect.unit (s := S2048x1792) ![0, 0] S2048x1792.size inb_S2048x1792_S2048x1792_0_0
abbrev rOut : Rect S1024x1792 := Rect.unit (s := S1024x1792) ![0, 0] S1024x1792.size inb_S1024x1792_S1024x1792_0_0

/-- The product of a block of the activations with a part of the weight, rounded. -/
def pay (x : Vec F S1024x2048 .bf16) (w : Vec F S2048x1792 .bf16) : Vec F S1024x1792 .bf16 :=
  truncf .bf16 (matmul dot_S1024x2048_S2048x1792_S1024x1792_1_0_0_1_n_n none x w (constant S1024x1792 .f32 0x00000000#32)) bitsLt_bf16_f32

/-- The output's buffer after a grid point. -/
def out (x : Vec F S1024x2048 .bf16) (w : Vec F S2048x1792 .bf16) : Vec F S1024x1792 .bf16 :=
  View.canon [⟨rOut, pay (View.ld x rIn) (View.ld w rWt)⟩]

/-- The one store covers it. -/
theorem cover (p : Vec F S1024x1792 .bf16) (y : S1024x1792.Idx) :
    ∃ pc ∈ ([⟨rOut, p⟩] : List (View.Piece (Elt F) S1024x1792 .bf16)), y ∈ pc.1.set :=
  View.cover_of_tiled [⟨rOut, p⟩] S1024x1792.size (by rfl) y

set_option maxHeartbeats 1000000 in
/-- The body, the same in all four launches. -/
theorem sound (c : Dev nD) (E : Set ℕ) (i : grid0.Coords) (arg1 : Memref sig .tc .smem S4 .i32) (harg1 : arg1.IsWhole)
    (arg2 : Memref sig .tc .vmem S1024x2048 .bf16) (harg2 : arg2.IsWhole)
    (arg3 : Memref sig .tc .vmem S2048x1792 .bf16) (harg3 : arg3.IsWhole)
    (arg4 : Memref sig .tc .vmem S1024x1792 .bf16) (harg4 : arg4.IsWhole)
    (x : Vec F S1024x2048 .bf16) (w : Vec F S2048x1792 .bf16) (K : PUnit → sProp (World F)) :
    iprop(owns (c : Thread nD τ) arg2 fullShare x ∗ owns (c : Thread nD τ) arg3 fullShare w ∗ (∃ d, owns (c : Thread nD τ) arg4 fullShare d)
        ∗ (iprop(owns (c : Thread nD τ) arg2 fullShare x ∗ owns (c : Thread nD τ) arg3 fullShare w ∗ owns (c : Thread nD τ) arg4 fullShare (out x w)) -∗ K ⟨⟩))
      ⊢ wp frame (wpE (defs₀ (F := F)) Variants.none c none) E (cc0_in_proj_0 i arg1 harg1 arg2 harg2 arg3 harg3 arg4 harg4) K := by
  unfold cc0_in_proj_0
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- A grid point, whatever else it holds. -/
theorem point (c : Dev nD) (i : grid0.Coords) (arg1 : Memref sig .tc .smem S4 .i32) (harg1 : arg1.IsWhole)
    (arg2 : Memref sig .tc .vmem S1024x2048 .bf16) (harg2 : arg2.IsWhole)
    (arg3 : Memref sig .tc .vmem S2048x1792 .bf16) (harg3 : arg3.IsWhole)
    (arg4 : Memref sig .tc .vmem S1024x1792 .bf16) (harg4 : arg4.IsWhole)
    (x : Vec F S1024x2048 .bf16) (w : Vec F S2048x1792 .bf16) {A B C : Type} (y : C → Vec F S1024x1792 .bf16) (P O : sProp (World F)) :
    iprop(P ∗ O ∗ (∃ _ : A, owns (c : Thread nD τ) arg2 fullShare x) ∗ (∃ _ : B, owns (c : Thread nD τ) arg3 fullShare w)
        ∗ (∃ d : C, owns (c : Thread nD τ) arg4 fullShare (y d)))
      ⊢ wp frame (wpE (defs₀ (F := F)) Variants.none c none) Set.univ (cc0_in_proj_0 i arg1 harg1 arg2 harg2 arg3 harg3 arg4 harg4)
        (fun _ => iprop(P ∗ O ∗ owns (c : Thread nD τ) arg2 fullShare x ∗ owns (c : Thread nD τ) arg3 fullShare w
          ∗ owns (c : Thread nD τ) arg4 fullShare (out x w))) := by
  iintro ⟨HP, HO, ⟨%_, H0⟩, ⟨%_, H1⟩, ⟨%d2, H2⟩⟩
  iapply (sound c Set.univ i arg1 harg1 arg2 harg2 arg3 harg3 arg4 harg4 x w _)
  isplitl [H0]; · iexact H0
  isplitl [H1]; · iexact H1
  isplitl [H2]; · iexists _; iexact H2
  iintro ⟨H0, H1, H2⟩
  isplitl [HP]; · iexact HP
  isplitl [HO]; · iexact HO
  isplitl [H0]; · iexact H0
  isplitl [H1]; · iexact H1
  iexact H2

/-! ## The launches -/

section Regions

variable (V : (c : Dev nD) → (b : Ref sig .tc) → Buf (Elt F) ((c : Thread nD τ).loc b))

/-- The table of launch 0, and that its blocks lie inside. -/
abbrev adm0 : (pcfg0 (F := F)).Adm := ⟨tab, ok_0⟩

/-- The block of an array that a grid point of launch 0 works on. -/
def iblk0 (c : Dev nD) (w : Fin 3) (t : Fin (cfg0 (F := F) adm0).N) :
    (((cfg0 (F := F) adm0).win w).xblock ((cfg0 (F := F) adm0).grid.coords t)).Idx → Elt F ((cfg0 (F := F) adm0).win w).elt :=
  (((cfg0 (F := F) adm0).win w).blk t).view.read (Elt F) (V c (Pipeline.arrRef spec0 w))

/-- Launch 0: its arrays as it finds them, what each point leaves in the buffers, and what it passes along untouched (the
    scoped buffers it does not stage, the generator's state, the table). -/
def dat0 (c : Dev nD) : Dat τ (Elt F) Unit ℕ (UR sig nD τ) ℕ (cfg0 (F := F) adm0) c where
  A w := V c (Pipeline.arrRef spec0 w)
  after w t := match w with
    | ⟨0, _⟩ => iblk0 V c 0 t
    | ⟨1, _⟩ => iblk0 V c 1 t
    | ⟨2, _⟩ => out (iblk0 V c 0 t) (iblk0 V c 1 t)
  Φ _ := iprop(iprop(Pipeline.scopedRest spec0 c ∗ ∃ r, prngReg c r) ∗ Pipeline.prefHeld pre0 c (fun _ => fullShare) tab)
  q _ := fullShare
  owed _ := 0

theorem after0_0 (c : Dev nD) (t : Fin (cfg0 (F := F) adm0).N) : (dat0 V c).after 0 t = iblk0 V c 0 t := by dsimp only [dat0]; rfl
theorem after0_1 (c : Dev nD) (t : Fin (cfg0 (F := F) adm0).N) : (dat0 V c).after 1 t = iblk0 V c 1 t := by dsimp only [dat0]; rfl
theorem after0_2 (c : Dev nD) (t : Fin (cfg0 (F := F) adm0).N) : (dat0 V c).after 2 t = out (iblk0 V c 0 t) (iblk0 V c 1 t) := by
  dsimp only [dat0]; rfl

theorem point0 (c : Dev nD) (t : Fin (cfg0 (F := F) adm0).N) :
    iprop((dat0 V c).Φ t.castSucc ∗ (dat0 V c).owesAt () t.castSucc
      ∗ (∃ d, owns (c : Thread nD τ) (((cfg0 (F := F) adm0).win 0).stage ((cfg0 (F := F) adm0).slots t 0)) fullShare ((dat0 V c).before 0 t d))
      ∗ (∃ d, owns (c : Thread nD τ) (((cfg0 (F := F) adm0).win 1).stage ((cfg0 (F := F) adm0).slots t 1)) fullShare ((dat0 V c).before 1 t d))
      ∗ (∃ d, owns (c : Thread nD τ) (((cfg0 (F := F) adm0).win 2).stage ((cfg0 (F := F) adm0).slots t 2)) fullShare ((dat0 V c).before 2 t d)))
    ⊢ wp frame (wpE (defs₀ (F := F)) Variants.none c none) Set.univ
        (defs₀ (F := F) .tc (cfg0 (F := F) adm0).body ((cfg0 (F := F) adm0).bodyArgs t ((cfg0 (F := F) adm0).slots t)))
        (fun _ => iprop((dat0 V c).Φ t.succ ∗ (dat0 V c).owesAt () t.succ
      ∗ owns (c : Thread nD τ) (((cfg0 (F := F) adm0).win 0).stage ((cfg0 (F := F) adm0).slots t 0)) fullShare ((dat0 V c).after 0 t)
      ∗ owns (c : Thread nD τ) (((cfg0 (F := F) adm0).win 1).stage ((cfg0 (F := F) adm0).slots t 1)) fullShare ((dat0 V c).after 1 t)
      ∗ owns (c : Thread nD τ) (((cfg0 (F := F) adm0).win 2).stage ((cfg0 (F := F) adm0).slots t 2)) fullShare ((dat0 V c).after 2 t))) := by
  have h0 : ∀ d, (dat0 V c).before 0 t d = iblk0 V c 0 t := fun d =>
    (dat0 V c).before_in_eq_fetched 0 rfl (fun _ => rfl) (fun _ _ _ => rfl) (fun _ => rfl) t d
  have h1 : ∀ d, (dat0 V c).before 1 t d = iblk0 V c 1 t := fun d =>
    (dat0 V c).before_in_eq_fetched 1 rfl (fun _ => rfl) (fun _ _ _ => rfl) (fun _ => rfl) t d
  simp only [h0, h1]
  rw [show defs₀ (F := F) .tc (cfg0 (F := F) adm0).body ((cfg0 (F := F) adm0).bodyArgs t ((cfg0 (F := F) adm0).slots t))
    = cc0_in_proj_0 (grid0.coords t) (Memref.whole main_v5) (Memref.isWhole_whole _)
        (((cfg0 (F := F) adm0).win 0).stage ((cfg0 (F := F) adm0).slots t 0)) (hstage0_0 (((cfg0 (F := F) adm0).slots t 0).cast nbuf0_0))
        (((cfg0 (F := F) adm0).win 1).stage ((cfg0 (F := F) adm0).slots t 1)) (hstage0_1 (((cfg0 (F := F) adm0).slots t 1).cast nbuf0_1))
        (((cfg0 (F := F) adm0).win 2).stage ((cfg0 (F := F) adm0).slots t 2)) (hstage0_2 (((cfg0 (F := F) adm0).slots t 2).cast nbuf0_2))
    from by unfold defs₀; rw [Defs.onTc_tc]; rfl]
  rw [after0_0, after0_1, after0_2]
  exact triple_restated (point c (grid0.coords t) _ _ _ _ _ _ _ _ (iblk0 V c 0 t) (iblk0 V c 1 t) (fun d => (dat0 V c).before 2 t d)
    ((dat0 V c).Φ t.castSucc) ((dat0 V c).owesAt () t.castSucc)) rfl .rfl fun _ => .rfl

/-- Every point of launch 0 does what it should. -/
theorem body0 (c : Dev nD) : BodyObligation (dat0 V c) (defs₀ (F := F)) Variants.none () Set.univ := fun t => by
  rw [bigSep_W0, bigSep_W0]
  exact triple_restated (point0 V c t) rfl .rfl fun _ => .rfl

/-- The table of launch 1, and that its blocks lie inside. -/
abbrev adm1 : (pcfg1 (F := F)).Adm := ⟨tab, ok_1⟩

/-- The block of an array that a grid point of launch 1 works on. -/
def iblk1 (c : Dev nD) (w : Fin 3) (t : Fin (cfg1 (F := F) adm1).N) :
    (((cfg1 (F := F) adm1).win w).xblock ((cfg1 (F := F) adm1).grid.coords t)).Idx → Elt F ((cfg1 (F := F) adm1).win w).elt :=
  (((cfg1 (F := F) adm1).win w).blk t).view.read (Elt F) (V c (Pipeline.arrRef spec1 w))

/-- Launch 1: its arrays as it finds them, what each point leaves in the buffers, and what it passes along untouched (the
    scoped buffers it does not stage, the generator's state, the table). -/
def dat1 (c : Dev nD) : Dat τ (Elt F) Unit ℕ (UR sig nD τ) ℕ (cfg1 (F := F) adm1) c where
  A w := V c (Pipeline.arrRef spec1 w)
  after w t := match w with
    | ⟨0, _⟩ => iblk1 V c 0 t
    | ⟨1, _⟩ => iblk1 V c 1 t
    | ⟨2, _⟩ => out (iblk1 V c 0 t) (iblk1 V c 1 t)
  Φ _ := iprop(iprop(Pipeline.scopedRest spec1 c ∗ ∃ r, prngReg c r) ∗ Pipeline.prefHeld pre1 c (fun _ => fullShare) tab)
  q _ := fullShare
  owed _ := 0

theorem after1_0 (c : Dev nD) (t : Fin (cfg1 (F := F) adm1).N) : (dat1 V c).after 0 t = iblk1 V c 0 t := by dsimp only [dat1]; rfl
theorem after1_1 (c : Dev nD) (t : Fin (cfg1 (F := F) adm1).N) : (dat1 V c).after 1 t = iblk1 V c 1 t := by dsimp only [dat1]; rfl
theorem after1_2 (c : Dev nD) (t : Fin (cfg1 (F := F) adm1).N) : (dat1 V c).after 2 t = out (iblk1 V c 0 t) (iblk1 V c 1 t) := by
  dsimp only [dat1]; rfl

theorem point1 (c : Dev nD) (t : Fin (cfg1 (F := F) adm1).N) :
    iprop((dat1 V c).Φ t.castSucc ∗ (dat1 V c).owesAt () t.castSucc
      ∗ (∃ d, owns (c : Thread nD τ) (((cfg1 (F := F) adm1).win 0).stage ((cfg1 (F := F) adm1).slots t 0)) fullShare ((dat1 V c).before 0 t d))
      ∗ (∃ d, owns (c : Thread nD τ) (((cfg1 (F := F) adm1).win 1).stage ((cfg1 (F := F) adm1).slots t 1)) fullShare ((dat1 V c).before 1 t d))
      ∗ (∃ d, owns (c : Thread nD τ) (((cfg1 (F := F) adm1).win 2).stage ((cfg1 (F := F) adm1).slots t 2)) fullShare ((dat1 V c).before 2 t d)))
    ⊢ wp frame (wpE (defs₀ (F := F)) Variants.none c none) Set.univ
        (defs₀ (F := F) .tc (cfg1 (F := F) adm1).body ((cfg1 (F := F) adm1).bodyArgs t ((cfg1 (F := F) adm1).slots t)))
        (fun _ => iprop((dat1 V c).Φ t.succ ∗ (dat1 V c).owesAt () t.succ
      ∗ owns (c : Thread nD τ) (((cfg1 (F := F) adm1).win 0).stage ((cfg1 (F := F) adm1).slots t 0)) fullShare ((dat1 V c).after 0 t)
      ∗ owns (c : Thread nD τ) (((cfg1 (F := F) adm1).win 1).stage ((cfg1 (F := F) adm1).slots t 1)) fullShare ((dat1 V c).after 1 t)
      ∗ owns (c : Thread nD τ) (((cfg1 (F := F) adm1).win 2).stage ((cfg1 (F := F) adm1).slots t 2)) fullShare ((dat1 V c).after 2 t))) := by
  have h0 : ∀ d, (dat1 V c).before 0 t d = iblk1 V c 0 t := fun d =>
    (dat1 V c).before_in_eq_fetched 0 rfl (fun _ => rfl) (fun _ _ _ => rfl) (fun _ => rfl) t d
  have h1 : ∀ d, (dat1 V c).before 1 t d = iblk1 V c 1 t := fun d =>
    (dat1 V c).before_in_eq_fetched 1 rfl (fun _ => rfl) (fun _ _ _ => rfl) (fun _ => rfl) t d
  simp only [h0, h1]
  rw [show defs₀ (F := F) .tc (cfg1 (F := F) adm1).body ((cfg1 (F := F) adm1).bodyArgs t ((cfg1 (F := F) adm1).slots t))
    = cc0_in_proj_0 (grid1.coords t) (Memref.whole main_v5) (Memref.isWhole_whole _)
        (((cfg1 (F := F) adm1).win 0).stage ((cfg1 (F := F) adm1).slots t 0)) (hstage1_0 (((cfg1 (F := F) adm1).slots t 0).cast nbuf1_0))
        (((cfg1 (F := F) adm1).win 1).stage ((cfg1 (F := F) adm1).slots t 1)) (hstage1_1 (((cfg1 (F := F) adm1).slots t 1).cast nbuf1_1))
        (((cfg1 (F := F) adm1).win 2).stage ((cfg1 (F := F) adm1).slots t 2)) (hstage1_2 (((cfg1 (F := F) adm1).slots t 2).cast nbuf1_2))
    from by unfold defs₀; rw [Defs.onTc_tc]; rfl]
  rw [after1_0, after1_1, after1_2]
  exact triple_restated (point c (grid1.coords t) _ _ _ _ _ _ _ _ (iblk1 V c 0 t) (iblk1 V c 1 t) (fun d => (dat1 V c).before 2 t d)
    ((dat1 V c).Φ t.castSucc) ((dat1 V c).owesAt () t.castSucc)) rfl .rfl fun _ => .rfl

/-- Every point of launch 1 does what it should. -/
theorem body1 (c : Dev nD) : BodyObligation (dat1 V c) (defs₀ (F := F)) Variants.none () Set.univ := fun t => by
  rw [bigSep_W1, bigSep_W1]
  exact triple_restated (point1 V c t) rfl .rfl fun _ => .rfl

/-- The table of launch 2, and that its blocks lie inside. -/
abbrev adm2 : (pcfg2 (F := F)).Adm := ⟨tab, ok_2⟩

/-- The block of an array that a grid point of launch 2 works on. -/
def iblk2 (c : Dev nD) (w : Fin 3) (t : Fin (cfg2 (F := F) adm2).N) :
    (((cfg2 (F := F) adm2).win w).xblock ((cfg2 (F := F) adm2).grid.coords t)).Idx → Elt F ((cfg2 (F := F) adm2).win w).elt :=
  (((cfg2 (F := F) adm2).win w).blk t).view.read (Elt F) (V c (Pipeline.arrRef spec2 w))

/-- Launch 2: its arrays as it finds them, what each point leaves in the buffers, and what it passes along untouched (the
    scoped buffers it does not stage, the generator's state, the table). -/
def dat2 (c : Dev nD) : Dat τ (Elt F) Unit ℕ (UR sig nD τ) ℕ (cfg2 (F := F) adm2) c where
  A w := V c (Pipeline.arrRef spec2 w)
  after w t := match w with
    | ⟨0, _⟩ => iblk2 V c 0 t
    | ⟨1, _⟩ => iblk2 V c 1 t
    | ⟨2, _⟩ => out (iblk2 V c 0 t) (iblk2 V c 1 t)
  Φ _ := iprop(iprop(Pipeline.scopedRest spec2 c ∗ ∃ r, prngReg c r) ∗ Pipeline.prefHeld pre2 c (fun _ => fullShare) tab)
  q _ := fullShare
  owed _ := 0

theorem after2_0 (c : Dev nD) (t : Fin (cfg2 (F := F) adm2).N) : (dat2 V c).after 0 t = iblk2 V c 0 t := by dsimp only [dat2]; rfl
theorem after2_1 (c : Dev nD) (t : Fin (cfg2 (F := F) adm2).N) : (dat2 V c).after 1 t = iblk2 V c 1 t := by dsimp only [dat2]; rfl
theorem after2_2 (c : Dev nD) (t : Fin (cfg2 (F := F) adm2).N) : (dat2 V c).after 2 t = out (iblk2 V c 0 t) (iblk2 V c 1 t) := by
  dsimp only [dat2]; rfl

theorem point2 (c : Dev nD) (t : Fin (cfg2 (F := F) adm2).N) :
    iprop((dat2 V c).Φ t.castSucc ∗ (dat2 V c).owesAt () t.castSucc
      ∗ (∃ d, owns (c : Thread nD τ) (((cfg2 (F := F) adm2).win 0).stage ((cfg2 (F := F) adm2).slots t 0)) fullShare ((dat2 V c).before 0 t d))
      ∗ (∃ d, owns (c : Thread nD τ) (((cfg2 (F := F) adm2).win 1).stage ((cfg2 (F := F) adm2).slots t 1)) fullShare ((dat2 V c).before 1 t d))
      ∗ (∃ d, owns (c : Thread nD τ) (((cfg2 (F := F) adm2).win 2).stage ((cfg2 (F := F) adm2).slots t 2)) fullShare ((dat2 V c).before 2 t d)))
    ⊢ wp frame (wpE (defs₀ (F := F)) Variants.none c none) Set.univ
        (defs₀ (F := F) .tc (cfg2 (F := F) adm2).body ((cfg2 (F := F) adm2).bodyArgs t ((cfg2 (F := F) adm2).slots t)))
        (fun _ => iprop((dat2 V c).Φ t.succ ∗ (dat2 V c).owesAt () t.succ
      ∗ owns (c : Thread nD τ) (((cfg2 (F := F) adm2).win 0).stage ((cfg2 (F := F) adm2).slots t 0)) fullShare ((dat2 V c).after 0 t)
      ∗ owns (c : Thread nD τ) (((cfg2 (F := F) adm2).win 1).stage ((cfg2 (F := F) adm2).slots t 1)) fullShare ((dat2 V c).after 1 t)
      ∗ owns (c : Thread nD τ) (((cfg2 (F := F) adm2).win 2).stage ((cfg2 (F := F) adm2).slots t 2)) fullShare ((dat2 V c).after 2 t))) := by
  have h0 : ∀ d, (dat2 V c).before 0 t d = iblk2 V c 0 t := fun d =>
    (dat2 V c).before_in_eq_fetched 0 rfl (fun _ => rfl) (fun _ _ _ => rfl) (fun _ => rfl) t d
  have h1 : ∀ d, (dat2 V c).before 1 t d = iblk2 V c 1 t := fun d =>
    (dat2 V c).before_in_eq_fetched 1 rfl (fun _ => rfl) (fun _ _ _ => rfl) (fun _ => rfl) t d
  simp only [h0, h1]
  rw [show defs₀ (F := F) .tc (cfg2 (F := F) adm2).body ((cfg2 (F := F) adm2).bodyArgs t ((cfg2 (F := F) adm2).slots t))
    = cc0_in_proj_0 (grid2.coords t) (Memref.whole main_v5) (Memref.isWhole_whole _)
        (((cfg2 (F := F) adm2).win 0).stage ((cfg2 (F := F) adm2).slots t 0)) (hstage2_0 (((cfg2 (F := F) adm2).slots t 0).cast nbuf2_0))
        (((cfg2 (F := F) adm2).win 1).stage ((cfg2 (F := F) adm2).slots t 1)) (hstage2_1 (((cfg2 (F := F) adm2).slots t 1).cast nbuf2_1))
        (((cfg2 (F := F) adm2).win 2).stage ((cfg2 (F := F) adm2).slots t 2)) (hstage2_2 (((cfg2 (F := F) adm2).slots t 2).cast nbuf2_2))
    from by unfold defs₀; rw [Defs.onTc_tc]; rfl]
  rw [after2_0, after2_1, after2_2]
  exact triple_restated (point c (grid2.coords t) _ _ _ _ _ _ _ _ (iblk2 V c 0 t) (iblk2 V c 1 t) (fun d => (dat2 V c).before 2 t d)
    ((dat2 V c).Φ t.castSucc) ((dat2 V c).owesAt () t.castSucc)) rfl .rfl fun _ => .rfl

/-- Every point of launch 2 does what it should. -/
theorem body2 (c : Dev nD) : BodyObligation (dat2 V c) (defs₀ (F := F)) Variants.none () Set.univ := fun t => by
  rw [bigSep_W2, bigSep_W2]
  exact triple_restated (point2 V c t) rfl .rfl fun _ => .rfl

/-- The table of launch 3, and that its blocks lie inside. -/
abbrev adm3 : (pcfg3 (F := F)).Adm := ⟨tab, ok_3⟩

/-- The block of an array that a grid point of launch 3 works on. -/
def iblk3 (c : Dev nD) (w : Fin 3) (t : Fin (cfg3 (F := F) adm3).N) :
    (((cfg3 (F := F) adm3).win w).xblock ((cfg3 (F := F) adm3).grid.coords t)).Idx → Elt F ((cfg3 (F := F) adm3).win w).elt :=
  (((cfg3 (F := F) adm3).win w).blk t).view.read (Elt F) (V c (Pipeline.arrRef spec3 w))

/-- Launch 3: its arrays as it finds them, what each point leaves in the buffers, and what it passes along untouched (the
    scoped buffers it does not stage, the generator's state, the table). -/
def dat3 (c : Dev nD) : Dat τ (Elt F) Unit ℕ (UR sig nD τ) ℕ (cfg3 (F := F) adm3) c where
  A w := V c (Pipeline.arrRef spec3 w)
  after w t := match w with
    | ⟨0, _⟩ => iblk3 V c 0 t
    | ⟨1, _⟩ => iblk3 V c 1 t
    | ⟨2, _⟩ => out (iblk3 V c 0 t) (iblk3 V c 1 t)
  Φ _ := iprop(iprop(Pipeline.scopedRest spec3 c ∗ ∃ r, prngReg c r) ∗ Pipeline.prefHeld pre3 c (fun _ => fullShare) tab)
  q _ := fullShare
  owed _ := 0

theorem after3_0 (c : Dev nD) (t : Fin (cfg3 (F := F) adm3).N) : (dat3 V c).after 0 t = iblk3 V c 0 t := by dsimp only [dat3]; rfl
theorem after3_1 (c : Dev nD) (t : Fin (cfg3 (F := F) adm3).N) : (dat3 V c).after 1 t = iblk3 V c 1 t := by dsimp only [dat3]; rfl
theorem after3_2 (c : Dev nD) (t : Fin (cfg3 (F := F) adm3).N) : (dat3 V c).after 2 t = out (iblk3 V c 0 t) (iblk3 V c 1 t) := by
  dsimp only [dat3]; rfl

theorem point3 (c : Dev nD) (t : Fin (cfg3 (F := F) adm3).N) :
    iprop((dat3 V c).Φ t.castSucc ∗ (dat3 V c).owesAt () t.castSucc
      ∗ (∃ d, owns (c : Thread nD τ) (((cfg3 (F := F) adm3).win 0).stage ((cfg3 (F := F) adm3).slots t 0)) fullShare ((dat3 V c).before 0 t d))
      ∗ (∃ d, owns (c : Thread nD τ) (((cfg3 (F := F) adm3).win 1).stage ((cfg3 (F := F) adm3).slots t 1)) fullShare ((dat3 V c).before 1 t d))
      ∗ (∃ d, owns (c : Thread nD τ) (((cfg3 (F := F) adm3).win 2).stage ((cfg3 (F := F) adm3).slots t 2)) fullShare ((dat3 V c).before 2 t d)))
    ⊢ wp frame (wpE (defs₀ (F := F)) Variants.none c none) Set.univ
        (defs₀ (F := F) .tc (cfg3 (F := F) adm3).body ((cfg3 (F := F) adm3).bodyArgs t ((cfg3 (F := F) adm3).slots t)))
        (fun _ => iprop((dat3 V c).Φ t.succ ∗ (dat3 V c).owesAt () t.succ
      ∗ owns (c : Thread nD τ) (((cfg3 (F := F) adm3).win 0).stage ((cfg3 (F := F) adm3).slots t 0)) fullShare ((dat3 V c).after 0 t)
      ∗ owns (c : Thread nD τ) (((cfg3 (F := F) adm3).win 1).stage ((cfg3 (F := F) adm3).slots t 1)) fullShare ((dat3 V c).after 1 t)
      ∗ owns (c : Thread nD τ) (((cfg3 (F := F) adm3).win 2).stage ((cfg3 (F := F) adm3).slots t 2)) fullShare ((dat3 V c).after 2 t))) := by
  have h0 : ∀ d, (dat3 V c).before 0 t d = iblk3 V c 0 t := fun d =>
    (dat3 V c).before_in_eq_fetched 0 rfl (fun _ => rfl) (fun _ _ _ => rfl) (fun _ => rfl) t d
  have h1 : ∀ d, (dat3 V c).before 1 t d = iblk3 V c 1 t := fun d =>
    (dat3 V c).before_in_eq_fetched 1 rfl (fun _ => rfl) (fun _ _ _ => rfl) (fun _ => rfl) t d
  simp only [h0, h1]
  rw [show defs₀ (F := F) .tc (cfg3 (F := F) adm3).body ((cfg3 (F := F) adm3).bodyArgs t ((cfg3 (F := F) adm3).slots t))
    = cc0_in_proj_0 (grid3.coords t) (Memref.whole main_v5) (Memref.isWhole_whole _)
        (((cfg3 (F := F) adm3).win 0).stage ((cfg3 (F := F) adm3).slots t 0)) (hstage3_0 (((cfg3 (F := F) adm3).slots t 0).cast nbuf3_0))
        (((cfg3 (F := F) adm3).win 1).stage ((cfg3 (F := F) adm3).slots t 1)) (hstage3_1 (((cfg3 (F := F) adm3).slots t 1).cast nbuf3_1))
        (((cfg3 (F := F) adm3).win 2).stage ((cfg3 (F := F) adm3).slots t 2)) (hstage3_2 (((cfg3 (F := F) adm3).slots t 2).cast nbuf3_2))
    from by unfold defs₀; rw [Defs.onTc_tc]; rfl]
  rw [after3_0, after3_1, after3_2]
  exact triple_restated (point c (grid3.coords t) _ _ _ _ _ _ _ _ (iblk3 V c 0 t) (iblk3 V c 1 t) (fun d => (dat3 V c).before 2 t d)
    ((dat3 V c).Φ t.castSucc) ((dat3 V c).owesAt () t.castSucc)) rfl .rfl fun _ => .rfl

/-- Every point of launch 3 does what it should. -/
theorem body3 (c : Dev nD) : BodyObligation (dat3 V c) (defs₀ (F := F)) Variants.none () Set.univ := fun t => by
  rw [bigSep_W3, bigSep_W3]
  exact triple_restated (point3 V c t) rfl .rfl fun _ => .rfl

end Regions

/-! ## The program -/

variable (m : (ℓ : Loc nD τ sig) → Buf (Elt F) ℓ) (ρ : Dev nD → PrngReg)

/-- What a launch's buffers hold, reference by reference. -/
abbrev at_ (W : Dev nD → Valuation τ sig (Elt F)) : (c : Dev nD) → (b : Ref sig .tc) → Buf (Elt F) ((c : Thread nD τ).loc b) :=
  fun c b => W c (Proc.devRef .tc b)

/-- The unscoped buffers of a core at the start, and after each item of the program. -/
def W0 (c : Dev nD) : Valuation τ sig (Elt F) := fun b => m (c, b)
def W1 (c : Dev nD) : Valuation τ sig (Elt F) := StableHlo.after hostOps0 (W0 m c)
def W2 (c : Dev nD) : Valuation τ sig (Elt F) := Pipeline.afterRegion (dat0 (at_ (W1 m)) c) (W1 m c)
def W3 (c : Dev nD) : Valuation τ sig (Elt F) := StableHlo.after hostOps1 (W2 m c)
def W4 (c : Dev nD) : Valuation τ sig (Elt F) := Pipeline.afterRegion (dat1 (at_ (W3 m)) c) (W3 m c)
def W5 (c : Dev nD) : Valuation τ sig (Elt F) := StableHlo.after hostOps2 (W4 m c)
def W6 (c : Dev nD) : Valuation τ sig (Elt F) := Pipeline.afterRegion (dat2 (at_ (W5 m)) c) (W5 m c)
def W7 (c : Dev nD) : Valuation τ sig (Elt F) := StableHlo.after hostOps3 (W6 m c)
def W8 (c : Dev nD) : Valuation τ sig (Elt F) := Pipeline.afterRegion (dat3 (at_ (W7 m)) c) (W7 m c)

/-- What each launch finds. -/
def found : Fin 4 → Dev nD → Valuation τ sig (Elt F)
  | ⟨0, _⟩ => W1 m | ⟨1, _⟩ => W3 m | ⟨2, _⟩ => W5 m | ⟨3, _⟩ => W7 m

abbrev adm : (p : Fin 4) → (pcfgs (F := F) p).Adm
  | ⟨0, _⟩ => adm0 | ⟨1, _⟩ => adm1 | ⟨2, _⟩ => adm2 | ⟨3, _⟩ => adm3

/-- The launches' data, each at what the launch finds. -/
def pdats : (p : Fin 4) → (c : Dev nD) → Dat τ (Elt F) Unit ℕ (UR sig nD τ) ℕ (Pipeline.pin (pcfgs (F := F)) adm p) c
  | ⟨0, _⟩ => dat0 (at_ (W1 m)) | ⟨1, _⟩ => dat1 (at_ (W3 m)) | ⟨2, _⟩ => dat2 (at_ (W5 m)) | ⟨3, _⟩ => dat3 (at_ (W7 m))

/-- Only the staging semaphores are ever waited for. -/
abbrev L : GSem nD τ sig → Finset Unit := fun g => if g.1.2 = .tc then {()} else ∅
abbrev lv : GSem nD τ sig → Unit → ℕ := fun _ _ => 0

theorem cut (p : Fin 4) : Pipeline.LevelCut (nD := nD) (τ := τ) (pcfgs (F := F)) adm () L lv p (fun _ => 0) fun _ => 0 where
  hι c w s := by simp [L]
  hιb c w s := le_refl 0
  hD c g i h := absurd h (lt_irrefl 0)

theorem kit : ∀ p : Fin 4, Pipeline.PLaunchFacts (nD := nD) (τ := τ) (pcfgs (F := F)) p
  | ⟨0, _⟩ => launch0 | ⟨1, _⟩ => launch1 | ⟨2, _⟩ => launch2 | ⟨3, _⟩ => launch3

theorem bodies : ∀ (p : Fin 4) (c : Dev nD), Pipeline.BodyObligationLoose (pdats m p c) (defs₀ (F := F)) Variants.none () Set.univ
  | ⟨0, _⟩ => fun c => (body0 (at_ (W1 m)) c).loose | ⟨1, _⟩ => fun c => (body1 (at_ (W3 m)) c).loose
  | ⟨2, _⟩ => fun c => (body2 (at_ (W5 m)) c).loose | ⟨3, _⟩ => fun c => (body3 (at_ (W7 m)) c).loose

theorem owed : ∀ (p : Fin 4) (c : Dev nD) t, (pdats m p c).owed t = 0
  | ⟨0, _⟩ => fun _ _ => rfl | ⟨1, _⟩ => fun _ _ => rfl | ⟨2, _⟩ => fun _ _ => rfl | ⟨3, _⟩ => fun _ _ => rfl

theorem recorded : ∀ (p : Fin 4) (c : Dev nD), (pdats m p c).recorded 0 = Set.univ
  | ⟨0, _⟩ => fun _ => rfl | ⟨1, _⟩ => fun _ => rfl | ⟨2, _⟩ => fun _ => rfl | ⟨3, _⟩ => fun _ => rfl

theorem shares : ∀ (p : Fin 4) (c : Dev nD) w, (pdats m p c).q w = fullShare
  | ⟨0, _⟩ => fun _ _ => rfl | ⟨1, _⟩ => fun _ _ => rfl | ⟨2, _⟩ => fun _ _ => rfl | ⟨3, _⟩ => fun _ _ => rfl

theorem passes : ∀ (p : Fin 4) (c : Dev nD) t, (pdats m p c).Φ t
    = iprop(iprop(Pipeline.scopedRest (Pipeline.pin (pcfgs (F := F)) adm p).spec c ∗ ∃ r, prngReg c r) ∗ Pipeline.tablesAt (pcfgs (F := F)) adm p c)
  | ⟨0, _⟩ => fun _ _ => rfl | ⟨1, _⟩ => fun _ _ => rfl | ⟨2, _⟩ => fun _ _ => rfl | ⟨3, _⟩ => fun _ _ => rfl

theorem finds : ∀ (p : Fin 4) (c : Dev nD) w,
    (pdats m p c).arrAt w 0 = found m p c (Proc.devRef .tc (Pipeline.arrRef (Pipeline.pin (pcfgs (F := F)) adm p).spec w))
  | ⟨0, _⟩ => fun _ _ => rfl | ⟨1, _⟩ => fun _ _ => rfl | ⟨2, _⟩ => fun _ _ => rfl | ⟨3, _⟩ => fun _ _ => rfl

/-- The table as the first host operations leave it. -/
theorem W1_table (c : Dev nD) : W1 m c (Proc.devRef .tc main_v5) = ids := by
  funext j
  obtain ⟨n, rfl⟩ : ∃ n : Fin 4, j = Idealize.ShloMosaic.ix1 n := ⟨j 0, Idealize.ShloMosaic.eq_ix1 j⟩
  fin_cases n <;> rfl

end Cert.Kernel8Ideal.Launches
-- ==== Proof.InProjRun.lean ====
/-
  The program of the input projection: its host operations and its four launches in order, what every buffer holds after
  them, and that the arguments are as they were.
-/
module

public import proofs.«01_k».proof.Proof.InProjLaunches

@[expose] public section

set_option maxRecDepth 16384

noncomputable section

namespace Cert.Kernel8Ideal.Launches

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel8Ideal Cert.Kernel8Ideal.Gen

variable {F : FTy → Type} [FloatOps F]

variable (m : (ℓ : Loc nD τ sig) → Buf (Elt F) ℓ) (ρ : Dev nD → PrngReg)

/-! ### What the items keep

Host operations keep what they do not write, and a launch keeps every array but its result. -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : main_v6 ≠ r) : W2 m c (Proc.devRef .tc r) = W1 m c (Proc.devRef .tc r) :=
  Pipeline.afterRegion_keeps (dat0 (at_ (W1 m)) c) (W1 m c) (launch0 (F := F)).win.arr_inj (fun _ => rfl) r
    fun | 0 => fun _ => rfl | 1 => fun _ => rfl | 2 => fun e => absurd e h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : main_v7 ≠ r) : W4 m c (Proc.devRef .tc r) = W3 m c (Proc.devRef .tc r) :=
  Pipeline.afterRegion_keeps (dat1 (at_ (W3 m)) c) (W3 m c) (launch1 (F := F)).win.arr_inj (fun _ => rfl) r
    fun | 0 => fun _ => rfl | 1 => fun _ => rfl | 2 => fun e => absurd e h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : main_v8 ≠ r) : W6 m c (Proc.devRef .tc r) = W5 m c (Proc.devRef .tc r) :=
  Pipeline.afterRegion_keeps (dat2 (at_ (W5 m)) c) (W5 m c) (launch2 (F := F)).win.arr_inj (fun _ => rfl) r
    fun | 0 => fun _ => rfl | 1 => fun _ => rfl | 2 => fun e => absurd e h
theorem W7_of (c : Dev nD) (r : Ref sig .tc) (h : r ∉ hostOps3_W) : W7 m c (Proc.devRef .tc r) = W6 m c (Proc.devRef .tc r) :=
  StableHlo.after_of_writes_sub hostOps3 _ hostOps3_writes h
theorem W8_of (c : Dev nD) (r : Ref sig .tc) (h : main_v9 ≠ r) : W8 m c (Proc.devRef .tc r) = W7 m c (Proc.devRef .tc r) :=
  Pipeline.afterRegion_keeps (dat3 (at_ (W7 m)) c) (W7 m c) (launch3 (F := F)).win.arr_inj (fun _ => rfl) r
    fun | 0 => fun _ => rfl | 1 => fun _ => rfl | 2 => fun e => absurd e h

/-- Launches and copies between them keep every buffer that is no copy of the result. -/
theorem W3_keeps (c : Dev nD) (r : Ref sig .tc) (h : r ∉ [main_v6, main_v7, main_v8, main_v9]) :
    W3 m c (Proc.devRef .tc r) = W1 m c (Proc.devRef .tc r) := by
  simp only [List.mem_cons, List.not_mem_nil, or_false, not_or] at h
  rw [W3_of m c r (by simpa [hostOps1_W] using h.2.1), W2_of m c r (Ne.symm h.1)]
theorem W5_keeps (c : Dev nD) (r : Ref sig .tc) (h : r ∉ [main_v6, main_v7, main_v8, main_v9]) :
    W5 m c (Proc.devRef .tc r) = W1 m c (Proc.devRef .tc r) := by
  rw [← W3_keeps m c r h]
  simp only [List.mem_cons, List.not_mem_nil, or_false, not_or] at h
  rw [W5_of m c r (by simpa [hostOps2_W] using h.2.2.1), W4_of m c r (Ne.symm h.2.1)]
theorem W7_keeps (c : Dev nD) (r : Ref sig .tc) (h : r ∉ [main_v6, main_v7, main_v8, main_v9]) :
    W7 m c (Proc.devRef .tc r) = W1 m c (Proc.devRef .tc r) := by
  rw [← W5_keeps m c r h]
  simp only [List.mem_cons, List.not_mem_nil, or_false, not_or] at h
  rw [W7_of m c r (by simpa [hostOps3_W] using h.2.2.2), W6_of m c r (Ne.symm h.2.2.1)]

/-- Every launch finds the table. -/
theorem table : ∀ (p : Fin 4) (c : Dev nD) k, (adm (F := F) p).1 k = found m p c (Proc.devRef .tc ((pcfgs (F := F) p).pre.ref k))
  | ⟨0, _⟩ => fun c => fun | 0 => (W1_table m c).symm
  | ⟨1, _⟩ => fun c => fun | 0 => ((W3_keeps m c main_v5 (by decide)).trans (W1_table m c)).symm
  | ⟨2, _⟩ => fun c => fun | 0 => ((W5_keeps m c main_v5 (by decide)).trans (W1_table m c)).symm
  | ⟨3, _⟩ => fun c => fun | 0 => ((W7_keeps m c main_v5 (by decide)).trans (W1_table m c)).symm

/-! ### The segments -/

/-- Beside the buffers: nothing owed, and the generator at some state. -/
abbrev E (c : Dev nD) : sProp (World F) :=
  iprop((∃ Wd, owes (c : Thread nD τ) (0 : CellTallies nD τ sig Unit) Wd) ∗ (∃ r, prngReg c r) ∗ emp)

/-- A launch, from the buffers as it finds them. -/
def reg (p : Fin 4) : Pipeline.RegionSeg (pcfgs (F := F)) adm (pdats m) () defs₀ Variants.none L lv p :=
  Pipeline.RegionSeg.ofHeldInT (pcfgs (F := F)) adm (pdats m) () defs₀ Variants.none L lv p (fun _ => 0) (Pipeline.ucRefs τ sig)
    (fun c => iprop(∃ r, prngReg c r)) (fun c => iprop(∃ r, prngReg c r)) (kit p) (bodies m p) (owed m p) (recorded m p)
    (fun c => (pdats m p c).share_full (shares m p c)) (fun c => by rw [passes]) (fun c => by rw [passes])
    (fun _ => 0) (cut p) (fun _ => iprop(emp)) (found m p) (finds m p) (table m p)

/-- The host operations between two launches. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W E

/-- The program's items in order. -/
abbrev segs : List (Pipeline.Seg (pcfgs (F := F)) adm (pdats m) () defs₀ Variants.none L lv) :=
  [.host (hseg hostOps0 hostOps0_sub hostOps0_fresh (W0 m)), .region (reg m 0),
   .host (hseg hostOps1 hostOps1_sub hostOps1_fresh (W2 m)), .region (reg m 1),
   .host (hseg hostOps2 hostOps2_sub hostOps2_fresh (W4 m)), .region (reg m 2),
   .host (hseg hostOps3 hostOps3_sub hostOps3_fresh (W6 m)), .region (reg m 3)]

/-- A launch starts from the buffers as it finds them. -/
theorem enters (p : Fin 4) (c : Dev nD) : iprop(StableHlo.held (c : Thread nD τ) (Pipeline.ucRefs τ sig) (found m p c) ∗ E c) ⊢ (reg m p).pre c := by
  have h := Pipeline.arrRefs_sub_ucRefs (τ := τ) (pcfgs (F := F) p).spec (kit (F := F) p).win.arr_unscoped
  have h' := Pipeline.tblRefs_sub_ucRefs (τ := τ) (pcfgs (F := F) p).pre (kit (F := F) p).pre.unscoped
  exact Pipeline.RegionSeg.ofHeldInT_pre (pdats := pdats m) (ι := ()) (defs₀ := defs₀) (𝒱₀ := Variants.none) (L := L) (lv := lv) (D := fun _ => 0) h h'
    (X := fun c => iprop(∃ r, prngReg c r)) (Y := fun c => iprop(∃ r, prngReg c r)) (kit := kit p) (hbody := bodies m p) (howed := owed m p)
    (hrec := recorded m p) (b := fun _ => 0) (hcut := cut p) (R := fun _ => iprop(emp)) (W := found m p) (hW := finds m p) (hT := table m p) c

/-- A launch leaves the buffers with its result in place. -/
theorem leaves (p : Fin 4) (c : Dev nD) : (reg m p).post c
    ⊢ iprop(StableHlo.held (c : Thread nD τ) (Pipeline.ucRefs τ sig) (Pipeline.afterRegion (pdats m p c) (found m p c)) ∗ E c) := by
  have h := Pipeline.arrRefs_sub_ucRefs (τ := τ) (pcfgs (F := F) p).spec (kit (F := F) p).win.arr_unscoped
  have h' := Pipeline.tblRefs_sub_ucRefs (τ := τ) (pcfgs (F := F) p).pre (kit (F := F) p).pre.unscoped
  exact Pipeline.RegionSeg.ofHeldInT_post h h' c

/-- The program is its items in order. -/
theorem main_run (c : Dev nD) : main (F := F) c = Pipeline.Seg.run (segs m) :=
  main_segs adm (pdats m) () Variants.none L lv _ _ _ _ _ _ _ _ rfl rfl rfl rfl c

/-- What a core holds at the end, beside owing nothing. -/
abbrev last (c : Dev nD) : sProp (World F) :=
  iprop(StableHlo.held (c : Thread nD τ) (Pipeline.ucRefs τ sig) (W8 m c) ∗ (∃ r, prngReg c r))

/-- Every buffer and every counter after the run. -/
theorem after : θ_run defs (onTc (τ := τ) (main (F := F))) ⟨m, fun _ => 0, ρ⟩ (fun r => (∀ c : Dev nD,
    ∀ b ∈ Pipeline.ucRefs τ sig, r.2.mem (((c : Thread nD τ)).1, b) = W8 m c b) ∧ r.2.sem = fun _ => 0) :=
  Pipeline.θ_run_regions_kit_sems (pcfgs (F := F)) adm (pdats m) () (cellOf_inj adm) emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ h => if_neg h) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp (World F))
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp (World F)) ⊢ bigSep Finset.univ (fun _ : Dev nD => (BI.emp : sProp (World F))) from by rw [BI.bigSep_emp_const])
      iempintro)
    (T₀ := fun c => iprop(StableHlo.held (c : Thread nD τ) (Pipeline.ucRefs τ sig) (W0 m c) ∗ E c)) (Tₙ := last m)
    (hch := ⟨fun _ => .rfl, enters m 0, leaves m 0, enters m 1, leaves m 1, enters m 2, leaves m 2, enters m 3, fun c => by
      refine (leaves m 3 c).trans ?_
      iintro ⟨Hh, HO, Hp, -⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h hz => ⟨h, funext fun g => hz g (.inr (regions_no_unscoped g.2))⟩)

/-- An argument is as it was. -/
theorem W8_arg (c : Dev nD) (r : Ref sig .tc) (h : r ∉ [main_v6, main_v7, main_v8, main_v9]) (h' : r ∉ hostOps0_W) :
    W8 m c (Proc.devRef .tc r) = m ((c : Thread nD τ).loc r) := by
  rw [W8_of m c r (fun e => h (e ▸ by decide)), W7_keeps m c r h, W1_of m c r h']
  rfl

/-- The run ends, keeps the arguments and leaves no signal. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c =>
    ⟨(h.1 c _ (Finset.mem_filter.mpr ⟨StableHlo.devRef_mem_tcRefs _, by decide⟩)).trans (W8_arg m c main_arg0 (by decide) (by decide)),
     (h.1 c _ (Finset.mem_filter.mpr ⟨StableHlo.devRef_mem_tcRefs _, by decide⟩)).trans (W8_arg m c main_arg1 (by decide) (by decide))⟩,
    h.2⟩) (after m ρ)

end Cert.Kernel8Ideal.Launches
-- ==== Proof.Frames.lean ====
/-
  The frames of the matrix products' programs. A kernel and its ideal program have the same text, so that the run of the
  ideal program, which holds over any float values, is the frame of both.
-/
module

public import proofs.«01_k».proof.Defs
public import proofs.«01_k».proof.Proof.Gen.Kernel2
public import proofs.«01_k».proof.Proof.Gen.Kernel2Ideal.Frame
public import proofs.«01_k».proof.Proof.Gen.Reference2Ideal.Read
public import proofs.«01_k».proof.Proof.Gen.Kernel3
public import proofs.«01_k».proof.Proof.Gen.Kernel3Ideal.Frame
public import proofs.«01_k».proof.Proof.Gen.Reference3Ideal.Read
public import proofs.«01_k».proof.Proof.Gen.Kernel4
public import proofs.«01_k».proof.Proof.Gen.Kernel4Ideal.Frame
public import proofs.«01_k».proof.Proof.Gen.Reference4Ideal.Read
public import proofs.«01_k».proof.Proof.Gen.Kernel5
public import proofs.«01_k».proof.Proof.Gen.Kernel5Ideal.Frame
public import proofs.«01_k».proof.Proof.Gen.Reference5Ideal.Read
public import proofs.«01_k».proof.Proof.Gen.Kernel6
public import proofs.«01_k».proof.Proof.Gen.Kernel6Ideal.Frame
public import proofs.«01_k».proof.Proof.Gen.Reference6Ideal.Read
public import proofs.«01_k».proof.Proof.Gen.Kernel7
public import proofs.«01_k».proof.Proof.Gen.Kernel7Ideal.Frame
public import proofs.«01_k».proof.Proof.Gen.Reference7Ideal.Read
public import proofs.«01_k».proof.Proof.Gen.Kernel8
public import proofs.«01_k».proof.Proof.Gen.Reference8Ideal.Read
public import proofs.«01_k».proof.Proof.InProjRun
public import Idealize.ShloMosaic.Adequacy
public import Idealize.ShloMosaic.Init

@[expose] public section

noncomputable section

namespace Cert.Proof

open Idealize.ShloMosaic Idealize.SL.Sem

/-! ## Program 2: the feed-forward, forward and backward -/

set_option maxHeartbeats 2000000 in
theorem bodies_eq2 {F : FTy → Type} [FloatOps F] :
    @Cert.Kernel2.defs₀ F _ Cert.Kernel2.Gen.facts = @Cert.Kernel2Ideal.defs₀ F _ Cert.Kernel2Ideal.Gen.facts := by
  unfold Cert.Kernel2.defs₀ Cert.Kernel2Ideal.defs₀
  congr 1
  funext l a
  match l, a with
  | 0, (_, _) => rfl
  | 1, (_, _) => rfl
  | 2, (_, _) => rfl
  | 3, (_, _) => rfl
  | 4, (_, _) => rfl
  | ⟨_ + 5, h⟩, _ => exact absurd h (Nat.not_lt.2 (Nat.le_add_left _ _))

theorem defs_eq2 {F : FTy → Type} [FloatOps F] :
    @Cert.Kernel2.defs F _ Cert.Kernel2.Gen.facts = @Cert.Kernel2Ideal.defs F _ Cert.Kernel2Ideal.Gen.facts :=
  congrArg (Pipeline.defs (@Cert.Kernel2Ideal.pcfgs F Cert.Kernel2Ideal.Gen.facts)) bodies_eq2

theorem frame_kernel2 : Cert.quiescent_Kernel2 := by
  intro m ρ _
  rw [defs_eq2]
  exact (θ_run Cert.Kernel2Ideal.defs _ _).mono (fun _ h => h) (Cert.Kernel2Ideal.Gen.frame (F := Bits) m ρ)

theorem frame_ideal2 : Cert.quiescent_Kernel2Ideal := fun m ρ _ => Cert.Kernel2Ideal.Gen.frame m ρ

/-- Every semaphore counter of the reference's program is zero: it has none. -/
theorem reference_run2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run Cert.Reference2Ideal.defs _ _).mono (fun r h => ⟨fun c => (h c).2.2.2, sem_eq_zero_of_no_sems (by decide) r.2⟩) (Cert.Reference2Ideal.Value.run m ρ)

theorem frame_reference2 : Cert.quiescent_Reference2Ideal := fun m ρ _ => reference_run2 m ρ

/-! ## Program 3: the output projection and its gradients -/

theorem bodies_eq3 {F : FTy → Type} [FloatOps F] :
    @Cert.Kernel3.defs₀ F _ Cert.Kernel3.Gen.facts = @Cert.Kernel3Ideal.defs₀ F _ Cert.Kernel3Ideal.Gen.facts := by
  unfold Cert.Kernel3.defs₀ Cert.Kernel3Ideal.defs₀
  congr 1
  funext l a
  match l, a with
  | 0, (_, _) => rfl
  | 1, (_, _) => rfl
  | 2, (_, _) => rfl
  | ⟨_ + 3, h⟩, _ => exact absurd h (Nat.not_lt.2 (Nat.le_add_left _ _))

theorem defs_eq3 {F : FTy → Type} [FloatOps F] :
    @Cert.Kernel3.defs F _ Cert.Kernel3.Gen.facts = @Cert.Kernel3Ideal.defs F _ Cert.Kernel3Ideal.Gen.facts :=
  congrArg (Pipeline.defs (@Cert.Kernel3Ideal.pcfgs F Cert.Kernel3Ideal.Gen.facts)) bodies_eq3

theorem frame_kernel3 : Cert.quiescent_Kernel3 := by
  intro m ρ _
  rw [defs_eq3]
  exact (θ_run Cert.Kernel3Ideal.defs _ _).mono (fun _ h => h) (Cert.Kernel3Ideal.Gen.frame (F := Bits) m ρ)

theorem frame_ideal3 : Cert.quiescent_Kernel3Ideal := fun m ρ _ => Cert.Kernel3Ideal.Gen.frame m ρ

/-- Every semaphore counter of the reference's program is zero: it has none. -/
theorem reference_run3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run Cert.Reference3Ideal.defs _ _).mono (fun r h => ⟨fun c => (h c).2.2.2, sem_eq_zero_of_no_sems (by decide) r.2⟩) (Cert.Reference3Ideal.Value.run m ρ)

theorem frame_reference3 : Cert.quiescent_Reference3Ideal := fun m ρ _ => reference_run3 m ρ

/-! ## Program 4: the input projection's gradient -/

theorem bodies_eq4 {F : FTy → Type} [FloatOps F] :
    @Cert.Kernel4.defs₀ F _ Cert.Kernel4.Gen.facts = @Cert.Kernel4Ideal.defs₀ F _ Cert.Kernel4Ideal.Gen.facts := by
  unfold Cert.Kernel4.defs₀ Cert.Kernel4Ideal.defs₀
  congr 1
  funext l a
  match l, a with
  | 0, (_, _) => rfl
  | ⟨_ + 1, h⟩, _ => exact absurd h (Nat.not_lt.2 (Nat.le_add_left _ _))

theorem defs_eq4 {F : FTy → Type} [FloatOps F] :
    @Cert.Kernel4.defs F _ Cert.Kernel4.Gen.facts = @Cert.Kernel4Ideal.defs F _ Cert.Kernel4Ideal.Gen.facts :=
  congrArg (Pipeline.defs (@Cert.Kernel4Ideal.pcfgs F Cert.Kernel4Ideal.Gen.facts)) bodies_eq4

theorem frame_kernel4 : Cert.quiescent_Kernel4 := by
  intro m ρ _
  rw [defs_eq4]
  exact (θ_run Cert.Kernel4Ideal.defs _ _).mono (fun _ h => h) (Cert.Kernel4Ideal.Gen.frame (F := Bits) m ρ)

theorem frame_ideal4 : Cert.quiescent_Kernel4Ideal := fun m ρ _ => Cert.Kernel4Ideal.Gen.frame m ρ

/-- Every semaphore counter of the reference's program is zero: it has none. -/
theorem reference_run4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0) :=
  (θ_run Cert.Reference4Ideal.defs _ _).mono (fun r h => ⟨fun c => (h c).2, sem_eq_zero_of_no_sems (by decide) r.2⟩) (Cert.Reference4Ideal.Value.run m ρ)

theorem frame_reference4 : Cert.quiescent_Reference4Ideal := fun m ρ _ => reference_run4 m ρ

/-! ## Program 5: the down projection -/

theorem bodies_eq5 {F : FTy → Type} [FloatOps F] :
    @Cert.Kernel5.defs₀ F _ Cert.Kernel5.Gen.facts = @Cert.Kernel5Ideal.defs₀ F _ Cert.Kernel5Ideal.Gen.facts := by
  unfold Cert.Kernel5.defs₀ Cert.Kernel5Ideal.defs₀
  congr 1
  funext l a
  match l, a with
  | 0, (_, _) => rfl
  | ⟨_ + 1, h⟩, _ => exact absurd h (Nat.not_lt.2 (Nat.le_add_left _ _))

theorem defs_eq5 {F : FTy → Type} [FloatOps F] :
    @Cert.Kernel5.defs F _ Cert.Kernel5.Gen.facts = @Cert.Kernel5Ideal.defs F _ Cert.Kernel5Ideal.Gen.facts :=
  congrArg (Pipeline.defs (@Cert.Kernel5Ideal.pcfgs F Cert.Kernel5Ideal.Gen.facts)) bodies_eq5

theorem frame_kernel5 : Cert.quiescent_Kernel5 := by
  intro m ρ _
  rw [defs_eq5]
  exact (θ_run Cert.Kernel5Ideal.defs _ _).mono (fun _ h => h) (Cert.Kernel5Ideal.Gen.frame (F := Bits) m ρ)

theorem frame_ideal5 : Cert.quiescent_Kernel5Ideal := fun m ρ _ => Cert.Kernel5Ideal.Gen.frame m ρ

/-- Every semaphore counter of the reference's program is zero: it has none. -/
theorem reference_run5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0) :=
  (θ_run Cert.Reference5Ideal.defs _ _).mono (fun r h => ⟨fun c => (h c).2, sem_eq_zero_of_no_sems (by decide) r.2⟩) (Cert.Reference5Ideal.Value.run m ρ)

theorem frame_reference5 : Cert.quiescent_Reference5Ideal := fun m ρ _ => reference_run5 m ρ

/-! ## Program 6: the feed-forward's input gradient -/

theorem bodies_eq6 {F : FTy → Type} [FloatOps F] :
    @Cert.Kernel6.defs₀ F _ Cert.Kernel6.Gen.facts = @Cert.Kernel6Ideal.defs₀ F _ Cert.Kernel6Ideal.Gen.facts := by
  unfold Cert.Kernel6.defs₀ Cert.Kernel6Ideal.defs₀
  congr 1
  funext l a
  match l, a with
  | 0, (_, _) => rfl
  | ⟨_ + 1, h⟩, _ => exact absurd h (Nat.not_lt.2 (Nat.le_add_left _ _))

theorem defs_eq6 {F : FTy → Type} [FloatOps F] :
    @Cert.Kernel6.defs F _ Cert.Kernel6.Gen.facts = @Cert.Kernel6Ideal.defs F _ Cert.Kernel6Ideal.Gen.facts :=
  congrArg (Pipeline.defs (@Cert.Kernel6Ideal.pcfgs F Cert.Kernel6Ideal.Gen.facts)) bodies_eq6

theorem frame_kernel6 : Cert.quiescent_Kernel6 := by
  intro m ρ _
  rw [defs_eq6]
  exact (θ_run Cert.Kernel6Ideal.defs _ _).mono (fun _ h => h) (Cert.Kernel6Ideal.Gen.frame (F := Bits) m ρ)

theorem frame_ideal6 : Cert.quiescent_Kernel6Ideal := fun m ρ _ => Cert.Kernel6Ideal.Gen.frame m ρ

/-- Every semaphore counter of the reference's program is zero: it has none. -/
theorem reference_run6 (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0) :=
  (θ_run Cert.Reference6Ideal.defs _ _).mono (fun r h => ⟨fun c => (h c).2, sem_eq_zero_of_no_sems (by decide) r.2⟩) (Cert.Reference6Ideal.Value.run m ρ)

theorem frame_reference6 : Cert.quiescent_Reference6Ideal := fun m ρ _ => reference_run6 m ρ

/-! ## Program 7: the gradient of the input projection's weight -/

theorem bodies_eq7 {F : FTy → Type} [FloatOps F] :
    @Cert.Kernel7.defs₀ F _ Cert.Kernel7.Gen.facts = @Cert.Kernel7Ideal.defs₀ F _ Cert.Kernel7Ideal.Gen.facts := by
  unfold Cert.Kernel7.defs₀ Cert.Kernel7Ideal.defs₀
  congr 1
  funext l a
  match l, a with
  | 0, (_, _) => rfl
  | 1, (_, _) => rfl
  | ⟨_ + 2, h⟩, _ => exact absurd h (Nat.not_lt.2 (Nat.le_add_left _ _))

theorem defs_eq7 {F : FTy → Type} [FloatOps F] :
    @Cert.Kernel7.defs F _ Cert.Kernel7.Gen.facts = @Cert.Kernel7Ideal.defs F _ Cert.Kernel7Ideal.Gen.facts :=
  congrArg (Pipeline.defs (@Cert.Kernel7Ideal.pcfgs F Cert.Kernel7Ideal.Gen.facts)) bodies_eq7

theorem frame_kernel7 : Cert.quiescent_Kernel7 := by
  intro m ρ _
  rw [defs_eq7]
  exact (θ_run Cert.Kernel7Ideal.defs _ _).mono (fun _ h => h) (Cert.Kernel7Ideal.Gen.frame (F := Bits) m ρ)

theorem frame_ideal7 : Cert.quiescent_Kernel7Ideal := fun m ρ _ => Cert.Kernel7Ideal.Gen.frame m ρ

/-- Every semaphore counter of the reference's program is zero: it has none. -/
theorem reference_run7 (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0) :=
  (θ_run Cert.Reference7Ideal.defs _ _).mono (fun r h => ⟨fun c => (h c).2, sem_eq_zero_of_no_sems (by decide) r.2⟩) (Cert.Reference7Ideal.Value.run m ρ)

theorem frame_reference7 : Cert.quiescent_Reference7Ideal := fun m ρ _ => reference_run7 m ρ

/-! ## Program 8: the input projection -/

theorem bodies_eq8 {F : FTy → Type} [FloatOps F] :
    @Cert.Kernel8.defs₀ F _ Cert.Kernel8.Gen.facts = @Cert.Kernel8Ideal.defs₀ F _ Cert.Kernel8Ideal.Gen.facts := by
  unfold Cert.Kernel8.defs₀ Cert.Kernel8Ideal.defs₀
  congr 1
  funext l a
  match l, a with
  | 0, (_, _) => rfl
  | 1, (_, _) => rfl
  | 2, (_, _) => rfl
  | 3, (_, _) => rfl
  | ⟨_ + 4, h⟩, _ => exact absurd h (Nat.not_lt.2 (Nat.le_add_left _ _))

set_option maxHeartbeats 2000000 in
/-- The launches are the same in both programs: the same windows, index maps and conditions on the table. -/
theorem launches_eq8 {F : FTy → Type} [FloatOps F] :
    @Cert.Kernel8.pcfgs F _ Cert.Kernel8.Gen.facts = @Cert.Kernel8Ideal.pcfgs F _ Cert.Kernel8Ideal.Gen.facts := by
  funext p
  match p with
  | ⟨0, _⟩ => rfl
  | ⟨1, _⟩ => rfl
  | ⟨2, _⟩ => rfl
  | ⟨3, _⟩ => rfl

set_option maxHeartbeats 2000000 in
theorem frame_kernel8 : Cert.quiescent_Kernel8 := by
  intro m ρ _
  unfold Cert.Kernel8.defs Cert.Kernel8.main
  rw [launches_eq8, bodies_eq8]
  exact Cert.Kernel8Ideal.Launches.frame (F := Bits) m ρ

theorem frame_ideal8 : Cert.quiescent_Kernel8Ideal := fun m ρ _ => Cert.Kernel8Ideal.Launches.frame m ρ

/-- Every semaphore counter of the reference's program is zero: it has none. -/
theorem reference_run8 (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run Cert.Reference8Ideal.defs _ _).mono (fun r h => ⟨fun c => (h c).2, sem_eq_zero_of_no_sems (by decide) r.2⟩) (Cert.Reference8Ideal.Value.run m ρ)

theorem frame_reference8 : Cert.quiescent_Reference8Ideal := fun m ρ _ => reference_run8 m ρ

end Cert.Proof

end
-- ==== Proof.Retention.lean ====
/-
  The mathematics of the claim, apart from both programs: one head's query gradient over the extended reals. The kernel
  forms the product of the weighted keys with the values the other way round, adds the two directions inside the chunk
  and weights the rows of the incoming gradient; the reference weights after the product and adds the directions at the
  end. The two agree for every input: the weights are exponentials of numbers that are not positive, so they are
  nonnegative and finite, and such a factor goes in and out of any sum.
-/
module

public import Idealize.ShloMosaic.PureOps.Ideal

@[expose] public section

noncomputable section

namespace Cert.Retention

open Idealize.ShloMosaic

/-- A nonnegative finite factor goes out of a sum on the right. -/
theorem sum_mul {ι : Type} (s : Finset ι) (f : ι → EReal) {a : EReal} (h0 : 0 ≤ a) (ht : a ≠ ⊤) :
    (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 ht, ih]

/-- The decay of a rate `g` over `n` tokens. -/
def dec (g : EReal) (n : ℕ) : EReal := Ideal.exp (g * ((n : ℝ) : EReal))

/-- The running state after `n` chunks: it decays by `w` and gains the product of a chunk of `B`, its rows weighted,
    with a chunk of `C`. -/
def st (w : EReal) (u : Fin 128 → EReal) (B C : ℕ → Fin 128 → Fin 128 → EReal) : ℕ → Fin 128 → Fin 128 → EReal
  | 0 => fun _ _ => 0
  | n + 1 => fun p q => st w u B C n p q * w + ∑ j, B n j p * u j * C n j q

/-- The two factors change places with the state transposed. -/
theorem st_swap (w : EReal) (u : Fin 128 → EReal) (B C : ℕ → Fin 128 → Fin 128 → EReal) (n : ℕ) (p q : Fin 128) :
    st w u B C n p q = st w u C B n q p := by
  induction n generalizing p q with
  | zero => rfl
  | succ n ih =>
    show st w u B C n p q * w + _ = st w u C B n q p * w + _
    rw [ih]
    refine congrArg (_ + ·) (Finset.sum_congr rfl fun j _ => ?_)
    rw [mul_right_comm, mul_comm (B n j p), mul_right_comm]

/-- The state over chunks whose rows are all taken in the other order. -/
theorem st_rev (w : EReal) (u : Fin 128 → EReal) (B C : ℕ → Fin 128 → Fin 128 → EReal) (n : ℕ) (p q : Fin 128) :
    st w (fun j => u j.rev) (fun n j => B n j.rev) (fun n j => C n j.rev) n p q = st w u B C n p q := by
  induction n generalizing p q with
  | zero => rfl
  | succ n ih =>
    show st w _ _ _ n p q * w + _ = st w u B C n p q * w + _
    rw [ih]
    exact congrArg (_ + ·) (Equiv.sum_comp Fin.revPerm (fun j => B n j p * u j * C n j q))

/-- The state depends on the chunks before only. -/
theorem st_congr (w : EReal) (u : Fin 128 → EReal) {B B' C C' : ℕ → Fin 128 → Fin 128 → EReal} (n : ℕ)
    (hB : ∀ i < n, B i = B' i) (hC : ∀ i < n, C i = C' i) : st w u B C n = st w u B' C' n := by
  induction n with
  | zero => rfl
  | succ n ih =>
    funext p q
    show st w u B C n p q * w + _ = st w u B' C' n p q * w + _
    rw [ih (fun i h => hB i (by omega)) (fun i h => hC i (by omega)), hB n (by omega), hC n (by omega)]

/-- One direction's part of the gradient at a row: through the state `S`, then within the chunk. -/
def part (S : Fin 128 → Fin 128 → EReal) (q : EReal) (mask : Fin 128 → EReal) (a : Fin 128 → EReal)
    (b c : Fin 128 → Fin 128 → EReal) (d : Fin 128) : EReal :=
  (∑ e, a e * S d e) * q + ∑ j, (∑ e, a e * b j e) * mask j * c j d

/-- The kernel's form of the two directions together: `S` and `T` are its states, transposed. -/
def both (S T : Fin 128 → Fin 128 → EReal) (q q' : EReal) (mask mask' : Fin 128 → EReal) (a : Fin 128 → EReal)
    (b c : Fin 128 → Fin 128 → EReal) (d : Fin 128) : EReal :=
  (∑ j, (∑ e, a e * b j e) * (mask j + mask' j) * c j d) + (∑ e, a e * q * S e d) + ∑ e, a e * q' * T e d

theorem both_eq (S T : Fin 128 → Fin 128 → EReal) {q q' : EReal} (mask mask' : Fin 128 → EReal) (a : Fin 128 → EReal)
    (b c : Fin 128 → Fin 128 → EReal) (d : Fin 128) (hq : 0 ≤ q) (hq' : 0 ≤ q') (ht : q ≠ ⊤) (ht' : q' ≠ ⊤)
    (hm : ∀ j, mask j = 0 ∨ mask' j = 0) :
    both S T q q' mask mask' a b c d
      = part (fun d e => T e d) q' mask' a b c d + part (fun d e => S e d) q mask a b c d := by
  unfold both part
  have e1 : ∀ (S : Fin 128 → Fin 128 → EReal) {q : EReal}, 0 ≤ q → q ≠ ⊤ →
      (∑ e, a e * S e d) * q = ∑ e, a e * q * S e d := fun S q h0 ht => by
    rw [sum_mul _ _ h0 ht]
    exact Finset.sum_congr rfl fun e _ => mul_right_comm _ _ _
  rw [e1 S hq ht, e1 T hq' ht']
  have e2 : (∑ j, (∑ e, a e * b j e) * (mask j + mask' j) * c j d)
      = (∑ j, (∑ e, a e * b j e) * mask j * c j d) + ∑ j, (∑ e, a e * b j e) * mask' j * c j d := by
    rw [← Finset.sum_add_distrib]
    refine Finset.sum_congr rfl fun j _ => ?_
    rcases hm j with h | h <;> simp [h]
  rw [e2]
  abel

theorem exp_nonneg (x : EReal) : 0 ≤ Ideal.exp x := by
  induction x with
  | bot => exact le_refl _
  | top => exact le_top
  | coe r => exact EReal.coe_nonneg.mpr (Real.exp_pos r).le

theorem dec_nonneg (g : EReal) (n : ℕ) : 0 ≤ dec g n := exp_nonneg _

/-- A rate that is not positive decays: the weight is finite. -/
theorem dec_ne_top {g : EReal} (hg : g ≤ 0) (n : ℕ) : dec g n ≠ ⊤ := by
  unfold dec
  induction g with
  | bot =>
    rcases Nat.eq_zero_or_pos n with rfl | hn
    · rw [Nat.cast_zero, EReal.coe_zero, mul_zero, ← EReal.coe_zero, Ideal.exp_coe]
      exact EReal.coe_ne_top _
    · rw [EReal.bot_mul_of_pos (by exact_mod_cast hn)]
      exact EReal.zero_ne_top
  | top => exact absurd hg (not_le.mpr EReal.zero_lt_top)
  | coe r =>
    rw [← EReal.coe_mul, Ideal.exp_coe]
    exact EReal.coe_ne_top _

/-- The rate of a decay parameter: minus an exponential, so not positive. -/
theorem rate_nonpos (x : EReal) : -Ideal.exp x ≤ 0 := by
  rw [EReal.neg_le, neg_zero]
  exact exp_nonneg x

end Cert.Retention

end
-- ==== Proof.Numbers.lean ====
/-
  The numbers of the decays: token counts as words, as reals and as extended reals.
-/
module

public import proofs.«01_k».proof.Proof.Retention

@[expose] public section

noncomputable section

namespace Cert.Retention

open Idealize.ShloMosaic

theorem bits_128 : Ideal.ofBits .f32 0x43000000#32 = ((128 : ℝ) : EReal) := by
  simp [Ideal.ofBits, Ideal.ieee]
  rw [← EReal.coe_mul]
  norm_num

theorem bits_127 : Ideal.ofBits .f32 0x42FE0000#32 = ((127 : ℝ) : EReal) := by
  simp [Ideal.ofBits, Ideal.ieee]
  rw [← EReal.coe_mul]
  norm_num

theorem bits_1 : Ideal.ofBits .f32 0x3F800000#32 = ((1 : ℝ) : EReal) := by
  simp [Ideal.ofBits, Ideal.ieee]
  rw [← EReal.coe_mul]
  norm_num

theorem toInt_fin (p : Fin 128) : (BitVec.ofNat 32 p.val).toInt = (p.val : ℤ) := by
  have := p.isLt
  rw [BitVec.toInt_eq_toNat_of_lt] <;> rw [BitVec.toNat_ofNat] <;> omega

/-- A token's number within its chunk, as a float. -/
theorem float_fin (p : Fin 128) : FloatOps.sitofp (F := Ideal) .f32 (BitVec.ofNat 32 p.val) = ((p.val : ℝ) : EReal) := by
  show (((BitVec.ofNat 32 p.val).toInt : ℝ) : EReal) = _
  rw [toInt_fin]
  norm_cast

/-- The distance of two tokens of a chunk, as a float. -/
theorem float_sub (p j : Fin 128) : FloatOps.sitofp (F := Ideal) .f32 (IntOp.subi (BitVec.ofNat 32 p.val) (BitVec.ofNat 32 j.val))
    = (((p.val : ℝ) - (j.val : ℝ) : ℝ) : EReal) := by
  show (((BitVec.ofNat 32 p.val - BitVec.ofNat 32 j.val).toInt : ℝ) : EReal) = _
  have hp := p.isLt
  have hj := j.isLt
  have : (BitVec.ofNat 32 p.val - BitVec.ofNat 32 j.val).toInt = (p.val : ℤ) - (j.val : ℤ) := by
    rw [BitVec.toInt_sub, toInt_fin, toInt_fin, Int.bmod_def]
    split <;> omega
  rw [this]
  norm_cast

theorem dec_of {g : EReal} {x : ℝ} {n : ℕ} (h : x = (n : ℝ)) : Ideal.exp (g * (x : EReal)) = dec g n := by
  rw [h]; rfl

/-- The decay over the distance back to an earlier token, nothing for a later one. -/
def back (strict : Bool) (g : EReal) (p j : Fin 128) : EReal :=
  if (if strict then j.val < p.val else j.val ≤ p.val) then dec g (p.val - j.val) else 0

theorem back_of_le (g : EReal) (p j : Fin 128) :
    (if (0 : EReal) ≤ (((p.val : ℝ) - (j.val : ℝ) : ℝ) : EReal) then Ideal.exp (g * max (((p.val : ℝ) - (j.val : ℝ) : ℝ) : EReal) 0) else 0)
      = back false g p j := by
  unfold back
  by_cases h : j.val ≤ p.val
  · have h' : (0 : ℝ) ≤ (p.val : ℝ) - (j.val : ℝ) := sub_nonneg.mpr (by exact_mod_cast h)
    rw [if_pos (EReal.coe_nonneg.mpr h'), max_eq_left (EReal.coe_nonneg.mpr h'), dec_of (n := p.val - j.val) (by rw [Nat.cast_sub h])]
    simp [h]
  · have h' : ¬ (0 : ℝ) ≤ (p.val : ℝ) - (j.val : ℝ) := fun h0 => h (by exact_mod_cast sub_nonneg.mp h0)
    rw [if_neg (fun h0 => h' (EReal.coe_nonneg.mp h0))]
    simp [h]

theorem back_of_lt (g : EReal) (p j : Fin 128) :
    (if (0 : EReal) < (((p.val : ℝ) - (j.val : ℝ) : ℝ) : EReal) then Ideal.exp (g * max (((p.val : ℝ) - (j.val : ℝ) : ℝ) : EReal) 0) else 0)
      = back true g p j := by
  unfold back
  by_cases h : j.val < p.val
  · have h' : (0 : ℝ) < (p.val : ℝ) - (j.val : ℝ) := sub_pos.mpr (by exact_mod_cast h)
    rw [if_pos (EReal.coe_pos.mpr h'), max_eq_left (EReal.coe_nonneg.mpr h'.le),
      dec_of (n := p.val - j.val) (by rw [Nat.cast_sub h.le])]
    simp [h]
  · have h' : ¬ (0 : ℝ) < (p.val : ℝ) - (j.val : ℝ) := fun h0 => h (by exact_mod_cast sub_pos.mp h0)
    rw [if_neg (fun h0 => h' (EReal.coe_pos.mp h0))]
    simp [h]

/-- The same distance with its sign changed. -/
theorem back_of_neg (g : EReal) (p j : Fin 128) :
    (if (((p.val : ℝ) - (j.val : ℝ) : ℝ) : EReal) < 0 then Ideal.exp (g * max (0 - (((p.val : ℝ) - (j.val : ℝ) : ℝ) : EReal)) 0) else 0)
      = back true g j p := by
  rw [← back_of_lt]
  have e : (0 : EReal) - (((p.val : ℝ) - (j.val : ℝ) : ℝ) : EReal) = (((j.val : ℝ) - (p.val : ℝ) : ℝ) : EReal) := by
    rw [← EReal.coe_zero, ← EReal.coe_sub]; congr 1; ring
  rw [e]
  congr 1
  rw [← EReal.coe_zero, EReal.coe_lt_coe_iff, EReal.coe_lt_coe_iff, sub_neg, sub_pos]

/-- Taken from the chunk's end, an earlier token is a later one. -/
theorem back_rev (s : Bool) (g : EReal) (p j : Fin 128) : back s g p.rev j.rev = back s g j p := by
  unfold back
  have hp := p.isLt
  have hj := j.isLt
  simp only [Fin.val_rev]
  have e : 128 - (p.val + 1) - (128 - (j.val + 1)) = j.val - p.val := by omega
  rw [e]
  refine if_congr ?_ rfl rfl
  cases s <;> simp <;> omega

/-- No token is at once not after another and before it. -/
theorem back_or (g h : EReal) (p j : Fin 128) : back false g p j = 0 ∨ back true h j p = 0 := by
  unfold back
  by_cases c : j.val ≤ p.val
  · right; simp; intro h; omega
  · left; simp; intro h; omega

/-- One entry of the gradient that reaches `C` where a two-way retention of chunks is differentiated: the chunk's own
    pairs, the earlier chunks through the forward state, the later chunks through the backward one. -/
def target (lf lb : EReal) (A B C : ℕ → Fin 128 → Fin 128 → EReal) (n : ℕ) (r d : Fin 128) : EReal :=
  both (st (dec lf 128) (fun j => dec lf (127 - j.val)) B C n)
    (st (dec lb 128) (fun j => dec lb j.val) (fun k => B (31 - k)) (fun k => C (31 - k)) (31 - n))
    (dec lf (r.val + 1)) (dec lb (128 - r.val)) (back false lf r) (fun j => back true lb j r) (A n r) (B n) (C n) d

/-- Chunks of 128 rows of a matrix, 128 columns from `o` on. -/
def chunks {w : ℕ} (x : Fin 4096 → Fin w → EReal) (o : ℕ) (ho : o + 128 ≤ w) (n : ℕ) (j p : Fin 128) : EReal :=
  x ⟨(128 * n + j.val) % 4096, Nat.mod_lt _ (by decide)⟩ ⟨o + p.val, by have := p.isLt; omega⟩

/-- The rate of a head's decay, from its parameter. -/
def rate (x : EReal) : EReal := -Ideal.exp x

/-- The gradient of the retention's queries before the rotation of their positions: entry `128 h + d` of a token's row,
    from the gradient of the output, the projections (keys from column 4096 on, values from column 5120 on) and the
    decay parameters of the two directions. -/
def value (g : Fin 4096 → Fin 1024 → EReal) (x : Fin 4096 → Fin 7168 → EReal) (f b : Fin 8 → EReal)
    (n : Fin 32) (r : Fin 128) (h : Fin 8) (d : Fin 128) : EReal :=
  target (rate (f h)) (rate (b h)) (chunks g (128 * h.val) (by have := h.isLt; omega))
    (chunks x (5120 + 128 * h.val) (by have := h.isLt; omega)) (chunks x (4096 + 128 * h.val) (by have := h.isLt; omega)) n.val r d
    * Ideal.ofBits .f32 0x3DB504F3#32

end Cert.Retention

end
-- ==== Proof.Silu.lean ====
/-
  The gate of the feed-forward at one entry, over the extended reals: the kernel's sigmoid is the reference's, and the
  two ways of writing the derivative agree where the other factors are finite.
-/
module

public import proofs.«01_k».proof.Proof.Numbers

@[expose] public section

noncomputable section

namespace Cert.Silu

open Idealize.ShloMosaic Cert.Retention

theorem bits_half : Ideal.ofBits .f32 0x3F000000#32 = ((1 / 2 : ℝ) : EReal) := by
  simp [Ideal.ofBits, Ideal.ieee, -EReal.coe_mul]
  norm_num

/-- The sigmoid by the hyperbolic tangent, as the kernel writes it. -/
def bend (g : EReal) : EReal :=
  Ideal.ofBits .f32 0x3F000000#32 * Ideal.tanh (Ideal.ofBits .f32 0x3F000000#32 * g) + Ideal.ofBits .f32 0x3F000000#32

theorem tanh_half (x : ℝ) : 1 / 2 * Real.tanh (1 / 2 * x) + 1 / 2 = (1 + Real.exp (-x))⁻¹ := by
  have e : Real.exp (-x) = Real.exp (-(1 / 2 * x)) * Real.exp (-(1 / 2 * x)) := by rw [← Real.exp_add]; congr 1; ring
  have i : Real.exp (1 / 2 * x) * Real.exp (-(1 / 2 * x)) = 1 := by rw [← Real.exp_add]; simp
  rw [Real.tanh_eq_sinh_div_cosh, Real.sinh_eq, Real.cosh_eq, e]
  have hp := Real.exp_pos (1 / 2 * x)
  have hn := Real.exp_pos (-(1 / 2 * x))
  generalize Real.exp (1 / 2 * x) = a at *
  generalize Real.exp (-(1 / 2 * x)) = b at *
  have h1 : 1 + b * b ≠ 0 := by positivity
  have h2 : a + b ≠ 0 := by positivity
  field_simp
  nlinarith [i]

theorem bend_eq (g : EReal) : bend g = Ideal.logistic g := by
  unfold bend
  rw [bits_half]
  induction g with
  | bot =>
    rw [EReal.coe_mul_bot_of_pos (by norm_num), Ideal.tanh_bot, Ideal.logistic_bot,
      show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top,
      show (1 : EReal) = ((1 : ℝ) : EReal) by norm_cast, ← EReal.coe_mul, ← EReal.coe_add]
    norm_num
  | coe x =>
    rw [← EReal.coe_mul, Ideal.tanh_coe, ← EReal.coe_mul, ← EReal.coe_add, Ideal.logistic_coe, tanh_half]

/-- The sigmoid as the reference writes it. -/
theorem spelled (g : EReal) : Ideal.div (Ideal.ofBits .f32 0x3F800000#32) (Ideal.ofBits .f32 0x3F800000#32 + Ideal.exp (-g))
    = Ideal.logistic g := by
  rw [bits_1]; rfl

/-- The gate's gradient: one factor worked out beforehand, or the product rule. Only the gate itself may be infinite. -/
theorem slope (a u : ℝ) (g : EReal) :
    (a : EReal) * ((u : EReal) * Ideal.logistic g * (1 + g * (1 - Ideal.logistic g)))
      = (a : EReal) * u * Ideal.logistic g + g * ((a : EReal) * u) * (Ideal.logistic g * (1 - Ideal.logistic g)) := by
  induction g with
  | bot => simp
  | top =>
    have e : (1 : EReal) - 1 = 0 := by
      rw [show (1 : EReal) = ((1 : ℝ) : EReal) by norm_cast, ← EReal.coe_sub]; simp
    simp [e]
  | coe x =>
    rw [Ideal.logistic_coe]
    norm_cast
    ring

/-- A sum of products of real numbers is a real number. -/
theorem real_sum {n : ℕ} {x y : Fin n → EReal} (hx : ∀ k, ∃ r : ℝ, x k = r) (hy : ∀ k, ∃ r : ℝ, y k = r) :
    ∃ r : ℝ, ∑ k : Fin n, x k * y k = r := by
  choose a ha using hx
  choose b hb using hy
  refine ⟨∑ k : Fin n, a k * b k, ?_⟩
  rw [show (fun k : Fin n => x k * y k) = fun k => ((a k * b k : ℝ) : EReal) from
    funext fun k => by rw [ha, hb, EReal.coe_mul]]
  exact (map_sum (⟨⟨Real.toEReal, EReal.coe_zero⟩, EReal.coe_add⟩ : ℝ →+ EReal) _ _).symm

/-- An extended real of size below infinity is a real number. -/
theorem real_of_lt {x : EReal} (h : max x (-x) < ⊤) : ∃ r : ℝ, x = r := by
  induction x with
  | bot => simp at h
  | top => simp at h
  | coe r => exact ⟨r, rfl⟩

end Cert.Silu
-- ==== Proof.FeedForward.lean ====
/-
  The feed-forward, forward and backward, five launches in a row. Here: what the first two leave — the gated product, the
  two factors the backward pass keeps, and the gradients of the two projections.
-/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pointwise
public import proofs.«01_k».proof.Proof.Silu

@[expose] public section

set_option maxRecDepth 16384

noncomputable section

namespace Cert.Kernel2Ideal.Result

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel2Ideal Cert.Kernel2Ideal.Gen

section Regions

variable (V : (c : Dev nD) → (b : Ref sig .tc) → Buf (Elt Ideal) ((c : Thread nD τ).loc b))

/-- The gate projection, and below it the up projection, as the reference has them. -/
abbrev gate (c : Dev nD) : Vec Ideal S4096x5632 .f32 :=
  Cert.Reference2Ideal.Read.val_main_v5 (F := Ideal) (V c main_arg0) (V c main_arg1)

abbrev up (c : Dev nD) : Vec Ideal S4096x5632 .f32 :=
  Cert.Reference2Ideal.Read.val_main_v7 (F := Ideal) (V c main_arg0) (V c main_arg2)

theorem blocks0 : ∀ t : Fin cfg0.N, win0_0.index t = ![t.val / 11, 0] ∧ win0_1.index t = ![0, t.val % 11]
    ∧ win0_2.index t = ![0, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

theorem blocks1 : ∀ t : Fin cfg1.N, win1_0.index t = ![t.val / 11, 0] ∧ win1_1.index t = ![t.val % 11, 0]
    ∧ win1_2.index t = ![t.val / 11, t.val % 11] ∧ win1_3.index t = ![t.val / 11, t.val % 11]
    ∧ win1_4.index t = ![t.val / 11, t.val % 11] ∧ win1_5.index t = ![t.val / 11, t.val % 11] :=
  (by decide +kernel : ∀ t : Fin grid1.N, _)

/-- The gate projection at an entry of a grid point's block. -/
theorem gate_at (c : Dev nD) (t : Fin cfg0.N) (p : Fin 1024) (q : Fin 512) (hN : t.val < 44) :
    k0_pay1 (F := Ideal) (iblk0 V c 0 t) (iblk0 V c 1 t) (ix2 p q)
      = gate V c (ix2 ⟨t.val / 11 * 1024 + p.val, by omega⟩ ⟨t.val % 11 * 512 + q.val, by omega⟩) := by
  rw [gate, Cert.Reference2Ideal.Read.val_main_v5_apply]
  pointwise [k0_pay1]
  blk_point [iblk0, blocks0 t, Cert.Reference2Ideal.Read.val_main_v0, Cert.Reference2Ideal.Read.val_main_v1]

theorem up_at (c : Dev nD) (t : Fin cfg0.N) (p : Fin 1024) (q : Fin 512) (hN : t.val < 44) :
    k0_pay2 (F := Ideal) (iblk0 V c 0 t) (iblk0 V c 2 t) (ix2 p q)
      = up V c (ix2 ⟨t.val / 11 * 1024 + p.val, by omega⟩ ⟨t.val % 11 * 512 + q.val, by omega⟩) := by
  rw [up, Cert.Reference2Ideal.Read.val_main_v7_apply]
  pointwise [k0_pay2]
  blk_point [iblk0, blocks0 t, Cert.Reference2Ideal.Read.val_main_v0, Cert.Reference2Ideal.Read.val_main_v2]

theorem pay5_at (a : Vec Ideal S1024x2048 .bf16) (b d : Vec Ideal S2048x512 .bf16) (y : S1024x512.Idx) :
    k0_pay5 (F := Ideal) a b d y = (k0_pay2 (F := Ideal) a d y * Cert.Silu.bend (k0_pay1 (F := Ideal) a b y))
      * (Ideal.ofBits .f32 0x3F800000#32 + k0_pay1 (F := Ideal) a b y
        * (Ideal.ofBits .f32 0x3F800000#32 - Cert.Silu.bend (k0_pay1 (F := Ideal) a b y))) := rfl

theorem pay6_at (a : Vec Ideal S1024x2048 .bf16) (b : Vec Ideal S2048x512 .bf16) (y : S1024x512.Idx) :
    k0_pay6 (F := Ideal) a b y = k0_pay1 (F := Ideal) a b y * Cert.Silu.bend (k0_pay1 (F := Ideal) a b y) := rfl

theorem pay7_at (a : Vec Ideal S1024x2048 .bf16) (b d : Vec Ideal S2048x512 .bf16) (y : S1024x512.Idx) :
    k0_pay7 (F := Ideal) a b d y = k0_pay1 (F := Ideal) a b y * Cert.Silu.bend (k0_pay1 (F := Ideal) a b y)
      * k0_pay2 (F := Ideal) a d y := rfl

/-- What the gate's gradient is multiplied by, what the up projection's is, and the gated product. -/
def gateFactor (c : Dev nD) (i : S4096x5632.Idx) : EReal :=
  (up V c i * Ideal.logistic (gate V c i)) * (((1 : ℝ) : EReal) + gate V c i * (((1 : ℝ) : EReal) - Ideal.logistic (gate V c i)))

def upFactor (c : Dev nD) (i : S4096x5632.Idx) : EReal := gate V c i * Ideal.logistic (gate V c i)

def gated (c : Dev nD) (i : S4096x5632.Idx) : EReal := gate V c i * Ideal.logistic (gate V c i) * up V c i

theorem gate_factor (c : Dev nD) : (dat0 V c).arrAt 3 cfg0.N = gateFactor V c := by
  refine (dat0 V c).arrAt_eq_of_covers 3 _ (by decide +kernel) fun t hf y => ?_
  have hN : t.val < 44 := lt_of_lt_of_eq t.isLt N_0
  blk_simp
  rw [after0_3]
  frame_out
  obtain ⟨p, q, rfl⟩ : ∃ (p : Fin 1024) (q : Fin 512), y = ix2 p q := ⟨y 0, y 1, eq_ix2 y⟩
  have e : (((View.whole main_v0_0).slice (win0_3.rect t)).emb (ix2 p q) : S4096x5632.Idx)
      = ix2 ⟨t.val / 11 * 1024 + p.val, by omega⟩ ⟨t.val % 11 * 512 + q.val, by omega⟩ := by
    blk_ext [blocks0 t]
  rw [e]
  rw [pay5_at, gate_at V c t p q hN, up_at V c t p q hN, Cert.Silu.bend_eq, Cert.Retention.bits_1]
  rfl

theorem up_factor (c : Dev nD) : (dat0 V c).arrAt 4 cfg0.N = upFactor V c := by
  refine (dat0 V c).arrAt_eq_of_covers 4 _ (by decide +kernel) fun t hf y => ?_
  have hN : t.val < 44 := lt_of_lt_of_eq t.isLt N_0
  blk_simp
  rw [after0_4]
  frame_out
  obtain ⟨p, q, rfl⟩ : ∃ (p : Fin 1024) (q : Fin 512), y = ix2 p q := ⟨y 0, y 1, eq_ix2 y⟩
  have e : (((View.whole main_v0_1).slice (win0_4.rect t)).emb (ix2 p q) : S4096x5632.Idx)
      = ix2 ⟨t.val / 11 * 1024 + p.val, by omega⟩ ⟨t.val % 11 * 512 + q.val, by omega⟩ := by
    blk_ext [blocks0 t]
  rw [e]
  rw [pay6_at, gate_at V c t p q hN, Cert.Silu.bend_eq]
  rfl

theorem gated_product (c : Dev nD) : (dat0 V c).arrAt 5 cfg0.N = gated V c := by
  refine (dat0 V c).arrAt_eq_of_covers 5 _ (by decide +kernel) fun t hf y => ?_
  have hN : t.val < 44 := lt_of_lt_of_eq t.isLt N_0
  blk_simp
  rw [after0_5]
  frame_out
  obtain ⟨p, q, rfl⟩ : ∃ (p : Fin 1024) (q : Fin 512), y = ix2 p q := ⟨y 0, y 1, eq_ix2 y⟩
  have e : (((View.whole main_v0_2).slice (win0_5.rect t)).emb (ix2 p q) : S4096x5632.Idx)
      = ix2 ⟨t.val / 11 * 1024 + p.val, by omega⟩ ⟨t.val % 11 * 512 + q.val, by omega⟩ := by
    blk_ext [blocks0 t]
  rw [e]
  rw [pay7_at, gate_at V c t p q hN, up_at V c t p q hN, Cert.Silu.bend_eq]
  rfl

/-- The gated product's gradient, as the reference has it. -/
abbrev dact (c : Dev nD) : Vec Ideal S4096x5632 .f32 :=
  Cert.Reference2Ideal.Read.val_main_v12 (F := Ideal) (V c main_arg3) (V c main_arg4)

theorem gate_grad (c : Dev nD) : (dat1 V c).arrAt 4 cfg1.N = fun i : S4096x5632.Idx => (dact V c i * V c main_v0_0 i : EReal) := by
  refine (dat1 V c).arrAt_eq_of_covers 4 _ (by decide +kernel) fun t hf y => ?_
  have hN : t.val < 44 := lt_of_lt_of_eq t.isLt N_1
  blk_simp
  rw [after1_4]
  obtain ⟨p, q, rfl⟩ : ∃ (p : Fin 1024) (q : Fin 512), y = ix2 p q := ⟨y 0, y 1, eq_ix2 y⟩
  have e : (((View.whole main_v1_0).slice (win1_4.rect t)).emb (ix2 p q) : S4096x5632.Idx)
      = ix2 ⟨t.val / 11 * 1024 + p.val, by omega⟩ ⟨t.val % 11 * 512 + q.val, by omega⟩ := by
    blk_ext [blocks1 t]
  rw [e, dact, Cert.Reference2Ideal.Read.val_main_v12_apply]
  clear e
  canon_tiles x h
  all_goals
    change (p : ℕ) = _ at h0
    change (q : ℕ) = _ at h1
    pointwise [k1_pay2, k1_pay3, k1_pay5, k1_pay6, k1_pay1, k1_pay4]
    blk_point [iblk1, blocks1 t, Cert.Reference2Ideal.Read.val_main_v4, Cert.Reference2Ideal.Read.val_main_v3]

theorem up_grad (c : Dev nD) : (dat1 V c).arrAt 5 cfg1.N = fun i : S4096x5632.Idx => (dact V c i * V c main_v0_1 i : EReal) := by
  refine (dat1 V c).arrAt_eq_of_covers 5 _ (by decide +kernel) fun t hf y => ?_
  have hN : t.val < 44 := lt_of_lt_of_eq t.isLt N_1
  blk_simp
  rw [after1_5]
  obtain ⟨p, q, rfl⟩ : ∃ (p : Fin 1024) (q : Fin 512), y = ix2 p q := ⟨y 0, y 1, eq_ix2 y⟩
  have e : (((View.whole main_v1_1).slice (win1_5.rect t)).emb (ix2 p q) : S4096x5632.Idx)
      = ix2 ⟨t.val / 11 * 1024 + p.val, by omega⟩ ⟨t.val % 11 * 512 + q.val, by omega⟩ := by
    blk_ext [blocks1 t]
  rw [e, dact, Cert.Reference2Ideal.Read.val_main_v12_apply]
  clear e
  canon_tiles x h
  all_goals
    change (p : ℕ) = _ at h0
    change (q : ℕ) = _ at h1
    pointwise [k1_pay2, k1_pay3, k1_pay5, k1_pay6, k1_pay1, k1_pay4]
    blk_point [iblk1, blocks1 t, Cert.Reference2Ideal.Read.val_main_v4, Cert.Reference2Ideal.Read.val_main_v3]

end Regions

end Cert.Kernel2Ideal.Result
-- ==== Proof.FeedForwardGrads.lean ====
/-
  The feed-forward's three weight gradients, and the run: with finite activations, up and down projections and
  incoming gradient, each of the three result arrays is the reference's.
-/
module

public import proofs.«01_k».proof.Proof.FeedForward

@[expose] public section

set_option maxRecDepth 16384

noncomputable section

namespace Cert.Kernel2Ideal.Result

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel2Ideal Cert.Kernel2Ideal.Gen

section Regions

variable (V : (c : Dev nD) → (b : Ref sig .tc) → Buf (Elt Ideal) ((c : Thread nD τ).loc b))

theorem blocks2 : ∀ t : Fin cfg2.N, win2_0.index t = ![0, t.val / 4] ∧ win2_1.index t = ![0, t.val % 4]
    ∧ win2_2.index t = ![t.val / 4, t.val % 4] :=
  (by decide +kernel : ∀ t : Fin grid2.N, _)

theorem blocks3 : ∀ t : Fin cfg3.N, win3_0.index t = ![0, t.val / 11] ∧ win3_1.index t = ![0, t.val % 11]
    ∧ win3_2.index t = ![t.val / 11, t.val % 11] :=
  (by decide +kernel : ∀ t : Fin grid3.N, _)

theorem blocks4 : ∀ t : Fin cfg4.N, win4_0.index t = ![0, t.val / 11] ∧ win4_1.index t = ![0, t.val % 11]
    ∧ win4_2.index t = ![t.val / 11, t.val % 11] :=
  (by decide +kernel : ∀ t : Fin grid4.N, _)

theorem grad_w_down (c : Dev nD) (x : S4096x5632.Idx → EReal) (w : S4096x2048.Idx → EReal) (hx : V c main_v0_2 = x) (hw : V c main_arg4 = w) :
    (dat2 V c).arrAt 2 cfg2.N = fun i : S5632x2048.Idx => ∑ k : Fin 4096, x (ix2 k (i 0)) * w (ix2 k (i 1)) := by
  subst hx hw
  refine (dat2 V c).arrAt_eq_of_covers 2 _ (by decide +kernel) fun t hf y => ?_
  have hN : t.val < 16 := lt_of_lt_of_eq t.isLt N_2
  blk_simp
  rw [after2_2]
  frame_out
  obtain ⟨p, q, rfl⟩ : ∃ (p : Fin 1408) (q : Fin 512), y = ix2 p q := ⟨y 0, y 1, eq_ix2 y⟩
  have e : (((View.whole main_v2).slice (win2_2.rect t)).emb (ix2 p q) : S5632x2048.Idx)
      = ix2 ⟨t.val / 4 * 1408 + p.val, by omega⟩ ⟨t.val % 4 * 512 + q.val, by omega⟩ := by
    blk_ext [blocks2 t]
  rw [e]
  pointwise [k2_pay1]
  blk_point [iblk2, blocks2 t]

theorem grad_w_gate (c : Dev nD) (x : S4096x2048.Idx → EReal) (w : S4096x5632.Idx → EReal) (hx : V c main_arg0 = x) (hw : V c main_v1_0 = w) :
    (dat3 V c).arrAt 2 cfg3.N = fun i : S2048x5632.Idx => ∑ k : Fin 4096, x (ix2 k (i 0)) * w (ix2 k (i 1)) := by
  subst hx hw
  refine (dat3 V c).arrAt_eq_of_covers 2 _ (by decide +kernel) fun t hf y => ?_
  have hN : t.val < 22 := lt_of_lt_of_eq t.isLt N_3
  blk_simp
  rw [after3_2]
  frame_out
  obtain ⟨p, q, rfl⟩ : ∃ (p : Fin 1024) (q : Fin 512), y = ix2 p q := ⟨y 0, y 1, eq_ix2 y⟩
  have e : (((View.whole main_v3).slice (win3_2.rect t)).emb (ix2 p q) : S2048x5632.Idx)
      = ix2 ⟨t.val / 11 * 1024 + p.val, by omega⟩ ⟨t.val % 11 * 512 + q.val, by omega⟩ := by
    blk_ext [blocks3 t]
  rw [e]
  pointwise [k3_pay1]
  blk_point [iblk3, blocks3 t]

theorem grad_w_up (c : Dev nD) (x : S4096x2048.Idx → EReal) (w : S4096x5632.Idx → EReal) (hx : V c main_arg0 = x) (hw : V c main_v1_1 = w) :
    (dat4 V c).arrAt 2 cfg4.N = fun i : S2048x5632.Idx => ∑ k : Fin 4096, x (ix2 k (i 0)) * w (ix2 k (i 1)) := by
  subst hx hw
  refine (dat4 V c).arrAt_eq_of_covers 2 _ (by decide +kernel) fun t hf y => ?_
  have hN : t.val < 22 := lt_of_lt_of_eq t.isLt N_4
  blk_simp
  rw [after4_2]
  frame_out
  obtain ⟨p, q, rfl⟩ : ∃ (p : Fin 1024) (q : Fin 512), y = ix2 p q := ⟨y 0, y 1, eq_ix2 y⟩
  have e : (((View.whole main_v4).slice (win4_2.rect t)).emb (ix2 p q) : S2048x5632.Idx)
      = ix2 ⟨t.val / 11 * 1024 + p.val, by omega⟩ ⟨t.val % 11 * 512 + q.val, by omega⟩ := by
    blk_ext [blocks4 t]
  rw [e]
  pointwise [k4_pay1]
  blk_point [iblk4, blocks4 t]

end Regions

variable (m : (ℓ : Loc nD τ sig) → Buf (Elt Ideal) ℓ) (ρ : Dev nD → PrngReg)

/-- Every buffer of the program after the five launches. -/
theorem after : θ_run defs (onTc (τ := τ) (main (F := Ideal))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The reference's sigmoid. -/
theorem sigmoid (x0 : Vec Ideal S4096x2048 .bf16) (x1 : Vec Ideal S2048x5632 .bf16) (i : S4096x5632.Idx) :
    Cert.Reference2Ideal.Read.val_main_v6_2 (F := Ideal) x0 x1 i = Ideal.logistic (Cert.Reference2Ideal.Read.val_main_v5 (F := Ideal) x0 x1 i) := by
  rw [Cert.Reference2Ideal.Read.val_main_v6_2_apply, Cert.Reference2Ideal.Read.val_main_call0_v4_apply, Cert.Reference2Ideal.Read.val_main_call0_cst_0_apply, Cert.Reference2Ideal.Read.val_main_call0_v3_apply,
    Cert.Reference2Ideal.Read.val_main_call0_v2_apply, Cert.Reference2Ideal.Read.val_main_call0_cst_apply, Cert.Reference2Ideal.Read.val_main_call0_v1_apply, Cert.Reference2Ideal.Read.val_main_call0_v0_apply]
  exact Cert.Silu.spelled _

theorem gated_rule (c : Dev nD) (j : S4096x5632.Idx) :
    gated (V0 m ρ) c j = Cert.Reference2Ideal.Read.val_main_v8 (F := Ideal) (m ((c : Thread nD τ).loc main_arg0)) (m ((c : Thread nD τ).loc main_arg1)) (m ((c : Thread nD τ).loc main_arg2)) j := by
  rw [Cert.Reference2Ideal.Read.val_main_v8_apply, Cert.Reference2Ideal.Read.val_main_v6_0_apply, sigmoid]
  rfl

theorem up_rule (c : Dev nD) (j : S4096x5632.Idx) :
    Cert.Reference2Ideal.Read.val_main_v12 (F := Ideal) (m ((c : Thread nD τ).loc main_arg3)) (m ((c : Thread nD τ).loc main_arg4)) j * upFactor (V0 m ρ) c j
      = Cert.Reference2Ideal.Read.val_main_v13 (F := Ideal) (m ((c : Thread nD τ).loc main_arg0)) (m ((c : Thread nD τ).loc main_arg1)) (m ((c : Thread nD τ).loc main_arg3)) (m ((c : Thread nD τ).loc main_arg4)) j := by
  rw [Cert.Reference2Ideal.Read.val_main_v13_apply, Cert.Reference2Ideal.Read.val_main_v6_0_apply, sigmoid]
  exact mul_comm (G := EReal) _ _

theorem left2 (c : Dev nD) : W5 m ρ c (Proc.devRef .tc main_v2) = Cert.Reference2Ideal.Read.val_main_v11 (F := Ideal)
    (m ((c : Thread nD τ).loc main_arg0)) (m ((c : Thread nD τ).loc main_arg1)) (m ((c : Thread nD τ).loc main_arg2)) (m ((c : Thread nD τ).loc main_arg4)) := by
  rw [W5_of m ρ c main_v2 (by decide), W4_of m ρ c main_v2 (by decide)]
  refine ((W3_arr m ρ c 2).trans (grad_w_down (V2 m ρ) c (gated (V0 m ρ) c) (m ((c : Thread nD τ).loc main_arg4)) ?_
    (W2_args m ρ c main_arg4 (by decide)))).trans ?_
  · exact (W2_of m ρ c main_v0_2 (by decide)).trans ((W1_arr m ρ c 5).trans (gated_product (V0 m ρ) c))
  funext i
  rw [Cert.Reference2Ideal.Read.val_main_v11_apply, Cert.Reference2Ideal.Read.val_main_v10_apply]
  refine Finset.sum_congr rfl fun k _ => ?_
  rw [show Cert.Reference2Ideal.Read.lidx_main_v10 (Cert.Reference2Ideal.Read.idx_main_v11 i) k = ix2 k (i 1) by funext a; fin_cases a <;> rfl,
    show Cert.Reference2Ideal.Read.ridx_main_v10 (Cert.Reference2Ideal.Read.idx_main_v11 i) k = ix2 k (i 0) by funext a; fin_cases a <;> rfl]
  exact (mul_comm (G := EReal) _ _).trans (congrArg (fun x : EReal => _ * x) (gated_rule m ρ c _))

theorem left4 (c : Dev nD) : W5 m ρ c (Proc.devRef .tc main_v4) = Cert.Reference2Ideal.Read.val_main_v16 (F := Ideal)
    (m ((c : Thread nD τ).loc main_arg0)) (m ((c : Thread nD τ).loc main_arg1)) (m ((c : Thread nD τ).loc main_arg3)) (m ((c : Thread nD τ).loc main_arg4)) := by
  refine ((W5_arr m ρ c 2).trans (grad_w_up (V4 m ρ) c (m ((c : Thread nD τ).loc main_arg0))
    (fun i => Cert.Reference2Ideal.Read.val_main_v12 (F := Ideal) (m ((c : Thread nD τ).loc main_arg3)) (m ((c : Thread nD τ).loc main_arg4)) i * upFactor (V0 m ρ) c i)
    (W4_args m ρ c main_arg0 (by decide)) ?_)).trans ?_
  · refine (W4_of m ρ c main_v1_1 (by decide)).trans ((W3_of m ρ c main_v1_1 (by decide)).trans
      ((W2_arr m ρ c 5).trans ((up_grad (V1 m ρ) c).trans ?_)))
    rw [dact, show V1 m ρ c main_arg3 = m ((c : Thread nD τ).loc main_arg3) from W1_args m ρ c main_arg3 (by decide),
      show V1 m ρ c main_arg4 = m ((c : Thread nD τ).loc main_arg4) from W1_args m ρ c main_arg4 (by decide),
      show V1 m ρ c main_v0_1 = upFactor (V0 m ρ) c from (W1_arr m ρ c 4).trans (up_factor (V0 m ρ) c)]
  funext i
  rw [Cert.Reference2Ideal.Read.val_main_v16_apply, Cert.Reference2Ideal.Read.val_main_v15_apply]
  refine Finset.sum_congr rfl fun k _ => ?_
  rw [show Cert.Reference2Ideal.Read.lidx_main_v15 (Cert.Reference2Ideal.Read.idx_main_v16 i) k = ix2 k (i 1) by funext a; fin_cases a <;> rfl,
    show Cert.Reference2Ideal.Read.ridx_main_v15 (Cert.Reference2Ideal.Read.idx_main_v16 i) k = ix2 k (i 0) by funext a; fin_cases a <;> rfl]
  exact (mul_comm (G := EReal) _ _).trans (congrArg (fun x : EReal => x * _) (up_rule m ρ c _))

variable (h0 : ∀ c : Dev nD, ∀ i : S4096x2048.Idx, ∃ r : ℝ, m ((c : Thread nD τ).loc main_arg0) i = (r : EReal))
  (h2 : ∀ c : Dev nD, ∀ i : S2048x5632.Idx, ∃ r : ℝ, m ((c : Thread nD τ).loc main_arg2) i = (r : EReal))
  (h3 : ∀ c : Dev nD, ∀ i : S5632x2048.Idx, ∃ r : ℝ, m ((c : Thread nD τ).loc main_arg3) i = (r : EReal))
  (h4 : ∀ c : Dev nD, ∀ i : S4096x2048.Idx, ∃ r : ℝ, m ((c : Thread nD τ).loc main_arg4) i = (r : EReal))

include h0 h2 h3 h4 in
/-- The gate's gradient, entry by entry: here alone the finite entries are needed. -/
theorem gate_rule (c : Dev nD) (j : S4096x5632.Idx) :
    Cert.Reference2Ideal.Read.val_main_v12 (F := Ideal) (m ((c : Thread nD τ).loc main_arg3)) (m ((c : Thread nD τ).loc main_arg4)) j * gateFactor (V0 m ρ) c j
      = Cert.Reference2Ideal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
  obtain ⟨a, ha⟩ : ∃ r : ℝ, Cert.Reference2Ideal.Read.val_main_v12 (F := Ideal) (m ((c : Thread nD τ).loc main_arg3)) (m ((c : Thread nD τ).loc main_arg4)) j = (r : EReal) := by
    rw [Cert.Reference2Ideal.Read.val_main_v12_apply]
    exact Cert.Silu.real_sum (fun _ => h4 c _) fun _ => h3 c _
  obtain ⟨u, hu⟩ : ∃ r : ℝ, Cert.Reference2Ideal.Read.val_main_v7 (F := Ideal) (m ((c : Thread nD τ).loc main_arg0)) (m ((c : Thread nD τ).loc main_arg2)) j = (r : EReal) := by
    rw [Cert.Reference2Ideal.Read.val_main_v7_apply]
    exact Cert.Silu.real_sum (fun _ => h0 c _) fun _ => h2 c _
  rw [Cert.Reference2Ideal.Read.val_main_v17_apply, Cert.Reference2Ideal.Read.val_main_call1_v1_apply, Cert.Reference2Ideal.Read.val_main_call1_v2_apply, Cert.Reference2Ideal.Read.val_main_call1_v0_apply,
    Cert.Reference2Ideal.Read.val_main_v6_1_apply, Cert.Reference2Ideal.Read.val_main_call0_v7_apply, Cert.Reference2Ideal.Read.val_main_call0_v6_apply, Cert.Reference2Ideal.Read.val_main_call0_cst_1_apply,
    Cert.Reference2Ideal.Read.val_main_v14_apply, sigmoid, ha, hu]
  unfold gateFactor
  rw [show up (V0 m ρ) c j = (u : EReal) from hu]
  refine Eq.trans ?_ ((Cert.Silu.slope a u (gate (V0 m ρ) c j)).trans ?_)
  · rw [EReal.coe_one]
  · rw [← EReal.coe_one, ← Cert.Retention.bits_1]
    rfl

include h0 h2 h3 h4 in
theorem left3 (c : Dev nD) : W5 m ρ c (Proc.devRef .tc main_v3) = Cert.Reference2Ideal.Read.val_main_v19 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  rw [W5_of m ρ c main_v3 (by decide)]
  refine ((W4_arr m ρ c 2).trans (grad_w_gate (V3 m ρ) c (m ((c : Thread nD τ).loc main_arg0))
    (fun i => Cert.Reference2Ideal.Read.val_main_v12 (F := Ideal) (m ((c : Thread nD τ).loc main_arg3)) (m ((c : Thread nD τ).loc main_arg4)) i * gateFactor (V0 m ρ) c i)
    (W3_args m ρ c main_arg0 (by decide)) ?_)).trans ?_
  · refine (W3_of m ρ c main_v1_0 (by decide)).trans
      ((W2_arr m ρ c 4).trans ((gate_grad (V1 m ρ) c).trans ?_))
    rw [dact, show V1 m ρ c main_arg3 = m ((c : Thread nD τ).loc main_arg3) from W1_args m ρ c main_arg3 (by decide),
      show V1 m ρ c main_arg4 = m ((c : Thread nD τ).loc main_arg4) from W1_args m ρ c main_arg4 (by decide),
      show V1 m ρ c main_v0_0 = gateFactor (V0 m ρ) c from (W1_arr m ρ c 3).trans (gate_factor (V0 m ρ) c)]
  funext i
  rw [Cert.Reference2Ideal.Read.val_main_v19_apply, Cert.Reference2Ideal.Read.val_main_v18_apply]
  refine Finset.sum_congr rfl fun k _ => ?_
  rw [show Cert.Reference2Ideal.Read.lidx_main_v18 (Cert.Reference2Ideal.Read.idx_main_v19 i) k = ix2 k (i 1) by funext a; fin_cases a <;> rfl,
    show Cert.Reference2Ideal.Read.ridx_main_v18 (Cert.Reference2Ideal.Read.idx_main_v19 i) k = ix2 k (i 0) by funext a; fin_cases a <;> rfl]
  exact (mul_comm (G := EReal) _ _).trans (congrArg (fun x : EReal => x * _) (gate_rule m ρ h0 h2 h3 h4 c _))

include h0 h2 h3 h4 in
/-- The three result arrays after the run. -/
theorem run : θ_run defs (onTc (τ := τ) (main (F := Ideal))) ⟨m, fun _ => 0, ρ⟩ (fun r => ∀ c : Dev nD,
      r.2.mem ((c : Thread nD τ).loc main_v3) = Cert.Reference2Ideal.Read.val_main_v19 (F := Ideal)
        (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v4) = Cert.Reference2Ideal.Read.val_main_v16 (F := Ideal)
        (m ((c : Thread nD τ).loc main_arg0)) (m ((c : Thread nD τ).loc main_arg1)) (m ((c : Thread nD τ).loc main_arg3)) (m ((c : Thread nD τ).loc main_arg4))
      ∧ r.2.mem ((c : Thread nD τ).loc main_v2) = Cert.Reference2Ideal.Read.val_main_v11 (F := Ideal)
        (m ((c : Thread nD τ).loc main_arg0)) (m ((c : Thread nD τ).loc main_arg1)) (m ((c : Thread nD τ).loc main_arg2)) (m ((c : Thread nD τ).loc main_arg4))) :=
  (θ_run defs _ _).mono (fun _ h c =>
    ⟨(h c _ (mem_uc main_v3 (by decide))).trans (left3 m ρ h0 h2 h3 h4 c), (h c _ (mem_uc main_v4 (by decide))).trans (left4 m ρ c),
      (h c _ (mem_uc main_v2 (by decide))).trans (left2 m ρ c)⟩) (after m ρ)

end Cert.Kernel2Ideal.Result
-- ==== Proof.OutProj.lean ====
/-
  The layer's output projection, its input gradient and its weight gradient, three launches in a row: each result array
  is the reference's.
-/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Kernel3Ideal.Result

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel3Ideal Cert.Kernel3Ideal.Gen

section Regions

variable (V : (c : Dev nD) → (b : Ref sig .tc) → Buf (Elt Ideal) ((c : Thread nD τ).loc b))

/-- Which block of each array a grid point of the first launch works on. -/
theorem blocks0 : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

theorem blocks1 : ∀ t : Fin cfg1.N, win1_0.index t = ![t.val / 2, 0] ∧ win1_1.index t = ![t.val % 2, 0]
    ∧ win1_2.index t = ![t.val / 2, t.val % 2] :=
  (by decide +kernel : ∀ t : Fin grid1.N, _)

theorem blocks2 : ∀ t : Fin cfg2.N, win2_0.index t = ![0, t.val / 4] ∧ win2_1.index t = ![0, t.val % 4]
    ∧ win2_2.index t = ![t.val / 4, t.val % 4] :=
  (by decide +kernel : ∀ t : Fin grid2.N, _)

/-- The first launch: the product with `w_out`, plus the residual. -/
theorem out_proj (c : Dev nD) : (dat0 V c).arrAt 3 cfg0.N
    = Cert.Reference3Ideal.Read.val_main_v3 (F := Ideal) (V c main_arg0) (V c main_arg1) (V c main_arg2) := by
  refine (dat0 V c).arrAt_eq_of_covers 3 _ (by decide +kernel) fun t hf y => ?_
  have hN : t.val < 8 := lt_of_lt_of_eq t.isLt N_0
  blk_simp
  rw [after0_3]
  frame_out
  obtain ⟨p, q, rfl⟩ : ∃ (p q : Fin 1024), y = ix2 p q := ⟨y 0, y 1, eq_ix2 y⟩
  have e : (((View.whole main_v0).slice (win0_3.rect t)).emb (ix2 p q) : S4096x2048.Idx)
      = ix2 ⟨t.val / 2 * 1024 + p.val, by omega⟩ ⟨t.val % 2 * 1024 + q.val, by omega⟩ := by
    blk_ext [blocks0 t]
  rw [e, Cert.Reference3Ideal.Read.val_main_v3_apply, Cert.Reference3Ideal.Read.val_main_v2_apply]
  refine Eq.trans ?_ (add_comm (G := EReal) _ _)
  pointwise [k0_pay1]
  blk_point [iblk0, blocks0 t, Cert.Reference3Ideal.Read.val_main_v0, Cert.Reference3Ideal.Read.val_main_v1]

/-- The second launch: the gradient of the product's left factor. -/
theorem out_proj_bwd (c : Dev nD) : (dat1 V c).arrAt 2 cfg1.N
    = Cert.Reference3Ideal.Read.val_main_v8 (F := Ideal) (V c main_arg2) (V c main_arg3) := by
  refine (dat1 V c).arrAt_eq_of_covers 2 _ (by decide +kernel) fun t hf y => ?_
  have hN : t.val < 8 := lt_of_lt_of_eq t.isLt N_1
  blk_simp
  rw [after1_2]
  frame_out
  obtain ⟨p, q, rfl⟩ : ∃ (p q : Fin 1024), y = ix2 p q := ⟨y 0, y 1, eq_ix2 y⟩
  have e : (((View.whole main_v1).slice (win1_2.rect t)).emb (ix2 p q) : S4096x2048.Idx)
      = ix2 ⟨t.val / 2 * 1024 + p.val, by omega⟩ ⟨t.val % 2 * 1024 + q.val, by omega⟩ := by
    blk_ext [blocks1 t]
  rw [e, Cert.Reference3Ideal.Read.val_main_v8_apply, Cert.Reference3Ideal.Read.val_main_v7_apply]
  pointwise [k1_pay1]
  blk_point [iblk1, blocks1 t, Cert.Reference3Ideal.Read.val_main_v4, Cert.Reference3Ideal.Read.val_main_v1]

/-- The third launch: the gradient of `w_out`. -/
theorem grad_w_out (c : Dev nD) : (dat2 V c).arrAt 2 cfg2.N
    = Cert.Reference3Ideal.Read.val_main_v6 (F := Ideal) (V c main_arg1) (V c main_arg3) := by
  refine (dat2 V c).arrAt_eq_of_covers 2 _ (by decide +kernel) fun t hf y => ?_
  have hN : t.val < 8 := lt_of_lt_of_eq t.isLt N_2
  blk_simp
  rw [after2_2]
  frame_out
  obtain ⟨p, q, rfl⟩ : ∃ (p : Fin 1024) (q : Fin 512), y = ix2 p q := ⟨y 0, y 1, eq_ix2 y⟩
  have e : (((View.whole main_v2).slice (win2_2.rect t)).emb (ix2 p q) : S2048x2048.Idx)
      = ix2 ⟨t.val / 4 * 1024 + p.val, by omega⟩ ⟨t.val % 4 * 512 + q.val, by omega⟩ := by
    blk_ext [blocks2 t]
  rw [e, Cert.Reference3Ideal.Read.val_main_v6_apply, Cert.Reference3Ideal.Read.val_main_v5_apply]
  refine Eq.trans ?_ (Fin.sum_fin_congr fun k => mul_comm (G := EReal) _ _)
  pointwise [k2_pay1]
  blk_point [iblk2, blocks2 t, Cert.Reference3Ideal.Read.val_main_v4, Cert.Reference3Ideal.Read.val_main_v0]

end Regions

variable (m : (ℓ : Loc nD τ sig) → Buf (Elt Ideal) ℓ) (ρ : Dev nD → PrngReg)

/-- Every buffer of the program after the three launches. -/
theorem after : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

theorem left0 (c : Dev nD) : W3 m ρ c (Proc.devRef .tc main_v0) = Cert.Reference3Ideal.Read.val_main_v3 (F := Ideal)
    (m ((c : Thread nD τ).loc main_arg0)) (m ((c : Thread nD τ).loc main_arg1)) (m ((c : Thread nD τ).loc main_arg2)) := by
  rw [W3_of m ρ c main_v0 (by decide), W2_of m ρ c main_v0 (by decide)]
  exact (W1_arr m ρ c 3).trans (out_proj (V0 m ρ) c)

theorem left1 (c : Dev nD) : W3 m ρ c (Proc.devRef .tc main_v1) = Cert.Reference3Ideal.Read.val_main_v8 (F := Ideal)
    (m ((c : Thread nD τ).loc main_arg2)) (m ((c : Thread nD τ).loc main_arg3)) := by
  rw [W3_of m ρ c main_v1 (by decide)]
  refine ((W2_arr m ρ c 2).trans (out_proj_bwd (V1 m ρ) c)).trans ?_
  rw [show V1 m ρ c main_arg2 = m ((c : Thread nD τ).loc main_arg2) from W1_args m ρ c main_arg2 (by decide),
    show V1 m ρ c main_arg3 = m ((c : Thread nD τ).loc main_arg3) from W1_args m ρ c main_arg3 (by decide)]

theorem left2 (c : Dev nD) : W3 m ρ c (Proc.devRef .tc main_v2) = Cert.Reference3Ideal.Read.val_main_v6 (F := Ideal)
    (m ((c : Thread nD τ).loc main_arg1)) (m ((c : Thread nD τ).loc main_arg3)) := by
  refine ((W3_arr m ρ c 2).trans (grad_w_out (V2 m ρ) c)).trans ?_
  rw [show V2 m ρ c main_arg1 = m ((c : Thread nD τ).loc main_arg1) from W2_args m ρ c main_arg1 (by decide),
    show V2 m ρ c main_arg3 = m ((c : Thread nD τ).loc main_arg3) from W2_args m ρ c main_arg3 (by decide)]

/-- The three result arrays after the run. -/
theorem run : θ_run defs (onTc (τ := τ) (main (F := Ideal))) ⟨m, fun _ => 0, ρ⟩ (fun r => ∀ c : Dev nD,
      r.2.mem ((c : Thread nD τ).loc main_v0) = Cert.Reference3Ideal.Read.val_main_v3 (F := Ideal)
        (m ((c : Thread nD τ).loc main_arg0)) (m ((c : Thread nD τ).loc main_arg1)) (m ((c : Thread nD τ).loc main_arg2))
      ∧ r.2.mem ((c : Thread nD τ).loc main_v1) = Cert.Reference3Ideal.Read.val_main_v8 (F := Ideal)
        (m ((c : Thread nD τ).loc main_arg2)) (m ((c : Thread nD τ).loc main_arg3))
      ∧ r.2.mem ((c : Thread nD τ).loc main_v2) = Cert.Reference3Ideal.Read.val_main_v6 (F := Ideal)
        (m ((c : Thread nD τ).loc main_arg1)) (m ((c : Thread nD τ).loc main_arg3))) :=
  (θ_run defs _ _).mono (fun _ h c =>
    ⟨(h c _ (mem_uc main_v0 (by decide))).trans (left0 m ρ c), (h c _ (mem_uc main_v1 (by decide))).trans (left1 m ρ c),
      (h c _ (mem_uc main_v2 (by decide))).trans (left2 m ρ c)⟩) (after m ρ)

end Cert.Kernel3Ideal.Result
-- ==== Proof.InputProj.lean ====
/-
  The gradient of the layer's input projection with respect to its input, from seven separate pieces: the kernel's
  result array is the reference's, which joins the pieces and makes one product.
-/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Kernel4Ideal.Result

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- Which block of each array a grid point works on. -/
theorem blocks : ∀ t : Fin cfg0.N, win0_0.index t = ![t.val % 8, 0] ∧ win0_1.index t = ![t.val % 8, 0] ∧ win0_2.index t = ![t.val % 8, 0] ∧ win0_3.index t = ![t.val % 8, 0] ∧ win0_4.index t = ![t.val % 8, 0] ∧ win0_5.index t = ![t.val % 8, 0] ∧ win0_6.index t = ![t.val % 8, 0]
    ∧ win0_7.index t = ![t.val / 8, 0] ∧ win0_8.index t = ![t.val % 8, t.val / 8] :=
  (by decide +kernel : ∀ t : Fin grid0.N, _)

/-- The joined array at a column of piece `s` is that piece. -/
theorem joined_at (x0 x1 x2 x3 x4 x5 x6 : FVec Ideal S4096x1024 .bf16) (p : Fin 4096) (s : Fin 7) (l : Fin 1024) :
    Cert.Reference4Ideal.Read.val_main_v0 (F := Ideal) x0 x1 x2 x3 x4 x5 x6 (ix2 p ⟨s.val * 1024 + l.val, by omega⟩)
      = (![x0, x1, x2, x3, x4, x5, x6] s) (ix2 p l) := by
  unfold Cert.Reference4Ideal.Read.val_main_v0
  have off : ∀ (n : Fin 7168) (b : Fin S4096x1024.rank), b.cast rfl ≠ (1 : Fin (⟨2, ![4096, 7168]⟩ : Shape).rank) →
      ((ix2 p l : S4096x1024.Idx) b).val = ((ix2 p n : (⟨2, ![4096, 7168]⟩ : Shape).Idx) (b.cast rfl)).val := by
    intro n b hb
    match b, hb with
    | ⟨0, _⟩, _ => rfl
    | ⟨1, _⟩, hb => exact absurd rfl hb
  match s with
  | ⟨0, _⟩ =>
    refine concatenate_apply_piece (1 : Fin Cert.Reference4Ideal.S4096x7168.rank) _ _ _ 0 ?_ S4096x1024 x0 ?_ rfl 0 ?_ (ix2 p l) ?_ ?_
    · show 0 < 7
      decide
    · rfl
    · rfl
    · exact off _
    · show 0 + l.val = 0 * 1024 + l.val
      omega
  | ⟨1, _⟩ =>
    refine concatenate_apply_piece (1 : Fin Cert.Reference4Ideal.S4096x7168.rank) _ _ _ 1 ?_ S4096x1024 x1 ?_ rfl 1024 ?_ (ix2 p l) ?_ ?_
    · show 1 < 7
      decide
    · rfl
    · rfl
    · exact off _
    · show 1024 + l.val = 1 * 1024 + l.val
      omega
  | ⟨2, _⟩ =>
    refine concatenate_apply_piece (1 : Fin Cert.Reference4Ideal.S4096x7168.rank) _ _ _ 2 ?_ S4096x1024 x2 ?_ rfl 2048 ?_ (ix2 p l) ?_ ?_
    · show 2 < 7
      decide
    · rfl
    · rfl
    · exact off _
    · show 2048 + l.val = 2 * 1024 + l.val
      omega
  | ⟨3, _⟩ =>
    refine concatenate_apply_piece (1 : Fin Cert.Reference4Ideal.S4096x7168.rank) _ _ _ 3 ?_ S4096x1024 x3 ?_ rfl 3072 ?_ (ix2 p l) ?_ ?_
    · show 3 < 7
      decide
    · rfl
    · rfl
    · exact off _
    · show 3072 + l.val = 3 * 1024 + l.val
      omega
  | ⟨4, _⟩ =>
    refine concatenate_apply_piece (1 : Fin Cert.Reference4Ideal.S4096x7168.rank) _ _ _ 4 ?_ S4096x1024 x4 ?_ rfl 4096 ?_ (ix2 p l) ?_ ?_
    · show 4 < 7
      decide
    · rfl
    · rfl
    · exact off _
    · show 4096 + l.val = 4 * 1024 + l.val
      omega
  | ⟨5, _⟩ =>
    refine concatenate_apply_piece (1 : Fin Cert.Reference4Ideal.S4096x7168.rank) _ _ _ 5 ?_ S4096x1024 x5 ?_ rfl 5120 ?_ (ix2 p l) ?_ ?_
    · show 5 < 7
      decide
    · rfl
    · rfl
    · exact off _
    · show 5120 + l.val = 5 * 1024 + l.val
      omega
  | ⟨6, _⟩ =>
    refine concatenate_apply_piece (1 : Fin Cert.Reference4Ideal.S4096x7168.rank) _ _ _ 6 ?_ S4096x1024 x6 ?_ rfl 6144 ?_ (ix2 p l) ?_ ?_
    · show 6 < 7
      decide
    · rfl
    · rfl
    · exact off _
    · show 6144 + l.val = 6 * 1024 + l.val
      omega

theorem ref_at (x0 x1 x2 x3 x4 x5 x6 : FVec Ideal S4096x1024 .bf16) (w : FVec Ideal S2048x7168 .bf16) (p : Fin 4096) (q : Fin 2048) :
    Cert.Reference4Ideal.Read.val_main_v4 (F := Ideal) x0 x1 x2 x3 x4 x5 x6 w (ix2 p q)
      = ∑ s : Fin 7, ∑ k : Fin 1024, ((![x0, x1, x2, x3, x4, x5, x6] s) (ix2 p k) * w (ix2 q ⟨s.val * 1024 + k.val, by omega⟩) : EReal) := by
  rw [Cert.Reference4Ideal.Read.val_main_v4_apply]
  refine Eq.symm ?_
  refine Fin.sum_mul_add_congr fun s k hl => ?_
  rw [Cert.Reference4Ideal.Read.val_main_v3_apply]
  refine congrArg₂ (HMul.hMul (α := EReal) (β := EReal)) ?_ ?_
  · rw [← joined_at]
    blk_point [Cert.Reference4Ideal.Read.val_main_v1]
  · blk_point [Cert.Reference4Ideal.Read.val_main_v2]

theorem final (c : Dev nD) : (dats m 0 c).arrAt 8 cfg0.N
    = Cert.Reference4Ideal.Read.val_main_v4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have hN : t.val < 16 := lt_of_lt_of_eq t.isLt N_0
  blk_simp
  rw [after0_8]
  frame_out
  obtain ⟨p, q, rfl⟩ : ∃ (p : Fin 512) (q : Fin 1024), y = ix2 p q := ⟨y 0, y 1, eq_ix2 y⟩
  have e : (((View.whole main_v0).slice (win0_8.rect t)).emb (ix2 p q) : S4096x2048.Idx)
      = ix2 ⟨t.val % 8 * 512 + p.val, by omega⟩ ⟨t.val / 8 * 1024 + q.val, by omega⟩ := by
    blk_ext [blocks t]
  rw [e, ref_at, Fin.sum_univ_seven]
  pointwise [k0_pay1, k0_pay2]
  blk_point [iblk, V, blocks t]

end Cert.Kernel4Ideal.Result
-- ==== Proof.DownProj.lean ====
/-
  The product of the feed-forward's hidden activations with `w_down`, added to the residual stream: the kernel's result
  array is the reference's.
-/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Result

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The first visit of a tile leaves in the scratch the product over the first half of the contraction. -/
theorem first_at (a : Vec Ideal S1024x2816 .bf16) (b : Vec Ideal S2816x1024 .bf16) (p q : Fin 1024) :
    k0_pay1 a b (ix2 p q) = ∑ k : Fin 2816, a (ix2 p k) * b (ix2 k q) := by
  pointwise [k0_pay1]

/-- The second visit writes what the scratch held, plus the product over the other half, plus the residual. -/
theorem second_at (a : Vec Ideal S1024x2816 .bf16) (b : Vec Ideal S2816x1024 .bf16) (s r : Vec Ideal S1024x1024 .f32)
    (p q : Fin 1024) :
    k0_pay2 a b s r (ix2 p q) = s (ix2 p q) + (∑ k : Fin 2816, a (ix2 p k) * b (ix2 k q)) + r (ix2 p q) := by
  pointwise [k0_pay2]

/-- Which block of each array a grid point works on. -/
theorem blocks : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

/-- The tile is written back at the second visit. -/
theorem writes : ∀ t : Fin cfg0.N, (cfg0.win 3).flush t = true → t.val % 2 = 1 :=
  (by decide +kernel : ∀ t : Fin grid0.N, _)

theorem ref_at (x : FVec Ideal S4096x2048 .f32) (a : FVec Ideal S4096x5632 .bf16) (b : FVec Ideal S5632x2048 .bf16)
    (p : Fin 4096) (q : Fin 2048) :
    Cert.Reference5Ideal.Read.val_main_v3 (F := Ideal) x a b (ix2 p q)
      = x (ix2 p q) + ∑ s : Fin 2, ∑ k : Fin 2816, a (ix2 p ⟨s.val * 2816 + k.val, by omega⟩) * b (ix2 ⟨s.val * 2816 + k.val, by omega⟩ q) := by
  rw [Cert.Reference5Ideal.Read.val_main_v3_apply, Cert.Reference5Ideal.Read.val_main_v2_apply]
  refine congrArg (x (ix2 p q) + ·) (Eq.symm ?_)
  refine Fin.sum_mul_add_congr fun s k hl => ?_
  blk_point [Cert.Reference5Ideal.Read.val_main_v0, Cert.Reference5Ideal.Read.val_main_v1]

theorem final (c : Dev nD) : (dats m 0 c).arrAt 3 cfg0.N
    = Cert.Reference5Ideal.Read.val_main_v3 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  have h1 := writes t hf
  have h0 : ¬ t.val % 2 = 0 := by omega
  have hN : t.val < 16 := lt_of_lt_of_eq t.isLt N_0
  blk_simp
  rw [after0_3, outsAt0_B m c t h0 h1]
  frame_out
  have hp : t.val - 1 < cfg0.N := Nat.lt_of_le_of_lt (Nat.sub_le _ _) t.isLt
  rw [outsAt0_A m c ⟨t.val - 1, hp⟩ (by show (t.val - 1) % 2 = 0; omega) (by show ¬ (t.val - 1) % 2 = 1; omega)]
  frame_out
  rw [read_unread_whole]
  obtain ⟨p, q, rfl⟩ : ∃ (p q : Fin 1024), y = ix2 p q := ⟨y 0, y 1, eq_ix2 y⟩
  rw [second_at, first_at]
  have e : (((View.whole main_v0).slice (win0_3.rect t)).emb (ix2 p q) : S4096x2048.Idx)
      = ix2 ⟨t.val / 4 * 1024 + p.val, by omega⟩ ⟨t.val / 2 % 2 * 1024 + q.val, by omega⟩ := by
    blk_ext [blocks t]
  rw [e, ref_at, Fin.sum_univ_two]
  refine (add_comm (G := EReal) _ _).trans ?_
  blk_point [iblk, V, blocks t, blocks ⟨t.val - 1, hp⟩]

end Cert.Kernel5Ideal.Result
-- ==== Proof.FfnInput.lean ====
/-
  The gradient of the feed-forward's input, a sum of two products over the hidden width: the kernel's result array is
  the reference's.
-/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Result

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- What one visit of a tile adds: a quarter of the contraction of both products. -/
def part (a b d e : Vec Ideal S1024x1408 .bf16) (p q : Fin 1024) : EReal :=
  (∑ k : Fin 1408, (a (ix2 p k) * b (ix2 q k) : EReal)) + ∑ k : Fin 1408, (d (ix2 p k) * e (ix2 q k) : EReal)

theorem first_at (a b d e : Vec Ideal S1024x1408 .bf16) (p q : Fin 1024) :
    k0_pay1 a b d e (ix2 p q) = part a b d e p q := by
  unfold part
  pointwise [k0_pay1]

theorem middle_at (a b d e : Vec Ideal S1024x1408 .bf16) (s : Vec Ideal S1024x1024 .f32) (p q : Fin 1024) :
    k0_pay2 a b d e s (ix2 p q) = s (ix2 p q) + part a b d e p q := by
  unfold part
  pointwise [k0_pay2]

theorem last_at (a b d e : Vec Ideal S1024x1408 .bf16) (s : Vec Ideal S1024x1024 .f32) (p q : Fin 1024) :
    k0_pay3 a b d e s (ix2 p q) = s (ix2 p q) + part a b d e p q := by
  unfold part
  pointwise [k0_pay3]

/-- Which block of each array a grid point works on. -/
theorem blocks : ∀ t : Fin cfg0.N, win0_0.index t = ![t.val / 8, t.val % 4] ∧ win0_1.index t = ![t.val / 8, t.val % 4]
    ∧ win0_2.index t = ![t.val / 4 % 2, t.val % 4] ∧ win0_3.index t = ![t.val / 4 % 2, t.val % 4]
    ∧ win0_4.index t = ![t.val / 8, t.val / 4 % 2] :=
  (by decide +kernel : ∀ t : Fin grid0.N, _)

/-- The tile is written back at the fourth visit. -/
theorem writes : ∀ t : Fin cfg0.N, (cfg0.win 4).flush t = true → t.val % 4 = 3 :=
  (by decide +kernel : ∀ t : Fin grid0.N, _)

theorem ref_at (a b : FVec Ideal S4096x5632 .bf16) (d e : FVec Ideal S2048x5632 .bf16)
    (p : Fin 4096) (q : Fin 2048) :
    Cert.Reference6Ideal.Read.val_main_v8 (F := Ideal) a b d e (ix2 p q)
      = (∑ s : Fin 4, ∑ k : Fin 1408, (a (ix2 p ⟨s.val * 1408 + k.val, by omega⟩) * d (ix2 q ⟨s.val * 1408 + k.val, by omega⟩) : EReal))
        + ∑ s : Fin 4, ∑ k : Fin 1408, (b (ix2 p ⟨s.val * 1408 + k.val, by omega⟩) * e (ix2 q ⟨s.val * 1408 + k.val, by omega⟩) : EReal) := by
  rw [Cert.Reference6Ideal.Read.val_main_v8_apply, Cert.Reference6Ideal.Read.val_main_v5_apply,
    Cert.Reference6Ideal.Read.val_main_v7_apply]
  refine congrArg₂ (HAdd.hAdd (α := EReal) (β := EReal)) (Eq.symm ?_) (Eq.symm ?_)
  · refine Fin.sum_mul_add_congr fun s k hl => ?_
    rw [Cert.Reference6Ideal.Read.val_main_v4_apply]
    blk_point [Cert.Reference6Ideal.Read.val_main_v0, Cert.Reference6Ideal.Read.val_main_v2]
  · refine Fin.sum_mul_add_congr fun s k hl => ?_
    rw [Cert.Reference6Ideal.Read.val_main_v6_apply]
    blk_point [Cert.Reference6Ideal.Read.val_main_v1, Cert.Reference6Ideal.Read.val_main_v3]

theorem regroup (a₀ a₁ a₂ a₃ b₀ b₁ b₂ b₃ : EReal) :
    a₀ + b₀ + (a₁ + b₁) + (a₂ + b₂) + (a₃ + b₃) = a₀ + a₁ + a₂ + a₃ + (b₀ + b₁ + b₂ + b₃) := by
  abel

theorem final (c : Dev nD) : (dats m 0 c).arrAt 4 cfg0.N
    = Cert.Reference6Ideal.Read.val_main_v8 (F := Ideal) (m ((c : Thread nD τ).loc main_arg0))
        (m ((c : Thread nD τ).loc main_arg1)) (m ((c : Thread nD τ).loc main_arg2)) (m ((c : Thread nD τ).loc main_arg3)) := by
  refine (dats m 0 c).arrAt_eq_of_covers 4 _ (by decide +kernel) fun t hf y => ?_
  have h3 := writes t hf
  have hN : t.val < 32 := lt_of_lt_of_eq t.isLt N_0
  have p1 : t.val - 1 < cfg0.N := Nat.lt_of_le_of_lt (Nat.sub_le _ _) t.isLt
  have p2 : t.val - 1 - 1 < cfg0.N := Nat.lt_of_le_of_lt (Nat.sub_le _ _) p1
  have p3 : t.val - 1 - 1 - 1 < cfg0.N := Nat.lt_of_le_of_lt (Nat.sub_le _ _) p2
  blk_simp
  rw [after0_4, outsAt0_C m c t (by omega) (by omega) h3]
  frame_out
  rw [outsAt0_B m c ⟨t.val - 1, p1⟩ (by show ¬ (t.val - 1) % 4 = 0; omega) (by show 1 ≤ (t.val - 1) % 4 ∧ (t.val - 1) % 4 ≤ 2; omega)
    (by show ¬ (t.val - 1) % 4 = 3; omega)]
  frame_out
  rw [read_unread_whole]
  rw [outsAt0_B m c ⟨t.val - 1 - 1, p2⟩ (by show ¬ (t.val - 1 - 1) % 4 = 0; omega)
    (by show 1 ≤ (t.val - 1 - 1) % 4 ∧ (t.val - 1 - 1) % 4 ≤ 2; omega) (by show ¬ (t.val - 1 - 1) % 4 = 3; omega)]
  frame_out
  rw [read_unread_whole]
  rw [outsAt0_A m c ⟨t.val - 1 - 1 - 1, p3⟩ (by show (t.val - 1 - 1 - 1) % 4 = 0; omega)
    (by show ¬ (1 ≤ (t.val - 1 - 1 - 1) % 4 ∧ (t.val - 1 - 1 - 1) % 4 ≤ 2); omega) (by show ¬ (t.val - 1 - 1 - 1) % 4 = 3; omega)]
  frame_out
  rw [read_unread_whole]
  obtain ⟨p, q, rfl⟩ : ∃ (p q : Fin 1024), y = ix2 p q := ⟨y 0, y 1, eq_ix2 y⟩
  rw [last_at, middle_at, middle_at, first_at]
  have e : (((View.whole main_v0).slice (win0_4.rect t)).emb (ix2 p q) : S4096x2048.Idx)
      = ix2 ⟨t.val / 8 * 1024 + p.val, by omega⟩ ⟨t.val / 4 % 2 * 1024 + q.val, by omega⟩ := by
    blk_ext [blocks t]
  rw [e, ref_at, Fin.sum_univ_four, Fin.sum_univ_four]
  unfold part
  refine (regroup _ _ _ _ _ _ _ _).trans ?_
  blk_point [iblk, V, blocks t, blocks ⟨t.val - 1, p1⟩, blocks ⟨t.val - 1 - 1, p2⟩, blocks ⟨t.val - 1 - 1 - 1, p3⟩]

end Cert.Kernel6Ideal.Result
-- ==== Proof.GradWIn.lean ====
/-
  The gradient of the input projection's weight, written by two launches: the first writes the columns of the first four
  pieces, the second those of the other three over a copy of what the first left. The finished array is the reference's.
-/
module

public import proofs.«01_k».proof.Proof.Gen.Kernel7Ideal.Frame
public import proofs.«01_k».proof.Proof.Gen.Reference7Ideal.Read
public import proofs.«01_k».proof.Proof.InputProj
public import Idealize.ShloMosaic.Lib.Pipeline.ValueKit
public import Idealize.ShloMosaic.Lib.Pointwise

@[expose] public section

set_option maxRecDepth 16384

noncomputable section

namespace Cert.Kernel7Ideal.Result

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel7Ideal Cert.Kernel7Ideal.Gen

/-- The reference's gradient, at a column of piece `s`: the sum over the tokens. -/
theorem ref_at (x0 : FVec Ideal S4096x2048 .bf16) (x1 x2 x3 x4 x5 x6 x7 : FVec Ideal S4096x1024 .bf16) (p : Fin 2048) (s : Fin 7)
    (l : Fin 1024) :
    Cert.Reference7Ideal.Read.val_main_v4 (F := Ideal) x0 x1 x2 x3 x4 x5 x6 x7 (ix2 p ⟨s.val * 1024 + l.val, by omega⟩)
      = ∑ k : Fin 4096, (x0 (ix2 k p) * (![x1, x2, x3, x4, x5, x6, x7] s) (ix2 k l) : EReal) := by
  rw [Cert.Reference7Ideal.Read.val_main_v4_apply]
  refine Fin.sum_fin_congr fun k => ?_
  refine congrArg₂ (HMul.hMul (α := EReal) (β := EReal)) ?_ ?_
  · rw [Cert.Reference7Ideal.Read.val_main_v2_apply]
    blk_point [Cert.Reference7Ideal.Read.val_main_v1]
  · rw [← Cert.Kernel4Ideal.Result.joined_at x1 x2 x3 x4 x5 x6 x7 k s l]
    blk_point [Cert.Reference7Ideal.Read.val_main_v3, Cert.Reference7Ideal.Read.val_main_v0, Cert.Reference4Ideal.Read.val_main_v0]

/-- What a grid point writes: the product of its two blocks over all tokens. -/
theorem pay_at (a : Vec Ideal S4096x1024 .bf16) (b : Vec Ideal S4096x512 .bf16) (p : Fin 1024) (q : Fin 512) :
    k0_pay1 a b (ix2 p q) = ∑ k : Fin 4096, (a (ix2 k p) * b (ix2 k q) : EReal) := by
  pointwise [k0_pay1]

/-- A point's tile is the reference's, once its blocks are known to be the columns `i` of the activations and the columns
    `j` of piece `s`. -/
theorem tile (x0 : FVec Ideal S4096x2048 .bf16) (x1 x2 x3 x4 x5 x6 x7 : FVec Ideal S4096x1024 .bf16)
    (a : Vec Ideal S4096x1024 .bf16) (b : Vec Ideal S4096x512 .bf16) (i : Fin 2) (s : Fin 7) (j : Fin 2)
    (ha : ∀ (k : Fin 4096) (p : Fin 1024), a (ix2 k p) = x0 (ix2 k ⟨i.val * 1024 + p.val, by omega⟩))
    (hb : ∀ (k : Fin 4096) (q : Fin 512), b (ix2 k q) = (![x1, x2, x3, x4, x5, x6, x7] s) (ix2 k ⟨j.val * 512 + q.val, by omega⟩))
    (p : Fin 1024) (q : Fin 512) :
    k0_pay1 a b (ix2 p q) = Cert.Reference7Ideal.Read.val_main_v4 (F := Ideal) x0 x1 x2 x3 x4 x5 x6 x7
      (ix2 ⟨i.val * 1024 + p.val, by omega⟩ ⟨s.val * 1024 + (j.val * 512 + q.val), by omega⟩) := by
  rw [pay_at]
  refine Eq.trans ?_ (ref_at x0 x1 x2 x3 x4 x5 x6 x7 _ s ⟨j.val * 512 + q.val, by omega⟩).symm
  refine Fin.sum_fin_congr fun k => ?_
  rw [ha, hb]

section Regions

variable (V : (c : Dev nD) → (b : Ref sig .tc) → Buf (Elt Ideal) ((c : Thread nD τ).loc b))

/-- Which block of each array a grid point of the first launch works on. -/
theorem blocks0 : ∀ t : Fin cfg0.N, win0_0.index t = ![0, t.val / 8] ∧ win0_1.index t = ![0, min (t.val % 8) 1]
    ∧ win0_2.index t = ![0, min (t.val % 8 - 2) 1] ∧ win0_3.index t = ![0, min (t.val % 8 - 4) 1]
    ∧ win0_4.index t = ![0, min (t.val % 8 - 6) 1] ∧ win0_5.index t = ![t.val / 8, t.val % 8] :=
  (by decide +kernel : ∀ t : Fin grid0.N, _)

/-- Which block of each array a grid point of the second launch works on. -/
theorem blocks1 : ∀ t : Fin cfg1.N, win1_0.index t = ![0, t.val / 6] ∧ win1_1.index t = ![0, min (t.val % 6) 1]
    ∧ win1_2.index t = ![0, min (t.val % 6 - 2) 1] ∧ win1_3.index t = ![0, min (t.val % 6 - 4) 1]
    ∧ win1_4.index t = ![t.val / 6, 8 + t.val % 6] :=
  (by decide +kernel : ∀ t : Fin grid1.N, _)

/-- The reference's gradient of the arguments as a launch finds them. -/
abbrev grad (c : Dev nD) : FVec Ideal S2048x7168 .f32 :=
  Cert.Reference7Ideal.Read.val_main_v4 (F := Ideal) (V c main_arg0) (V c main_arg1) (V c main_arg2) (V c main_arg3)
    (V c main_arg4) (V c main_arg5) (V c main_arg6) (V c main_arg7)

/-- The first launch: the columns of the first four pieces hold the gradient. -/
theorem first (c : Dev nD) : (dat0 V c).arrAt 5 cfg0.N
    = fun i => if (i (1 : Fin 2)).val / 512 < 8 then grad V c i else (dat0 V c).A 5 i := by
  refine (dat0 V c).arrAt_eq_of_coversWhere 5 (grad V c) (fun β => β (1 : Fin 2) < 8) (by decide +kernel) (fun t hf y => ?_)
    (fun j => Iff.rfl)
  have hN : t.val < 16 := lt_of_lt_of_eq t.isLt N_0
  blk_simp
  rw [after0_5]
  obtain ⟨p, q, rfl⟩ : ∃ (p : Fin 1024) (q : Fin 512), y = ix2 p q := ⟨y 0, y 1, eq_ix2 y⟩
  have e : ∀ (s : Fin 7) (j : Fin 2), t.val % 8 = 2 * s.val + j.val →
      (((View.whole main_v0).slice (win0_5.rect t)).emb (ix2 p q) : S2048x7168.Idx)
        = ix2 ⟨t.val / 8 * 1024 + p.val, by omega⟩ ⟨s.val * 1024 + (j.val * 512 + q.val), by omega⟩ := by
    intro s j h
    blk_ext [blocks0 t]
  have ha : ∀ (k : Fin 4096) (p : Fin 1024), (iblk0 V c 0 t : Vec Ideal S4096x1024 .bf16) (ix2 k p)
      = (V c main_arg0 : FVec Ideal S4096x2048 .bf16) (ix2 k ⟨t.val / 8 * 1024 + p.val, by omega⟩) := by
    intro k p
    blk_point [iblk0, blocks0 t]
  have cases : t.val % 8 ≤ 1 ∨ (2 ≤ t.val % 8 ∧ t.val % 8 ≤ 3) ∨ (4 ≤ t.val % 8 ∧ t.val % 8 ≤ 5) ∨ 6 ≤ t.val % 8 := by omega
  rcases cases with h | h | h | h
  · rw [outsAt0_A V c t h (by omega) (by omega) (by omega), e 0 ⟨t.val % 8, by omega⟩ (by simp)]
    frame_out
    refine tile _ _ _ _ _ _ _ _ _ _ ⟨t.val / 8, by omega⟩ 0 ⟨t.val % 8, by omega⟩ ha (fun k q => ?_) p q
    blk_point [iblk0, blocks0 t]
  · rw [outsAt0_B V c t (by omega) h (by omega) (by omega), e 1 ⟨t.val % 8 - 2, by omega⟩ (by simp; omega)]
    frame_out
    refine tile _ _ _ _ _ _ _ _ _ _ ⟨t.val / 8, by omega⟩ 1 ⟨t.val % 8 - 2, by omega⟩ ha (fun k q => ?_) p q
    blk_point [iblk0, blocks0 t]
  · rw [outsAt0_C V c t (by omega) (by omega) h (by omega), e 2 ⟨t.val % 8 - 4, by omega⟩ (by simp; omega)]
    frame_out
    refine tile _ _ _ _ _ _ _ _ _ _ ⟨t.val / 8, by omega⟩ 2 ⟨t.val % 8 - 4, by omega⟩ ha (fun k q => ?_) p q
    blk_point [iblk0, blocks0 t]
  · rw [outsAt0_D V c t (by omega) (by omega) (by omega) h, e 3 ⟨t.val % 8 - 6, by omega⟩ (by simp; omega)]
    frame_out
    refine tile _ _ _ _ _ _ _ _ _ _ ⟨t.val / 8, by omega⟩ 3 ⟨t.val % 8 - 6, by omega⟩ ha (fun k q => ?_) p q
    blk_point [iblk0, blocks0 t]

/-- The second launch: over an array whose first columns hold the gradient, it leaves the whole gradient. -/
theorem second (c : Dev nD) (hA : ∀ i : S2048x7168.Idx, (i (1 : Fin 2)).val / 512 < 8 → V c main_v1 i = grad V c i) :
    (dat1 V c).arrAt 4 cfg1.N = grad V c := by
  refine (dat1 V c).arrAt_eq_of_coversWhere_of_agree 4 (grad V c) (fun β => 8 ≤ β (1 : Fin 2)) (by decide +kernel) (fun t hf y => ?_)
    (fun j hj => hA j (Nat.lt_of_not_le hj))
  have hN : t.val < 12 := lt_of_lt_of_eq t.isLt N_1
  blk_simp
  rw [after1_4]
  obtain ⟨p, q, rfl⟩ : ∃ (p : Fin 1024) (q : Fin 512), y = ix2 p q := ⟨y 0, y 1, eq_ix2 y⟩
  have e : ∀ (s : Fin 7) (j : Fin 2), 8 + t.val % 6 = 2 * s.val + j.val →
      (((View.whole main_v1).slice (win1_4.rect t)).emb (ix2 p q) : S2048x7168.Idx)
        = ix2 ⟨t.val / 6 * 1024 + p.val, by omega⟩ ⟨s.val * 1024 + (j.val * 512 + q.val), by omega⟩ := by
    intro s j h
    blk_ext [blocks1 t]
  have ha : ∀ (k : Fin 4096) (p : Fin 1024), (iblk1 V c 0 t : Vec Ideal S4096x1024 .bf16) (ix2 k p)
      = (V c main_arg0 : FVec Ideal S4096x2048 .bf16) (ix2 k ⟨t.val / 6 * 1024 + p.val, by omega⟩) := by
    intro k p
    blk_point [iblk1, blocks1 t]
  have cases : t.val % 6 ≤ 1 ∨ (2 ≤ t.val % 6 ∧ t.val % 6 ≤ 3) ∨ 4 ≤ t.val % 6 := by omega
  rcases cases with h | h | h
  · rw [outsAt1_A V c t h (by omega) (by omega), e 4 ⟨t.val % 6, by omega⟩ (by simp)]
    frame_out
    refine tile _ _ _ _ _ _ _ _ _ _ ⟨t.val / 6, by omega⟩ 4 ⟨t.val % 6, by omega⟩ ha (fun k q => ?_) p q
    blk_point [iblk1, blocks1 t]
  · rw [outsAt1_B V c t (by omega) h (by omega), e 5 ⟨t.val % 6 - 2, by omega⟩ (by simp; omega)]
    frame_out
    refine tile _ _ _ _ _ _ _ _ _ _ ⟨t.val / 6, by omega⟩ 5 ⟨t.val % 6 - 2, by omega⟩ ha (fun k q => ?_) p q
    blk_point [iblk1, blocks1 t]
  · rw [outsAt1_C V c t (by omega) (by omega) h, e 6 ⟨t.val % 6 - 4, by omega⟩ (by simp; omega)]
    frame_out
    refine tile _ _ _ _ _ _ _ _ _ _ ⟨t.val / 6, by omega⟩ 6 ⟨t.val % 6 - 4, by omega⟩ ha (fun k q => ?_) p q
    blk_point [iblk1, blocks1 t]

end Regions

variable (m : (ℓ : Loc nD τ sig) → Buf (Elt Ideal) ℓ) (ρ : Dev nD → PrngReg)

/-- Every buffer of the program after the two launches. -/
theorem after : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- Between the launches the array that the second one completes is a copy of what the first one left. -/
theorem copied (c : Dev nD) : V2 m ρ c main_v1 = W1 m ρ c main_v0 := rfl

/-- The result after the run. -/
theorem left (c : Dev nD) : W3 m ρ c (Proc.devRef .tc main_v1) = grad (V0 m ρ) c := by
  have args : grad (V2 m ρ) c = grad (V0 m ρ) c := by
    unfold grad
    rw [show V2 m ρ c main_arg0 = V0 m ρ c main_arg0 from W2_args m ρ c main_arg0 (by decide),
      show V2 m ρ c main_arg1 = V0 m ρ c main_arg1 from W2_args m ρ c main_arg1 (by decide),
      show V2 m ρ c main_arg2 = V0 m ρ c main_arg2 from W2_args m ρ c main_arg2 (by decide),
      show V2 m ρ c main_arg3 = V0 m ρ c main_arg3 from W2_args m ρ c main_arg3 (by decide),
      show V2 m ρ c main_arg4 = V0 m ρ c main_arg4 from W2_args m ρ c main_arg4 (by decide),
      show V2 m ρ c main_arg5 = V0 m ρ c main_arg5 from W2_args m ρ c main_arg5 (by decide),
      show V2 m ρ c main_arg6 = V0 m ρ c main_arg6 from W2_args m ρ c main_arg6 (by decide),
      show V2 m ρ c main_arg7 = V0 m ρ c main_arg7 from W2_args m ρ c main_arg7 (by decide)]
  refine ((W3_arr m ρ c 4).trans (second (V2 m ρ) c fun i hi => ?_)).trans args
  rw [args, copied]
  refine (congrFun ((W1_arr m ρ c 5).trans (first (V0 m ρ) c)) i).trans ?_
  exact if_pos hi

/-- The result array after the run, as a function of the arguments. -/
theorem run : θ_run defs (onTc (τ := τ) (main (F := Ideal))) ⟨m, fun _ => 0, ρ⟩ (fun r => ∀ c : Dev nD,
      r.2.mem ((c : Thread nD τ).loc main_v1) = Cert.Reference7Ideal.Read.val_main_v4 (F := Ideal)
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (θ_run defs _ _).mono (fun _ h c => (h c _ (mem_uc main_v1 (by decide))).trans (left m ρ c)) (after m ρ)

end Cert.Kernel7Ideal.Result

end
-- ==== Proof.InProj.lean ====
/-
  The input projection: after the four launches the result is the reference's product.
-/
module

public import proofs.«01_k».proof.Proof.InProjRun
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.InProj

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel8Ideal hiding ix1 ix2
open Cert.Kernel8Ideal.Launches
open Cert.Kernel8Ideal.Gen (N_0 N_1 N_2 N_3)

/-- What a grid point leaves: the product of its two blocks. -/
theorem out_at (x : Vec Ideal S1024x2048 .bf16) (w : Vec Ideal S2048x1792 .bf16) (p : Fin 1024) (q : Fin 1792) :
    out x w (ix2 p q) = ∑ k : Fin 2048, (x (ix2 p k) * w (ix2 k q) : EReal) := by
  unfold out
  frame_out
  pointwise [Launches.pay]

/-- A point's tile is the reference's, once its blocks are known to be the rows `i` of the activations and the columns of
    part `n` of the weight. -/
theorem tile (X : FVec Ideal S4096x2048 .bf16) (W : FVec Ideal S2048x7168 .bf16)
    (x : Vec Ideal S1024x2048 .bf16) (w : Vec Ideal S2048x1792 .bf16) (i n : Fin 4)
    (hx : ∀ (p : Fin 1024) (k : Fin 2048), x (ix2 p k) = X (ix2 ⟨i.val * 1024 + p.val, by omega⟩ k))
    (hw : ∀ (k : Fin 2048) (q : Fin 1792), w (ix2 k q) = W (ix2 k ⟨n.val * 1792 + q.val, by omega⟩))
    (p : Fin 1024) (q : Fin 1792) :
    out x w (ix2 p q) = Cert.Reference8Ideal.Read.val_main_v3 (F := Ideal) X W
      (ix2 ⟨i.val * 1024 + p.val, by omega⟩ ⟨n.val * 1792 + q.val, by omega⟩) := by
  rw [out_at, Cert.Reference8Ideal.Read.val_main_v3_apply, Cert.Reference8Ideal.Read.val_main_v2_apply]
  refine Fin.sum_fin_congr fun k => ?_
  rw [hx, hw]
  blk_point [Cert.Reference8Ideal.Read.val_main_v0, Cert.Reference8Ideal.Read.val_main_v1]

section Regions

variable (V : (c : Dev nD) → (b : Ref sig .tc) → Buf (Elt Ideal) ((c : Thread nD τ).loc b))

/-- The product of the activations and the weight, from the arrays as they are. -/
abbrev prod (c : Dev nD) : FVec Ideal S4096x7168 .bf16 :=
  Cert.Reference8Ideal.Read.val_main_v3 (F := Ideal) (V c main_arg0) (V c main_arg1)

/-- Which block of each array a grid point of launch 0 works on. -/
theorem blocks0 : ∀ t : Fin (cfg0 (F := Ideal) adm0).N, (win0 (F := Ideal) adm0 0).index t = ![t.val, 0]
    ∧ (win0 (F := Ideal) adm0 1).index t = ![0, 0] ∧ (win0 (F := Ideal) adm0 2).index t = ![t.val, 0] :=
  (by decide +kernel : ∀ t : Fin grid0.N, _)

/-- Launch 0 writes the columns of part 0 of the product, and keeps the others. -/
theorem launch0 (c : Dev nD) : (dat0 V c).arrAt 2 (cfg0 (F := Ideal) adm0).N
    = fun i => if (i (1 : Fin 2)).val / 1792 = 0 then prod V c i else (dat0 V c).A 2 i := by
  refine (dat0 V c).arrAt_eq_of_coversWhere 2 (prod V c) (fun β => β (1 : Fin 2) = 0) (by decide +kernel) (fun t hf y => ?_)
    (fun j => Iff.rfl)
  have hN : t.val < 4 := lt_of_lt_of_eq t.isLt N_0
  blk_simp
  rw [after0_2]
  obtain ⟨p, q, rfl⟩ : ∃ (p : Fin 1024) (q : Fin 1792), y = ix2 p q := ⟨y 0, y 1, eq_ix2 y⟩
  have e : (((win0 (F := Ideal) adm0 2).blk t).view.emb (ix2 p q) : S4096x7168.Idx)
      = ix2 ⟨t.val * 1024 + p.val, by omega⟩ ⟨0 * 1792 + q.val, by omega⟩ := by
    blk_ext [blocks0 t]
  refine Eq.trans ?_ (congrArg (prod V c) e).symm
  refine tile _ _ _ _ ⟨t.val, hN⟩ 0 (fun p k => ?_) (fun k q => ?_) p q
  · blk_point [iblk0, blocks0 t]
  · blk_point [iblk0, blocks0 t]

/-- Which block of each array a grid point of launch 1 works on. -/
theorem blocks1 : ∀ t : Fin (cfg1 (F := Ideal) adm1).N, (win1 (F := Ideal) adm1 0).index t = ![t.val, 0]
    ∧ (win1 (F := Ideal) adm1 1).index t = ![0, 2] ∧ (win1 (F := Ideal) adm1 2).index t = ![t.val, 2] :=
  (by decide +kernel : ∀ t : Fin grid1.N, _)

/-- Launch 1 writes the columns of part 2 of the product, and keeps the others. -/
theorem launch1 (c : Dev nD) : (dat1 V c).arrAt 2 (cfg1 (F := Ideal) adm1).N
    = fun i => if (i (1 : Fin 2)).val / 1792 = 2 then prod V c i else (dat1 V c).A 2 i := by
  refine (dat1 V c).arrAt_eq_of_coversWhere 2 (prod V c) (fun β => β (1 : Fin 2) = 2) (by decide +kernel) (fun t hf y => ?_)
    (fun j => Iff.rfl)
  have hN : t.val < 4 := lt_of_lt_of_eq t.isLt N_1
  blk_simp
  rw [after1_2]
  obtain ⟨p, q, rfl⟩ : ∃ (p : Fin 1024) (q : Fin 1792), y = ix2 p q := ⟨y 0, y 1, eq_ix2 y⟩
  have e : (((win1 (F := Ideal) adm1 2).blk t).view.emb (ix2 p q) : S4096x7168.Idx)
      = ix2 ⟨t.val * 1024 + p.val, by omega⟩ ⟨2 * 1792 + q.val, by omega⟩ := by
    blk_ext [blocks1 t]
  refine Eq.trans ?_ (congrArg (prod V c) e).symm
  refine tile _ _ _ _ ⟨t.val, hN⟩ 2 (fun p k => ?_) (fun k q => ?_) p q
  · blk_point [iblk1, blocks1 t]
  · blk_point [iblk1, blocks1 t]

/-- Which block of each array a grid point of launch 2 works on. -/
theorem blocks2 : ∀ t : Fin (cfg2 (F := Ideal) adm2).N, (win2 (F := Ideal) adm2 0).index t = ![t.val, 0]
    ∧ (win2 (F := Ideal) adm2 1).index t = ![0, 1] ∧ (win2 (F := Ideal) adm2 2).index t = ![t.val, 1] :=
  (by decide +kernel : ∀ t : Fin grid2.N, _)

/-- Launch 2 writes the columns of part 1 of the product, and keeps the others. -/
theorem launch2 (c : Dev nD) : (dat2 V c).arrAt 2 (cfg2 (F := Ideal) adm2).N
    = fun i => if (i (1 : Fin 2)).val / 1792 = 1 then prod V c i else (dat2 V c).A 2 i := by
  refine (dat2 V c).arrAt_eq_of_coversWhere 2 (prod V c) (fun β => β (1 : Fin 2) = 1) (by decide +kernel) (fun t hf y => ?_)
    (fun j => Iff.rfl)
  have hN : t.val < 4 := lt_of_lt_of_eq t.isLt N_2
  blk_simp
  rw [after2_2]
  obtain ⟨p, q, rfl⟩ : ∃ (p : Fin 1024) (q : Fin 1792), y = ix2 p q := ⟨y 0, y 1, eq_ix2 y⟩
  have e : (((win2 (F := Ideal) adm2 2).blk t).view.emb (ix2 p q) : S4096x7168.Idx)
      = ix2 ⟨t.val * 1024 + p.val, by omega⟩ ⟨1 * 1792 + q.val, by omega⟩ := by
    blk_ext [blocks2 t]
  refine Eq.trans ?_ (congrArg (prod V c) e).symm
  refine tile _ _ _ _ ⟨t.val, hN⟩ 1 (fun p k => ?_) (fun k q => ?_) p q
  · blk_point [iblk2, blocks2 t]
  · blk_point [iblk2, blocks2 t]

/-- Which block of each array a grid point of launch 3 works on. -/
theorem blocks3 : ∀ t : Fin (cfg3 (F := Ideal) adm3).N, (win3 (F := Ideal) adm3 0).index t = ![t.val, 0]
    ∧ (win3 (F := Ideal) adm3 1).index t = ![0, 3] ∧ (win3 (F := Ideal) adm3 2).index t = ![t.val, 3] :=
  (by decide +kernel : ∀ t : Fin grid3.N, _)

/-- Launch 3 writes the columns of part 3 of the product, and keeps the others. -/
theorem launch3 (c : Dev nD) : (dat3 V c).arrAt 2 (cfg3 (F := Ideal) adm3).N
    = fun i => if (i (1 : Fin 2)).val / 1792 = 3 then prod V c i else (dat3 V c).A 2 i := by
  refine (dat3 V c).arrAt_eq_of_coversWhere 2 (prod V c) (fun β => β (1 : Fin 2) = 3) (by decide +kernel) (fun t hf y => ?_)
    (fun j => Iff.rfl)
  have hN : t.val < 4 := lt_of_lt_of_eq t.isLt N_3
  blk_simp
  rw [after3_2]
  obtain ⟨p, q, rfl⟩ : ∃ (p : Fin 1024) (q : Fin 1792), y = ix2 p q := ⟨y 0, y 1, eq_ix2 y⟩
  have e : (((win3 (F := Ideal) adm3 2).blk t).view.emb (ix2 p q) : S4096x7168.Idx)
      = ix2 ⟨t.val * 1024 + p.val, by omega⟩ ⟨3 * 1792 + q.val, by omega⟩ := by
    blk_ext [blocks3 t]
  refine Eq.trans ?_ (congrArg (prod V c) e).symm
  refine tile _ _ _ _ ⟨t.val, hN⟩ 3 (fun p k => ?_) (fun k q => ?_) p q
  · blk_point [iblk3, blocks3 t]
  · blk_point [iblk3, blocks3 t]

end Regions

section Program

variable (m : (ℓ : Loc nD τ sig) → Buf (Elt Ideal) ℓ) (ρ : Dev nD → PrngReg)

/-- The product does not change while the two arguments do not. -/
theorem prod_of (W : Dev nD → Valuation τ sig (Elt Ideal)) (c : Dev nD)
    (h0 : W c (Proc.devRef .tc main_arg0) = W1 m c (Proc.devRef .tc main_arg0))
    (h1 : W c (Proc.devRef .tc main_arg1) = W1 m c (Proc.devRef .tc main_arg1)) : prod (at_ W) c = prod (at_ (W0 m)) c := by
  have e0 : at_ W c main_arg0 = at_ (W0 m) c main_arg0 := h0.trans (W1_of m c main_arg0 (by decide))
  have e1 : at_ W c main_arg1 = at_ (W0 m) c main_arg1 := h1.trans (W1_of m c main_arg1 (by decide))
  unfold prod
  rw [e0, e1]

/-- What each launch leaves in the array that it completes: its part of the product of the arguments, and the rest as found. -/
theorem left0 (c : Dev nD) : W2 m c (Proc.devRef .tc main_v6) = fun i =>
    if (i (1 : Fin 2)).val / 1792 = 0 then prod (at_ (W0 m)) c i else W1 m c (Proc.devRef .tc main_v6) i := by
  rw [← prod_of m (W1 m) c rfl rfl]
  exact (Pipeline.afterRegion_arr (dat0 (at_ (W1 m)) c) (W1 m c) (Gen.launch0 (F := Ideal)).win.arr_inj 2).trans (launch0 (at_ (W1 m)) c)
theorem left1 (c : Dev nD) : W4 m c (Proc.devRef .tc main_v7) = fun i =>
    if (i (1 : Fin 2)).val / 1792 = 2 then prod (at_ (W0 m)) c i else W2 m c (Proc.devRef .tc main_v6) i := by
  rw [← prod_of m (W3 m) c (W3_keeps m c main_arg0 (by decide)) (W3_keeps m c main_arg1 (by decide))]
  exact (Pipeline.afterRegion_arr (dat1 (at_ (W3 m)) c) (W3 m c) (Gen.launch1 (F := Ideal)).win.arr_inj 2).trans (launch1 (at_ (W3 m)) c)
theorem left2 (c : Dev nD) : W6 m c (Proc.devRef .tc main_v8) = fun i =>
    if (i (1 : Fin 2)).val / 1792 = 1 then prod (at_ (W0 m)) c i else W4 m c (Proc.devRef .tc main_v7) i := by
  rw [← prod_of m (W5 m) c (W5_keeps m c main_arg0 (by decide)) (W5_keeps m c main_arg1 (by decide))]
  exact (Pipeline.afterRegion_arr (dat2 (at_ (W5 m)) c) (W5 m c) (Gen.launch2 (F := Ideal)).win.arr_inj 2).trans (launch2 (at_ (W5 m)) c)
theorem left3 (c : Dev nD) : W8 m c (Proc.devRef .tc main_v9) = fun i =>
    if (i (1 : Fin 2)).val / 1792 = 3 then prod (at_ (W0 m)) c i else W6 m c (Proc.devRef .tc main_v8) i := by
  rw [← prod_of m (W7 m) c (W7_keeps m c main_arg0 (by decide)) (W7_keeps m c main_arg1 (by decide))]
  exact (Pipeline.afterRegion_arr (dat3 (at_ (W7 m)) c) (W7 m c) (Gen.launch3 (F := Ideal)).win.arr_inj 2).trans (launch3 (at_ (W7 m)) c)

/-- The four parts make up the product. -/
theorem left (c : Dev nD) : W8 m c (Proc.devRef .tc main_v9) = prod (at_ (W0 m)) c := by
  rw [left3, left2, left1, left0]
  funext i
  have h : (i (1 : Fin 2)).val < 7168 := (i (1 : Fin 2)).isLt
  by_cases h3 : (i (1 : Fin 2)).val / 1792 = 3
  · exact if_pos h3
  by_cases h1 : (i (1 : Fin 2)).val / 1792 = 1
  · exact (if_neg h3).trans (if_pos h1)
  by_cases h2 : (i (1 : Fin 2)).val / 1792 = 2
  · exact (if_neg h3).trans ((if_neg h1).trans (if_pos h2))
  exact (if_neg h3).trans ((if_neg h1).trans ((if_neg h2).trans (if_pos (by omega))))

/-- The result array after the run, as a function of the arguments. -/
theorem run : θ_run defs (onTc (τ := τ) (main (F := Ideal))) ⟨m, fun _ => 0, ρ⟩ (fun r => ∀ c : Dev nD,
      r.2.mem ((c : Thread nD τ).loc main_v9) = Cert.Reference8Ideal.Read.val_main_v3 (F := Ideal)
        (m ((c : Thread nD τ).loc main_arg0)) (m ((c : Thread nD τ).loc main_arg1))) :=
  (θ_run defs _ _).mono (fun _ h c =>
    (h.1 c _ (Finset.mem_filter.mpr ⟨StableHlo.devRef_mem_tcRefs _, by decide⟩)).trans (left m c)) (Launches.after m ρ)

end Program

end Cert.InProj

end
-- ==== Proof.Finite.lean ====
/-
  What the feed-forward's precondition says: the activations, the up and down projections' weights and the incoming
  gradient have finite entries.
-/
module

public import proofs.«01_k».proof.Pre_finite2
public import proofs.«01_k».proof.Proof.Silu
public import Idealize.ShloMosaic.Lib.ReduceAll

@[expose] public section

noncomputable section

namespace Cert.Finite

open Idealize.ShloMosaic Cert.Pre_finite2

theorem bits_inf : Ideal.ofBits .f32 0x7F800000#32 = ⊤ := by
  simp [Ideal.ofBits, Ideal.ieee]

/-- A comparison of an entry's size with infinity that came out 1. -/
theorem entry {x : EReal} (h : Ideal.cmp .olt (max x (-x)) (Ideal.ofBits .f32 0x7F800000#32) = 1#1) : ∃ r : ℝ, x = r := by
  refine Cert.Silu.real_of_lt ?_
  rw [bits_inf] at h
  by_contra hn
  simp [Ideal.cmp, hn] at h

variable [Facts]

theorem finite (a0 : FVec Ideal S4096x2048 .bf16) (a1 a2 : FVec Ideal S2048x5632 .bf16) (a3 : FVec Ideal S5632x2048 .bf16)
    (a4 : FVec Ideal S4096x2048 .bf16) (h : fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal))
      ∧ ∀ i, ∃ r : ℝ, a4 i = (r : EReal) := by
  have one : Subsingleton S_.Idx := ⟨fun _ _ => funext fun a => a.elim0⟩
  have h := congrFun h (fun a => a.elim0)
  unfold fn fn_part1 at h
  obtain ⟨h, h4⟩ := IntOp.andi_eq_one.1 h
  obtain ⟨h, h3⟩ := IntOp.andi_eq_one.1 h
  obtain ⟨h0, h2⟩ := IntOp.andi_eq_one.1 h
  exact ⟨fun i => entry (Host.reduce_andi_all _ _ _ _ _ h0 i), fun i => entry (Host.reduce_andi_all _ _ _ _ _ h2 i),
    fun i => entry (Host.reduce_andi_all _ _ _ _ _ h3 i), fun i => entry (Host.reduce_andi_all _ _ _ _ _ h4 i)⟩

end Cert.Finite
-- ==== Proof.Values.lean ====
/-
  The matrix products' results: each kernel's and its reference's, over the extended reals, are one function of the
  arguments.
-/
module

public import proofs.«01_k».proof.Defs
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference7Ideal.Read
public import proofs.«01_k».proof.Proof.Gen.Reference8Ideal.Read
public import proofs.«01_k».proof.Proof.Gen.Kernel4Ideal.Value
public import proofs.«01_k».proof.Proof.Gen.Kernel5Ideal.Value
public import proofs.«01_k».proof.Proof.Gen.Kernel6Ideal.Value
public import proofs.«01_k».proof.Proof.FeedForwardGrads
public import proofs.«01_k».proof.Proof.OutProj
public import proofs.«01_k».proof.Proof.InputProj
public import proofs.«01_k».proof.Proof.DownProj
public import proofs.«01_k».proof.Proof.FfnInput
public import proofs.«01_k».proof.Proof.GradWIn
public import proofs.«01_k».proof.Proof.InProj
public import proofs.«01_k».proof.Proof.Gen.Pre_finite2
public import proofs.«01_k».proof.Proof.Finite
public import Idealize.ShloMosaic.Adequacy
public import Idealize.ShloMosaic.Init

@[expose] public section

noncomputable section

namespace Cert.Proof

open Idealize.ShloMosaic Idealize.SL.Sem

theorem value2 : Cert.algebraic_Kernel2Ideal_Reference2Ideal_pre_finite2 := by
  intro m g m' g' hp hm
  refine ⟨fun c => Cert.Reference2Ideal.Read.val_main_v19 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Cert.Reference2Ideal.Read.val_main_v16 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Cert.Reference2Ideal.Read.val_main_v11 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)),
    (θ_run Cert.Kernel2Ideal.defs _ _).mono (fun r h c => ⟨(h.1 c).1, (h.1 c).2.1, (h.1 c).2.2, h.2.1 c⟩)
      (θ_run_and (Cert.Kernel2Ideal.Result.run m g (fun c => (Cert.Finite.finite _ _ _ _ _ (hp c)).1) (fun c => (Cert.Finite.finite _ _ _ _ _ (hp c)).2.1)
        (fun c => (Cert.Finite.finite _ _ _ _ _ (hp c)).2.2.1) fun c => (Cert.Finite.finite _ _ _ _ _ (hp c)).2.2.2) (Cert.Kernel2Ideal.Gen.frame m g)), ?_⟩
  refine (θ_run Cert.Reference2Ideal.defs _ _).mono (fun r h c => ?_) (Cert.Reference2Ideal.Value.run m' g')
  obtain ⟨e0, e1, e2, e3, e4⟩ := hm c
  refine ⟨?_, ?_, ?_, (h c).2.2.2⟩
  · refine ((h c).1.trans (Cert.Reference2Ideal.Read.val_main_v19_eq _ _ _ _ _ )).trans ?_
    rw [e0, e1, e2, e3, e4]
  · refine ((h c).2.1.trans (Cert.Reference2Ideal.Read.val_main_v16_eq _ _ _ _ )).trans ?_
    rw [e0, e1, e3, e4]
  · refine ((h c).2.2.1.trans (Cert.Reference2Ideal.Read.val_main_v11_eq _ _ _ _ )).trans ?_
    rw [e0, e1, e2, e4]

theorem value3 : Cert.algebraic_Kernel3Ideal_Reference3Ideal := by
  intro m g m' g' _ hm
  refine ⟨fun c => Cert.Reference3Ideal.Read.val_main_v3 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Cert.Reference3Ideal.Read.val_main_v8 (F := Ideal) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => Cert.Reference3Ideal.Read.val_main_v6 (F := Ideal) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg3)),
    (θ_run Cert.Kernel3Ideal.defs _ _).mono (fun r h c => ⟨(h.1 c).1, (h.1 c).2.1, (h.1 c).2.2, h.2.1 c⟩)
      (θ_run_and (Cert.Kernel3Ideal.Result.run m g) (Cert.Kernel3Ideal.Gen.frame m g)), ?_⟩
  refine (θ_run Cert.Reference3Ideal.defs _ _).mono (fun r h c => ?_) (Cert.Reference3Ideal.Value.run m' g')
  obtain ⟨e0, e1, e2, e3⟩ := hm c
  refine ⟨?_, ?_, ?_, (h c).2.2.2⟩
  · refine ((h c).1.trans (Cert.Reference3Ideal.Read.val_main_v3_eq _ _ _ )).trans ?_
    rw [e0, e1, e2]
  · refine ((h c).2.1.trans (Cert.Reference3Ideal.Read.val_main_v8_eq _ _ )).trans ?_
    rw [e2, e3]
  · refine ((h c).2.2.1.trans (Cert.Reference3Ideal.Read.val_main_v6_eq _ _ )).trans ?_
    rw [e1, e3]

theorem value4 : Cert.algebraic_Kernel4Ideal_Reference4Ideal := by
  intro m g m' g' _ hm
  refine ⟨fun c => Cert.Reference4Ideal.Read.val_main_v4 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)),
    (θ_run Cert.Kernel4Ideal.defs _ _).mono (fun r h c => ⟨(h c).1.trans (Cert.Kernel4Ideal.Result.final m c), (h c).2⟩) (Cert.Kernel4Ideal.Value.run_blocks m g), ?_⟩
  refine (θ_run Cert.Reference4Ideal.defs _ _).mono (fun r h c => ?_) (Cert.Reference4Ideal.Value.run m' g')
  obtain ⟨e0, e1, e2, e3, e4, e5, e6, e7⟩ := hm c
  refine ⟨?_, (h c).2⟩
  · refine ((h c).1.trans (Cert.Reference4Ideal.Read.val_main_v4_eq _ _ _ _ _ _ _ _ )).trans ?_
    rw [e0, e1, e2, e3, e4, e5, e6, e7]

theorem value5 : Cert.algebraic_Kernel5Ideal_Reference5Ideal := by
  intro m g m' g' _ hm
  refine ⟨fun c => Cert.Reference5Ideal.Read.val_main_v3 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run Cert.Kernel5Ideal.defs _ _).mono (fun r h c => ⟨(h c).1.trans (Cert.Kernel5Ideal.Result.final m c), (h c).2⟩) (Cert.Kernel5Ideal.Value.run_blocks m g), ?_⟩
  refine (θ_run Cert.Reference5Ideal.defs _ _).mono (fun r h c => ?_) (Cert.Reference5Ideal.Value.run m' g')
  obtain ⟨e0, e1, e2⟩ := hm c
  refine ⟨?_, (h c).2⟩
  · refine ((h c).1.trans (Cert.Reference5Ideal.Read.val_main_v3_eq _ _ _ )).trans ?_
    rw [e0, e1, e2]

theorem value6 : Cert.algebraic_Kernel6Ideal_Reference6Ideal := by
  intro m g m' g' _ hm
  refine ⟨fun c => Cert.Reference6Ideal.Read.val_main_v8 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    (θ_run Cert.Kernel6Ideal.defs _ _).mono (fun r h c => ⟨(h c).1.trans (Cert.Kernel6Ideal.Result.final m c), (h c).2⟩) (Cert.Kernel6Ideal.Value.run_blocks m g), ?_⟩
  refine (θ_run Cert.Reference6Ideal.defs _ _).mono (fun r h c => ?_) (Cert.Reference6Ideal.Value.run m' g')
  obtain ⟨e0, e1, e2, e3⟩ := hm c
  refine ⟨?_, (h c).2⟩
  · refine ((h c).1.trans (Cert.Reference6Ideal.Read.val_main_v8_eq _ _ _ _ )).trans ?_
    rw [e0, e1, e2, e3]

theorem value7 : Cert.algebraic_Kernel7Ideal_Reference7Ideal := by
  intro m g m' g' _ hm
  refine ⟨fun c => Cert.Reference7Ideal.Read.val_main_v4 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)),
    (θ_run Cert.Kernel7Ideal.defs _ _).mono (fun r h c => ⟨h.1 c, h.2.1 c⟩)
      (θ_run_and (Cert.Kernel7Ideal.Result.run m g) (Cert.Kernel7Ideal.Gen.frame m g)), ?_⟩
  refine (θ_run Cert.Reference7Ideal.defs _ _).mono (fun r h c => ?_) (Cert.Reference7Ideal.Value.run m' g')
  obtain ⟨e0, e1, e2, e3, e4, e5, e6, e7⟩ := hm c
  refine ⟨?_, (h c).2⟩
  · refine ((h c).1.trans (Cert.Reference7Ideal.Read.val_main_v4_eq _ _ _ _ _ _ _ _ )).trans ?_
    rw [e0, e1, e2, e3, e4, e5, e6, e7]

theorem value8 : Cert.algebraic_Kernel8Ideal_Reference8Ideal := by
  intro m g m' g' _ hm
  refine ⟨fun c => Cert.Reference8Ideal.Read.val_main_v3 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun r h c => ⟨h.1 c, h.2.1 c⟩)
      (θ_run_and (Cert.InProj.run m g) (Cert.Kernel8Ideal.Launches.frame m g)), ?_⟩
  refine (θ_run Cert.Reference8Ideal.defs _ _).mono (fun r h c => ?_) (Cert.Reference8Ideal.Value.run m' g')
  obtain ⟨e0, e1⟩ := hm c
  refine ⟨?_, (h c).2⟩
  · refine ((h c).1.trans (Cert.Reference8Ideal.Read.val_main_v3_eq _ _)).trans ?_
    rw [e0, e1]

end Cert.Proof

end
-- ==== Proof.Chunks.lean ====
/-
  What the two loops of the kernel body leave behind, as plain functions of the blocks it reads. The body goes through
  the 32 chunks of 128 tokens of one head twice: first from the last chunk to the first, saving the running state it
  found at each chunk (`slabs`), then from the first to the last, writing one block of the gradient per chunk
  (`grads`). Everything here holds over any float values.
-/
module

public import proofs.«01_k».proof.Proof.Gen.KernelIdeal.Loops
public import Idealize.ShloMosaic.Lib.VecWindow
public import Idealize.ShloMosaic.Lib.ValueIdx
public import Idealize.ShloMosaic.Lib.Tactic

@[expose] public section

set_option maxRecDepth 16384

noncomputable section

namespace Cert.KernelIdeal.Chunks

open Idealize.ShloMosaic Idealize.ShloMosaic.TcCoe Idealize.ShloMosaic.Tactic
open Idealize.SL Idealize.SL.RA Idealize.SL.BI Idealize.SL.Sem
open Cert.KernelIdeal.Gen Idealize.ShloMosaic.ValueIdx

variable {F : FTy → Type} [FloatOps F]

/-! ### The chunks of one head -/

/-- Chunk `n` of a head's block: its 128 rows from row `128 n` on. -/
def rows (x : Vec F S4096x128 .bf16) (n : ℕ) : Vec F S128x128 .bf16 :=
  fun y => x (ix2 ⟨(128 * n + (y 0).val) % 4096, Nat.mod_lt _ (by decide)⟩ (y 1))

/-- The running state after `n` chunks, taken in the order `ord`: it decays by `cd` and gains the product of the
    weighted rows of `b` with those of `c`. -/
def state (kd : FVec F S128x1 .f32) (cd : FVec F S1x128 .f32) (b c : Vec F S4096x128 .bf16) (ord : ℕ → ℕ) :
    ℕ → FVec F S128x128 .f32
  | 0 => k0_pay4
  | n + 1 => k0_pay8 kd cd (state kd cd b c ord n) (rows b (ord n)) (rows c (ord n))

/-- The order of the first loop: from the last chunk down. -/
def down (n : ℕ) : ℕ := 31 - n

/-- The states that the first loop saves, slab `n` for chunk `n`. -/
def slabs (kd : FVec F S128x1 .f32) (cd : FVec F S1x128 .f32) (b c : Vec F S4096x128 .bf16) : Vec F S32x128x128 .bf16 :=
  fun y => k0_pay7 (state kd cd b c down (31 - (y 0).val)) (ix3 0 (y 1) (y 2))

/-- Slab `n` of a stack of slabs, as the body loads it. -/
def slab (x : Vec F S32x128x128 .bf16) (n : ℕ) : Vec F S1x128x128 .bf16 :=
  fun y => x (ix3 ⟨n % 32, Nat.mod_lt _ (by decide)⟩ (y 1) (y 2))

/-- The block of the gradient that the second loop writes for chunk `n`. -/
def grad (mask : FVec F S128x128 .f32) (ac aa kd : FVec F S128x1 .f32) (cd : FVec F S1x128 .f32)
    (a b c : Vec F S4096x128 .bf16) (saved : Vec F S32x128x128 .bf16) (n : ℕ) : Vec F S128x128 .bf16 :=
  k0_pay27 mask ac aa (state kd cd b c id n) (rows a n) (rows b n) (rows c n) (slab saved n)

/-- All of them, as one array. -/
def grads (mask : FVec F S128x128 .f32) (ac aa kd : FVec F S128x1 .f32) (cd : FVec F S1x128 .f32)
    (a b c : Vec F S4096x128 .bf16) (saved : Vec F S32x128x128 .bf16) : Vec F S4096x128 .bf16 :=
  fun y => grad mask ac aa kd cd a b c saved ((y 0).val / 128) (ix2 ⟨(y 0).val % 128, Nat.mod_lt _ (by decide)⟩ (y 1))

/-! ### What a load reads -/

theorem load_rows {μ : Memref sig .tc .vmem S4096x128 .bf16} (h : μ.IsWhole) (x : Vec F S4096x128 .bf16) (n : ℕ) (hn : n < 32)
    (off : Fin 2 → ℕ) (hoff : off = ![128 * n, 0]) (inb) :
    View.readAt (Elt F) μ.view (Rect.unit (s := S4096x128) off ![128, 128] inb).toLoadRect (h.unread x) = rows x n := by
  subst hoff
  rw [View.readAt_eq_ld, h.read_unread]
  funext y
  unfold rows
  show x _ = x _
  congr 1
  funext a
  have h0 : (y 0).val < 128 := (y 0).isLt
  refine Fin.ext ?_
  fin_cases a
  · show 128 * n + 1 * (y 0).val = (128 * n + (y 0).val) % 4096
    omega
  · show 0 + 1 * (y 1).val = (y 1).val
    omega

theorem load_slab {μ : Memref sig .tc .vmem S32x128x128 .bf16} (f : BufTy.Contents (Elt F) μ.view.ty) (n : ℕ) (hn : n < 32)
    (off : Fin 3 → ℕ) (hoff : off = ![n, 0, 0]) (inb) :
    View.readAt (Elt F) μ.view (Rect.unit (s := S32x128x128) off ![1, 128, 128] inb).toLoadRect f
      = slab (View.read (Elt F) μ.view f) n := by
  subst hoff
  rw [View.readAt_eq_ld]
  funext y
  unfold slab
  show View.read (Elt F) μ.view f _ = View.read (Elt F) μ.view f _
  congr 1
  funext a
  have h0 : (y 0).val < 1 := (y 0).isLt
  refine Fin.ext ?_
  fin_cases a
  · show n + 1 * (y 0).val = n % 32
    omega
  · show 0 + 1 * (y 1).val = (y 1).val
    omega
  · show 0 + 1 * (y 2).val = (y 2).val
    omega

/-! ### One step, however the body splits it -/

section Steps

variable (p : FVec F S128x1 .f32) (q : FVec F S1x128 .f32) (acc A M U : FVec F S128x128 .f32) (B : FVec F S128x128 .bf16)
  (N : FVec F S128x128 .f32) (b0 b1 c0 c1 : Vec F S128x128 .bf16)

theorem step1 : k0_pay12 (k0_pay10 p q acc b0 c0) (k0_pay11 p b1) c1 = k0_pay8 p q (k0_pay8 p q acc b0 c0) b1 c1 := rfl
theorem step2 (c : Vec F S128x128 .bf16) : k0_pay14 p q A B c b0 c0 = k0_pay8 p q (k0_pay12 A B c) b0 c0 := rfl
theorem step3 (c : Vec F S128x128 .bf16) :
    k0_pay18 p (k0_pay16 p q A B c b0 c0) (k0_pay17 b1) c1 = k0_pay8 p q (k0_pay14 p q A B c b0 c0) b1 c1 := rfl
theorem step4 (c : Vec F S128x128 .bf16) : k0_pay20 p q M N c b0 c0 = k0_pay8 p q (k0_pay18 p M N c) b0 c0 := rfl
theorem step5 (c : Vec F S128x128 .bf16) :
    k0_pay23 p (k0_pay22 p q M N c b0 c0) b1 c1 = k0_pay8 p q (k0_pay20 p q M N c b0 c0) b1 c1 := rfl
theorem step6 : k0_pay25 p q U b0 c0 b1 c1 = k0_pay8 p q (k0_pay23 p U b0 c0) b1 c1 := rfl
theorem step7 (v4 : Elt F .f32) (v31 : FVec F S128x1 .f32) (v32 : FVec F S1x128 .f32) :
    k0_pay5 v4 v31 v32 acc b0 c0 = k0_pay8 (k0_pay2 v4 v31) (k0_pay3 v4 v32) acc b0 c0 := rfl

theorem save1 : k0_pay9 p q acc b0 c0 = k0_pay7 (k0_pay8 p q acc b0 c0) := rfl
theorem save2 (c : Vec F S128x128 .bf16) : k0_pay13 A B c = k0_pay7 (k0_pay12 A B c) := rfl
theorem save3 (c : Vec F S128x128 .bf16) : k0_pay15 p q A B c b0 c0 = k0_pay7 (k0_pay14 p q A B c b0 c0) := rfl
theorem save4 (c : Vec F S128x128 .bf16) : k0_pay19 p M N c = k0_pay7 (k0_pay18 p M N c) := rfl
theorem save5 (c : Vec F S128x128 .bf16) : k0_pay21 p q M N c b0 c0 = k0_pay7 (k0_pay20 p q M N c b0 c0) := rfl
theorem save6 : k0_pay24 p U b0 c0 = k0_pay7 (k0_pay23 p U b0 c0) := rfl
theorem save7 : k0_pay26 p q U b0 c0 b1 c1 = k0_pay7 (k0_pay25 p q U b0 c0 b1 c1) := rfl

theorem fwd_step : k0_pay28 p q acc b0 c0 = k0_pay8 p q acc b0 c0 ∧ k0_pay30 p q acc b0 c0 = k0_pay8 p q acc b0 c0
    ∧ k0_pay32 p q acc b0 c0 = k0_pay8 p q acc b0 c0 ∧ k0_pay34 p q acc b0 c0 = k0_pay8 p q acc b0 c0
    ∧ k0_pay36 p q acc b0 c0 = k0_pay8 p q acc b0 c0 ∧ k0_pay38 p q acc b0 c0 = k0_pay8 p q acc b0 c0
    ∧ k0_pay40 p q acc b0 c0 = k0_pay8 p q acc b0 c0 ∧ k0_pay42 p q acc b0 c0 = k0_pay8 p q acc b0 c0 :=
  ⟨rfl, rfl, rfl, rfl, rfl, rfl, rfl, rfl⟩

theorem fwd_out (p' : FVec F S128x1 .f32) (a0 : Vec F S128x128 .bf16) (s : Vec F S1x128x128 .bf16) :
    k0_pay29 M p p' acc a0 b0 c0 s = k0_pay27 M p p' acc a0 b0 c0 s
    ∧ k0_pay31 M p p' acc a0 b0 c0 s = k0_pay27 M p p' acc a0 b0 c0 s
    ∧ k0_pay33 M p p' acc a0 b0 c0 s = k0_pay27 M p p' acc a0 b0 c0 s
    ∧ k0_pay35 M p p' acc a0 b0 c0 s = k0_pay27 M p p' acc a0 b0 c0 s
    ∧ k0_pay37 M p p' acc a0 b0 c0 s = k0_pay27 M p p' acc a0 b0 c0 s
    ∧ k0_pay39 M p p' acc a0 b0 c0 s = k0_pay27 M p p' acc a0 b0 c0 s
    ∧ k0_pay41 M p p' acc a0 b0 c0 s = k0_pay27 M p p' acc a0 b0 c0 s :=
  ⟨rfl, rfl, rfl, rfl, rfl, rfl, rfl⟩

end Steps

theorem state_succ (kd : FVec F S128x1 .f32) (cd : FVec F S1x128 .f32) (b c : Vec F S4096x128 .bf16) (ord : ℕ → ℕ) (n : ℕ) :
    k0_pay8 kd cd (state kd cd b c ord n) (rows b (ord n)) (rows c (ord n)) = state kd cd b c ord (n + 1) := rfl

/-- A piece that saves the state before chunk `down n` agrees with `slabs`. -/
theorem piece_slab (kd : FVec F S128x1 .f32) (cd : FVec F S1x128 .f32) (b c : Vec F S4096x128 .bf16) (n : ℕ) (hn : n < 32)
    (off : Fin 3 → ℕ) (hoff : off = ![31 - n, 0, 0]) (inb)
    (x : (Rect.unit (s := S32x128x128) off ![1, 128, 128] inb).shape.Idx) :
    (k0_pay7 (state kd cd b c down n) : Vec F S1x128x128 .bf16) x
      = slabs kd cd b c ((Rect.unit (s := S32x128x128) off ![1, 128, 128] inb).emb x) := by
  subst hoff
  have h0 : (x 0).val < 1 := (x 0).isLt
  unfold slabs
  have e0 : 31 - ((Rect.unit (s := S32x128x128) ![31 - n, 0, 0] ![1, 128, 128] inb).emb x 0).val = n := by
    show 31 - (31 - n + 1 * (x 0).val) = n
    omega
  rw [e0]
  congr 1
  funext a
  refine Fin.ext ?_
  fin_cases a
  · show (x 0).val = 0
    omega
  · show (x 1).val = 0 + 1 * (x 1).val
    omega
  · show (x 2).val = 0 + 1 * (x 2).val
    omega

/-- A piece that writes the gradient's block of chunk `n` agrees with `grads`. -/
theorem piece_grad (mask : FVec F S128x128 .f32) (ac aa kd : FVec F S128x1 .f32) (cd : FVec F S1x128 .f32)
    (a b c : Vec F S4096x128 .bf16) (saved : Vec F S32x128x128 .bf16) (n : ℕ) (hn : n < 32)
    (off : Fin 2 → ℕ) (hoff : off = ![128 * n, 0]) (inb)
    (x : (Rect.unit (s := S4096x128) off ![128, 128] inb).shape.Idx) :
    (grad mask ac aa kd cd a b c saved n : Vec F S128x128 .bf16) x
      = grads mask ac aa kd cd a b c saved ((Rect.unit (s := S4096x128) off ![128, 128] inb).emb x) := by
  subst hoff
  have h0 : (x 0).val < 128 := (x 0).isLt
  have e : ((Rect.unit (s := S4096x128) ![128 * n, 0] ![128, 128] inb).emb x 0).val = 128 * n + (x 0).val := by
    show 128 * n + 1 * (x 0).val = _
    omega
  unfold grads
  have e0 : ((Rect.unit (s := S4096x128) ![128 * n, 0] ![128, 128] inb).emb x 0).val / 128 = n := by
    rw [e]; omega
  rw [e0]
  congr 1
  funext a
  refine Fin.ext ?_
  fin_cases a
  · show (x 0).val = ((Rect.unit (s := S4096x128) ![128 * n, 0] ![128, 128] inb).emb x 0).val % 128
    rw [e]; omega
  · show (x 1).val = 0 + 1 * (x 1).val
    omega

/-- An index lies in the slab of its own leading coordinate. -/
theorem mem_slab (y : S32x128x128.Idx) (n : ℕ) (hy : (y 0).val = n) (off : Fin 3 → ℕ) (hoff : off = ![n, 0, 0]) (inb) :
    y ∈ (Rect.unit (s := S32x128x128) off ![1, 128, 128] inb).set := by
  subst hoff
  rw [Rect.mem_set_unit]
  have h1 : (y 1).val < 128 := (y 1).isLt
  have h2 : (y 2).val < 128 := (y 2).isLt
  intro a
  fin_cases a
  · show n ≤ (y 0).val ∧ (y 0).val < n + 1
    omega
  · show 0 ≤ (y 1).val ∧ (y 1).val < 0 + 128
    omega
  · show 0 ≤ (y 2).val ∧ (y 2).val < 0 + 128
    omega

/-- An index lies in the chunk that its row belongs to. -/
theorem mem_rows (y : S4096x128.Idx) (n : ℕ) (hy : (y 0).val / 128 = n) (off : Fin 2 → ℕ) (hoff : off = ![128 * n, 0]) (inb) :
    y ∈ (Rect.unit (s := S4096x128) off ![128, 128] inb).set := by
  subst hoff
  rw [Rect.mem_set_unit]
  have h1 : (y 1).val < 128 := (y 1).isLt
  intro a
  fin_cases a
  · show 128 * n ≤ (y 0).val ∧ (y 0).val < 128 * n + 128
    omega
  · show 0 ≤ (y 1).val ∧ (y 1).val < 0 + 128
    omega

/-! ### One trip of each loop -/

section Trips

variable (𝒱 : Variants) (dev : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S32x128x128 .bf16) (harg7 : arg7.IsWhole)

/-- One trip of the first loop: it advances the state by eight chunks, and every piece it writes agrees with `slabs`,
    the eight slabs covered. -/
theorem rev_trip (v4 : Elt F .f32) (v31 : FVec F S128x1 .f32) (v32 : FVec F S1x128 .f32) (b c : Vec F S4096x128 .bf16)
    (k : Fin k0_t1_loop.trips) (hk : k.val < 4) (acc : FVec F S128x128 .f32)
    (hacc : acc = state (k0_pay2 v4 v31) (k0_pay3 v4 v32) b c down (8 * k.val)) :
    tripR_k0_t1 (F := F) 𝒱 dev bd i arg1 harg1 arg2 harg2 arg3 harg3 arg4 harg4 arg5 harg5 arg6 harg6 arg7 harg7 v4 v31 v32
        (harg4.unread b) (harg5.unread c) k acc
      = state (k0_pay2 v4 v31) (k0_pay3 v4 v32) b c down (8 * (k.val + 1))
    ∧ (∀ p ∈ tripL_k0_t1 (F := F) 𝒱 dev bd i arg1 harg1 arg2 harg2 arg3 harg3 arg4 harg4 arg5 harg5 arg6 harg6 arg7 harg7 v4 v31 v32
          (harg4.unread b) (harg5.unread c) k acc, ∀ x : p.1.shape.Idx, p.2 x = slabs (k0_pay2 v4 v31) (k0_pay3 v4 v32) b c (p.1.emb x))
    ∧ (∀ y : S32x128x128.Idx, 8 * k.val ≤ 31 - (y 0).val → 31 - (y 0).val < 8 * (k.val + 1) →
        ∃ p ∈ tripL_k0_t1 (F := F) 𝒱 dev bd i arg1 harg1 arg2 harg2 arg3 harg3 arg4 harg4 arg5 harg5 arg6 harg6 arg7 harg7 v4 v31 v32
          (harg4.unread b) (harg5.unread c) k acc, y ∈ p.1.set) := by
  subst hacc
  have o : ∀ r : Fin 8, k0_off3 k (BitVec.ofNat 32 r.val) = ![128 * down (8 * k.val + r.val), 0] := fun r => by
    rw [k0_off3_eq]; have := r.isLt; unfold down; congr 1; omega
  have d : ∀ j, down j < 32 := fun j => by unfold down; omega
  have o0 : k0_off3 k 0#32 = ![128 * down (8 * k.val + 0), 0] := o 0
  have o1 : k0_off3 k 1#32 = ![128 * down (8 * k.val + 1), 0] := o 1
  have o2 : k0_off3 k 2#32 = ![128 * down (8 * k.val + 2), 0] := o 2
  have o3 : k0_off3 k 3#32 = ![128 * down (8 * k.val + 3), 0] := o 3
  have o4 : k0_off3 k 4#32 = ![128 * down (8 * k.val + 4), 0] := o 4
  have o5 : k0_off3 k 5#32 = ![128 * down (8 * k.val + 5), 0] := o 5
  have o6 : k0_off3 k 6#32 = ![128 * down (8 * k.val + 6), 0] := o 6
  have o7 : k0_off3 k 7#32 = ![128 * down (8 * k.val + 7), 0] := o 7
  unfold tripR_k0_t1 tripL_k0_t1 trip_k0_t1
  dsimp only
  unfold trip_k0_t1.sl.r_5 trip_k0_t1.sl.r_4 trip_k0_t1.sl.r_3 trip_k0_t1.sl.r_2 trip_k0_t1.sl.r_1 trip_k0_t1.sl.r
  simp only [load_rows harg4 b _ (d _) _ o0, load_rows harg4 b _ (d _) _ o1, load_rows harg4 b _ (d _) _ o2,
    load_rows harg4 b _ (d _) _ o3, load_rows harg4 b _ (d _) _ o4, load_rows harg4 b _ (d _) _ o5,
    load_rows harg4 b _ (d _) _ o6, load_rows harg4 b _ (d _) _ o7,
    load_rows harg5 c _ (d _) _ o0, load_rows harg5 c _ (d _) _ o1, load_rows harg5 c _ (d _) _ o2,
    load_rows harg5 c _ (d _) _ o3, load_rows harg5 c _ (d _) _ o4, load_rows harg5 c _ (d _) _ o5,
    load_rows harg5 c _ (d _) _ o6, load_rows harg5 c _ (d _) _ o7]
  simp only [save1, save2, save3, save4, save5, save6, save7]
  simp only [step7, step6, step5, step4, step3, step2, step1]
  rw [Nat.mul_succ]
  refine ⟨rfl, ?_, ?_⟩
  · simp only [List.forall_mem_cons]
    refine ⟨?_, ?_, ?_, ?_, ?_, ?_, ?_, ?_, fun _ h => absurd h List.not_mem_nil⟩
    · exact fun x => piece_slab _ _ b c (8 * k.val + 7) (by omega) _ (k0_off2_eq k 7) _ x
    · exact fun x => piece_slab _ _ b c (8 * k.val + 6) (by omega) _ (k0_off2_eq k 6) _ x
    · exact fun x => piece_slab _ _ b c (8 * k.val + 5) (by omega) _ (k0_off2_eq k 5) _ x
    · exact fun x => piece_slab _ _ b c (8 * k.val + 4) (by omega) _ (k0_off2_eq k 4) _ x
    · exact fun x => piece_slab _ _ b c (8 * k.val + 3) (by omega) _ (k0_off2_eq k 3) _ x
    · exact fun x => piece_slab _ _ b c (8 * k.val + 2) (by omega) _ (k0_off2_eq k 2) _ x
    · exact fun x => piece_slab _ _ b c (8 * k.val + 1) (by omega) _ (k0_off2_eq k 1) _ x
    · exact fun x => piece_slab _ _ b c (8 * k.val + 0) (by omega) _ (k0_off2_eq k 0) _ x
  · intro y h1 h2
    have hy : (y 0).val < 32 := (y 0).isLt
    obtain ⟨r, hr⟩ : ∃ r : Fin 8, (y 0).val = 31 - (8 * k.val + r.val) :=
      ⟨⟨31 - (y 0).val - 8 * k.val, by omega⟩, by show _ = 31 - (8 * k.val + (31 - (y 0).val - 8 * k.val)); omega⟩
    have m : ∀ r : Fin 8, (y 0).val = 31 - (8 * k.val + r.val) →
        ∀ inb, y ∈ (Rect.unit (s := S32x128x128) (k0_off2 k (BitVec.ofNat 32 r.val)) ![1, 128, 128] inb).set :=
      fun r h inb => mem_slab y _ h _ (k0_off2_eq k r) inb
    fin_cases r
    · exact ⟨_, .tail _ (.tail _ (.tail _ (.tail _ (.tail _ (.tail _ (.tail _ (.head _))))))), m 0 hr (k0_off2_inb k 0)⟩
    · exact ⟨_, .tail _ (.tail _ (.tail _ (.tail _ (.tail _ (.tail _ (.head _)))))), m 1 hr (k0_off2_inb k 1)⟩
    · exact ⟨_, .tail _ (.tail _ (.tail _ (.tail _ (.tail _ (.head _))))), m 2 hr (k0_off2_inb k 2)⟩
    · exact ⟨_, .tail _ (.tail _ (.tail _ (.tail _ (.head _)))), m 3 hr (k0_off2_inb k 3)⟩
    · exact ⟨_, .tail _ (.tail _ (.tail _ (.head _))), m 4 hr (k0_off2_inb k 4)⟩
    · exact ⟨_, .tail _ (.tail _ (.head _)), m 5 hr (k0_off2_inb k 5)⟩
    · exact ⟨_, .tail _ (.head _), m 6 hr (k0_off2_inb k 6)⟩
    · exact ⟨_, .head _, m 7 hr (k0_off2_inb k 7)⟩

/-- One trip of the second loop: it advances the state by eight chunks, and every piece it writes agrees with `grads`,
    the rows of the eight chunks covered. -/
theorem fwd_trip (v4 : Elt F .f32) (v29 : FVec F S128x128 .f32) (v31 v37 v42 : FVec F S128x1 .f32) (v46 : FVec F S1x128 .f32)
    (a b c : Vec F S4096x128 .bf16) (f7 : BufTy.Contents (Elt F) arg7.view.ty)
    (k : Fin k0_t2_loop.trips) (hk : k.val < 4) (acc : FVec F S128x128 .f32)
    (hacc : acc = state v42 v46 b c id (8 * k.val)) :
    tripR_k0_t2 (F := F) 𝒱 dev bd i arg1 harg1 arg2 harg2 arg3 harg3 arg4 harg4 arg5 harg5 arg6 harg6 arg7 harg7 v4 v29 v31 v37 v42 v46
        (harg3.unread a) (harg4.unread b) (harg5.unread c) f7 k acc
      = state v42 v46 b c id (8 * (k.val + 1))
    ∧ (∀ p ∈ tripL_k0_t2 (F := F) 𝒱 dev bd i arg1 harg1 arg2 harg2 arg3 harg3 arg4 harg4 arg5 harg5 arg6 harg6 arg7 harg7 v4 v29 v31 v37 v42 v46
          (harg3.unread a) (harg4.unread b) (harg5.unread c) f7 k acc, ∀ x : p.1.shape.Idx,
          p.2 x = grads v29 v37 (k0_pay1 v4 v31) v42 v46 a b c (View.read (Elt F) arg7.view f7) (p.1.emb x))
    ∧ (∀ y : S4096x128.Idx, 8 * k.val ≤ (y 0).val / 128 → (y 0).val / 128 < 8 * (k.val + 1) →
        ∃ p ∈ tripL_k0_t2 (F := F) 𝒱 dev bd i arg1 harg1 arg2 harg2 arg3 harg3 arg4 harg4 arg5 harg5 arg6 harg6 arg7 harg7 v4 v29 v31 v37 v42 v46
          (harg3.unread a) (harg4.unread b) (harg5.unread c) f7 k acc, y ∈ p.1.set) := by
  subst hacc
  have o : ∀ r : Fin 8, k0_off4 k (BitVec.ofNat 32 r.val) = ![128 * (8 * k.val + r.val), 0] := fun r => by
    rw [k0_off4_eq]; congr 1; omega
  have o0 : k0_off4 k 0#32 = ![128 * (8 * k.val + 0), 0] := o 0
  have q0 : k0_off5 k 0#32 = ![8 * k.val + 0, 0, 0] := k0_off5_eq k 0
  have d0 : 8 * k.val + 0 < 32 := by omega
  have o1 : k0_off4 k 1#32 = ![128 * (8 * k.val + 1), 0] := o 1
  have q1 : k0_off5 k 1#32 = ![8 * k.val + 1, 0, 0] := k0_off5_eq k 1
  have d1 : 8 * k.val + 1 < 32 := by omega
  have o2 : k0_off4 k 2#32 = ![128 * (8 * k.val + 2), 0] := o 2
  have q2 : k0_off5 k 2#32 = ![8 * k.val + 2, 0, 0] := k0_off5_eq k 2
  have d2 : 8 * k.val + 2 < 32 := by omega
  have o3 : k0_off4 k 3#32 = ![128 * (8 * k.val + 3), 0] := o 3
  have q3 : k0_off5 k 3#32 = ![8 * k.val + 3, 0, 0] := k0_off5_eq k 3
  have d3 : 8 * k.val + 3 < 32 := by omega
  have o4 : k0_off4 k 4#32 = ![128 * (8 * k.val + 4), 0] := o 4
  have q4 : k0_off5 k 4#32 = ![8 * k.val + 4, 0, 0] := k0_off5_eq k 4
  have d4 : 8 * k.val + 4 < 32 := by omega
  have o5 : k0_off4 k 5#32 = ![128 * (8 * k.val + 5), 0] := o 5
  have q5 : k0_off5 k 5#32 = ![8 * k.val + 5, 0, 0] := k0_off5_eq k 5
  have d5 : 8 * k.val + 5 < 32 := by omega
  have o6 : k0_off4 k 6#32 = ![128 * (8 * k.val + 6), 0] := o 6
  have q6 : k0_off5 k 6#32 = ![8 * k.val + 6, 0, 0] := k0_off5_eq k 6
  have d6 : 8 * k.val + 6 < 32 := by omega
  have o7 : k0_off4 k 7#32 = ![128 * (8 * k.val + 7), 0] := o 7
  have q7 : k0_off5 k 7#32 = ![8 * k.val + 7, 0, 0] := k0_off5_eq k 7
  have d7 : 8 * k.val + 7 < 32 := by omega
  unfold tripR_k0_t2 tripL_k0_t2 trip_k0_t2
  dsimp only
  unfold trip_k0_t2.sl.r_6 trip_k0_t2.sl.r_5 trip_k0_t2.sl.r_4 trip_k0_t2.sl.r_3 trip_k0_t2.sl.r_2 trip_k0_t2.sl.r_1 trip_k0_t2.sl.r
  simp only [load_rows harg3 a _ d0 _ o0, load_rows harg4 b _ d0 _ o0, load_rows harg5 c _ d0 _ o0, load_slab f7 _ d0 _ q0,
    load_rows harg3 a _ d1 _ o1, load_rows harg4 b _ d1 _ o1, load_rows harg5 c _ d1 _ o1, load_slab f7 _ d1 _ q1,
    load_rows harg3 a _ d2 _ o2, load_rows harg4 b _ d2 _ o2, load_rows harg5 c _ d2 _ o2, load_slab f7 _ d2 _ q2,
    load_rows harg3 a _ d3 _ o3, load_rows harg4 b _ d3 _ o3, load_rows harg5 c _ d3 _ o3, load_slab f7 _ d3 _ q3,
    load_rows harg3 a _ d4 _ o4, load_rows harg4 b _ d4 _ o4, load_rows harg5 c _ d4 _ o4, load_slab f7 _ d4 _ q4,
    load_rows harg3 a _ d5 _ o5, load_rows harg4 b _ d5 _ o5, load_rows harg5 c _ d5 _ o5, load_slab f7 _ d5 _ q5,
    load_rows harg3 a _ d6 _ o6, load_rows harg4 b _ d6 _ o6, load_rows harg5 c _ d6 _ o6, load_slab f7 _ d6 _ q6,
    load_rows harg3 a _ d7 _ o7, load_rows harg4 b _ d7 _ o7, load_rows harg5 c _ d7 _ o7, load_slab f7 _ d7 _ q7]
  simp only [(fwd_step _ _ _ _ _).1, (fwd_step _ _ _ _ _).2.1, (fwd_step _ _ _ _ _).2.2.1, (fwd_step _ _ _ _ _).2.2.2.1,
    (fwd_step _ _ _ _ _).2.2.2.2.1, (fwd_step _ _ _ _ _).2.2.2.2.2.1, (fwd_step _ _ _ _ _).2.2.2.2.2.2.1,
    (fwd_step _ _ _ _ _).2.2.2.2.2.2.2]
  simp only [(fwd_out _ _ _ _ _ _ _ _).1, (fwd_out _ _ _ _ _ _ _ _).2.1, (fwd_out _ _ _ _ _ _ _ _).2.2.1,
    (fwd_out _ _ _ _ _ _ _ _).2.2.2.1, (fwd_out _ _ _ _ _ _ _ _).2.2.2.2.1, (fwd_out _ _ _ _ _ _ _ _).2.2.2.2.2.1,
    (fwd_out _ _ _ _ _ _ _ _).2.2.2.2.2.2]
  rw [Nat.mul_succ]
  refine ⟨rfl, ?_, ?_⟩
  · simp only [List.forall_mem_cons]
    refine ⟨?_, ?_, ?_, ?_, ?_, ?_, ?_, ?_, fun _ h => absurd h List.not_mem_nil⟩
    · exact fun x => piece_grad v29 v37 (k0_pay1 v4 v31) v42 v46 a b c _ (8 * k.val + 7) d7 _ o7 _ x
    · exact fun x => piece_grad v29 v37 (k0_pay1 v4 v31) v42 v46 a b c _ (8 * k.val + 6) d6 _ o6 _ x
    · exact fun x => piece_grad v29 v37 (k0_pay1 v4 v31) v42 v46 a b c _ (8 * k.val + 5) d5 _ o5 _ x
    · exact fun x => piece_grad v29 v37 (k0_pay1 v4 v31) v42 v46 a b c _ (8 * k.val + 4) d4 _ o4 _ x
    · exact fun x => piece_grad v29 v37 (k0_pay1 v4 v31) v42 v46 a b c _ (8 * k.val + 3) d3 _ o3 _ x
    · exact fun x => piece_grad v29 v37 (k0_pay1 v4 v31) v42 v46 a b c _ (8 * k.val + 2) d2 _ o2 _ x
    · exact fun x => piece_grad v29 v37 (k0_pay1 v4 v31) v42 v46 a b c _ (8 * k.val + 1) d1 _ o1 _ x
    · exact fun x => piece_grad v29 v37 (k0_pay1 v4 v31) v42 v46 a b c _ (8 * k.val + 0) d0 _ o0 _ x
  · intro y h1 h2
    obtain ⟨r, hr⟩ : ∃ r : Fin 8, (y 0).val / 128 = 8 * k.val + r.val :=
      ⟨⟨(y 0).val / 128 - 8 * k.val, by omega⟩, by show _ = 8 * k.val + ((y 0).val / 128 - 8 * k.val); omega⟩
    have m : ∀ r : Fin 8, (y 0).val / 128 = 8 * k.val + r.val →
        ∀ inb, y ∈ (Rect.unit (s := S4096x128) (k0_off4 k (BitVec.ofNat 32 r.val)) ![128, 128] inb).set :=
      fun r h inb => mem_rows y _ h _ (o r) inb
    fin_cases r
    · exact ⟨_, .tail _ (.tail _ (.tail _ (.tail _ (.tail _ (.tail _ (.tail _ (.head _))))))), m 0 hr (k0_off4_inb k 0)⟩
    · exact ⟨_, .tail _ (.tail _ (.tail _ (.tail _ (.tail _ (.tail _ (.head _)))))), m 1 hr (k0_off4_inb k 1)⟩
    · exact ⟨_, .tail _ (.tail _ (.tail _ (.tail _ (.tail _ (.head _))))), m 2 hr (k0_off4_inb k 2)⟩
    · exact ⟨_, .tail _ (.tail _ (.tail _ (.tail _ (.head _)))), m 3 hr (k0_off4_inb k 3)⟩
    · exact ⟨_, .tail _ (.tail _ (.tail _ (.head _))), m 4 hr (k0_off4_inb k 4)⟩
    · exact ⟨_, .tail _ (.tail _ (.head _)), m 5 hr (k0_off4_inb k 5)⟩
    · exact ⟨_, .tail _ (.head _), m 6 hr (k0_off4_inb k 6)⟩
    · exact ⟨_, .head _, m 7 hr (k0_off4_inb k 7)⟩

/-! ### The loops -/

/-- The first loop, after any number of its trips. -/
theorem rev_loop (v4 : Elt F .f32) (v31 : FVec F S128x1 .f32) (v32 : FVec F S1x128 .f32) (b c : Vec F S4096x128 .bf16)
    (n : ℕ) (hn : n ≤ 4) :
    (st_k0_t1 (F := F) 𝒱 dev bd i arg1 harg1 arg2 harg2 arg3 harg3 arg4 harg4 arg5 harg5 arg6 harg6 arg7 harg7 v4 v31 v32
        (harg4.unread b) (harg5.unread c) k0_pay4 n).1 = state (k0_pay2 v4 v31) (k0_pay3 v4 v32) b c down (8 * n)
    ∧ (∀ p ∈ (st_k0_t1 (F := F) 𝒱 dev bd i arg1 harg1 arg2 harg2 arg3 harg3 arg4 harg4 arg5 harg5 arg6 harg6 arg7 harg7 v4 v31 v32
        (harg4.unread b) (harg5.unread c) k0_pay4 n).2, ∀ x : p.1.shape.Idx, p.2 x = slabs (k0_pay2 v4 v31) (k0_pay3 v4 v32) b c (p.1.emb x))
    ∧ (∀ y : S32x128x128.Idx, 31 - (y 0).val < 8 * n →
        ∃ p ∈ (st_k0_t1 (F := F) 𝒱 dev bd i arg1 harg1 arg2 harg2 arg3 harg3 arg4 harg4 arg5 harg5 arg6 harg6 arg7 harg7 v4 v31 v32
        (harg4.unread b) (harg5.unread c) k0_pay4 n).2, y ∈ p.1.set) := by
  induction n with
  | zero => exact ⟨rfl, fun p h => absurd h List.not_mem_nil, fun y h => absurd h (Nat.not_lt_zero _)⟩
  | succ n ih =>
    obtain ⟨h1, h2, h3⟩ := ih (by omega)
    have hlt : n < k0_t1_loop.trips := lt_of_lt_of_le (show n < 4 by omega) (by decide)
    have e := st_k0_t1_succ (F := F) 𝒱 dev bd i arg1 harg1 arg2 harg2 arg3 harg3 arg4 harg4 arg5 harg5 arg6 harg6 arg7 harg7 v4 v31 v32
        (harg4.unread b) (harg5.unread c) k0_pay4 ⟨n, hlt⟩
    obtain ⟨t1, t2, t3⟩ := rev_trip 𝒱 dev bd i arg1 harg1 arg2 harg2 arg3 harg3 arg4 harg4 arg5 harg5 arg6 harg6 arg7 harg7 v4 v31 v32
        b c ⟨n, hlt⟩ (show n < 4 by omega) _ h1
    rw [e]
    refine ⟨t1, fun p hp => ?_, fun y hy => ?_⟩
    · rcases List.mem_append.mp hp with hp | hp
      · exact t2 p hp
      · exact h2 p hp
    · by_cases h : 31 - (y 0).val < 8 * n
      · obtain ⟨p, hp, hm⟩ := h3 y h
        exact ⟨p, List.mem_append.mpr (.inr hp), hm⟩
      · obtain ⟨p, hp, hm⟩ := t3 y (by show 8 * n ≤ _; omega) hy
        exact ⟨p, List.mem_append.mpr (.inl hp), hm⟩

/-- The second loop, after any number of its trips. -/
theorem fwd_loop (v4 : Elt F .f32) (v29 : FVec F S128x128 .f32) (v31 v37 v42 : FVec F S128x1 .f32) (v46 : FVec F S1x128 .f32)
    (a b c : Vec F S4096x128 .bf16) (f7 : BufTy.Contents (Elt F) arg7.view.ty) (n : ℕ) (hn : n ≤ 4) :
    (st_k0_t2 (F := F) 𝒱 dev bd i arg1 harg1 arg2 harg2 arg3 harg3 arg4 harg4 arg5 harg5 arg6 harg6 arg7 harg7 v4 v29 v31 v37 v42 v46
        (harg3.unread a) (harg4.unread b) (harg5.unread c) f7 k0_pay6 n).1 = state v42 v46 b c id (8 * n)
    ∧ (∀ p ∈ (st_k0_t2 (F := F) 𝒱 dev bd i arg1 harg1 arg2 harg2 arg3 harg3 arg4 harg4 arg5 harg5 arg6 harg6 arg7 harg7 v4 v29 v31 v37 v42 v46
        (harg3.unread a) (harg4.unread b) (harg5.unread c) f7 k0_pay6 n).2, ∀ x : p.1.shape.Idx,
        p.2 x = grads v29 v37 (k0_pay1 v4 v31) v42 v46 a b c (View.read (Elt F) arg7.view f7) (p.1.emb x))
    ∧ (∀ y : S4096x128.Idx, (y 0).val / 128 < 8 * n →
        ∃ p ∈ (st_k0_t2 (F := F) 𝒱 dev bd i arg1 harg1 arg2 harg2 arg3 harg3 arg4 harg4 arg5 harg5 arg6 harg6 arg7 harg7 v4 v29 v31 v37 v42 v46
        (harg3.unread a) (harg4.unread b) (harg5.unread c) f7 k0_pay6 n).2, y ∈ p.1.set) := by
  induction n with
  | zero => exact ⟨rfl, fun p h => absurd h List.not_mem_nil, fun y h => absurd h (Nat.not_lt_zero _)⟩
  | succ n ih =>
    obtain ⟨h1, h2, h3⟩ := ih (by omega)
    have hlt : n < k0_t2_loop.trips := lt_of_lt_of_le (show n < 4 by omega) (by decide)
    have e := st_k0_t2_succ (F := F) 𝒱 dev bd i arg1 harg1 arg2 harg2 arg3 harg3 arg4 harg4 arg5 harg5 arg6 harg6 arg7 harg7 v4 v29 v31 v37 v42 v46
        (harg3.unread a) (harg4.unread b) (harg5.unread c) f7 k0_pay6 ⟨n, hlt⟩
    obtain ⟨t1, t2, t3⟩ := fwd_trip 𝒱 dev bd i arg1 harg1 arg2 harg2 arg3 harg3 arg4 harg4 arg5 harg5 arg6 harg6 arg7 harg7 v4 v29 v31 v37 v42 v46
        a b c f7 ⟨n, hlt⟩ (show n < 4 by omega) _ h1
    rw [e]
    refine ⟨t1, fun p hp => ?_, fun y hy => ?_⟩
    · rcases List.mem_append.mp hp with hp | hp
      · exact t2 p hp
      · exact h2 p hp
    · by_cases h : (y 0).val / 128 < 8 * n
      · obtain ⟨p, hp, hm⟩ := h3 y h
        exact ⟨p, List.mem_append.mpr (.inr hp), hm⟩
      · obtain ⟨p, hp, hm⟩ := t3 y (by show 8 * n ≤ _; omega) hy
        exact ⟨p, List.mem_append.mpr (.inl hp), hm⟩

/-- What the first loop leaves in the scratch, whatever was in it. -/
theorem scratch_after (v4 : Elt F .f32) (v31 : FVec F S128x1 .f32) (v32 : FVec F S1x128 .f32) (b c : Vec F S4096x128 .bf16)
    (f7 : BufTy.Contents (Elt F) arg7.view.ty) :
    View.read (Elt F) arg7.view (arg7.view.writes (Elt F) f7
      (st_k0_t1 (F := F) 𝒱 dev bd i arg1 harg1 arg2 harg2 arg3 harg3 arg4 harg4 arg5 harg5 arg6 harg6 arg7 harg7 v4 v31 v32
        (harg4.unread b) (harg5.unread c) k0_pay4 4).2) = slabs (k0_pay2 v4 v31) (k0_pay3 v4 v32) b c := by
  obtain ⟨-, h2, h3⟩ := rev_loop 𝒱 dev bd i arg1 harg1 arg2 harg2 arg3 harg3 arg4 harg4 arg5 harg5 arg6 harg6 arg7 harg7 v4 v31 v32 b c 4 le_rfl
  funext y
  exact View.read_writes_apply_of_pieces _ _ _ _ h2 y (h3 y (by omega))

/-- What the second loop leaves in the output block, whatever was in it. -/
theorem out_after (v4 : Elt F .f32) (v29 : FVec F S128x128 .f32) (v31 v37 v42 : FVec F S128x1 .f32) (v46 : FVec F S1x128 .f32)
    (a b c : Vec F S4096x128 .bf16) (f7 : BufTy.Contents (Elt F) arg7.view.ty) (f6 : BufTy.Contents (Elt F) arg6.view.ty) :
    View.read (Elt F) arg6.view (arg6.view.writes (Elt F) f6
      (st_k0_t2 (F := F) 𝒱 dev bd i arg1 harg1 arg2 harg2 arg3 harg3 arg4 harg4 arg5 harg5 arg6 harg6 arg7 harg7 v4 v29 v31 v37 v42 v46
        (harg3.unread a) (harg4.unread b) (harg5.unread c) f7 k0_pay6 4).2)
      = grads v29 v37 (k0_pay1 v4 v31) v42 v46 a b c (View.read (Elt F) arg7.view f7) := by
  obtain ⟨-, h2, h3⟩ := fwd_loop 𝒱 dev bd i arg1 harg1 arg2 harg2 arg3 harg3 arg4 harg4 arg5 harg5 arg6 harg6 arg7 harg7 v4 v29 v31 v37 v42 v46 a b c f7 4 le_rfl
  funext y
  exact View.read_writes_apply_of_pieces _ _ _ _ h2 y (h3 y (by have h : (y 0).val < 4096 := (y 0).isLt; omega))

end Trips

end Cert.KernelIdeal.Chunks

end
-- ==== Proof.Body.lean ====
/-
  The kernel's run at any float values: one point of the grid is one head, whose body leaves `headGrad` of the head's
  blocks in the output's block (`body_run`); the pipeline over the eight heads follows (`run_all`), and with it the
  frame of the program.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Chunks
public import Idealize.ShloMosaic.Lib.Pipeline.FrameBody
public import Idealize.ShloMosaic.Lib.Tactic
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Cert.KernelIdeal.Chunks Idealize.ShloMosaic.ValueIdx

variable {F : FTy → Type} [FloatOps F]

local notation "𝕄" => MT nD τ sig Unit (Elt F) ℕ (UR sig nD τ) ℕ

/-! ### One head -/

/-- The head's entry of a vector of eight. -/
def entry (x : Vec F S8 .f32) (i : grid0.Coords) : Elt F .f32 := x (ix1 (i 0))

/-- What the body leaves in the output's block, from the decay rates of the two directions, the incoming gradient `a`
    and the two other factors `b` and `c`. -/
def headGrad (lc la : Elt F .f32) (a b c : Vec F S4096x128 .bf16) : Vec F S4096x128 .bf16 :=
  grads (k0_pay43 lc la) (k0_pay46 lc) (k0_pay1 la k0_pay44) (k0_pay47 lc) (k0_pay48 lc) a b c
    (slabs (k0_pay2 la k0_pay44) (k0_pay3 la k0_pay45) b c)

theorem load_entry {μ : Memref sig .tc .smem S8 .f32} (h : μ.IsWhole) (x : Vec F S8 .f32) (i : grid0.Coords) (inb) (h1) :
    View.readAt (Elt F) μ.view (Rect.unit (s := S8) (k0_off1 i) ![1] inb).toLoadRect (h.unread x) (Shape.Idx.first h1)
      = entry x i := by
  rw [View.readAt_eq_ld, h.read_unread]
  unfold entry
  show x _ = x _
  congr 1
  funext a
  refine Fin.ext ?_
  fin_cases a
  show k0_off1 i 0 + 1 * 0 = (i 0).val
  rw [k0_off1_eq]
  rfl

set_option maxHeartbeats 4000000 in
/-- The body at one head: it keeps its inputs, leaves `headGrad` in the output's block and something in the scratch. -/
theorem body_run (c : Dev nD) (i : grid0.Coords) (arg1 : Memref sig .tc .smem S8 .f32) (harg1 : arg1.IsWhole) (arg2 : Memref sig .tc .smem S8 .f32) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S32x128x128 .bf16) (harg7 : arg7.IsWhole)
    (x0 x1 : Vec F S8 .f32) (x2 x3 x4 : Vec F S4096x128 .bf16) (d5 : Vec F S4096x128 .bf16) (d7 : Vec F S32x128x128 .bf16) (K : sProp 𝕄) :
    iprop(owns (c : Thread nD τ) arg1 fullShare x0 ∗ owns (c : Thread nD τ) arg2 fullShare x1
      ∗ owns (c : Thread nD τ) arg3 fullShare x2 ∗ owns (c : Thread nD τ) arg4 fullShare x3
      ∗ owns (c : Thread nD τ) arg5 fullShare x4 ∗ owns (c : Thread nD τ) arg6 fullShare d5
      ∗ owns (c : Thread nD τ) arg7 fullShare d7
      ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare (headGrad (entry x0 i) (entry x1 i) x2 x3 x4)
        ∗ (∃ d, owns (c : Thread nD τ) arg7 fullShare d)) -∗ K))
    ⊢ wp frame (wpE (defs₀ (F := F)) Variants.none c none) Set.univ
        (cc0_retention_dq i arg1 harg1 arg2 harg2 arg3 harg3 arg4 harg4 arg5 harg5 arg6 harg6 arg7 harg7) (fun _ => K) := by
  simp only [cc0_retention_dq_eq_skeleton]
  unfold cc0_retention_dq_skel
  simp only [k0_part13_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, Hk⟩
  obtain rfl := harg1.eq_unread h1
  obtain rfl := harg2.eq_unread h2
  obtain rfl := harg3.eq_unread h3
  obtain rfl := harg4.eq_unread h4
  obtain rfl := harg5.eq_unread h5
  obtain rfl := harg6.eq_unread h6
  obtain rfl := harg7.eq_unread h7
  sl_exec
  sl_step
  iapply Hk
  isplitl [H1]
  · iexists _; isplitr
    swap; iexact H1
    ipureintro; exact harg1.read_unread _
  isplitl [H2]
  · iexists _; isplitr
    swap; iexact H2
    ipureintro; exact harg2.read_unread _
  isplitl [H3]
  · iexists _; isplitr
    swap; iexact H3
    ipureintro; exact harg3.read_unread _
  isplitl [H4]
  · iexists _; isplitr
    swap; iexact H4
    ipureintro; exact harg4.read_unread _
  isplitl [H5]
  · iexists _; isplitr
    swap; iexact H5
    ipureintro; exact harg5.read_unread _
  isplitl [H6]
  · iexists _; isplitr
    swap; iexact H6
    ipureintro
    unfold body_run.sl.r_2 body_run.sl.r_3 body_run.sl.r_4 body_run.sl.r_5 body_run.sl.r_1 body_run.sl.r
    simp only [load_entry]
    rw [show Scf.trips k0_t2_loop.lb k0_t2_loop.ub k0_t2_loop.st = 4 from by decide,
      out_after, scratch_after]
    rfl
  iexists _; iexists _; isplitr
  swap; iexact H7
  ipureintro; rfl

/-! ### The pipeline over the heads -/

variable (m : (ℓ : Loc nD τ sig) → Buf (Elt F) ℓ) (ρ : Dev nD → PrngReg)

/-- What the output's block holds after head `t`. -/
def outBlock (c : Dev nD) (t : Fin cfg0.N) : Vec F S4096x128 .bf16 :=
  headGrad (entry (iblk m c 0 t) (grid0.coords t)) (entry (iblk m c 1 t) (grid0.coords t)) (iblk m c 2 t) (iblk m c 3 t) (iblk m c 4 t)

/-- The pipeline's data: the arrays as launched, every input's block left in place, the output's block as `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlock m c t := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d

/-- The scratch the body is handed, beside the generator's register. -/
theorem scratch_eq (c : Dev nD) :
    (Pipeline.ΦA spec0 c : sProp 𝕄)
      = iprop(iprop(∃ d, owns (c : Thread nD τ) (Memref.whole cc0_scratch0) fullShare d) ∗ (∃ r, prngReg c r)) := by
  unfold Pipeline.ΦA
  rw [scopedRest0_eq]
  simp only [owns_whole]
  try rfl

/-- The triple of the body at a point, as the pipeline asks for it. -/
theorem point_run (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t))) := by
  unfold bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5,
    show (dats m 0 c).Φ t.castSucc = Pipeline.ΦA spec0 c from rfl, scratch_eq]
  iintro ⟨⟨⟨%d7, HS⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ (iblk m c 0 t) (iblk m c 1 t) (iblk m c 2 t) (iblk m c 3 t) (iblk m c 4 t) _ d7 _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg0.N) :
    defs₀ (F := F) .tc cfg0.body (cfg0.bodyArgs t (cfg0.slots t)) = bodyAt0 t := by
  unfold defs₀
  rw [Defs.onTc_tc]

theorem every_point (c : Dev nD) : BodyObligation (dats (F := F) m 0 c) (defs₀ (F := F)) Variants.none () Set.univ := fun t => by
  rw [bigSep_W0, bigSep_W0, body_row]
  exact triple_restated (point_run m c t) rfl .rfl fun _ => .rfl

set_option backward.isDefEq.respectTransparency.types false in
/-- From any memory with zero counters every execution ends, each staged array as the pipeline's data say, every other
    buffer as launched, and every counter at zero. -/
theorem run_all : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (every_point m c).loose) (hq := fun _ _ _ => rfl)
    (howed := fun _ _ => rfl) (V := V m) (hmain := hmain m Variants.none) (hA := dats_A m) (hΦ := fun _ _ => rfl)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

end Cert.KernelIdeal.Body

end
-- ==== Proof.KernelValue.lean ====
/-
  The kernel's block of one head, read at an entry over the extended reals.
-/
module

public import proofs.«01_k».proof.Proof.Body
public import proofs.«01_k».proof.Proof.Numbers
public import Idealize.ShloMosaic.Lib.Pointwise

@[expose] public section

noncomputable section

namespace Cert.KernelIdeal.Value

open Idealize.ShloMosaic Idealize.ShloMosaic.TcCoe
open Cert.KernelIdeal.Gen Cert.KernelIdeal.Chunks Cert.KernelIdeal.Body Cert.Retention

theorem pay8_at (kd : FVec Ideal S128x1 .f32) (cd : FVec Ideal S1x128 .f32) (s : FVec Ideal S128x128 .f32)
    (b c : Vec Ideal S128x128 .bf16) (p q : Fin 128) :
    k0_pay8 kd cd s b c (ix2 p q) = s (ix2 p q) * cd (ix2 0 q) + ∑ j : Fin 128, b (ix2 j p) * kd (ix2 j 0) * c (ix2 j q) := by
  pointwise [k0_pay8]

theorem pay27_at (mask : FVec Ideal S128x128 .f32) (ac aa : FVec Ideal S128x1 .f32) (s : FVec Ideal S128x128 .f32)
    (a b c : Vec Ideal S128x128 .bf16) (t : Vec Ideal S1x128x128 .bf16) (p q : Fin 128) :
    k0_pay27 mask ac aa s a b c t (ix2 p q) = ((∑ j : Fin 128, (∑ e : Fin 128, a (ix2 p e) * b (ix2 j e)) * mask (ix2 p j) * c (ix2 j q))
      + (∑ e : Fin 128, a (ix2 p e) * ac (ix2 p 0) * s (ix2 e q)) + ∑ e : Fin 128, a (ix2 p e) * aa (ix2 p 0) * t (ix3 0 e q))
        * Ideal.ofBits .f32 0x3DB504F3#32 := by
  pointwise [k0_pay27]

theorem pay7_at (s : FVec Ideal S128x128 .f32) (p q : Fin 128) : k0_pay7 s (ix3 0 p q) = s (ix2 p q) := by
  pointwise [k0_pay7]

theorem pay4_at (p q : Fin 128) : (k0_pay4 (F := Ideal)) (ix2 p q) = 0 := by
  pointwise [k0_pay4]

theorem pay1_at (g : Elt Ideal .f32) (p : Fin 128) : k0_pay1 g k0_pay44 (ix2 p 0) = dec g (128 - p.val) := by
  have h : k0_pay1 g k0_pay44 (ix2 p 0) = Ideal.exp (g * (Ideal.ofBits .f32 0x43000000#32
      - FloatOps.sitofp (F := Ideal) .f32 (BitVec.ofNat 32 p.val))) := by
    pointwise [k0_pay1, k0_pay44]
  rw [h, float_fin, bits_128, ← EReal.coe_sub]
  exact dec_of (by rw [Nat.cast_sub p.isLt.le]; norm_num)

theorem pay2_at (g : Elt Ideal .f32) (p : Fin 128) : k0_pay2 g k0_pay44 (ix2 p 0) = dec g p.val := by
  have h : k0_pay2 g k0_pay44 (ix2 p 0) = Ideal.exp (g * FloatOps.sitofp (F := Ideal) .f32 (BitVec.ofNat 32 p.val)) := by
    pointwise [k0_pay2, k0_pay44]
  rw [h, float_fin]
  exact dec_of rfl

theorem pay3_at (g : Elt Ideal .f32) (p : Fin 128) : k0_pay3 g k0_pay45 (ix2 0 p) = dec g 128 := by
  have h : k0_pay3 g k0_pay45 (ix2 0 p) = Ideal.exp (g * Ideal.ofBits .f32 0x43000000#32) := by
    pointwise [k0_pay3, k0_pay45]
  rw [h, bits_128]
  exact dec_of (by norm_num)

theorem pay46_at (g : Elt Ideal .f32) (p : Fin 128) : k0_pay46 g (ix2 p 0) = dec g (p.val + 1) := by
  have h : k0_pay46 g (ix2 p 0) = Ideal.exp (g * (FloatOps.sitofp (F := Ideal) .f32 (BitVec.ofNat 32 p.val)
      + Ideal.ofBits .f32 0x3F800000#32)) := by
    pointwise [k0_pay46, k0_pay44]
  rw [h, float_fin, bits_1, ← EReal.coe_add]
  exact dec_of (by push_cast; rfl)

theorem pay47_at (g : Elt Ideal .f32) (p : Fin 128) : k0_pay47 g (ix2 p 0) = dec g (127 - p.val) := by
  have h : k0_pay47 g (ix2 p 0) = Ideal.exp (g * (Ideal.ofBits .f32 0x42FE0000#32
      - FloatOps.sitofp (F := Ideal) .f32 (BitVec.ofNat 32 p.val))) := by
    pointwise [k0_pay47, k0_pay44]
  rw [h, float_fin, bits_127, ← EReal.coe_sub]
  exact dec_of (by rw [Nat.cast_sub (by have := p.isLt; omega)]; norm_num)

theorem pay48_at (g : Elt Ideal .f32) (p : Fin 128) : k0_pay48 g (ix2 0 p) = dec g 128 := by
  have h : k0_pay48 g (ix2 0 p) = Ideal.exp (g * Ideal.ofBits .f32 0x43000000#32) := by
    pointwise [k0_pay48, k0_pay45]
  rw [h, bits_128]
  exact dec_of (by norm_num)

theorem pay43_at (g h : Elt Ideal .f32) (p j : Fin 128) : k0_pay43 g h (ix2 p j) = back false g p j + back true h j p := by
  rw [← back_of_le, ← back_of_neg, ← float_sub]
  pointwise [k0_pay43]

/-! ### The block of one head -/

/-- Row `j` of chunk `n` of a head's block. -/
def row (x : Vec Ideal S4096x128 .bf16) (n : ℕ) (j p : Fin 128) : EReal := rows x n (ix2 j p)

theorem state_at (kd : FVec Ideal S128x1 .f32) (cd : FVec Ideal S1x128 .f32) (b c : Vec Ideal S4096x128 .bf16) (ord : ℕ → ℕ)
    (w : EReal) (u : Fin 128 → EReal) (hk : ∀ j, kd (ix2 j 0) = u j) (hc : ∀ q, cd (ix2 0 q) = w) (n : ℕ) (p q : Fin 128) :
    state kd cd b c ord n (ix2 p q) = st w u (fun n => row b (ord n)) (fun n => row c (ord n)) n p q := by
  induction n with
  | zero => exact pay4_at p q
  | succ n ih =>
    show k0_pay8 kd cd (state kd cd b c ord n) (rows b (ord n)) (rows c (ord n)) (ix2 p q) = _
    rw [pay8_at, ih, hc]
    simp only [hk]
    rfl

/-- The block of one head, entry by entry. -/
theorem headGrad_at (lf lb : Elt Ideal .f32) (a b c : Vec Ideal S4096x128 .bf16) (n : ℕ) (hn : n < 32) (r d : Fin 128)
    (t : Fin 4096) (ht : t.val = 128 * n + r.val) :
    headGrad lf lb a b c (ix2 t d) = target lf lb (row a) (row b) (row c) n r d * Ideal.ofBits .f32 0x3DB504F3#32 := by
  have hr := r.isLt
  have e0 : t.val / 128 = n := by omega
  have e1 : t.val % 128 = r.val := by omega
  show grad _ _ _ _ _ a b c _ (t.val / 128) (ValueIdx.ix2 ⟨t.val % 128, _⟩ d) = _
  rw [e0, show (ValueIdx.ix2 (⟨t.val % 128, Nat.mod_lt _ (by decide)⟩ : Fin 128) d) = ix2 r d from by
    rw [show (⟨t.val % 128, Nat.mod_lt _ (by decide)⟩ : Fin 128) = r from Fin.ext e1]; rfl]
  unfold grad
  rw [pay27_at, pay46_at, pay1_at]
  have hs : ∀ e q, slab (slabs (k0_pay2 lb k0_pay44) (k0_pay3 lb k0_pay45) b c) n (ix3 0 e q)
      = st (dec lb 128) (fun j => dec lb j.val) (fun k => row b (31 - k)) (fun k => row c (31 - k)) (31 - n) e q := by
    intro e q
    show k0_pay7 (state _ _ b c down (31 - n % 32)) (ix3 0 e q) = _
    rw [pay7_at, Nat.mod_eq_of_lt hn]
    exact state_at _ _ b c down _ _ (pay2_at lb) (pay3_at lb) _ e q
  simp only [pay43_at, hs, state_at _ _ b c id _ _ (pay47_at lf) (pay48_at lf)]
  rfl

end Cert.KernelIdeal.Value

end
-- ==== Proof.KernelResult.lean ====
/-
  The kernel's whole result over the extended reals.
-/
module

public import proofs.«01_k».proof.Proof.KernelValue
public import Idealize.ShloMosaic.Lib.Pipeline.ValueKit.Point

@[expose] public section

noncomputable section

namespace Cert.KernelIdeal.Result

open Idealize.ShloMosaic Idealize.ShloMosaic.TcCoe
open Cert.KernelIdeal.Gen Cert.KernelIdeal.Chunks Cert.KernelIdeal.Body Cert.KernelIdeal.Value Cert.Retention

variable (m : (ℓ : Loc nD τ sig) → Buf (Elt Ideal) ℓ)

/-- The four arguments at their entries. -/
def arg0 (c : Dev nD) (t : Fin 4096) (x : Fin 1024) : EReal := (m ((c.tc : Thread nD τ).loc main_arg0) : Vec Ideal S4096x1024 .bf16) (ix2 t x)
def arg1 (c : Dev nD) (t : Fin 4096) (x : Fin 7168) : EReal := (m ((c.tc : Thread nD τ).loc main_arg1) : Vec Ideal S4096x7168 .bf16) (ix2 t x)
def arg2 (c : Dev nD) (h : Fin 8) : EReal := (m ((c.tc : Thread nD τ).loc main_arg2) : Vec Ideal S1x8 .f32) (ix2 0 h)
def arg3 (c : Dev nD) (h : Fin 8) : EReal := (m ((c.tc : Thread nD τ).loc main_arg3) : Vec Ideal S1x8 .f32) (ix2 0 h)

/-- The result, entry by entry. -/
def result (c : Dev nD) : Vec Ideal S4096x1024 .bf16 := fun i =>
  value (arg0 m c) (arg1 m c) (arg2 m c) (arg3 m c) ⟨(i 0).val / 128, by have : (i 0).val < 4096 := (i 0).isLt; omega⟩
    ⟨(i 0).val % 128, Nat.mod_lt _ (by decide)⟩ ⟨(i 1).val / 128, by have : (i 1).val < 1024 := (i 1).isLt; omega⟩
    ⟨(i 1).val % 128, Nat.mod_lt _ (by decide)⟩

theorem rate_f (c : Dev nD) (h : Fin 8) : (V m c main_v2 : Vec Ideal S8 .f32) (ix1 h) = rate (arg2 m c h) := by
  entry_read
  pointwise
  rfl

theorem rate_b (c : Dev nD) (h : Fin 8) : (V m c main_v5 : Vec Ideal S8 .f32) (ix1 h) = rate (arg3 m c h) := by
  entry_read
  pointwise
  rfl

theorem index_2 : ∀ t : Fin cfg0.N, win0_2.index t = ![0, t.val] := by decide +kernel
theorem index_3 : ∀ t : Fin cfg0.N, win0_3.index t = ![0, 40 + t.val] := by decide +kernel
theorem index_4 : ∀ t : Fin cfg0.N, win0_4.index t = ![0, 32 + t.val] := by decide +kernel
theorem index_5 : ∀ t : Fin cfg0.N, win0_5.index t = ![0, t.val] := by decide +kernel
theorem index_0 : ∀ t : Fin cfg0.N, win0_0.index t = ![0] := by decide +kernel
theorem index_1 : ∀ t : Fin cfg0.N, win0_1.index t = ![0] := by decide +kernel
theorem coords_0 : ∀ t : Fin cfg0.N, (grid0.coords t 0).val = t.val := by decide +kernel

/-- A head's number. -/
def head (t : Fin cfg0.N) : Fin 8 := ⟨t.val, t.isLt⟩

theorem entry_f (c : Dev nD) (t : Fin cfg0.N) : entry (iblk m c 0 t) (grid0.coords t) = rate (arg2 m c (head t)) := by
  rw [← rate_f]
  unfold entry
  blk_simp [iblk]
  show V m c main_v2 _ = V m c main_v2 _
  congr 1
  funext a
  refine Fin.ext ?_
  fin_cases a
  blk_simp [index_0]
  exact coords_0 t

theorem entry_b (c : Dev nD) (t : Fin cfg0.N) : entry (iblk m c 1 t) (grid0.coords t) = rate (arg3 m c (head t)) := by
  rw [← rate_b]
  unfold entry
  blk_simp [iblk]
  show V m c main_v5 _ = V m c main_v5 _
  congr 1
  funext a
  refine Fin.ext ?_
  fin_cases a
  blk_simp [index_1]
  exact coords_0 t

theorem row_g (c : Dev nD) (t : Fin cfg0.N) :
    row (iblk m c 2 t) = chunks (arg0 m c) (128 * (head t).val) (by have := (head t).isLt; omega) := by
  funext n j p
  unfold row rows chunks arg0
  refine Eq.trans (b := V m c main_arg0 ((win0_2.blk t).view.emb _)) rfl ((congrFun (V_main_arg0 m c) _).trans ?_)
  show m _ _ = m _ _
  congr 1
  funext a
  refine Fin.ext ?_
  fin_cases a
  · blk_simp [index_2]
    rfl
  · blk_simp [index_2]
    show t.val * 128 + p.val = 128 * t.val + p.val
    omega

theorem row_v (c : Dev nD) (t : Fin cfg0.N) :
    row (iblk m c 3 t) = chunks (arg1 m c) (5120 + 128 * (head t).val) (by have := (head t).isLt; omega) := by
  funext n j p
  unfold row rows chunks arg1
  refine Eq.trans (b := V m c main_arg1 ((win0_3.blk t).view.emb _)) rfl ((congrFun (V_main_arg1 m c) _).trans ?_)
  show m _ _ = m _ _
  congr 1
  funext a
  refine Fin.ext ?_
  fin_cases a
  · blk_simp [index_3]
    rfl
  · blk_simp [index_3]
    show (40 + t.val) * 128 + p.val = 5120 + 128 * t.val + p.val
    omega

theorem row_k (c : Dev nD) (t : Fin cfg0.N) :
    row (iblk m c 4 t) = chunks (arg1 m c) (4096 + 128 * (head t).val) (by have := (head t).isLt; omega) := by
  funext n j p
  unfold row rows chunks arg1
  refine Eq.trans (b := V m c main_arg1 ((win0_4.blk t).view.emb _)) rfl ((congrFun (V_main_arg1 m c) _).trans ?_)
  show m _ _ = m _ _
  congr 1
  funext a
  refine Fin.ext ?_
  fin_cases a
  · blk_simp [index_4]
    rfl
  · blk_simp [index_4]
    show (32 + t.val) * 128 + p.val = 4096 + 128 * t.val + p.val
    omega

/-- The block of a head is the head's columns of the result. -/
theorem block_value (c : Dev nD) (t : Fin cfg0.N) (n : Fin 32) (r d : Fin 128) (s : Fin 4096) (hs : s.val = 128 * n.val + r.val) :
    outBlock m c t (ix2 s d) = value (arg0 m c) (arg1 m c) (arg2 m c) (arg3 m c) n r (head t) d := by
  unfold outBlock
  rw [headGrad_at _ _ _ _ _ n.val n.isLt r d s hs, entry_f, entry_b, row_g, row_v, row_k]
  rfl

theorem final (c : Dev nD) : (dats m 0 c).arrAt 5 cfg0.N = result m c := by
  refine (dats m 0 c).arrAt_eq_of_covers 5 _ (by decide +kernel) fun t hf y => ?_
  blk_simp [index_5]
  rw [after_5]
  have h0 : (y 0).val < 4096 := (y 0).isLt
  have h1 : (y 1).val < 128 := (y 1).isLt
  have e0 : ((win0_5.blk t).view.emb y 0).val = (y 0).val := by
    blk_simp [index_5]
  have e1 : ((win0_5.blk t).view.emb y 1).val = t.val * 128 + (y 1).val := by
    blk_simp [index_5]
  have ey : (y : S4096x128.Idx) = ix2 ⟨(y 0).val, h0⟩ ⟨(y 1).val, h1⟩ := by
    funext a; match a with | ⟨0, _⟩ => rfl | ⟨1, _⟩ => rfl
  rw [ey, block_value m c t ⟨(y 0).val / 128, by omega⟩ ⟨(y 0).val % 128, Nat.mod_lt _ (by decide)⟩ ⟨(y 1).val, h1⟩ ⟨(y 0).val, h0⟩
    (by show (y 0).val = 128 * ((y 0).val / 128) + (y 0).val % 128; omega), ← ey]
  unfold result
  congr 1
  · exact Fin.ext (by show (y 0).val / 128 = _ / 128; rw [e0])
  · exact Fin.ext (by show (y 0).val % 128 = _ % 128; rw [e0])
  · exact Fin.ext (by show t.val = _ / 128; rw [e1]; omega)
  · exact Fin.ext (by show (y 1).val = _ % 128; rw [e1]; omega)

/-- The run: the result's array ends with `result`, the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1.out_eq c 5).trans (final m c), h.2.1 c⟩)
    (θ_run_and (run_all m ρ) (frame m ρ))

end Cert.KernelIdeal.Result

end
-- ==== Proof.ReferenceIdealLists.lean ====
/- The operations of `ReferenceIdeal` in order, as lists: one list for every stretch of @main's own operations and for every call between
   two loops, the same for the body of each of its 4 loops; and @main and the bodies as chains of those lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.ReferenceIdeal.Host

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- `main_while0_body`: the call `main_while0b_call1` of `fn_dynamic_index_in_dim`. -/
abbrev while0_body_s0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.nullary (.of main_while0b_call1_c_2 : StableHlo.TRef sig ⟨S_, .i32⟩) (constantI S_ 32 0#32),
    StableHlo.TRef.unaryIndexed (.of main_v75_0 : StableHlo.TRef sig ⟨S32x1x8x128x128, .f32⟩) ![(.of main_v75_7 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while0b_call1_v0 : StableHlo.TRef sig ⟨S1x1x8x128x128, .f32⟩) (.of main_while0b_v165 : StableHlo.TRef sig ⟨S1x8x128x128, .f32⟩) (rfl : (.f32 : EltTy) = .f32) shapeCasts_S1x1x8x128x128_S1x8x128x128 ]
theorem while0_body_s0_sub : (while0_body_s0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while0_body_s0_fresh : (while0_body_s0 : List (HloOp τ sig (Elt F))).Forall fun op => op.fresh = ∅ := StableHlo.forall_fresh_of_map rfl

/-- `main_while0_body`: the call `main_while0b_call2` of `fn_dynamic_index_in_dim`. -/
abbrev while0_body_s1 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.nullary (.of main_while0b_call2_c_2 : StableHlo.TRef sig ⟨S_, .i32⟩) (constantI S_ 32 0#32),
    StableHlo.TRef.unaryIndexed (.of main_v75_1 : StableHlo.TRef sig ⟨S32x1x8x128x128, .f32⟩) ![(.of main_v75_7 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩), (.of main_while0b_call2_c_2 : StableHlo.TRef sig ⟨S_, .i32⟩)] (.of main_while0b_call2_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while0b_call2_v0 : StableHlo.TRef sig ⟨S1x1x8x128x128, .f32⟩) (.of main_while0b_v166 : StableHlo.TRef sig ⟨S1x8x128x128, .f32⟩) (rfl : (.f32 : EltTy) = .f32) shapeCasts_S1x1x8x128x128_S1x8x128x128 ]
theorem while0_body_s1_sub : (while0_body_s1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while0_body_s1_fresh : (while0_body_s1 : List (HloOp τ sig (Elt F))).Forall fun op => op.fresh = ∅ := StableHlo.forall_fresh_of_map rfl

/-- `main_while0_body`: the call `main_while0b_call3` of `fn_dynamic_index_in_dim`. -/
abbrev while0_body_s2 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.nullary (.of main_while0b_call3_c_2 : StableHlo.TRef sig ⟨S_, .i32⟩) (constantI S_ 32 0#32),
    StableHlo.TRef.unaryIndexed (.of main_v75_2 : StableHlo.TRef sig ⟨S32x1x8x128x128, .f32⟩) ![(.of main_v75_7 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩), (.of main_while0b_call3_c_2 : StableHlo.TRef sig ⟨S_, .i32⟩)] (.of main_while0b_call3_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while0b_call3_v0 : StableHlo.TRef sig ⟨S1x1x8x128x128, .f32⟩) (.of main_while0b_v167 : StableHlo.TRef sig ⟨S1x8x128x128, .f32⟩) (rfl : (.f32 : EltTy) = .f32) shapeCasts_S1x1x8x128x128_S1x8x128x128 ]
theorem while0_body_s2_sub : (while0_body_s2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while0_body_s2_fresh : (while0_body_s2 : List (HloOp τ sig (Elt F))).Forall fun op => op.fresh = ∅ := StableHlo.forall_fresh_of_map rfl

/-- `main_while0_body`: own operations. -/
abbrev while0_body_s3 : List (HloOp τ sig (Elt F)) :=
  [ StableHlo.binary main_while0b_v165 main_while0b_v166 main_while0b_v168 ((fun l r => Host.dotGeneral dot_S1x8x128x128_S1x8x128x128_S1x8x128x128_3_3_2_2_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while0b_v168 main_v75_5 main_while0b_v169 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while0b_v169 main_while0b_v167 main_while0b_v170 ((fun l r => Host.dotGeneral dot_S1x8x128x128_S1x8x128x128_S1x8x128x128_3_2_2_3_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.unary main_v75_6 main_while0b_v171 (broadcastInDim S1x8x128x128 ![0, 1, 2, 3] bcast_S1x8x128x1_S1x8x128x128_0_1_2_3 : (⟨S1x8x128x1, .f32⟩ : BufTy).Contents (Elt F) → (⟨S1x8x128x128, .f32⟩ : BufTy).Contents (Elt F)),
    StableHlo.binary main_while0b_v165 main_while0b_v171 main_while0b_v172 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while0b_v172 main_v75_8 main_while0b_v173 ((fun l r => Host.dotGeneral dot_S1x8x128x128_S1x8x128x128_S1x8x128x128_3_2_2_3_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while0b_v170 main_while0b_v173 main_while0b_v174 (addf : (⟨S1x8x128x128, .f32⟩ : BufTy).Contents (Elt F) → (⟨S1x8x128x128, .f32⟩ : BufTy).Contents (Elt F) → (⟨S1x8x128x128, .f32⟩ : BufTy).Contents (Elt F)),
    StableHlo.unary main_v75_3 main_while0b_v175 (broadcastInDim S1x8x128x128 ![0, 1, 2, 3] bcast_S1x8x1x1_S1x8x128x128_0_1_2_3 : (⟨S1x8x1x1, .f32⟩ : BufTy).Contents (Elt F) → (⟨S1x8x128x128, .f32⟩ : BufTy).Contents (Elt F)),
    StableHlo.binary main_v75_8 main_while0b_v175 main_while0b_v176 (mulf : (⟨S1x8x128x128, .f32⟩ : BufTy).Contents (Elt F) → (⟨S1x8x128x128, .f32⟩ : BufTy).Contents (Elt F) → (⟨S1x8x128x128, .f32⟩ : BufTy).Contents (Elt F)),
    StableHlo.unary main_v75_4 main_while0b_v177 (broadcastInDim S1x8x128x128 ![0, 1, 2, 3] bcast_S1x8x128x1_S1x8x128x128_0_1_2_3 : (⟨S1x8x128x1, .f32⟩ : BufTy).Contents (Elt F) → (⟨S1x8x128x128, .f32⟩ : BufTy).Contents (Elt F)),
    StableHlo.binary main_while0b_v166 main_while0b_v177 main_while0b_v178 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while0b_v178 main_while0b_v167 main_while0b_v179 ((fun l r => Host.dotGeneral dot_S1x8x128x128_S1x8x128x128_S1x8x128x128_2_2_3_3_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while0b_v176 main_while0b_v179 main_while0b_v180 (addf : (⟨S1x8x128x128, .f32⟩ : BufTy).Contents (Elt F) → (⟨S1x8x128x128, .f32⟩ : BufTy).Contents (Elt F) → (⟨S1x8x128x128, .f32⟩ : BufTy).Contents (Elt F)) ]
theorem while0_body_s3_sub : (while0_body_s3 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub ..⟩
theorem while0_body_s3_fresh : (while0_body_s3 : List (HloOp τ sig (Elt F))).Forall fun op => op.fresh = ∅ := StableHlo.forall_fresh_of_map rfl

/-- `main_while0_body`: the call `main_while0b_call4` of `fn_dynamic_update_index_in_dim`. -/
abbrev while0_body_s4 : List (HloOp τ sig (Elt F)) :=
  [ StableHlo.TRef.unary (.of main_while0b_v174 : StableHlo.TRef sig ⟨S1x8x128x128, .f32⟩) (.of main_while0b_call4_v0 : StableHlo.TRef sig ⟨S1x1x8x128x128, .f32⟩) (broadcastInDim S1x1x8x128x128 ![1, 2, 3, 4] bcast_S1x8x128x128_S1x1x8x128x128_1_2_3_4),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.nullary (.of main_while0b_call4_c_2 : StableHlo.TRef sig ⟨S_, .i32⟩) (constantI S_ 32 0#32),
    StableHlo.TRef.binaryIndexed (.of main_v75_9 : StableHlo.TRef sig ⟨S32x1x8x128x128, .f32⟩) (.of main_while0b_call4_v0 : StableHlo.TRef sig ⟨S1x1x8x128x128, .f32⟩) ![(.of main_v75_7 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩), (.of main_while0b_call4_c_2 : StableHlo.TRef sig ⟨S_, .i32⟩)] (.of main_while0b_v181 : StableHlo.TRef sig ⟨S32x1x8x128x128, .f32⟩) (fun x u i => Host.dynamicUpdateSlice x u (fun k => (i k (Shape.Idx.first h_S_)).toInt) updateFits_S32x1x8x128x128_S1x1x8x128x128) ]
theorem while0_body_s4_sub : (while0_body_s4 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem while0_body_s4_fresh : (while0_body_s4 : List (HloOp τ sig (Elt F))).Forall fun op => op.fresh = ∅ := StableHlo.forall_fresh_of_map rfl

/-- `main_while0_body`: the call `main_while0b_call5` of `fn_dynamic_update_index_in_dim`. -/
abbrev while0_body_s5 : List (HloOp τ sig (Elt F)) :=
  [ StableHlo.TRef.unary (.of main_v75_8 : StableHlo.TRef sig ⟨S1x8x128x128, .f32⟩) (.of main_while0b_call5_v0 : StableHlo.TRef sig ⟨S1x1x8x128x128, .f32⟩) (broadcastInDim S1x1x8x128x128 ![1, 2, 3, 4] bcast_S1x8x128x128_S1x1x8x128x128_1_2_3_4),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.nullary (.of main_while0b_call5_c_2 : StableHlo.TRef sig ⟨S_, .i32⟩) (constantI S_ 32 0#32),
    StableHlo.TRef.binaryIndexed (.of main_v75_10 : StableHlo.TRef sig ⟨S32x1x8x128x128, .f32⟩) (.of main_while0b_call5_v0 : StableHlo.TRef sig ⟨S1x1x8x128x128, .f32⟩) ![(.of main_v75_7 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩), (.of main_while0b_call5_c_2 : StableHlo.TRef sig ⟨S_, .i32⟩)] (.of main_while0b_v182 : StableHlo.TRef sig ⟨S32x1x8x128x128, .f32⟩) (fun x u i => Host.dynamicUpdateSlice x u (fun k => (i k (Shape.Idx.first h_S_)).toInt) updateFits_S32x1x8x128x128_S1x1x8x128x128) ]
theorem while0_body_s5_sub : (while0_body_s5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem while0_body_s5_fresh : (while0_body_s5 : List (HloOp τ sig (Elt F))).Forall fun op => op.fresh = ∅ := StableHlo.forall_fresh_of_map rfl

/-- `main_while0_body`: own operations. -/
abbrev while0_body_s6 : List (HloOp τ sig (Elt F)) :=
  [ StableHlo.nullary main_while0b_c_34 (constantI S_ 32 1#32),
    StableHlo.binary main_v75_7 main_while0b_c_34 main_while0b_v183 (addi : (⟨S_, .i32⟩ : BufTy).Contents (Elt F) → (⟨S_, .i32⟩ : BufTy).Contents (Elt F) → (⟨S_, .i32⟩ : BufTy).Contents (Elt F)),
    StableHlo.unary main_while0b_v183 main_v75_7 id,
    StableHlo.unary main_while0b_v180 main_v75_8 id,
    StableHlo.unary main_while0b_v181 main_v75_9 id,
    StableHlo.unary main_while0b_v182 main_v75_10 id ]
theorem while0_body_s6_sub : (while0_body_s6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while0_body_s6_fresh : (while0_body_s6 : List (HloOp τ sig (Elt F))).Forall fun op => op.fresh = ∅ := StableHlo.forall_fresh_of_map rfl

/-- `main_while1_body`: the call `main_while1b_call10` of `fn_dynamic_index_in_dim`. -/
abbrev while1_body_s0 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.nullary (.of main_while1b_call10_c_2 : StableHlo.TRef sig ⟨S_, .i32⟩) (constantI S_ 32 0#32),
    StableHlo.TRef.unaryIndexed (.of main_v133_0 : StableHlo.TRef sig ⟨S32x1x8x128x128, .f32⟩) ![(.of main_v133_7 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩), (.of main_while1b_call10_c_2 : StableHlo.TRef sig ⟨S_, .i32⟩)] (.of main_while1b_call10_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while1b_call10_v0 : StableHlo.TRef sig ⟨S1x1x8x128x128, .f32⟩) (.of main_while1b_v165 : StableHlo.TRef sig ⟨S1x8x128x128, .f32⟩) (rfl : (.f32 : EltTy) = .f32) shapeCasts_S1x1x8x128x128_S1x8x128x128 ]
theorem while1_body_s0_sub : (while1_body_s0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while1_body_s0_fresh : (while1_body_s0 : List (HloOp τ sig (Elt F))).Forall fun op => op.fresh = ∅ := StableHlo.forall_fresh_of_map rfl

/-- `main_while1_body`: the call `main_while1b_call11` of `fn_dynamic_index_in_dim`. -/
abbrev while1_body_s1 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.nullary (.of main_while1b_call11_c_2 : StableHlo.TRef sig ⟨S_, .i32⟩) (constantI S_ 32 0#32),
    StableHlo.TRef.unaryIndexed (.of main_v133_1 : StableHlo.TRef sig ⟨S32x1x8x128x128, .f32⟩) ![(.of main_v133_7 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩), (.of main_while1b_call11_c_2 : StableHlo.TRef sig ⟨S_, .i32⟩)] (.of main_while1b_call11_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while1b_call11_v0 : StableHlo.TRef sig ⟨S1x1x8x128x128, .f32⟩) (.of main_while1b_v166 : StableHlo.TRef sig ⟨S1x8x128x128, .f32⟩) (rfl : (.f32 : EltTy) = .f32) shapeCasts_S1x1x8x128x128_S1x8x128x128 ]
theorem while1_body_s1_sub : (while1_body_s1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while1_body_s1_fresh : (while1_body_s1 : List (HloOp τ sig (Elt F))).Forall fun op => op.fresh = ∅ := StableHlo.forall_fresh_of_map rfl

/-- `main_while1_body`: the call `main_while1b_call12` of `fn_dynamic_index_in_dim`. -/
abbrev while1_body_s2 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.nullary (.of main_while1b_call12_c_2 : StableHlo.TRef sig ⟨S_, .i32⟩) (constantI S_ 32 0#32),
    StableHlo.TRef.unaryIndexed (.of main_v133_2 : StableHlo.TRef sig ⟨S32x1x8x128x128, .f32⟩) ![(.of main_v133_7 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩), (.of main_while1b_call12_c_2 : StableHlo.TRef sig ⟨S_, .i32⟩)] (.of main_while1b_call12_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while1b_call12_v0 : StableHlo.TRef sig ⟨S1x1x8x128x128, .f32⟩) (.of main_while1b_v167 : StableHlo.TRef sig ⟨S1x8x128x128, .f32⟩) (rfl : (.f32 : EltTy) = .f32) shapeCasts_S1x1x8x128x128_S1x8x128x128 ]
theorem while1_body_s2_sub : (while1_body_s2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while1_body_s2_fresh : (while1_body_s2 : List (HloOp τ sig (Elt F))).Forall fun op => op.fresh = ∅ := StableHlo.forall_fresh_of_map rfl

/-- `main_while1_body`: own operations. -/
abbrev while1_body_s3 : List (HloOp τ sig (Elt F)) :=
  [ StableHlo.binary main_while1b_v165 main_while1b_v166 main_while1b_v168 ((fun l r => Host.dotGeneral dot_S1x8x128x128_S1x8x128x128_S1x8x128x128_3_3_2_2_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while1b_v168 main_v133_5 main_while1b_v169 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while1b_v169 main_while1b_v167 main_while1b_v170 ((fun l r => Host.dotGeneral dot_S1x8x128x128_S1x8x128x128_S1x8x128x128_3_2_2_3_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.unary main_v133_6 main_while1b_v171 (broadcastInDim S1x8x128x128 ![0, 1, 2, 3] bcast_S1x8x128x1_S1x8x128x128_0_1_2_3 : (⟨S1x8x128x1, .f32⟩ : BufTy).Contents (Elt F) → (⟨S1x8x128x128, .f32⟩ : BufTy).Contents (Elt F)),
    StableHlo.binary main_while1b_v165 main_while1b_v171 main_while1b_v172 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while1b_v172 main_v133_8 main_while1b_v173 ((fun l r => Host.dotGeneral dot_S1x8x128x128_S1x8x128x128_S1x8x128x128_3_2_2_3_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while1b_v170 main_while1b_v173 main_while1b_v174 (addf : (⟨S1x8x128x128, .f32⟩ : BufTy).Contents (Elt F) → (⟨S1x8x128x128, .f32⟩ : BufTy).Contents (Elt F) → (⟨S1x8x128x128, .f32⟩ : BufTy).Contents (Elt F)),
    StableHlo.unary main_v133_3 main_while1b_v175 (broadcastInDim S1x8x128x128 ![0, 1, 2, 3] bcast_S1x8x1x1_S1x8x128x128_0_1_2_3 : (⟨S1x8x1x1, .f32⟩ : BufTy).Contents (Elt F) → (⟨S1x8x128x128, .f32⟩ : BufTy).Contents (Elt F)),
    StableHlo.binary main_v133_8 main_while1b_v175 main_while1b_v176 (mulf : (⟨S1x8x128x128, .f32⟩ : BufTy).Contents (Elt F) → (⟨S1x8x128x128, .f32⟩ : BufTy).Contents (Elt F) → (⟨S1x8x128x128, .f32⟩ : BufTy).Contents (Elt F)),
    StableHlo.unary main_v133_4 main_while1b_v177 (broadcastInDim S1x8x128x128 ![0, 1, 2, 3] bcast_S1x8x128x1_S1x8x128x128_0_1_2_3 : (⟨S1x8x128x1, .f32⟩ : BufTy).Contents (Elt F) → (⟨S1x8x128x128, .f32⟩ : BufTy).Contents (Elt F)),
    StableHlo.binary main_while1b_v166 main_while1b_v177 main_while1b_v178 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while1b_v178 main_while1b_v167 main_while1b_v179 ((fun l r => Host.dotGeneral dot_S1x8x128x128_S1x8x128x128_S1x8x128x128_2_2_3_3_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while1b_v176 main_while1b_v179 main_while1b_v180 (addf : (⟨S1x8x128x128, .f32⟩ : BufTy).Contents (Elt F) → (⟨S1x8x128x128, .f32⟩ : BufTy).Contents (Elt F) → (⟨S1x8x128x128, .f32⟩ : BufTy).Contents (Elt F)) ]
theorem while1_body_s3_sub : (while1_body_s3 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub ..⟩
theorem while1_body_s3_fresh : (while1_body_s3 : List (HloOp τ sig (Elt F))).Forall fun op => op.fresh = ∅ := StableHlo.forall_fresh_of_map rfl

/-- `main_while1_body`: the call `main_while1b_call13` of `fn_dynamic_update_index_in_dim`. -/
abbrev while1_body_s4 : List (HloOp τ sig (Elt F)) :=
  [ StableHlo.TRef.unary (.of main_while1b_v174 : StableHlo.TRef sig ⟨S1x8x128x128, .f32⟩) (.of main_while1b_call13_v0 : StableHlo.TRef sig ⟨S1x1x8x128x128, .f32⟩) (broadcastInDim S1x1x8x128x128 ![1, 2, 3, 4] bcast_S1x8x128x128_S1x1x8x128x128_1_2_3_4),
    StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.nullary (.of main_while1b_call13_c_2 : StableHlo.TRef sig ⟨S_, .i32⟩) (constantI S_ 32 0#32),
    StableHlo.TRef.binaryIndexed (.of main_v133_9 : StableHlo.TRef sig ⟨S32x1x8x128x128, .f32⟩) (.of main_while1b_call13_v0 : StableHlo.TRef sig ⟨S1x1x8x128x128, .f32⟩) ![(.of main_v133_7 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩), (.of main_while1b_call13_c_2 : StableHlo.TRef sig ⟨S_, .i32⟩)] (.of main_while1b_v181 : StableHlo.TRef sig ⟨S32x1x8x128x128, .f32⟩) (fun x u i => Host.dynamicUpdateSlice x u (fun k => (i k (Shape.Idx.first h_S_)).toInt) updateFits_S32x1x8x128x128_S1x1x8x128x128) ]
theorem while1_body_s4_sub : (while1_body_s4 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem while1_body_s4_fresh : (while1_body_s4 : List (HloOp τ sig (Elt F))).Forall fun op => op.fresh = ∅ := StableHlo.forall_fresh_of_map rfl

/-- `main_while1_body`: the call `main_while1b_call14` of `fn_dynamic_update_index_in_dim`. -/
abbrev while1_body_s5 : List (HloOp τ sig (Elt F)) :=
  [ StableHlo.TRef.unary (.of main_v133_8 : StableHlo.TRef sig ⟨S1x8x128x128, .f32⟩) (.of main_while1b_call14_v0 : StableHlo.TRef sig ⟨S1x1x8x128x128, .f32⟩) (broadcastInDim S1x1x8x128x128 ![1, 2, 3, 4] bcast_S1x8x128x128_S1x1x8x128x128_1_2_3_4),
    StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.nullary (.of main_while1b_call14_c_2 : StableHlo.TRef sig ⟨S_, .i32⟩) (constantI S_ 32 0#32),
    StableHlo.TRef.binaryIndexed (.of main_v133_10 : StableHlo.TRef sig ⟨S32x1x8x128x128, .f32⟩) (.of main_while1b_call14_v0 : StableHlo.TRef sig ⟨S1x1x8x128x128, .f32⟩) ![(.of main_v133_7 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩), (.of main_while1b_call14_c_2 : StableHlo.TRef sig ⟨S_, .i32⟩)] (.of main_while1b_v182 : StableHlo.TRef sig ⟨S32x1x8x128x128, .f32⟩) (fun x u i => Host.dynamicUpdateSlice x u (fun k => (i k (Shape.Idx.first h_S_)).toInt) updateFits_S32x1x8x128x128_S1x1x8x128x128) ]
theorem while1_body_s5_sub : (while1_body_s5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem while1_body_s5_fresh : (while1_body_s5 : List (HloOp τ sig (Elt F))).Forall fun op => op.fresh = ∅ := StableHlo.forall_fresh_of_map rfl

/-- `main_while1_body`: own operations. -/
abbrev while1_body_s6 : List (HloOp τ sig (Elt F)) :=
  [ StableHlo.nullary main_while1b_c_34 (constantI S_ 32 1#32),
    StableHlo.binary main_v133_7 main_while1b_c_34 main_while1b_v183 (addi : (⟨S_, .i32⟩ : BufTy).Contents (Elt F) → (⟨S_, .i32⟩ : BufTy).Contents (Elt F) → (⟨S_, .i32⟩ : BufTy).Contents (Elt F)),
    StableHlo.unary main_while1b_v183 main_v133_7 id,
    StableHlo.unary main_while1b_v180 main_v133_8 id,
    StableHlo.unary main_while1b_v181 main_v133_9 id,
    StableHlo.unary main_while1b_v182 main_v133_10 id ]
theorem while1_body_s6_sub : (while1_body_s6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while1_body_s6_fresh : (while1_body_s6 : List (HloOp τ sig (Elt F))).Forall fun op => op.fresh = ∅ := StableHlo.forall_fresh_of_map rfl

/-- `main_while2_body`: own operations. -/
abbrev while2_body_s0 : List (HloOp τ sig (Elt F)) :=
  [ StableHlo.nullary main_while2b_c_31 (constantI S_ 32 32#32),
    StableHlo.binary main_while2b_c_31 main_v148_6 main_while2b_v165 (subi : (⟨S_, .i32⟩ : BufTy).Contents (Elt F) → (⟨S_, .i32⟩ : BufTy).Contents (Elt F) → (⟨S_, .i32⟩ : BufTy).Contents (Elt F)),
    StableHlo.nullary main_while2b_c_32 (constantI S_ 32 1#32),
    StableHlo.binary main_while2b_v165 main_while2b_c_32 main_while2b_v166 (subi : (⟨S_, .i32⟩ : BufTy).Contents (Elt F) → (⟨S_, .i32⟩ : BufTy).Contents (Elt F) → (⟨S_, .i32⟩ : BufTy).Contents (Elt F)) ]
theorem while2_body_s0_sub : (while2_body_s0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem while2_body_s0_fresh : (while2_body_s0 : List (HloOp τ sig (Elt F))).Forall fun op => op.fresh = ∅ := StableHlo.forall_fresh_of_map rfl

/-- `main_while2_body`: the call `main_while2b_call17` of `fn_dynamic_index_in_dim`. -/
abbrev while2_body_s1 : List (HloOp τ sig (Elt F)) :=
  [ StableHlo.TRef.nullary (.of main_while2b_call17_c : StableHlo.TRef sig ⟨S_, .i32⟩) (constantI S_ 32 0#32),
    StableHlo.TRef.nullary (.of main_while2b_call17_c_0 : StableHlo.TRef sig ⟨S_, .i32⟩) (constantI S_ 32 0#32),
    StableHlo.TRef.nullary (.of main_while2b_call17_c_1 : StableHlo.TRef sig ⟨S_, .i32⟩) (constantI S_ 32 0#32),
    StableHlo.TRef.nullary (.of main_while2b_call17_c_2 : StableHlo.TRef sig ⟨S_, .i32⟩) (constantI S_ 32 0#32),
    StableHlo.TRef.unaryIndexed (.of main_v148_0 : StableHlo.TRef sig ⟨S32x1x8x128x128, .f32⟩) ![(.of main_while2b_v166 : StableHlo.TRef sig ⟨S_, .i32⟩), (.of main_while2b_call17_c : StableHlo.TRef sig ⟨S_, .i32⟩), (.of main_while2b_call17_c_0 : StableHlo.TRef sig ⟨S_, .i32⟩), (.of main_while2b_call17_c_1 : StableHlo.TRef sig ⟨S_, .i32⟩), (.of main_while2b_call17_c_2 : StableHlo.TRef sig ⟨S_, .i32⟩)] (.of main_while2b_call17_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while2b_call17_v0 : StableHlo.TRef sig ⟨S1x1x8x128x128, .f32⟩) (.of main_while2b_v167 : StableHlo.TRef sig ⟨S1x8x128x128, .f32⟩) (rfl : (.f32 : EltTy) = .f32) shapeCasts_S1x1x8x128x128_S1x8x128x128 ]
theorem while2_body_s1_sub : (while2_body_s1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while2_body_s1_fresh : (while2_body_s1 : List (HloOp τ sig (Elt F))).Forall fun op => op.fresh = ∅ := StableHlo.forall_fresh_of_map rfl

/-- `main_while2_body`: the call `main_while2b_call18` of `fn_dynamic_index_in_dim`. -/
abbrev while2_body_s2 : List (HloOp τ sig (Elt F)) :=
  [ StableHlo.TRef.nullary (.of main_while2b_call18_c : StableHlo.TRef sig ⟨S_, .i32⟩) (constantI S_ 32 0#32),
    StableHlo.TRef.nullary (.of main_while2b_call18_c_0 : StableHlo.TRef sig ⟨S_, .i32⟩) (constantI S_ 32 0#32),
    StableHlo.TRef.nullary (.of main_while2b_call18_c_1 : StableHlo.TRef sig ⟨S_, .i32⟩) (constantI S_ 32 0#32),
    StableHlo.TRef.nullary (.of main_while2b_call18_c_2 : StableHlo.TRef sig ⟨S_, .i32⟩) (constantI S_ 32 0#32),
    StableHlo.TRef.unaryIndexed (.of main_v148_1 : StableHlo.TRef sig ⟨S32x1x8x128x128, .f32⟩) ![(.of main_while2b_v166 : StableHlo.TRef sig ⟨S_, .i32⟩), (.of main_while2b_call18_c : StableHlo.TRef sig ⟨S_, .i32⟩), (.of main_while2b_call18_c_0 : StableHlo.TRef sig ⟨S_, .i32⟩), (.of main_while2b_call18_c_1 : StableHlo.TRef sig ⟨S_, .i32⟩), (.of main_while2b_call18_c_2 : StableHlo.TRef sig ⟨S_, .i32⟩)] (.of main_while2b_call18_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while2b_call18_v0 : StableHlo.TRef sig ⟨S1x1x8x128x128, .f32⟩) (.of main_while2b_v168 : StableHlo.TRef sig ⟨S1x8x128x128, .f32⟩) (rfl : (.f32 : EltTy) = .f32) shapeCasts_S1x1x8x128x128_S1x8x128x128 ]
theorem while2_body_s2_sub : (while2_body_s2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while2_body_s2_fresh : (while2_body_s2 : List (HloOp τ sig (Elt F))).Forall fun op => op.fresh = ∅ := StableHlo.forall_fresh_of_map rfl

/-- `main_while2_body`: the call `main_while2b_call19` of `fn_dynamic_index_in_dim`. -/
abbrev while2_body_s3 : List (HloOp τ sig (Elt F)) :=
  [ StableHlo.TRef.nullary (.of main_while2b_call19_c : StableHlo.TRef sig ⟨S_, .i32⟩) (constantI S_ 32 0#32),
    StableHlo.TRef.nullary (.of main_while2b_call19_c_0 : StableHlo.TRef sig ⟨S_, .i32⟩) (constantI S_ 32 0#32),
    StableHlo.TRef.nullary (.of main_while2b_call19_c_1 : StableHlo.TRef sig ⟨S_, .i32⟩) (constantI S_ 32 0#32),
    StableHlo.TRef.nullary (.of main_while2b_call19_c_2 : StableHlo.TRef sig ⟨S_, .i32⟩) (constantI S_ 32 0#32),
    StableHlo.TRef.unaryIndexed (.of main_v148_2 : StableHlo.TRef sig ⟨S32x1x8x128x128, .f32⟩) ![(.of main_while2b_v166 : StableHlo.TRef sig ⟨S_, .i32⟩), (.of main_while2b_call19_c : StableHlo.TRef sig ⟨S_, .i32⟩), (.of main_while2b_call19_c_0 : StableHlo.TRef sig ⟨S_, .i32⟩), (.of main_while2b_call19_c_1 : StableHlo.TRef sig ⟨S_, .i32⟩), (.of main_while2b_call19_c_2 : StableHlo.TRef sig ⟨S_, .i32⟩)] (.of main_while2b_call19_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while2b_call19_v0 : StableHlo.TRef sig ⟨S1x1x8x128x128, .f32⟩) (.of main_while2b_v169 : StableHlo.TRef sig ⟨S1x8x128x128, .f32⟩) (rfl : (.f32 : EltTy) = .f32) shapeCasts_S1x1x8x128x128_S1x8x128x128 ]
theorem while2_body_s3_sub : (while2_body_s3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while2_body_s3_fresh : (while2_body_s3 : List (HloOp τ sig (Elt F))).Forall fun op => op.fresh = ∅ := StableHlo.forall_fresh_of_map rfl

/-- `main_while2_body`: the call `main_while2b_call20` of `fn_dynamic_index_in_dim`. -/
abbrev while2_body_s4 : List (HloOp τ sig (Elt F)) :=
  [ StableHlo.TRef.nullary (.of main_while2b_call20_c : StableHlo.TRef sig ⟨S_, .i32⟩) (constantI S_ 32 0#32),
    StableHlo.TRef.nullary (.of main_while2b_call20_c_0 : StableHlo.TRef sig ⟨S_, .i32⟩) (constantI S_ 32 0#32),
    StableHlo.TRef.nullary (.of main_while2b_call20_c_1 : StableHlo.TRef sig ⟨S_, .i32⟩) (constantI S_ 32 0#32),
    StableHlo.TRef.nullary (.of main_while2b_call20_c_2 : StableHlo.TRef sig ⟨S_, .i32⟩) (constantI S_ 32 0#32),
    StableHlo.TRef.unaryIndexed (.of main_v148_3 : StableHlo.TRef sig ⟨S32x1x8x128x128, .f32⟩) ![(.of main_while2b_v166 : StableHlo.TRef sig ⟨S_, .i32⟩), (.of main_while2b_call20_c : StableHlo.TRef sig ⟨S_, .i32⟩), (.of main_while2b_call20_c_0 : StableHlo.TRef sig ⟨S_, .i32⟩), (.of main_while2b_call20_c_1 : StableHlo.TRef sig ⟨S_, .i32⟩), (.of main_while2b_call20_c_2 : StableHlo.TRef sig ⟨S_, .i32⟩)] (.of main_while2b_call20_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while2b_call20_v0 : StableHlo.TRef sig ⟨S1x1x8x128x128, .f32⟩) (.of main_while2b_v170 : StableHlo.TRef sig ⟨S1x8x128x128, .f32⟩) (rfl : (.f32 : EltTy) = .f32) shapeCasts_S1x1x8x128x128_S1x8x128x128 ]
theorem while2_body_s4_sub : (while2_body_s4 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while2_body_s4_fresh : (while2_body_s4 : List (HloOp τ sig (Elt F))).Forall fun op => op.fresh = ∅ := StableHlo.forall_fresh_of_map rfl

/-- `main_while2_body`: own operations. -/
abbrev while2_body_s5 : List (HloOp τ sig (Elt F)) :=
  [ StableHlo.binary main_while2b_v167 main_while2b_v170 main_while2b_v171 ((fun l r => Host.dotGeneral dot_S1x8x128x128_S1x8x128x128_S1x8x128x128_3_3_2_2_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.unary main_v148_5 main_while2b_v172 (broadcastInDim S1x8x128x128 ![0, 1, 2, 3] bcast_S1x8x128x1_S1x8x128x128_0_1_2_3 : (⟨S1x8x128x1, .f32⟩ : BufTy).Contents (Elt F) → (⟨S1x8x128x128, .f32⟩ : BufTy).Contents (Elt F)),
    StableHlo.binary main_while2b_v171 main_while2b_v172 main_while2b_v173 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while2b_v167 main_while2b_v169 main_while2b_v174 ((fun l r => Host.dotGeneral dot_S1x8x128x128_S1x8x128x128_S1x8x128x128_3_3_2_2_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while2b_v174 main_v148_4 main_while2b_v175 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while2b_v175 main_while2b_v168 main_while2b_v176 ((fun l r => Host.dotGeneral dot_S1x8x128x128_S1x8x128x128_S1x8x128x128_3_2_2_3_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while2b_v173 main_while2b_v176 main_while2b_v177 (addf : (⟨S1x8x128x128, .f32⟩ : BufTy).Contents (Elt F) → (⟨S1x8x128x128, .f32⟩ : BufTy).Contents (Elt F) → (⟨S1x8x128x128, .f32⟩ : BufTy).Contents (Elt F)) ]
theorem while2_body_s5_sub : (while2_body_s5 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.binary_bufs_sub .., StableHlo.binary_bufs_sub .., StableHlo.binary_bufs_sub ..⟩
theorem while2_body_s5_fresh : (while2_body_s5 : List (HloOp τ sig (Elt F))).Forall fun op => op.fresh = ∅ := StableHlo.forall_fresh_of_map rfl

/-- `main_while2_body`: the call `main_while2b_call21` of `fn_dynamic_update_index_in_dim`. -/
abbrev while2_body_s6 : List (HloOp τ sig (Elt F)) :=
  [ StableHlo.TRef.unary (.of main_while2b_v177 : StableHlo.TRef sig ⟨S1x8x128x128, .f32⟩) (.of main_while2b_call21_v0 : StableHlo.TRef sig ⟨S1x1x8x128x128, .f32⟩) (broadcastInDim S1x1x8x128x128 ![1, 2, 3, 4] bcast_S1x8x128x128_S1x1x8x128x128_1_2_3_4),
    StableHlo.TRef.nullary (.of main_while2b_call21_c : StableHlo.TRef sig ⟨S_, .i32⟩) (constantI S_ 32 0#32),
    StableHlo.TRef.nullary (.of main_while2b_call21_c_0 : StableHlo.TRef sig ⟨S_, .i32⟩) (constantI S_ 32 0#32),
    StableHlo.TRef.nullary (.of main_while2b_call21_c_1 : StableHlo.TRef sig ⟨S_, .i32⟩) (constantI S_ 32 0#32),
    StableHlo.TRef.nullary (.of main_while2b_call21_c_2 : StableHlo.TRef sig ⟨S_, .i32⟩) (constantI S_ 32 0#32),
    StableHlo.TRef.binaryIndexed (.of main_v148_7 : StableHlo.TRef sig ⟨S32x1x8x128x128, .f32⟩) (.of main_while2b_call21_v0 : StableHlo.TRef sig ⟨S1x1x8x128x128, .f32⟩) ![(.of main_while2b_v166 : StableHlo.TRef sig ⟨S_, .i32⟩), (.of main_while2b_call21_c : StableHlo.TRef sig ⟨S_, .i32⟩), (.of main_while2b_call21_c_0 : StableHlo.TRef sig ⟨S_, .i32⟩), (.of main_while2b_call21_c_1 : StableHlo.TRef sig ⟨S_, .i32⟩), (.of main_while2b_call21_c_2 : StableHlo.TRef sig ⟨S_, .i32⟩)] (.of main_while2b_v178 : StableHlo.TRef sig ⟨S32x1x8x128x128, .f32⟩) (fun x u i => Host.dynamicUpdateSlice x u (fun k => (i k (Shape.Idx.first h_S_)).toInt) updateFits_S32x1x8x128x128_S1x1x8x128x128) ]
theorem while2_body_s6_sub : (while2_body_s6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem while2_body_s6_fresh : (while2_body_s6 : List (HloOp τ sig (Elt F))).Forall fun op => op.fresh = ∅ := StableHlo.forall_fresh_of_map rfl

/-- `main_while2_body`: own operations. -/
abbrev while2_body_s7 : List (HloOp τ sig (Elt F)) :=
  [ StableHlo.nullary main_while2b_c_33 (constantI S_ 32 1#32),
    StableHlo.binary main_v148_6 main_while2b_c_33 main_while2b_v179 (addi : (⟨S_, .i32⟩ : BufTy).Contents (Elt F) → (⟨S_, .i32⟩ : BufTy).Contents (Elt F) → (⟨S_, .i32⟩ : BufTy).Contents (Elt F)),
    StableHlo.unary main_while2b_v179 main_v148_6 id,
    StableHlo.unary main_while2b_v178 main_v148_7 id ]
theorem while2_body_s7_sub : (while2_body_s7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩
theorem while2_body_s7_fresh : (while2_body_s7 : List (HloOp τ sig (Elt F))).Forall fun op => op.fresh = ∅ := StableHlo.forall_fresh_of_map rfl

/-- `main_while3_body`: own operations. -/
abbrev while3_body_s0 : List (HloOp τ sig (Elt F)) :=
  [ StableHlo.nullary main_while3b_c_31 (constantI S_ 32 32#32),
    StableHlo.binary main_while3b_c_31 main_v155_6 main_while3b_v165 (subi : (⟨S_, .i32⟩ : BufTy).Contents (Elt F) → (⟨S_, .i32⟩ : BufTy).Contents (Elt F) → (⟨S_, .i32⟩ : BufTy).Contents (Elt F)),
    StableHlo.nullary main_while3b_c_32 (constantI S_ 32 1#32),
    StableHlo.binary main_while3b_v165 main_while3b_c_32 main_while3b_v166 (subi : (⟨S_, .i32⟩ : BufTy).Contents (Elt F) → (⟨S_, .i32⟩ : BufTy).Contents (Elt F) → (⟨S_, .i32⟩ : BufTy).Contents (Elt F)) ]
theorem while3_body_s0_sub : (while3_body_s0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem while3_body_s0_fresh : (while3_body_s0 : List (HloOp τ sig (Elt F))).Forall fun op => op.fresh = ∅ := StableHlo.forall_fresh_of_map rfl

/-- `main_while3_body`: the call `main_while3b_call23` of `fn_dynamic_index_in_dim`. -/
abbrev while3_body_s1 : List (HloOp τ sig (Elt F)) :=
  [ StableHlo.TRef.nullary (.of main_while3b_call23_c : StableHlo.TRef sig ⟨S_, .i32⟩) (constantI S_ 32 0#32),
    StableHlo.TRef.nullary (.of main_while3b_call23_c_0 : StableHlo.TRef sig ⟨S_, .i32⟩) (constantI S_ 32 0#32),
    StableHlo.TRef.nullary (.of main_while3b_call23_c_1 : StableHlo.TRef sig ⟨S_, .i32⟩) (constantI S_ 32 0#32),
    StableHlo.TRef.nullary (.of main_while3b_call23_c_2 : StableHlo.TRef sig ⟨S_, .i32⟩) (constantI S_ 32 0#32),
    StableHlo.TRef.unaryIndexed (.of main_v155_0 : StableHlo.TRef sig ⟨S32x1x8x128x128, .f32⟩) ![(.of main_while3b_v166 : StableHlo.TRef sig ⟨S_, .i32⟩), (.of main_while3b_call23_c : StableHlo.TRef sig ⟨S_, .i32⟩), (.of main_while3b_call23_c_0 : StableHlo.TRef sig ⟨S_, .i32⟩), (.of main_while3b_call23_c_1 : StableHlo.TRef sig ⟨S_, .i32⟩), (.of main_while3b_call23_c_2 : StableHlo.TRef sig ⟨S_, .i32⟩)] (.of main_while3b_call23_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while3b_call23_v0 : StableHlo.TRef sig ⟨S1x1x8x128x128, .f32⟩) (.of main_while3b_v167 : StableHlo.TRef sig ⟨S1x8x128x128, .f32⟩) (rfl : (.f32 : EltTy) = .f32) shapeCasts_S1x1x8x128x128_S1x8x128x128 ]
theorem while3_body_s1_sub : (while3_body_s1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while3_body_s1_fresh : (while3_body_s1 : List (HloOp τ sig (Elt F))).Forall fun op => op.fresh = ∅ := StableHlo.forall_fresh_of_map rfl

/-- `main_while3_body`: the call `main_while3b_call24` of `fn_dynamic_index_in_dim`. -/
abbrev while3_body_s2 : List (HloOp τ sig (Elt F)) :=
  [ StableHlo.TRef.nullary (.of main_while3b_call24_c : StableHlo.TRef sig ⟨S_, .i32⟩) (constantI S_ 32 0#32),
    StableHlo.TRef.nullary (.of main_while3b_call24_c_0 : StableHlo.TRef sig ⟨S_, .i32⟩) (constantI S_ 32 0#32),
    StableHlo.TRef.nullary (.of main_while3b_call24_c_1 : StableHlo.TRef sig ⟨S_, .i32⟩) (constantI S_ 32 0#32),
    StableHlo.TRef.nullary (.of main_while3b_call24_c_2 : StableHlo.TRef sig ⟨S_, .i32⟩) (constantI S_ 32 0#32),
    StableHlo.TRef.unaryIndexed (.of main_v155_1 : StableHlo.TRef sig ⟨S32x1x8x128x128, .f32⟩) ![(.of main_while3b_v166 : StableHlo.TRef sig ⟨S_, .i32⟩), (.of main_while3b_call24_c : StableHlo.TRef sig ⟨S_, .i32⟩), (.of main_while3b_call24_c_0 : StableHlo.TRef sig ⟨S_, .i32⟩), (.of main_while3b_call24_c_1 : StableHlo.TRef sig ⟨S_, .i32⟩), (.of main_while3b_call24_c_2 : StableHlo.TRef sig ⟨S_, .i32⟩)] (.of main_while3b_call24_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while3b_call24_v0 : StableHlo.TRef sig ⟨S1x1x8x128x128, .f32⟩) (.of main_while3b_v168 : StableHlo.TRef sig ⟨S1x8x128x128, .f32⟩) (rfl : (.f32 : EltTy) = .f32) shapeCasts_S1x1x8x128x128_S1x8x128x128 ]
theorem while3_body_s2_sub : (while3_body_s2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while3_body_s2_fresh : (while3_body_s2 : List (HloOp τ sig (Elt F))).Forall fun op => op.fresh = ∅ := StableHlo.forall_fresh_of_map rfl

/-- `main_while3_body`: the call `main_while3b_call25` of `fn_dynamic_index_in_dim`. -/
abbrev while3_body_s3 : List (HloOp τ sig (Elt F)) :=
  [ StableHlo.TRef.nullary (.of main_while3b_call25_c : StableHlo.TRef sig ⟨S_, .i32⟩) (constantI S_ 32 0#32),
    StableHlo.TRef.nullary (.of main_while3b_call25_c_0 : StableHlo.TRef sig ⟨S_, .i32⟩) (constantI S_ 32 0#32),
    StableHlo.TRef.nullary (.of main_while3b_call25_c_1 : StableHlo.TRef sig ⟨S_, .i32⟩) (constantI S_ 32 0#32),
    StableHlo.TRef.nullary (.of main_while3b_call25_c_2 : StableHlo.TRef sig ⟨S_, .i32⟩) (constantI S_ 32 0#32),
    StableHlo.TRef.unaryIndexed (.of main_v155_2 : StableHlo.TRef sig ⟨S32x1x8x128x128, .f32⟩) ![(.of main_while3b_v166 : StableHlo.TRef sig ⟨S_, .i32⟩), (.of main_while3b_call25_c : StableHlo.TRef sig ⟨S_, .i32⟩), (.of main_while3b_call25_c_0 : StableHlo.TRef sig ⟨S_, .i32⟩), (.of main_while3b_call25_c_1 : StableHlo.TRef sig ⟨S_, .i32⟩), (.of main_while3b_call25_c_2 : StableHlo.TRef sig ⟨S_, .i32⟩)] (.of main_while3b_call25_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while3b_call25_v0 : StableHlo.TRef sig ⟨S1x1x8x128x128, .f32⟩) (.of main_while3b_v169 : StableHlo.TRef sig ⟨S1x8x128x128, .f32⟩) (rfl : (.f32 : EltTy) = .f32) shapeCasts_S1x1x8x128x128_S1x8x128x128 ]
theorem while3_body_s3_sub : (while3_body_s3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while3_body_s3_fresh : (while3_body_s3 : List (HloOp τ sig (Elt F))).Forall fun op => op.fresh = ∅ := StableHlo.forall_fresh_of_map rfl

/-- `main_while3_body`: the call `main_while3b_call26` of `fn_dynamic_index_in_dim`. -/
abbrev while3_body_s4 : List (HloOp τ sig (Elt F)) :=
  [ StableHlo.TRef.nullary (.of main_while3b_call26_c : StableHlo.TRef sig ⟨S_, .i32⟩) (constantI S_ 32 0#32),
    StableHlo.TRef.nullary (.of main_while3b_call26_c_0 : StableHlo.TRef sig ⟨S_, .i32⟩) (constantI S_ 32 0#32),
    StableHlo.TRef.nullary (.of main_while3b_call26_c_1 : StableHlo.TRef sig ⟨S_, .i32⟩) (constantI S_ 32 0#32),
    StableHlo.TRef.nullary (.of main_while3b_call26_c_2 : StableHlo.TRef sig ⟨S_, .i32⟩) (constantI S_ 32 0#32),
    StableHlo.TRef.unaryIndexed (.of main_v155_3 : StableHlo.TRef sig ⟨S32x1x8x128x128, .f32⟩) ![(.of main_while3b_v166 : StableHlo.TRef sig ⟨S_, .i32⟩), (.of main_while3b_call26_c : StableHlo.TRef sig ⟨S_, .i32⟩), (.of main_while3b_call26_c_0 : StableHlo.TRef sig ⟨S_, .i32⟩), (.of main_while3b_call26_c_1 : StableHlo.TRef sig ⟨S_, .i32⟩), (.of main_while3b_call26_c_2 : StableHlo.TRef sig ⟨S_, .i32⟩)] (.of main_while3b_call26_v0 : StableHlo.TRef sig ⟨S1x1x8x128x128, .f32⟩) (fun x i => Host.dynamicSlice S1x1x8x128x128 x (fun k => (i k (Shape.Idx.first h_S_)).toInt) sliceFits_S32x1x8x128x128_S1x1x8x128x128),
    StableHlo.TRef.reshape (.of main_while3b_call26_v0 : StableHlo.TRef sig ⟨S1x1x8x128x128, .f32⟩) (.of main_while3b_v170 : StableHlo.TRef sig ⟨S1x8x128x128, .f32⟩) (rfl : (.f32 : EltTy) = .f32) shapeCasts_S1x1x8x128x128_S1x8x128x128 ]
theorem while3_body_s4_sub : (while3_body_s4 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem while3_body_s4_fresh : (while3_body_s4 : List (HloOp τ sig (Elt F))).Forall fun op => op.fresh = ∅ := StableHlo.forall_fresh_of_map rfl

/-- `main_while3_body`: own operations. -/
abbrev while3_body_s5 : List (HloOp τ sig (Elt F)) :=
  [ StableHlo.binary main_while3b_v167 main_while3b_v170 main_while3b_v171 ((fun l r => Host.dotGeneral dot_S1x8x128x128_S1x8x128x128_S1x8x128x128_3_3_2_2_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.unary main_v155_5 main_while3b_v172 (broadcastInDim S1x8x128x128 ![0, 1, 2, 3] bcast_S1x8x128x1_S1x8x128x128_0_1_2_3 : (⟨S1x8x128x1, .f32⟩ : BufTy).Contents (Elt F) → (⟨S1x8x128x128, .f32⟩ : BufTy).Contents (Elt F)),
    StableHlo.binary main_while3b_v171 main_while3b_v172 main_while3b_v173 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while3b_v167 main_while3b_v169 main_while3b_v174 ((fun l r => Host.dotGeneral dot_S1x8x128x128_S1x8x128x128_S1x8x128x128_3_3_2_2_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while3b_v174 main_v155_4 main_while3b_v175 (mulf : (⟨S1x8x128x128, .f32⟩ : BufTy).Contents (Elt F) → (⟨S1x8x128x128, .f32⟩ : BufTy).Contents (Elt F) → (⟨S1x8x128x128, .f32⟩ : BufTy).Contents (Elt F)),
    StableHlo.binary main_while3b_v175 main_while3b_v168 main_while3b_v176 ((fun l r => Host.dotGeneral dot_S1x8x128x128_S1x8x128x128_S1x8x128x128_3_2_2_3_01_01 none l r) : (⟨S1x8x128x128, .f32⟩ : BufTy).Contents (Elt F) → (⟨S1x8x128x128, .f32⟩ : BufTy).Contents (Elt F) → (⟨S1x8x128x128, .f32⟩ : BufTy).Contents (Elt F)),
    StableHlo.binary main_while3b_v173 main_while3b_v176 main_while3b_v177 (addf : (⟨S1x8x128x128, .f32⟩ : BufTy).Contents (Elt F) → (⟨S1x8x128x128, .f32⟩ : BufTy).Contents (Elt F) → (⟨S1x8x128x128, .f32⟩ : BufTy).Contents (Elt F)) ]
theorem while3_body_s5_sub : (while3_body_s5 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.binary_bufs_sub .., StableHlo.binary_bufs_sub .., StableHlo.binary_bufs_sub ..⟩
theorem while3_body_s5_fresh : (while3_body_s5 : List (HloOp τ sig (Elt F))).Forall fun op => op.fresh = ∅ := StableHlo.forall_fresh_of_map rfl

/-- `main_while3_body`: the call `main_while3b_call27` of `fn_dynamic_update_index_in_dim`. -/
abbrev while3_body_s6 : List (HloOp τ sig (Elt F)) :=
  [ StableHlo.TRef.unary (.of main_while3b_v177 : StableHlo.TRef sig ⟨S1x8x128x128, .f32⟩) (.of main_while3b_call27_v0 : StableHlo.TRef sig ⟨S1x1x8x128x128, .f32⟩) (broadcastInDim S1x1x8x128x128 ![1, 2, 3, 4] bcast_S1x8x128x128_S1x1x8x128x128_1_2_3_4),
    StableHlo.TRef.nullary (.of main_while3b_call27_c : StableHlo.TRef sig ⟨S_, .i32⟩) (constantI S_ 32 0#32),
    StableHlo.TRef.nullary (.of main_while3b_call27_c_0 : StableHlo.TRef sig ⟨S_, .i32⟩) (constantI S_ 32 0#32),
    StableHlo.TRef.nullary (.of main_while3b_call27_c_1 : StableHlo.TRef sig ⟨S_, .i32⟩) (constantI S_ 32 0#32),
    StableHlo.TRef.nullary (.of main_while3b_call27_c_2 : StableHlo.TRef sig ⟨S_, .i32⟩) (constantI S_ 32 0#32),
    StableHlo.TRef.binaryIndexed (.of main_v155_7 : StableHlo.TRef sig ⟨S32x1x8x128x128, .f32⟩) (.of main_while3b_call27_v0 : StableHlo.TRef sig ⟨S1x1x8x128x128, .f32⟩) ![(.of main_while3b_v166 : StableHlo.TRef sig ⟨S_, .i32⟩), (.of main_while3b_call27_c : StableHlo.TRef sig ⟨S_, .i32⟩), (.of main_while3b_call27_c_0 : StableHlo.TRef sig ⟨S_, .i32⟩), (.of main_while3b_call27_c_1 : StableHlo.TRef sig ⟨S_, .i32⟩), (.of main_while3b_call27_c_2 : StableHlo.TRef sig ⟨S_, .i32⟩)] (.of main_while3b_v178 : StableHlo.TRef sig ⟨S32x1x8x128x128, .f32⟩) (fun x u i => Host.dynamicUpdateSlice x u (fun k => (i k (Shape.Idx.first h_S_)).toInt) updateFits_S32x1x8x128x128_S1x1x8x128x128) ]
theorem while3_body_s6_sub : (while3_body_s6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem while3_body_s6_fresh : (while3_body_s6 : List (HloOp τ sig (Elt F))).Forall fun op => op.fresh = ∅ := StableHlo.forall_fresh_of_map rfl

/-- `main_while3_body`: own operations. -/
abbrev while3_body_s7 : List (HloOp τ sig (Elt F)) :=
  [ StableHlo.nullary main_while3b_c_33 (constantI S_ 32 1#32),
    StableHlo.binary main_v155_6 main_while3b_c_33 main_while3b_v179 (addi : (⟨S_, .i32⟩ : BufTy).Contents (Elt F) → (⟨S_, .i32⟩ : BufTy).Contents (Elt F) → (⟨S_, .i32⟩ : BufTy).Contents (Elt F)),
    StableHlo.unary main_while3b_v179 main_v155_6 id,
    StableHlo.unary main_while3b_v178 main_v155_7 id ]
theorem while3_body_s7_sub : (while3_body_s7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩
theorem while3_body_s7_fresh : (while3_body_s7 : List (HloOp τ sig (Elt F))).Forall fun op => op.fresh = ∅ := StableHlo.forall_fresh_of_map rfl

/-- `main_part0`: own operations. -/
abbrev part0_s0 : List (HloOp τ sig (Elt F)) :=
  [ StableHlo.unary main_arg1 main_v0 ((extractStridedSlice S4096x1024 ![0, 3072] · slices_S4096x7168_S4096x1024_0_3072) : (⟨S4096x7168, .bf16⟩ : BufTy).Contents (Elt F) → (⟨S4096x1024, .bf16⟩ : BufTy).Contents (Elt F)),
    StableHlo.unary main_v0 main_v1 (broadcastInDim S1x4096x1024 ![1, 2] bcast_S4096x1024_S1x4096x1024_1_2 : (⟨S4096x1024, .bf16⟩ : BufTy).Contents (Elt F) → (⟨S1x4096x1024, .bf16⟩ : BufTy).Contents (Elt F)),
    StableHlo.unary main_v1 main_v2 ((extf .f32 · bitsLt_bf16_f32) : (⟨S1x4096x1024, .bf16⟩ : BufTy).Contents (Elt F) → (⟨S1x4096x1024, .f32⟩ : BufTy).Contents (Elt F)),
    StableHlo.reshape main_v2 main_v3 (rfl : (.f32 : EltTy) = .f32) shapeCasts_S1x4096x1024_S1x4096x8x128,
    StableHlo.unary main_v3 main_v4 ((transpose S1x8x4096x128 [0, 2, 1, 3] · transposes_S1x4096x8x128_S1x8x4096x128_0_2_1_3) : (⟨S1x4096x8x128, .f32⟩ : BufTy).Contents (Elt F) → (⟨S1x8x4096x128, .f32⟩ : BufTy).Contents (Elt F)),
    StableHlo.unary main_arg1 main_v5 ((extractStridedSlice S4096x1024 ![0, 4096] · slices_S4096x7168_S4096x1024_0_4096) : (⟨S4096x7168, .bf16⟩ : BufTy).Contents (Elt F) → (⟨S4096x1024, .bf16⟩ : BufTy).Contents (Elt F)),
    StableHlo.unary main_v5 main_v6 (broadcastInDim S1x4096x1024 ![1, 2] bcast_S4096x1024_S1x4096x1024_1_2 : (⟨S4096x1024, .bf16⟩ : BufTy).Contents (Elt F) → (⟨S1x4096x1024, .bf16⟩ : BufTy).Contents (Elt F)),
    StableHlo.unary main_v6 main_v7 ((extf .f32 · bitsLt_bf16_f32) : (⟨S1x4096x1024, .bf16⟩ : BufTy).Contents (Elt F) → (⟨S1x4096x1024, .f32⟩ : BufTy).Contents (Elt F)),
    StableHlo.reshape main_v7 main_v8 (rfl : (.f32 : EltTy) = .f32) shapeCasts_S1x4096x1024_S1x4096x8x128,
    StableHlo.unary main_v8 main_v9 ((transpose S1x8x4096x128 [0, 2, 1, 3] · transposes_S1x4096x8x128_S1x8x4096x128_0_2_1_3) : (⟨S1x4096x8x128, .f32⟩ : BufTy).Contents (Elt F) → (⟨S1x8x4096x128, .f32⟩ : BufTy).Contents (Elt F)),
    StableHlo.unary main_arg1 main_v10 ((extractStridedSlice S4096x1024 ![0, 5120] · slices_S4096x7168_S4096x1024_0_5120) : (⟨S4096x7168, .bf16⟩ : BufTy).Contents (Elt F) → (⟨S4096x1024, .bf16⟩ : BufTy).Contents (Elt F)),
    StableHlo.unary main_v10 main_v11 (broadcastInDim S1x4096x1024 ![1, 2] bcast_S4096x1024_S1x4096x1024_1_2 : (⟨S4096x1024, .bf16⟩ : BufTy).Contents (Elt F) → (⟨S1x4096x1024, .bf16⟩ : BufTy).Contents (Elt F)),
    StableHlo.unary main_v11 main_v12 ((extf .f32 · bitsLt_bf16_f32) : (⟨S1x4096x1024, .bf16⟩ : BufTy).Contents (Elt F) → (⟨S1x4096x1024, .f32⟩ : BufTy).Contents (Elt F)),
    StableHlo.reshape main_v12 main_v13 (rfl : (.f32 : EltTy) = .f32) shapeCasts_S1x4096x1024_S1x4096x8x128,
    StableHlo.unary main_v13 main_v14 ((transpose S1x8x4096x128 [0, 2, 1, 3] · transposes_S1x4096x8x128_S1x8x4096x128_0_2_1_3) : (⟨S1x4096x8x128, .f32⟩ : BufTy).Contents (Elt F) → (⟨S1x8x4096x128, .f32⟩ : BufTy).Contents (Elt F)),
    StableHlo.reshape main_arg2 main_v15 (rfl : (.f32 : EltTy) = .f32) shapeCasts_S1x8_S8,
    StableHlo.reshape main_arg3 main_v16 (rfl : (.f32 : EltTy) = .f32) shapeCasts_S1x8_S8,
    StableHlo.nullary main_cst (constant S_ .f32 0x3DB504F3#32),
    StableHlo.unary main_cst main_v17 (broadcastInDim S1x8x4096x128 ![] bcast_S_S1x8x4096x128 : (⟨S_, .f32⟩ : BufTy).Contents (Elt F) → (⟨S1x8x4096x128, .f32⟩ : BufTy).Contents (Elt F)),
    StableHlo.binary main_v4 main_v17 main_v18 (mulf : (⟨S1x8x4096x128, .f32⟩ : BufTy).Contents (Elt F) → (⟨S1x8x4096x128, .f32⟩ : BufTy).Contents (Elt F) → (⟨S1x8x4096x128, .f32⟩ : BufTy).Contents (Elt F)),
    StableHlo.unary main_v15 main_v19 (Host.exp : (⟨S8, .f32⟩ : BufTy).Contents (Elt F) → (⟨S8, .f32⟩ : BufTy).Contents (Elt F)),
    StableHlo.unary main_v19 main_v20 (Host.negf : (⟨S8, .f32⟩ : BufTy).Contents (Elt F) → (⟨S8, .f32⟩ : BufTy).Contents (Elt F)),
    StableHlo.unary main_v16 main_v21 (Host.exp : (⟨S8, .f32⟩ : BufTy).Contents (Elt F) → (⟨S8, .f32⟩ : BufTy).Contents (Elt F)),
    StableHlo.unary main_v21 main_v22 (Host.negf : (⟨S8, .f32⟩ : BufTy).Contents (Elt F) → (⟨S8, .f32⟩ : BufTy).Contents (Elt F)),
    StableHlo.nullary main_v23 (sitofp .f32 (iotaInDim S128 32 0)),
    StableHlo.unary main_v23 main_v24 (broadcastInDim S128x1 ![0] bcast_S128_S128x1_0 : (⟨S128, .f32⟩ : BufTy).Contents (Elt F) → (⟨S128x1, .f32⟩ : BufTy).Contents (Elt F)),
    StableHlo.unary main_v23 main_v25 (broadcastInDim S1x128 ![1] bcast_S128_S1x128_1 : (⟨S128, .f32⟩ : BufTy).Contents (Elt F) → (⟨S1x128, .f32⟩ : BufTy).Contents (Elt F)),
    StableHlo.unary main_v24 main_v26 (broadcastInDim S128x128 ![0, 1] bcast_S128x1_S128x128_0_1 : (⟨S128x1, .f32⟩ : BufTy).Contents (Elt F) → (⟨S128x128, .f32⟩ : BufTy).Contents (Elt F)),
    StableHlo.unary main_v25 main_v27 (broadcastInDim S128x128 ![0, 1] bcast_S1x128_S128x128_0_1 : (⟨S1x128, .f32⟩ : BufTy).Contents (Elt F) → (⟨S128x128, .f32⟩ : BufTy).Contents (Elt F)),
    StableHlo.binary main_v26 main_v27 main_v28 (subf : (⟨S128x128, .f32⟩ : BufTy).Contents (Elt F) → (⟨S128x128, .f32⟩ : BufTy).Contents (Elt F) → (⟨S128x128, .f32⟩ : BufTy).Contents (Elt F)),
    StableHlo.nullary main_cst_0 (constant S_ .f32 0x00000000#32),
    StableHlo.unary main_cst_0 main_v29 (broadcastInDim S128x128 ![] bcast_S_S128x128 : (⟨S_, .f32⟩ : BufTy).Contents (Elt F) → (⟨S128x128, .f32⟩ : BufTy).Contents (Elt F)),
    StableHlo.binary main_v28 main_v29 main_v30 (cmpf .oge : (⟨S128x128, .f32⟩ : BufTy).Contents (Elt F) → (⟨S128x128, .f32⟩ : BufTy).Contents (Elt F) → (⟨S128x128, .i1⟩ : BufTy).Contents (Elt F)),
    StableHlo.unary main_v20 main_v31 (broadcastInDim S8x1x1 ![0] bcast_S8_S8x1x1_0 : (⟨S8, .f32⟩ : BufTy).Contents (Elt F) → (⟨S8x1x1, .f32⟩ : BufTy).Contents (Elt F)),
    StableHlo.nullary main_cst_1 (constant S_ .f32 0x00000000#32),
    StableHlo.unary main_cst_1 main_v32 (broadcastInDim S128x128 ![] bcast_S_S128x128 : (⟨S_, .f32⟩ : BufTy).Contents (Elt F) → (⟨S128x128, .f32⟩ : BufTy).Contents (Elt F)),
    StableHlo.binary main_v28 main_v32 main_v33 (maximumf : (⟨S128x128, .f32⟩ : BufTy).Contents (Elt F) → (⟨S128x128, .f32⟩ : BufTy).Contents (Elt F) → (⟨S128x128, .f32⟩ : BufTy).Contents (Elt F)),
    StableHlo.unary main_v33 main_v34 (broadcastInDim S1x128x128 ![1, 2] bcast_S128x128_S1x128x128_1_2 : (⟨S128x128, .f32⟩ : BufTy).Contents (Elt F) → (⟨S1x128x128, .f32⟩ : BufTy).Contents (Elt F)),
    StableHlo.unary main_v31 main_v35 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.unary main_v34 main_v36 (broadcastInDim S8x128x128 ![0, 1, 2] bcast_S1x128x128_S8x128x128_0_1_2 : (⟨S1x128x128, .f32⟩ : BufTy).Contents (Elt F) → (⟨S8x128x128, .f32⟩ : BufTy).Contents (Elt F)),
    StableHlo.binary main_v35 main_v36 main_v37 (mulf : (⟨S8x128x128, .f32⟩ : BufTy).Contents (Elt F) → (⟨S8x128x128, .f32⟩ : BufTy).Contents (Elt F) → (⟨S8x128x128, .f32⟩ : BufTy).Contents (Elt F)),
    StableHlo.unary main_v37 main_v38 (Host.exp : (⟨S8x128x128, .f32⟩ : BufTy).Contents (Elt F) → (⟨S8x128x128, .f32⟩ : BufTy).Contents (Elt F)),
    StableHlo.nullary main_cst_2 (constant S_ .f32 0x00000000#32) ]
theorem part0_s0_sub : (part0_s0 : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub ..⟩
theorem part0_s0_fresh : (part0_s0 : List (HloOp τ sig (Elt F))).Forall fun op => op.fresh = ∅ := StableHlo.forall_fresh_of_map rfl

/-- `main_part0`: the call `main_call0` of `fn_where`. -/
abbrev part0_s1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_v30 : StableHlo.TRef sig ⟨S128x128, .i1⟩) (.of main_call0_v1 : StableHlo.TRef sig ⟨S8x128x128, .i1⟩) (broadcastInDim S8x128x128 ![1, 2] bcast_S128x128_S8x128x128_1_2),
    StableHlo.TRef.unary (.of main_call0_v0 : StableHlo.TRef sig ⟨S_, .f32⟩) (.of main_call0_v2 : StableHlo.TRef sig ⟨S8x128x128, .f32⟩) (broadcastInDim S8x128x128 ![] bcast_S_S8x128x128),
    StableHlo.TRef.ternary (.of main_call0_v1 : StableHlo.TRef sig ⟨S8x128x128, .i1⟩) (.of main_v38 : StableHlo.TRef sig ⟨S8x128x128, .f32⟩) (.of main_call0_v2 : StableHlo.TRef sig ⟨S8x128x128, .f32⟩) (.of main_v39 : StableHlo.TRef sig ⟨S8x128x128, .f32⟩) select ]
theorem part0_s1_sub : (part0_s1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem part0_s1_fresh : (part0_s1 : List (HloOp τ sig (Elt F))).Forall fun op => op.fresh = ∅ := StableHlo.forall_fresh_of_map rfl

/-- `main_part0`: own operations. -/
abbrev part0_s2 : List (HloOp τ sig (Elt F)) :=
  [ StableHlo.unary main_v20 main_v40 (broadcastInDim S8x1 ![0] bcast_S8_S8x1_0 : (⟨S8, .f32⟩ : BufTy).Contents (Elt F) → (⟨S8x1, .f32⟩ : BufTy).Contents (Elt F)),
    StableHlo.nullary main_cst_3 (constant S_ .f32 0x3F800000#32),
    StableHlo.unary main_cst_3 main_v41 (broadcastInDim S128 ![] bcast_S_S128 : (⟨S_, .f32⟩ : BufTy).Contents (Elt F) → (⟨S128, .f32⟩ : BufTy).Contents (Elt F)),
    StableHlo.binary main_v23 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v40 main_v44 (broadcastInDim S8x128 ![0, 1] bcast_S8x1_S8x128_0_1 : (⟨S8x1, .f32⟩ : BufTy).Contents (Elt F) → (⟨S8x128, .f32⟩ : BufTy).Contents (Elt F)),
    StableHlo.unary main_v43 main_v45 (broadcastInDim S8x128 ![0, 1] bcast_S1x128_S8x128_0_1 : (⟨S1x128, .f32⟩ : BufTy).Contents (Elt F) → (⟨S8x128, .f32⟩ : BufTy).Contents (Elt F)),
    StableHlo.binary main_v44 main_v45 main_v46 (mulf : (⟨S8x128, .f32⟩ : BufTy).Contents (Elt F) → (⟨S8x128, .f32⟩ : BufTy).Contents (Elt F) → (⟨S8x128, .f32⟩ : BufTy).Contents (Elt F)),
    StableHlo.unary main_v46 main_v47 (Host.exp : (⟨S8x128, .f32⟩ : BufTy).Contents (Elt F) → (⟨S8x128, .f32⟩ : BufTy).Contents (Elt F)),
    StableHlo.unary main_v47 main_v48 (broadcastInDim S8x128x1 ![0, 1] bcast_S8x128_S8x128x1_0_1 : (⟨S8x128, .f32⟩ : BufTy).Contents (Elt F) → (⟨S8x128x1, .f32⟩ : BufTy).Contents (Elt F)),
    StableHlo.unary main_v20 main_v49 (broadcastInDim S8x1 ![0] bcast_S8_S8x1_0 : (⟨S8, .f32⟩ : BufTy).Contents (Elt F) → (⟨S8x1, .f32⟩ : BufTy).Contents (Elt F)),
    StableHlo.nullary main_cst_4 (constant S_ .f32 0x42FE0000#32),
    StableHlo.unary main_cst_4 main_v50 (broadcastInDim S128 ![] bcast_S_S128 : (⟨S_, .f32⟩ : BufTy).Contents (Elt F) → (⟨S128, .f32⟩ : BufTy).Contents (Elt F)),
    StableHlo.binary main_v50 main_v23 main_v51 (subf : (⟨S128, .f32⟩ : BufTy).Contents (Elt F) → (⟨S128, .f32⟩ : BufTy).Contents (Elt F) → (⟨S128, .f32⟩ : BufTy).Contents (Elt F)),
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v49 main_v53 (broadcastInDim S8x128 ![0, 1] bcast_S8x1_S8x128_0_1 : (⟨S8x1, .f32⟩ : BufTy).Contents (Elt F) → (⟨S8x128, .f32⟩ : BufTy).Contents (Elt F)) ]
theorem part0_s2_sub : (part0_s2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub ..⟩
theorem part0_s2_fresh : (part0_s2 : List (HloOp τ sig (Elt F))).Forall fun op => op.fresh = ∅ := StableHlo.forall_fresh_of_map rfl

/-- `main_part1`: own operations. -/
abbrev part1_s0 : List (HloOp τ sig (Elt F)) :=
  [ StableHlo.unary main_v52 main_v54 (broadcastInDim S8x128 ![0, 1] bcast_S1x128_S8x128_0_1 : (⟨S1x128, .f32⟩ : BufTy).Contents (Elt F) → (⟨S8x128, .f32⟩ : BufTy).Contents (Elt F)),
    StableHlo.binary main_v53 main_v54 main_v55 (mulf : (⟨S8x128, .f32⟩ : BufTy).Contents (Elt F) → (⟨S8x128, .f32⟩ : BufTy).Contents (Elt F) → (⟨S8x128, .f32⟩ : BufTy).Contents (Elt F)),
    StableHlo.unary main_v55 main_v56 (Host.exp : (⟨S8x128, .f32⟩ : BufTy).Contents (Elt F) → (⟨S8x128, .f32⟩ : BufTy).Contents (Elt F)),
    StableHlo.unary main_v56 main_v57 (broadcastInDim S8x128x1 ![0, 1] bcast_S8x128_S8x128x1_0_1 : (⟨S8x128, .f32⟩ : BufTy).Contents (Elt F) → (⟨S8x128x1, .f32⟩ : BufTy).Contents (Elt F)),
    StableHlo.nullary main_cst_5 (constant S_ .f32 0x43000000#32),
    StableHlo.unary main_cst_5 main_v58 (broadcastInDim S8 ![] bcast_S_S8 : (⟨S_, .f32⟩ : BufTy).Contents (Elt F) → (⟨S8, .f32⟩ : BufTy).Contents (Elt F)),
    StableHlo.binary main_v20 main_v58 main_v59 (mulf : (⟨S8, .f32⟩ : BufTy).Contents (Elt F) → (⟨S8, .f32⟩ : BufTy).Contents (Elt F) → (⟨S8, .f32⟩ : BufTy).Contents (Elt F)),
    StableHlo.unary main_v59 main_v60 (Host.exp : (⟨S8, .f32⟩ : BufTy).Contents (Elt F) → (⟨S8, .f32⟩ : BufTy).Contents (Elt F)),
    StableHlo.unary main_v60 main_v61 (broadcastInDim S8x1x1 ![0] bcast_S8_S8x1x1_0 : (⟨S8, .f32⟩ : BufTy).Contents (Elt F) → (⟨S8x1x1, .f32⟩ : BufTy).Contents (Elt F)),
    StableHlo.nullary main_cst_6 (constant S_ .f32 0x00000000#32),
    StableHlo.unary main_cst_6 main_v62 (broadcastInDim S1x8x128x128 ![] bcast_S_S1x8x128x128 : (⟨S_, .f32⟩ : BufTy).Contents (Elt F) → (⟨S1x8x128x128, .f32⟩ : BufTy).Contents (Elt F)),
    StableHlo.reshape main_v18 main_v63 (rfl : (.f32 : EltTy) = .f32) shapeCasts_S1x8x4096x128_S1x8x32x128x128,
    StableHlo.unary main_v63 main_v64 ((transpose S32x1x8x128x128 [2, 0, 1, 3, 4] · transposes_S1x8x32x128x128_S32x1x8x128x128_2_0_1_3_4) : (⟨S1x8x32x128x128, .f32⟩ : BufTy).Contents (Elt F) → (⟨S32x1x8x128x128, .f32⟩ : BufTy).Contents (Elt F)),
    StableHlo.reshape main_v9 main_v65 (rfl : (.f32 : EltTy) = .f32) shapeCasts_S1x8x4096x128_S1x8x32x128x128,
    StableHlo.unary main_v65 main_v66 ((transpose S32x1x8x128x128 [2, 0, 1, 3, 4] · transposes_S1x8x32x128x128_S32x1x8x128x128_2_0_1_3_4) : (⟨S1x8x32x128x128, .f32⟩ : BufTy).Contents (Elt F) → (⟨S32x1x8x128x128, .f32⟩ : BufTy).Contents (Elt F)),
    StableHlo.reshape main_v14 main_v67 (rfl : (.f32 : EltTy) = .f32) shapeCasts_S1x8x4096x128_S1x8x32x128x128,
    StableHlo.unary main_v67 main_v68 ((transpose S32x1x8x128x128 [2, 0, 1, 3, 4] · transposes_S1x8x32x128x128_S32x1x8x128x128_2_0_1_3_4) : (⟨S1x8x32x128x128, .f32⟩ : BufTy).Contents (Elt F) → (⟨S32x1x8x128x128, .f32⟩ : BufTy).Contents (Elt F)),
    StableHlo.unary main_v39 main_v69 (broadcastInDim S1x8x128x128 ![1, 2, 3] bcast_S8x128x128_S1x8x128x128_1_2_3 : (⟨S8x128x128, .f32⟩ : BufTy).Contents (Elt F) → (⟨S1x8x128x128, .f32⟩ : BufTy).Contents (Elt F)),
    StableHlo.unary main_v48 main_v70 (broadcastInDim S1x8x128x1 ![1, 2, 3] bcast_S8x128x1_S1x8x128x1_1_2_3 : (⟨S8x128x1, .f32⟩ : BufTy).Contents (Elt F) → (⟨S1x8x128x1, .f32⟩ : BufTy).Contents (Elt F)),
    StableHlo.unary main_v61 main_v71 (broadcastInDim S1x8x1x1 ![1, 2, 3] bcast_S8x1x1_S1x8x1x1_1_2_3 : (⟨S8x1x1, .f32⟩ : BufTy).Contents (Elt F) → (⟨S1x8x1x1, .f32⟩ : BufTy).Contents (Elt F)),
    StableHlo.unary main_v57 main_v72 (broadcastInDim S1x8x128x1 ![1, 2, 3] bcast_S8x128x1_S1x8x128x1_1_2_3 : (⟨S8x128x1, .f32⟩ : BufTy).Contents (Elt F) → (⟨S1x8x128x1, .f32⟩ : BufTy).Contents (Elt F)),
    StableHlo.nullary main_cst_7 (constant S_ .f32 0x00000000#32),
    StableHlo.unary main_cst_7 main_v73 (broadcastInDim S32x1x8x128x128 ![] bcast_S_S32x1x8x128x128 : (⟨S_, .f32⟩ : BufTy).Contents (Elt F) → (⟨S32x1x8x128x128, .f32⟩ : BufTy).Contents (Elt F)),
    StableHlo.nullary main_cst_8 (constant S_ .f32 0x00000000#32),
    StableHlo.unary main_cst_8 main_v74 (broadcastInDim S32x1x8x128x128 ![] bcast_S_S32x1x8x128x128 : (⟨S_, .f32⟩ : BufTy).Contents (Elt F) → (⟨S32x1x8x128x128, .f32⟩ : BufTy).Contents (Elt F)),
    StableHlo.nullary main_c (constantI S_ 32 0#32),
    StableHlo.unary main_v64 main_v75_0 id,
    StableHlo.unary main_v66 main_v75_1 id,
    StableHlo.unary main_v68 main_v75_2 id,
    StableHlo.unary main_v71 main_v75_3 id,
    StableHlo.unary main_v72 main_v75_4 id,
    StableHlo.unary main_v69 main_v75_5 id,
    StableHlo.unary main_v70 main_v75_6 id,
    StableHlo.unary main_c main_v75_7 id,
    StableHlo.unary main_v62 main_v75_8 id,
    StableHlo.unary main_v73 main_v75_9 id,
    StableHlo.unary main_v74 main_v75_10 id ]
theorem part1_s0_sub : (part1_s0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem part1_s0_fresh : (part1_s0 : List (HloOp τ sig (Elt F))).Forall fun op => op.fresh = ∅ := StableHlo.forall_fresh_of_map rfl

/-- `main_part1`: own operations. -/
abbrev part1_s2 : List (HloOp τ sig (Elt F)) :=
  [ StableHlo.unary main_v75_9 main_v76 ((transpose S1x8x32x128x128 [1, 2, 0, 3, 4] · transposes_S32x1x8x128x128_S1x8x32x128x128_1_2_0_3_4) : (⟨S32x1x8x128x128, .f32⟩ : BufTy).Contents (Elt F) → (⟨S1x8x32x128x128, .f32⟩ : BufTy).Contents (Elt F)),
    StableHlo.reshape main_v76 main_v77 (rfl : (.f32 : EltTy) = .f32) shapeCasts_S1x8x32x128x128_S1x8x4096x128 ]
theorem part1_s2_sub : (part1_s2 : List (HloOp τ sig (Elt F))).Forall fun op => op.bufs ⊆ StableHlo.tcRefs τ sig :=
  ⟨StableHlo.unary_bufs_sub .., StableHlo.reshape_bufs_sub ..⟩
theorem part1_s2_fresh : (part1_s2 : List (HloOp τ sig (Elt F))).Forall fun op => op.fresh = ∅ := StableHlo.forall_fresh_of_map rfl

/-- `main_part1`: the call `main_call6` of `fn_flip`. -/
abbrev part1_s3 : List (HloOp τ sig (Elt F)) :=
  [ StableHlo.TRef.unary (.of main_v18 : StableHlo.TRef sig ⟨S1x8x4096x128, .f32⟩) (.of main_v78 : StableHlo.TRef sig ⟨S1x8x4096x128, .f32⟩) (Host.reverse [2]) ]
theorem part1_s3_sub : (part1_s3 : List (HloOp τ sig (Elt F))).Forall fun op => op.bufs ⊆ StableHlo.tcRefs τ sig :=
  StableHlo.unary_bufs_sub ..
theorem part1_s3_fresh : (part1_s3 : List (HloOp τ sig (Elt F))).Forall fun op => op.fresh = ∅ := StableHlo.forall_fresh_of_map rfl

/-- `main_part1`: the call `main_call7` of `fn_flip_0`. -/
abbrev part1_s4 : List (HloOp τ sig (Elt F)) :=
  [ StableHlo.TRef.unary (.of main_v9 : StableHlo.TRef sig ⟨S1x8x4096x128, .f32⟩) (.of main_v79 : StableHlo.TRef sig ⟨S1x8x4096x128, .f32⟩) (Host.reverse [2]) ]
theorem part1_s4_sub : (part1_s4 : List (HloOp τ sig (Elt F))).Forall fun op => op.bufs ⊆ StableHlo.tcRefs τ sig :=
  StableHlo.unary_bufs_sub ..
theorem part1_s4_fresh : (part1_s4 : List (HloOp τ sig (Elt F))).Forall fun op => op.fresh = ∅ := StableHlo.forall_fresh_of_map rfl

/-- `main_part1`: the call `main_call8` of `fn_flip_0`. -/
abbrev part1_s5 : List (HloOp τ sig (Elt F)) :=
  [ StableHlo.TRef.unary (.of main_v14 : StableHlo.TRef sig ⟨S1x8x4096x128, .f32⟩) (.of main_v80 : StableHlo.TRef sig ⟨S1x8x4096x128, .f32⟩) (Host.reverse [2]) ]
theorem part1_s5_sub : (part1_s5 : List (HloOp τ sig (Elt F))).Forall fun op => op.bufs ⊆ StableHlo.tcRefs τ sig :=
  StableHlo.unary_bufs_sub ..
theorem part1_s5_fresh : (part1_s5 : List (HloOp τ sig (Elt F))).Forall fun op => op.fresh = ∅ := StableHlo.forall_fresh_of_map rfl

/-- `main_part1`: own operations. -/
abbrev part1_s6 : List (HloOp τ sig (Elt F)) :=
  [ StableHlo.nullary main_v81 (sitofp .f32 (iotaInDim S128 32 0)),
    StableHlo.unary main_v81 main_v82 (broadcastInDim S128x1 ![0] bcast_S128_S128x1_0 : (⟨S128, .f32⟩ : BufTy).Contents (Elt F) → (⟨S128x1, .f32⟩ : BufTy).Contents (Elt F)),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v82 main_v84 (broadcastInDim S128x128 ![0, 1] bcast_S128x1_S128x128_0_1 : (⟨S128x1, .f32⟩ : BufTy).Contents (Elt F) → (⟨S128x128, .f32⟩ : BufTy).Contents (Elt F)),
    StableHlo.unary main_v83 main_v85 (broadcastInDim S128x128 ![0, 1] bcast_S1x128_S128x128_0_1 : (⟨S1x128, .f32⟩ : BufTy).Contents (Elt F) → (⟨S128x128, .f32⟩ : BufTy).Contents (Elt F)),
    StableHlo.binary main_v84 main_v85 main_v86 (subf : (⟨S128x128, .f32⟩ : BufTy).Contents (Elt F) → (⟨S128x128, .f32⟩ : BufTy).Contents (Elt F) → (⟨S128x128, .f32⟩ : BufTy).Contents (Elt F)),
    StableHlo.nullary main_cst_9 (constant S_ .f32 0x00000000#32),
    StableHlo.unary main_cst_9 main_v87 (broadcastInDim S128x128 ![] bcast_S_S128x128 : (⟨S_, .f32⟩ : BufTy).Contents (Elt F) → (⟨S128x128, .f32⟩ : BufTy).Contents (Elt F)),
    StableHlo.binary main_v86 main_v87 main_v88 (cmpf .ogt : (⟨S128x128, .f32⟩ : BufTy).Contents (Elt F) → (⟨S128x128, .f32⟩ : BufTy).Contents (Elt F) → (⟨S128x128, .i1⟩ : BufTy).Contents (Elt F)),
    StableHlo.unary main_v22 main_v89 (broadcastInDim S8x1x1 ![0] bcast_S8_S8x1x1_0 : (⟨S8, .f32⟩ : BufTy).Contents (Elt F) → (⟨S8x1x1, .f32⟩ : BufTy).Contents (Elt F)),
    StableHlo.nullary main_cst_10 (constant S_ .f32 0x00000000#32),
    StableHlo.unary main_cst_10 main_v90 (broadcastInDim S128x128 ![] bcast_S_S128x128 : (⟨S_, .f32⟩ : BufTy).Contents (Elt F) → (⟨S128x128, .f32⟩ : BufTy).Contents (Elt F)),
    StableHlo.binary main_v86 main_v90 main_v91 (maximumf : (⟨S128x128, .f32⟩ : BufTy).Contents (Elt F) → (⟨S128x128, .f32⟩ : BufTy).Contents (Elt F) → (⟨S128x128, .f32⟩ : BufTy).Contents (Elt F)),
    StableHlo.unary main_v91 main_v92 (broadcastInDim S1x128x128 ![1, 2] bcast_S128x128_S1x128x128_1_2 : (⟨S128x128, .f32⟩ : BufTy).Contents (Elt F) → (⟨S1x128x128, .f32⟩ : BufTy).Contents (Elt F)),
    StableHlo.unary main_v89 main_v93 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.unary main_v92 main_v94 (broadcastInDim S8x128x128 ![0, 1, 2] bcast_S1x128x128_S8x128x128_0_1_2 : (⟨S1x128x128, .f32⟩ : BufTy).Contents (Elt F) → (⟨S8x128x128, .f32⟩ : BufTy).Contents (Elt F)),
    StableHlo.binary main_v93 main_v94 main_v95 (mulf : (⟨S8x128x128, .f32⟩ : BufTy).Contents (Elt F) → (⟨S8x128x128, .f32⟩ : BufTy).Contents (Elt F) → (⟨S8x128x128, .f32⟩ : BufTy).Contents (Elt F)) ]
theorem part1_s6_sub : (part1_s6 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub ..⟩
theorem part1_s6_fresh : (part1_s6 : List (HloOp τ sig (Elt F))).Forall fun op => op.fresh = ∅ := StableHlo.forall_fresh_of_map rfl

/-- `main_part2`: own operations. -/
abbrev part2_s0 : List (HloOp τ sig (Elt F)) :=
  [ StableHlo.unary main_v95 main_v96 (Host.exp : (⟨S8x128x128, .f32⟩ : BufTy).Contents (Elt F) → (⟨S8x128x128, .f32⟩ : BufTy).Contents (Elt F)),
    StableHlo.nullary main_cst_11 (constant S_ .f32 0x00000000#32) ]
theorem part2_s0_sub : (part2_s0 : List (HloOp τ sig (Elt F))).Forall fun op => op.bufs ⊆ StableHlo.tcRefs τ sig :=
  ⟨StableHlo.unary_bufs_sub .., StableHlo.nullary_bufs_sub ..⟩
theorem part2_s0_fresh : (part2_s0 : List (HloOp τ sig (Elt F))).Forall fun op => op.fresh = ∅ := StableHlo.forall_fresh_of_map rfl

/-- `main_part2`: the call `main_call9` of `fn_where`. -/
abbrev part2_s1 : List (HloOp τ sig (Elt F)) :=
  [ StableHlo.TRef.unary (.of main_cst_11 : StableHlo.TRef sig ⟨S_, .f32⟩) (.of main_call9_v0 : StableHlo.TRef sig ⟨S_, .f32⟩) id,
    StableHlo.TRef.unary (.of main_v88 : StableHlo.TRef sig ⟨S128x128, .i1⟩) (.of main_call9_v1 : StableHlo.TRef sig ⟨S8x128x128, .i1⟩) (broadcastInDim S8x128x128 ![1, 2] bcast_S128x128_S8x128x128_1_2),
    StableHlo.TRef.unary (.of main_call9_v0 : StableHlo.TRef sig ⟨S_, .f32⟩) (.of main_call9_v2 : StableHlo.TRef sig ⟨S8x128x128, .f32⟩) (broadcastInDim S8x128x128 ![] bcast_S_S8x128x128),
    StableHlo.TRef.ternary (.of main_call9_v1 : StableHlo.TRef sig ⟨S8x128x128, .i1⟩) (.of main_v96 : StableHlo.TRef sig ⟨S8x128x128, .f32⟩) (.of main_call9_v2 : StableHlo.TRef sig ⟨S8x128x128, .f32⟩) (.of main_v97 : StableHlo.TRef sig ⟨S8x128x128, .f32⟩) select ]
theorem part2_s1_sub : (part2_s1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem part2_s1_fresh : (part2_s1 : List (HloOp τ sig (Elt F))).Forall fun op => op.fresh = ∅ := StableHlo.forall_fresh_of_map rfl

/-- `main_part2`: own operations. -/
abbrev part2_s2 : List (HloOp τ sig (Elt F)) :=
  [ StableHlo.unary main_v22 main_v98 (broadcastInDim S8x1 ![0] bcast_S8_S8x1_0 : (⟨S8, .f32⟩ : BufTy).Contents (Elt F) → (⟨S8x1, .f32⟩ : BufTy).Contents (Elt F)),
    StableHlo.nullary main_cst_12 (constant S_ .f32 0x3F800000#32),
    StableHlo.unary main_cst_12 main_v99 (broadcastInDim S128 ![] bcast_S_S128 : (⟨S_, .f32⟩ : BufTy).Contents (Elt F) → (⟨S128, .f32⟩ : BufTy).Contents (Elt F)),
    StableHlo.binary main_v81 main_v99 main_v100 (addf : (⟨S128, .f32⟩ : BufTy).Contents (Elt F) → (⟨S128, .f32⟩ : BufTy).Contents (Elt F) → (⟨S128, .f32⟩ : BufTy).Contents (Elt F)),
    StableHlo.unary main_v100 main_v101 (broadcastInDim S1x128 ![1] bcast_S128_S1x128_1 : (⟨S128, .f32⟩ : BufTy).Contents (Elt F) → (⟨S1x128, .f32⟩ : BufTy).Contents (Elt F)),
    StableHlo.unary main_v98 main_v102 (broadcastInDim S8x128 ![0, 1] bcast_S8x1_S8x128_0_1 : (⟨S8x1, .f32⟩ : BufTy).Contents (Elt F) → (⟨S8x128, .f32⟩ : BufTy).Contents (Elt F)),
    StableHlo.unary main_v101 main_v103 (broadcastInDim S8x128 ![0, 1] bcast_S1x128_S8x128_0_1 : (⟨S1x128, .f32⟩ : BufTy).Contents (Elt F) → (⟨S8x128, .f32⟩ : BufTy).Contents (Elt F)),
    StableHlo.binary main_v102 main_v103 main_v104 (mulf : (⟨S8x128, .f32⟩ : BufTy).Contents (Elt F) → (⟨S8x128, .f32⟩ : BufTy).Contents (Elt F) → (⟨S8x128, .f32⟩ : BufTy).Contents (Elt F)),
    StableHlo.unary main_v104 main_v105 (Host.exp : (⟨S8x128, .f32⟩ : BufTy).Contents (Elt F) → (⟨S8x128, .f32⟩ : BufTy).Contents (Elt F)),
    StableHlo.unary main_v105 main_v106 (broadcastInDim S8x128x1 ![0, 1] bcast_S8x128_S8x128x1_0_1 : (⟨S8x128, .f32⟩ : BufTy).Contents (Elt F) → (⟨S8x128x1, .f32⟩ : BufTy).Contents (Elt F)),
    StableHlo.unary main_v22 main_v107 (broadcastInDim S8x1 ![0] bcast_S8_S8x1_0 : (⟨S8, .f32⟩ : BufTy).Contents (Elt F) → (⟨S8x1, .f32⟩ : BufTy).Contents (Elt F)),
    StableHlo.nullary main_cst_13 (constant S_ .f32 0x42FE0000#32),
    StableHlo.unary main_cst_13 main_v108 (broadcastInDim S128 ![] bcast_S_S128 : (⟨S_, .f32⟩ : BufTy).Contents (Elt F) → (⟨S128, .f32⟩ : BufTy).Contents (Elt F)),
    StableHlo.binary main_v108 main_v81 main_v109 (subf : (⟨S128, .f32⟩ : BufTy).Contents (Elt F) → (⟨S128, .f32⟩ : BufTy).Contents (Elt F) → (⟨S128, .f32⟩ : BufTy).Contents (Elt F)),
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v107 main_v111 (broadcastInDim S8x128 ![0, 1] bcast_S8x1_S8x128_0_1 : (⟨S8x1, .f32⟩ : BufTy).Contents (Elt F) → (⟨S8x128, .f32⟩ : BufTy).Contents (Elt F)),
    StableHlo.unary main_v110 main_v112 (broadcastInDim S8x128 ![0, 1] bcast_S1x128_S8x128_0_1 : (⟨S1x128, .f32⟩ : BufTy).Contents (Elt F) → (⟨S8x128, .f32⟩ : BufTy).Contents (Elt F)),
    StableHlo.binary main_v111 main_v112 main_v113 (mulf : (⟨S8x128, .f32⟩ : BufTy).Contents (Elt F) → (⟨S8x128, .f32⟩ : BufTy).Contents (Elt F) → (⟨S8x128, .f32⟩ : BufTy).Contents (Elt F)),
    StableHlo.unary main_v113 main_v114 (Host.exp : (⟨S8x128, .f32⟩ : BufTy).Contents (Elt F) → (⟨S8x128, .f32⟩ : BufTy).Contents (Elt F)),
    StableHlo.unary main_v114 main_v115 (broadcastInDim S8x128x1 ![0, 1] bcast_S8x128_S8x128x1_0_1 : (⟨S8x128, .f32⟩ : BufTy).Contents (Elt F) → (⟨S8x128x1, .f32⟩ : BufTy).Contents (Elt F)),
    StableHlo.nullary main_cst_14 (constant S_ .f32 0x43000000#32),
    StableHlo.unary main_cst_14 main_v116 (broadcastInDim S8 ![] bcast_S_S8 : (⟨S_, .f32⟩ : BufTy).Contents (Elt F) → (⟨S8, .f32⟩ : BufTy).Contents (Elt F)),
    StableHlo.binary main_v22 main_v116 main_v117 (mulf : (⟨S8, .f32⟩ : BufTy).Contents (Elt F) → (⟨S8, .f32⟩ : BufTy).Contents (Elt F) → (⟨S8, .f32⟩ : BufTy).Contents (Elt F)),
    StableHlo.unary main_v117 main_v118 (Host.exp : (⟨S8, .f32⟩ : BufTy).Contents (Elt F) → (⟨S8, .f32⟩ : BufTy).Contents (Elt F)),
    StableHlo.unary main_v118 main_v119 (broadcastInDim S8x1x1 ![0] bcast_S8_S8x1x1_0 : (⟨S8, .f32⟩ : BufTy).Contents (Elt F) → (⟨S8x1x1, .f32⟩ : BufTy).Contents (Elt F)),
    StableHlo.nullary main_cst_15 (constant S_ .f32 0x00000000#32),
    StableHlo.unary main_cst_15 main_v120 (broadcastInDim S1x8x128x128 ![] bcast_S_S1x8x128x128 : (⟨S_, .f32⟩ : BufTy).Contents (Elt F) → (⟨S1x8x128x128, .f32⟩ : BufTy).Contents (Elt F)),
    StableHlo.reshape main_v78 main_v121 (rfl : (.f32 : EltTy) = .f32) shapeCasts_S1x8x4096x128_S1x8x32x128x128,
    StableHlo.unary main_v121 main_v122 ((transpose S32x1x8x128x128 [2, 0, 1, 3, 4] · transposes_S1x8x32x128x128_S32x1x8x128x128_2_0_1_3_4) : (⟨S1x8x32x128x128, .f32⟩ : BufTy).Contents (Elt F) → (⟨S32x1x8x128x128, .f32⟩ : BufTy).Contents (Elt F)),
    StableHlo.reshape main_v79 main_v123 (rfl : (.f32 : EltTy) = .f32) shapeCasts_S1x8x4096x128_S1x8x32x128x128,
    StableHlo.unary main_v123 main_v124 ((transpose S32x1x8x128x128 [2, 0, 1, 3, 4] · transposes_S1x8x32x128x128_S32x1x8x128x128_2_0_1_3_4) : (⟨S1x8x32x128x128, .f32⟩ : BufTy).Contents (Elt F) → (⟨S32x1x8x128x128, .f32⟩ : BufTy).Contents (Elt F)),
    StableHlo.reshape main_v80 main_v125 (rfl : (.f32 : EltTy) = .f32) shapeCasts_S1x8x4096x128_S1x8x32x128x128,
    StableHlo.unary main_v125 main_v126 ((transpose S32x1x8x128x128 [2, 0, 1, 3, 4] · transposes_S1x8x32x128x128_S32x1x8x128x128_2_0_1_3_4) : (⟨S1x8x32x128x128, .f32⟩ : BufTy).Contents (Elt F) → (⟨S32x1x8x128x128, .f32⟩ : BufTy).Contents (Elt F)),
    StableHlo.unary main_v97 main_v127 (broadcastInDim S1x8x128x128 ![1, 2, 3] bcast_S8x128x128_S1x8x128x128_1_2_3 : (⟨S8x128x128, .f32⟩ : BufTy).Contents (Elt F) → (⟨S1x8x128x128, .f32⟩ : BufTy).Contents (Elt F)),
    StableHlo.unary main_v106 main_v128 (broadcastInDim S1x8x128x1 ![1, 2, 3] bcast_S8x128x1_S1x8x128x1_1_2_3 : (⟨S8x128x1, .f32⟩ : BufTy).Contents (Elt F) → (⟨S1x8x128x1, .f32⟩ : BufTy).Contents (Elt F)),
    StableHlo.unary main_v119 main_v129 (broadcastInDim S1x8x1x1 ![1, 2, 3] bcast_S8x1x1_S1x8x1x1_1_2_3 : (⟨S8x1x1, .f32⟩ : BufTy).Contents (Elt F) → (⟨S1x8x1x1, .f32⟩ : BufTy).Contents (Elt F)),
    StableHlo.unary main_v115 main_v130 (broadcastInDim S1x8x128x1 ![1, 2, 3] bcast_S8x128x1_S1x8x128x1_1_2_3 : (⟨S8x128x1, .f32⟩ : BufTy).Contents (Elt F) → (⟨S1x8x128x1, .f32⟩ : BufTy).Contents (Elt F)),
    StableHlo.nullary main_cst_16 (constant S_ .f32 0x00000000#32),
    StableHlo.unary main_cst_16 main_v131 (broadcastInDim S32x1x8x128x128 ![] bcast_S_S32x1x8x128x128 : (⟨S_, .f32⟩ : BufTy).Contents (Elt F) → (⟨S32x1x8x128x128, .f32⟩ : BufTy).Contents (Elt F)),
    StableHlo.nullary main_cst_17 (constant S_ .f32 0x00000000#32),
    StableHlo.unary main_cst_17 main_v132 (broadcastInDim S32x1x8x128x128 ![] bcast_S_S32x1x8x128x128 : (⟨S_, .f32⟩ : BufTy).Contents (Elt F) → (⟨S32x1x8x128x128, .f32⟩ : BufTy).Contents (Elt F)),
    StableHlo.nullary main_c_18 (constantI S_ 32 0#32),
    StableHlo.unary main_v122 main_v133_0 id,
    StableHlo.unary main_v124 main_v133_1 id,
    StableHlo.unary main_v126 main_v133_2 id,
    StableHlo.unary main_v129 main_v133_3 id,
    StableHlo.unary main_v130 main_v133_4 id,
    StableHlo.unary main_v127 main_v133_5 id,
    StableHlo.unary main_v128 main_v133_6 id,
    StableHlo.unary main_c_18 main_v133_7 id,
    StableHlo.unary main_v120 main_v133_8 id,
    StableHlo.unary main_v131 main_v133_9 id,
    StableHlo.unary main_v132 main_v133_10 id ]
theorem part2_s2_sub : (part2_s2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem part2_s2_fresh : (part2_s2 : List (HloOp τ sig (Elt F))).Forall fun op => op.fresh = ∅ := StableHlo.forall_fresh_of_map rfl

/-- `main_part2`: own operations. -/
abbrev part2_s4 : List (HloOp τ sig (Elt F)) :=
  [ StableHlo.unary main_v133_9 main_v134 ((transpose S1x8x32x128x128 [1, 2, 0, 3, 4] · transposes_S32x1x8x128x128_S1x8x32x128x128_1_2_0_3_4) : (⟨S32x1x8x128x128, .f32⟩ : BufTy).Contents (Elt F) → (⟨S1x8x32x128x128, .f32⟩ : BufTy).Contents (Elt F)),
    StableHlo.reshape main_v134 main_v135 (rfl : (.f32 : EltTy) = .f32) shapeCasts_S1x8x32x128x128_S1x8x4096x128 ]
theorem part2_s4_sub : (part2_s4 : List (HloOp τ sig (Elt F))).Forall fun op => op.bufs ⊆ StableHlo.tcRefs τ sig :=
  ⟨StableHlo.unary_bufs_sub .., StableHlo.reshape_bufs_sub ..⟩
theorem part2_s4_fresh : (part2_s4 : List (HloOp τ sig (Elt F))).Forall fun op => op.fresh = ∅ := StableHlo.forall_fresh_of_map rfl

/-- `main_part2`: the call `main_call15` of `fn_flip`. -/
abbrev part2_s5 : List (HloOp τ sig (Elt F)) :=
  [ StableHlo.TRef.unary (.of main_v135 : StableHlo.TRef sig ⟨S1x8x4096x128, .f32⟩) (.of main_v136 : StableHlo.TRef sig ⟨S1x8x4096x128, .f32⟩) (Host.reverse [2]) ]
theorem part2_s5_sub : (part2_s5 : List (HloOp τ sig (Elt F))).Forall fun op => op.bufs ⊆ StableHlo.tcRefs τ sig :=
  StableHlo.unary_bufs_sub ..
theorem part2_s5_fresh : (part2_s5 : List (HloOp τ sig (Elt F))).Forall fun op => op.fresh = ∅ := StableHlo.forall_fresh_of_map rfl

/-- `main_part3`: own operations. -/
abbrev part3_s0 : List (HloOp τ sig (Elt F)) :=
  [ StableHlo.binary main_v77 main_v136 main_v137 (addf : (⟨S1x8x4096x128, .f32⟩ : BufTy).Contents (Elt F) → (⟨S1x8x4096x128, .f32⟩ : BufTy).Contents (Elt F) → (⟨S1x8x4096x128, .f32⟩ : BufTy).Contents (Elt F)),
    StableHlo.unary main_v137 main_v138 ((transpose S1x4096x8x128 [0, 2, 1, 3] · transposes_S1x8x4096x128_S1x4096x8x128_0_2_1_3) : (⟨S1x8x4096x128, .f32⟩ : BufTy).Contents (Elt F) → (⟨S1x4096x8x128, .f32⟩ : BufTy).Contents (Elt F)),
    StableHlo.reshape main_v138 main_v139 (rfl : (.f32 : EltTy) = .f32) shapeCasts_S1x4096x8x128_S1x4096x1024,
    StableHlo.unary main_arg0 main_v140 (broadcastInDim S1x4096x1024 ![1, 2] bcast_S4096x1024_S1x4096x1024_1_2 : (⟨S4096x1024, .bf16⟩ : BufTy).Contents (Elt F) → (⟨S1x4096x1024, .bf16⟩ : BufTy).Contents (Elt F)),
    StableHlo.unary main_v140 main_v141 ((extf .f32 · bitsLt_bf16_f32) : (⟨S1x4096x1024, .bf16⟩ : BufTy).Contents (Elt F) → (⟨S1x4096x1024, .f32⟩ : BufTy).Contents (Elt F)),
    StableHlo.reshape main_v141 main_v142 (rfl : (.f32 : EltTy) = .f32) shapeCasts_S1x4096x1024_S1x4096x8x128,
    StableHlo.unary main_v142 main_v143 ((transpose S1x8x4096x128 [0, 2, 1, 3] · transposes_S1x4096x8x128_S1x8x4096x128_0_2_1_3) : (⟨S1x4096x8x128, .f32⟩ : BufTy).Contents (Elt F) → (⟨S1x8x4096x128, .f32⟩ : BufTy).Contents (Elt F)) ]
theorem part3_s0_sub : (part3_s0 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.unary_bufs_sub .., StableHlo.reshape_bufs_sub .., StableHlo.unary_bufs_sub ..⟩
theorem part3_s0_fresh : (part3_s0 : List (HloOp τ sig (Elt F))).Forall fun op => op.fresh = ∅ := StableHlo.forall_fresh_of_map rfl

/-- `main_part3`: the call `main_call16` of `fn_flip_1`. -/
abbrev part3_s1 : List (HloOp τ sig (Elt F)) :=
  [ StableHlo.TRef.unary (.of main_v143 : StableHlo.TRef sig ⟨S1x8x4096x128, .f32⟩) (.of main_v144 : StableHlo.TRef sig ⟨S1x8x4096x128, .f32⟩) (Host.reverse [2]) ]
theorem part3_s1_sub : (part3_s1 : List (HloOp τ sig (Elt F))).Forall fun op => op.bufs ⊆ StableHlo.tcRefs τ sig :=
  StableHlo.unary_bufs_sub ..
theorem part3_s1_fresh : (part3_s1 : List (HloOp τ sig (Elt F))).Forall fun op => op.fresh = ∅ := StableHlo.forall_fresh_of_map rfl

/-- `main_part3`: own operations. -/
abbrev part3_s2 : List (HloOp τ sig (Elt F)) :=
  [ StableHlo.reshape main_v144 main_v145 (rfl : (.f32 : EltTy) = .f32) shapeCasts_S1x8x4096x128_S1x8x32x128x128,
    StableHlo.unary main_v145 main_v146 ((transpose S32x1x8x128x128 [2, 0, 1, 3, 4] · transposes_S1x8x32x128x128_S32x1x8x128x128_2_0_1_3_4) : (⟨S1x8x32x128x128, .f32⟩ : BufTy).Contents (Elt F) → (⟨S32x1x8x128x128, .f32⟩ : BufTy).Contents (Elt F)),
    StableHlo.nullary main_cst_19 (constant S_ .f32 0x00000000#32),
    StableHlo.unary main_cst_19 main_v147 (broadcastInDim S32x1x8x128x128 ![] bcast_S_S32x1x8x128x128 : (⟨S_, .f32⟩ : BufTy).Contents (Elt F) → (⟨S32x1x8x128x128, .f32⟩ : BufTy).Contents (Elt F)),
    StableHlo.nullary main_c_20 (constantI S_ 32 0#32),
    StableHlo.unary main_v146 main_v148_0 id,
    StableHlo.unary main_v124 main_v148_1 id,
    StableHlo.unary main_v126 main_v148_2 id,
    StableHlo.unary main_v133_10 main_v148_3 id,
    StableHlo.unary main_v127 main_v148_4 id,
    StableHlo.unary main_v128 main_v148_5 id,
    StableHlo.unary main_c_20 main_v148_6 id,
    StableHlo.unary main_v147 main_v148_7 id ]
theorem part3_s2_sub : (part3_s2 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem part3_s2_fresh : (part3_s2 : List (HloOp τ sig (Elt F))).Forall fun op => op.fresh = ∅ := StableHlo.forall_fresh_of_map rfl

/-- `main_part3`: own operations. -/
abbrev part3_s4 : List (HloOp τ sig (Elt F)) :=
  [ StableHlo.unary main_v148_7 main_v149 ((transpose S1x8x32x128x128 [1, 2, 0, 3, 4] · transposes_S32x1x8x128x128_S1x8x32x128x128_1_2_0_3_4) : (⟨S32x1x8x128x128, .f32⟩ : BufTy).Contents (Elt F) → (⟨S1x8x32x128x128, .f32⟩ : BufTy).Contents (Elt F)),
    StableHlo.reshape main_v149 main_v150 (rfl : (.f32 : EltTy) = .f32) shapeCasts_S1x8x32x128x128_S1x8x4096x128 ]
theorem part3_s4_sub : (part3_s4 : List (HloOp τ sig (Elt F))).Forall fun op => op.bufs ⊆ StableHlo.tcRefs τ sig :=
  ⟨StableHlo.unary_bufs_sub .., StableHlo.reshape_bufs_sub ..⟩
theorem part3_s4_fresh : (part3_s4 : List (HloOp τ sig (Elt F))).Forall fun op => op.fresh = ∅ := StableHlo.forall_fresh_of_map rfl

/-- `main_part3`: the call `main_call22` of `fn_flip_1`. -/
abbrev part3_s5 : List (HloOp τ sig (Elt F)) :=
  [ StableHlo.TRef.unary (.of main_v150 : StableHlo.TRef sig ⟨S1x8x4096x128, .f32⟩) (.of main_v151 : StableHlo.TRef sig ⟨S1x8x4096x128, .f32⟩) (Host.reverse [2]) ]
theorem part3_s5_sub : (part3_s5 : List (HloOp τ sig (Elt F))).Forall fun op => op.bufs ⊆ StableHlo.tcRefs τ sig :=
  StableHlo.unary_bufs_sub ..
theorem part3_s5_fresh : (part3_s5 : List (HloOp τ sig (Elt F))).Forall fun op => op.fresh = ∅ := StableHlo.forall_fresh_of_map rfl

/-- `main_part3`: own operations. -/
abbrev part3_s6 : List (HloOp τ sig (Elt F)) :=
  [ StableHlo.reshape main_v143 main_v152 (rfl : (.f32 : EltTy) = .f32) shapeCasts_S1x8x4096x128_S1x8x32x128x128,
    StableHlo.unary main_v152 main_v153 ((transpose S32x1x8x128x128 [2, 0, 1, 3, 4] · transposes_S1x8x32x128x128_S32x1x8x128x128_2_0_1_3_4) : (⟨S1x8x32x128x128, .f32⟩ : BufTy).Contents (Elt F) → (⟨S32x1x8x128x128, .f32⟩ : BufTy).Contents (Elt F)),
    StableHlo.nullary main_cst_21 (constant S_ .f32 0x00000000#32),
    StableHlo.unary main_cst_21 main_v154 (broadcastInDim S32x1x8x128x128 ![] bcast_S_S32x1x8x128x128 : (⟨S_, .f32⟩ : BufTy).Contents (Elt F) → (⟨S32x1x8x128x128, .f32⟩ : BufTy).Contents (Elt F)),
    StableHlo.nullary main_c_22 (constantI S_ 32 0#32),
    StableHlo.unary main_v153 main_v155_0 id,
    StableHlo.unary main_v66 main_v155_1 id,
    StableHlo.unary main_v68 main_v155_2 id,
    StableHlo.unary main_v75_10 main_v155_3 id,
    StableHlo.unary main_v69 main_v155_4 id,
    StableHlo.unary main_v70 main_v155_5 id,
    StableHlo.unary main_c_22 main_v155_6 id,
    StableHlo.unary main_v154 main_v155_7 id ]
theorem part3_s6_sub : (part3_s6 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem part3_s6_fresh : (part3_s6 : List (HloOp τ sig (Elt F))).Forall fun op => op.fresh = ∅ := StableHlo.forall_fresh_of_map rfl

/-- `main_part3`: own operations. -/
abbrev part3_s8 : List (HloOp τ sig (Elt F)) :=
  [ StableHlo.unary main_v155_7 main_v156 ((transpose S1x8x32x128x128 [1, 2, 0, 3, 4] · transposes_S32x1x8x128x128_S1x8x32x128x128_1_2_0_3_4) : (⟨S32x1x8x128x128, .f32⟩ : BufTy).Contents (Elt F) → (⟨S1x8x32x128x128, .f32⟩ : BufTy).Contents (Elt F)),
    StableHlo.reshape main_v156 main_v157 (rfl : (.f32 : EltTy) = .f32) shapeCasts_S1x8x32x128x128_S1x8x4096x128,
    StableHlo.binary main_v151 main_v157 main_v158 (addf : (⟨S1x8x4096x128, .f32⟩ : BufTy).Contents (Elt F) → (⟨S1x8x4096x128, .f32⟩ : BufTy).Contents (Elt F) → (⟨S1x8x4096x128, .f32⟩ : BufTy).Contents (Elt F)),
    StableHlo.nullary main_cst_23 (constant S_ .f32 0x3DB504F3#32),
    StableHlo.unary main_cst_23 main_v159 (broadcastInDim S1x8x4096x128 ![] bcast_S_S1x8x4096x128 : (⟨S_, .f32⟩ : BufTy).Contents (Elt F) → (⟨S1x8x4096x128, .f32⟩ : BufTy).Contents (Elt F)),
    StableHlo.binary main_v158 main_v159 main_v160 (mulf : (⟨S1x8x4096x128, .f32⟩ : BufTy).Contents (Elt F) → (⟨S1x8x4096x128, .f32⟩ : BufTy).Contents (Elt F) → (⟨S1x8x4096x128, .f32⟩ : BufTy).Contents (Elt F)),
    StableHlo.unary main_v160 main_v161 ((transpose S1x4096x8x128 [0, 2, 1, 3] · transposes_S1x8x4096x128_S1x4096x8x128_0_2_1_3) : (⟨S1x8x4096x128, .f32⟩ : BufTy).Contents (Elt F) → (⟨S1x4096x8x128, .f32⟩ : BufTy).Contents (Elt F)),
    StableHlo.reshape main_v161 main_v162 (rfl : (.f32 : EltTy) = .f32) shapeCasts_S1x4096x8x128_S1x4096x1024,
    StableHlo.reshape main_v162 main_v163 (rfl : (.f32 : EltTy) = .f32) shapeCasts_S1x4096x1024_S4096x1024,
    StableHlo.unary main_v163 main_v164 ((truncf .bf16 · bitsLt_bf16_f32) : (⟨S4096x1024, .f32⟩ : BufTy).Contents (Elt F) → (⟨S4096x1024, .bf16⟩ : BufTy).Contents (Elt F)) ]
theorem part3_s8_sub : (part3_s8 : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.reshape_bufs_sub .., StableHlo.unary_bufs_sub ..⟩
theorem part3_s8_fresh : (part3_s8 : List (HloOp τ sig (Elt F))).Forall fun op => op.fresh = ∅ := StableHlo.forall_fresh_of_map rfl

theorem part0_chain (c : Dev nD) : main_part0 (F := F) c = (Pipeline.chainK
  [ StableHlo.seq part0_s0,
    StableHlo.seq part0_s1 ]
  (StableHlo.seq part0_s2) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons]
  chain_rfl

theorem part1_chain (c : Dev nD) : main_part1 (F := F) c = (Pipeline.chainK
  [ StableHlo.seq part1_s0,
    HostLoop.enter 0,
    StableHlo.seq part1_s2,
    StableHlo.seq part1_s3,
    StableHlo.seq part1_s4,
    StableHlo.seq part1_s5 ]
  (StableHlo.seq part1_s6) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons, StableHlo.chainK_seq_cons, Pipeline.chainK_cons, Pipeline.chainK_cons, Pipeline.chainK_cons]
  chain_rfl

theorem part2_chain (c : Dev nD) : main_part2 (F := F) c = (Pipeline.chainK
  [ StableHlo.seq part2_s0,
    StableHlo.seq part2_s1,
    StableHlo.seq part2_s2,
    HostLoop.enter 1,
    StableHlo.seq part2_s4 ]
  (StableHlo.seq part2_s5) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons, StableHlo.chainK_seq_cons, Pipeline.chainK_cons, StableHlo.chainK_seq_cons]
  chain_rfl

theorem part3_chain (c : Dev nD) : main_part3 (F := F) c = (Pipeline.chain
  [ StableHlo.seq part3_s0,
    StableHlo.seq part3_s1,
    StableHlo.seq part3_s2,
    HostLoop.enter 2,
    StableHlo.seq part3_s4,
    StableHlo.seq part3_s5,
    StableHlo.seq part3_s6,
    HostLoop.enter 3,
    StableHlo.seq part3_s8 ] : Prog (TpuEff nD τ sig (Elt F) (HostLoop.Sig (Pipeline.Sig Λ₀ (Fin 0) fun p => (pcfgs (F := F) p).Adm) 4) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

/-- @main is the chain of its stretches, calls and loops. -/
theorem main_chain (c : Dev nD) : main (F := F) c = (Pipeline.chain
  [ StableHlo.seq part0_s0,
    StableHlo.seq part0_s1,
    StableHlo.seq part0_s2,
    StableHlo.seq part1_s0,
    HostLoop.enter 0,
    StableHlo.seq part1_s2,
    StableHlo.seq part1_s3,
    StableHlo.seq part1_s4,
    StableHlo.seq part1_s5,
    StableHlo.seq part1_s6,
    StableHlo.seq part2_s0,
    StableHlo.seq part2_s1,
    StableHlo.seq part2_s2,
    HostLoop.enter 1,
    StableHlo.seq part2_s4,
    StableHlo.seq part2_s5,
    StableHlo.seq part3_s0,
    StableHlo.seq part3_s1,
    StableHlo.seq part3_s2,
    HostLoop.enter 2,
    StableHlo.seq part3_s4,
    StableHlo.seq part3_s5,
    StableHlo.seq part3_s6,
    HostLoop.enter 3,
    StableHlo.seq part3_s8 ] : Prog (TpuEff nD τ sig (Elt F) (HostLoop.Sig (Pipeline.Sig Λ₀ (Fin 0) fun p => (pcfgs (F := F) p).Adm) 4) .tc) PUnit) := by
  show (main_part0 (F := F) c >>= fun _ => main_part1 (F := F) c >>= fun _ => main_part2 (F := F) c >>= fun _ => main_part3 (F := F) c) = _
  rewrite [part3_chain, part2_chain, Pipeline.chainK_bind_chain, part1_chain, Pipeline.chainK_bind_chain, part0_chain, Pipeline.chainK_bind_chain]
  chain_rfl

theorem while0_body_chain : main_while0_body (F := F) = (Pipeline.chain
  [ StableHlo.seq while0_body_s0,
    StableHlo.seq while0_body_s1,
    StableHlo.seq while0_body_s2,
    StableHlo.seq while0_body_s3,
    StableHlo.seq while0_body_s4,
    StableHlo.seq while0_body_s5,
    StableHlo.seq while0_body_s6 ] : Prog (TpuEff nD τ sig (Elt F) (HostLoop.Sig (Pipeline.Sig Λ₀ (Fin 0) fun p => (pcfgs (F := F) p).Adm) 4) .tc) PUnit) := by
  rewrite [Pipeline.chain_cons, Pipeline.chain_cons, Pipeline.chain_cons, StableHlo.chain_seq_cons, Pipeline.chain_cons, Pipeline.chain_cons, StableHlo.chain_seq_cons]
  chain_rfl

theorem while1_body_chain : main_while1_body (F := F) = (Pipeline.chain
  [ StableHlo.seq while1_body_s0,
    StableHlo.seq while1_body_s1,
    StableHlo.seq while1_body_s2,
    StableHlo.seq while1_body_s3,
    StableHlo.seq while1_body_s4,
    StableHlo.seq while1_body_s5,
    StableHlo.seq while1_body_s6 ] : Prog (TpuEff nD τ sig (Elt F) (HostLoop.Sig (Pipeline.Sig Λ₀ (Fin 0) fun p => (pcfgs (F := F) p).Adm) 4) .tc) PUnit) := by
  rewrite [Pipeline.chain_cons, Pipeline.chain_cons, Pipeline.chain_cons, StableHlo.chain_seq_cons, Pipeline.chain_cons, Pipeline.chain_cons, StableHlo.chain_seq_cons]
  chain_rfl

theorem while2_body_chain : main_while2_body (F := F) = (Pipeline.chain
  [ StableHlo.seq while2_body_s0,
    StableHlo.seq while2_body_s1,
    StableHlo.seq while2_body_s2,
    StableHlo.seq while2_body_s3,
    StableHlo.seq while2_body_s4,
    StableHlo.seq while2_body_s5,
    StableHlo.seq while2_body_s6,
    StableHlo.seq while2_body_s7 ] : Prog (TpuEff nD τ sig (Elt F) (HostLoop.Sig (Pipeline.Sig Λ₀ (Fin 0) fun p => (pcfgs (F := F) p).Adm) 4) .tc) PUnit) := by
  rewrite [StableHlo.chain_seq_cons, Pipeline.chain_cons, Pipeline.chain_cons, Pipeline.chain_cons, Pipeline.chain_cons, StableHlo.chain_seq_cons, Pipeline.chain_cons, StableHlo.chain_seq_cons]
  chain_rfl

theorem while3_body_chain : main_while3_body (F := F) = (Pipeline.chain
  [ StableHlo.seq while3_body_s0,
    StableHlo.seq while3_body_s1,
    StableHlo.seq while3_body_s2,
    StableHlo.seq while3_body_s3,
    StableHlo.seq while3_body_s4,
    StableHlo.seq while3_body_s5,
    StableHlo.seq while3_body_s6,
    StableHlo.seq while3_body_s7 ] : Prog (TpuEff nD τ sig (Elt F) (HostLoop.Sig (Pipeline.Sig Λ₀ (Fin 0) fun p => (pcfgs (F := F) p).Adm) 4) .tc) PUnit) := by
  rewrite [StableHlo.chain_seq_cons, Pipeline.chain_cons, Pipeline.chain_cons, Pipeline.chain_cons, Pipeline.chain_cons, StableHlo.chain_seq_cons, Pipeline.chain_cons, StableHlo.chain_seq_cons]
  chain_rfl

/-! The stretches before, between and after the loops, and the loops' bodies. -/
abbrev host0 : List (List (HloOp τ sig (Elt F))) := [part0_s0, part0_s1, part0_s2, part1_s0]
theorem host0_plain : Plain (host0 (F := F)) := .cons part0_s0_sub (hf := List.forall_iff_forall_mem.mp part0_s0_fresh) (.cons part0_s1_sub (hf := List.forall_iff_forall_mem.mp part0_s1_fresh) (.cons part0_s2_sub (hf := List.forall_iff_forall_mem.mp part0_s2_fresh) (.cons part1_s0_sub (hf := List.forall_iff_forall_mem.mp part1_s0_fresh) (.nil))))
abbrev host1 : List (List (HloOp τ sig (Elt F))) := [part1_s2, part1_s3, part1_s4, part1_s5, part1_s6, part2_s0, part2_s1, part2_s2]
theorem host1_plain : Plain (host1 (F := F)) := .cons part1_s2_sub (hf := List.forall_iff_forall_mem.mp part1_s2_fresh) (.cons part1_s3_sub (hf := List.forall_iff_forall_mem.mp part1_s3_fresh) (.cons part1_s4_sub (hf := List.forall_iff_forall_mem.mp part1_s4_fresh) (.cons part1_s5_sub (hf := List.forall_iff_forall_mem.mp part1_s5_fresh) (.cons part1_s6_sub (hf := List.forall_iff_forall_mem.mp part1_s6_fresh) (.cons part2_s0_sub (hf := List.forall_iff_forall_mem.mp part2_s0_fresh) (.cons part2_s1_sub (hf := List.forall_iff_forall_mem.mp part2_s1_fresh) (.cons part2_s2_sub (hf := List.forall_iff_forall_mem.mp part2_s2_fresh) (.nil))))))))
abbrev host2 : List (List (HloOp τ sig (Elt F))) := [part2_s4, part2_s5, part3_s0, part3_s1, part3_s2]
theorem host2_plain : Plain (host2 (F := F)) := .cons part2_s4_sub (hf := List.forall_iff_forall_mem.mp part2_s4_fresh) (.cons part2_s5_sub (hf := List.forall_iff_forall_mem.mp part2_s5_fresh) (.cons part3_s0_sub (hf := List.forall_iff_forall_mem.mp part3_s0_fresh) (.cons part3_s1_sub (hf := List.forall_iff_forall_mem.mp part3_s1_fresh) (.cons part3_s2_sub (hf := List.forall_iff_forall_mem.mp part3_s2_fresh) (.nil)))))
abbrev host3 : List (List (HloOp τ sig (Elt F))) := [part3_s4, part3_s5, part3_s6]
theorem host3_plain : Plain (host3 (F := F)) := .cons part3_s4_sub (hf := List.forall_iff_forall_mem.mp part3_s4_fresh) (.cons part3_s5_sub (hf := List.forall_iff_forall_mem.mp part3_s5_fresh) (.cons part3_s6_sub (hf := List.forall_iff_forall_mem.mp part3_s6_fresh) (.nil)))
abbrev host4 : List (List (HloOp τ sig (Elt F))) := [part3_s8]
theorem host4_plain : Plain (host4 (F := F)) := .cons part3_s8_sub (hf := List.forall_iff_forall_mem.mp part3_s8_fresh) (.nil)
abbrev body0 : List (List (HloOp τ sig (Elt F))) := [while0_body_s0, while0_body_s1, while0_body_s2, while0_body_s3, while0_body_s4, while0_body_s5, while0_body_s6]
theorem body0_plain : Plain (body0 (F := F)) := .cons while0_body_s0_sub (hf := List.forall_iff_forall_mem.mp while0_body_s0_fresh) (.cons while0_body_s1_sub (hf := List.forall_iff_forall_mem.mp while0_body_s1_fresh) (.cons while0_body_s2_sub (hf := List.forall_iff_forall_mem.mp while0_body_s2_fresh) (.cons while0_body_s3_sub (hf := List.forall_iff_forall_mem.mp while0_body_s3_fresh) (.cons while0_body_s4_sub (hf := List.forall_iff_forall_mem.mp while0_body_s4_fresh) (.cons while0_body_s5_sub (hf := List.forall_iff_forall_mem.mp while0_body_s5_fresh) (.cons while0_body_s6_sub (hf := List.forall_iff_forall_mem.mp while0_body_s6_fresh) (.nil)))))))
abbrev body1 : List (List (HloOp τ sig (Elt F))) := [while1_body_s0, while1_body_s1, while1_body_s2, while1_body_s3, while1_body_s4, while1_body_s5, while1_body_s6]
theorem body1_plain : Plain (body1 (F := F)) := .cons while1_body_s0_sub (hf := List.forall_iff_forall_mem.mp while1_body_s0_fresh) (.cons while1_body_s1_sub (hf := List.forall_iff_forall_mem.mp while1_body_s1_fresh) (.cons while1_body_s2_sub (hf := List.forall_iff_forall_mem.mp while1_body_s2_fresh) (.cons while1_body_s3_sub (hf := List.forall_iff_forall_mem.mp while1_body_s3_fresh) (.cons while1_body_s4_sub (hf := List.forall_iff_forall_mem.mp while1_body_s4_fresh) (.cons while1_body_s5_sub (hf := List.forall_iff_forall_mem.mp while1_body_s5_fresh) (.cons while1_body_s6_sub (hf := List.forall_iff_forall_mem.mp while1_body_s6_fresh) (.nil)))))))
abbrev body2 : List (List (HloOp τ sig (Elt F))) := [while2_body_s0, while2_body_s1, while2_body_s2, while2_body_s3, while2_body_s4, while2_body_s5, while2_body_s6, while2_body_s7]
theorem body2_plain : Plain (body2 (F := F)) := .cons while2_body_s0_sub (hf := List.forall_iff_forall_mem.mp while2_body_s0_fresh) (.cons while2_body_s1_sub (hf := List.forall_iff_forall_mem.mp while2_body_s1_fresh) (.cons while2_body_s2_sub (hf := List.forall_iff_forall_mem.mp while2_body_s2_fresh) (.cons while2_body_s3_sub (hf := List.forall_iff_forall_mem.mp while2_body_s3_fresh) (.cons while2_body_s4_sub (hf := List.forall_iff_forall_mem.mp while2_body_s4_fresh) (.cons while2_body_s5_sub (hf := List.forall_iff_forall_mem.mp while2_body_s5_fresh) (.cons while2_body_s6_sub (hf := List.forall_iff_forall_mem.mp while2_body_s6_fresh) (.cons while2_body_s7_sub (hf := List.forall_iff_forall_mem.mp while2_body_s7_fresh) (.nil))))))))
abbrev body3 : List (List (HloOp τ sig (Elt F))) := [while3_body_s0, while3_body_s1, while3_body_s2, while3_body_s3, while3_body_s4, while3_body_s5, while3_body_s6, while3_body_s7]
theorem body3_plain : Plain (body3 (F := F)) := .cons while3_body_s0_sub (hf := List.forall_iff_forall_mem.mp while3_body_s0_fresh) (.cons while3_body_s1_sub (hf := List.forall_iff_forall_mem.mp while3_body_s1_fresh) (.cons while3_body_s2_sub (hf := List.forall_iff_forall_mem.mp while3_body_s2_fresh) (.cons while3_body_s3_sub (hf := List.forall_iff_forall_mem.mp while3_body_s3_fresh) (.cons while3_body_s4_sub (hf := List.forall_iff_forall_mem.mp while3_body_s4_fresh) (.cons while3_body_s5_sub (hf := List.forall_iff_forall_mem.mp while3_body_s5_fresh) (.cons while3_body_s6_sub (hf := List.forall_iff_forall_mem.mp while3_body_s6_fresh) (.cons while3_body_s7_sub (hf := List.forall_iff_forall_mem.mp while3_body_s7_fresh) (.nil))))))))

end Cert.ReferenceIdeal.Host
-- ==== Proof.LoopRun.lean ====
/- The run of a program of host operations only whose @main is any number of stretches and counted loops in a row. -/
module

public import Idealize.ShloMosaic.Lib.Pipeline.Regions
public import Idealize.ShloMosaic.Lib.StableHlo.RunLoop

@[expose] public section

noncomputable section

namespace Cert.LoopRun

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)

variable {nD : Nat} {τ : Topo} {sig : RefSig} {F : FTy → Type} {Λ₀ : Labels}

local notation "𝕄" => MT nD τ sig Unit (Elt F) ℕ (Option PUnit) ℕ

/-- The label signature of a program with no kernel and `nL` loops. -/
abbrev Lab (pcs : Fin 0 → PCfg sig Λ₀ (Elt F)) (nL : Nat) := HostLoop.Sig (Pipeline.Sig Λ₀ (Fin 0) fun p => (pcs p).Adm) nL

/-- No kernel: nothing to admit, no ticket, no signal level. -/
abbrev noAdm (pcs : Fin 0 → PCfg sig Λ₀ (Elt F)) : (p : Fin 0) → (pcs p).Adm := fun p => p.elim0
abbrev noTicket (pcs : Fin 0 → PCfg sig Λ₀ (Elt F)) :
    Fin 0 → Ticket (Ix := Unit) (Name := ℕ) (U := Option PUnit) (Lvl := ℕ) (nD := nD) (τ := τ) pcs (noAdm pcs) := fun j => j.elim0
abbrev noSig : GSem nD τ sig → Finset Unit := fun _ => ∅
abbrev noLvl : GSem nD τ sig → Unit → ℕ := fun _ _ => 0

/-- What rides along beside the buffers. -/
abbrev Owed (c : Dev nD) : sProp 𝕄 := iprop(∃ W, owes (c : Thread nD τ) (0 : CellTallies nD τ sig Unit) W)

/-- One segment of such a program. -/
abbrev Seg (pcs : Fin 0 → PCfg sig Λ₀ (Elt F)) (defs₀ : Defs nD τ sig (Elt F) Λ₀) {nL : Nat}
    (loops : Fin nL → Prog (TpuEff nD τ sig (Elt F) (Lab pcs nL) .tc) PUnit) :=
  CSeg pcs (noAdm pcs) defs₀ Variants.none noSig noLvl loops (noTicket (nD := nD) (τ := τ) pcs)

/-- Every unscoped buffer of a core at `V`, and what rides along. -/
abbrev At (V : Dev nD → Valuation τ sig (Elt F)) (c : Dev nD) : sProp 𝕄 :=
  iprop(held (c : Thread nD τ) (ucRefs τ sig) (V c) ∗ Owed c)

/-- What the condition of a counted loop has to satisfy. -/
abbrev Cond (pcs : Fin 0 → PCfg sig Λ₀ (Elt F)) (defs₀ : Defs nD τ sig (Elt F) Λ₀) {nL : Nat}
    (loops : Fin nL → Prog (TpuEff nD τ sig (Elt F) (Lab pcs nL) .tc) PUnit)
    (cond : Prog (TpuEff nD τ sig (Elt F) (Lab pcs nL) .tc) (Elt F .i1)) (condOps : List (HloOp τ sig (Elt F)))
    (bodyI : List (List (HloOp τ sig (Elt F)))) (W₀ : Dev nD → Valuation τ sig (Elt F)) (n : ℕ) : Prop :=
  LoopCond (Ix := Unit) (Name := ℕ) (U := Option PUnit) (Lvl := ℕ) pcs defs₀ Variants.none loops Owed cond condOps bodyI W₀ n

/-- THE RUN: where @main is the fragments of `segs` in order and the segments chain from the launch contents to `V`, every
    execution ends with every unscoped buffer at `V`. -/
theorem run_segs [∀ e, Nonempty (Elt F e)]
    (pcs : Fin 0 → PCfg sig Λ₀ (Elt F)) (defs₀ : Defs nD τ sig (Elt F) Λ₀) {nL : Nat}
    (loops : Fin nL → Prog (TpuEff nD τ sig (Elt F) (Lab pcs nL) .tc) PUnit)
    (main : Dev nD → Prog (TpuEff nD τ sig (Elt F) (Lab pcs nL) .tc) PUnit)
    (m : (ℓ : Loc nD τ sig) → Buf (Elt F) ℓ) (ρ : Dev nD → PrngReg)
    (segs : List (Seg (nD := nD) (τ := τ) pcs defs₀ loops))
    (hmain : ∀ c, main c = Pipeline.chain (segs.map CSeg.prog))
    (V : Dev nD → Valuation τ sig (Elt F))
    (hch : CSeg.Chains (At (launchContents m)) segs (At V)) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = V c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noSig noLvl loops (noTicket pcs) m ρ main segs
    (fun c Q => by rw [hmain c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := At (launchContents m)) (Tₙ := fun c => iprop(held (c : Thread nD τ) (ucRefs τ sig) (V c)))
    (hch := hch)
    (hinit := by
      refine Pipeline.initEach noSig noLvl fun c => ?_
      rw [show unscopedBufs c (fun b => m ((c : Thread nD τ).loc b)) = held (c : Thread nD τ) (ucRefs τ sig) (launchContents m c)
        from unscopedBufs_held c (launchContents m c)]
      iintro ⟨⟨Hh, -, HO, -, -, -⟩, -⟩
      imodintro
      isplitl [Hh]
      · iexact Hh
      · iexists ∅
        iexact HO)
    (QY := fun c s => ∀ b ∈ ucRefs τ sig, s.mem ((c : Dev nD), b) = V c b)
    (hfin := fun c s' => by
      unfold held
      iintro ⟨Hh, HSI⟩
      ihave Hr := (pointsTo_read_all (ucRefs τ sig) (fun b => ((c : Dev nD), b)) (fun b => V c b) s') $$ [Hh HSI]
      · isplitl [Hh] <;> iassumption
      icases Hr with ⟨%h, HSI⟩
      imodintro
      isplitr
      · ipureintro
        exact h
      · iexact HSI)
    (hQ := fun _ h c b hb => h c _ (devRef_mem_ucRefs b hb))

end Cert.LoopRun
-- ==== Proof.ReferenceIdealRun.lean ====
/- The run of `ReferenceIdeal`: what each stretch of operations writes, the counter and the condition of each of the 4 loops, and the
   buffers' contents at @main's end as the fold of the stretches and of the loops' trips. -/
module

public import proofs.«01_k».proof.Proof.ReferenceIdealLists
public import proofs.«01_k».proof.Proof.LoopRun
public import Idealize.ShloMosaic.Lib.Scf.ExitTest
public import Idealize.ShloMosaic.Lib.Scf.Counter

@[expose] public section

noncomputable section

namespace Cert.ReferenceIdeal.Host

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## What each stretch writes -/

abbrev while0_body_s0_W : List (Ref sig .tc) := [main_while0b_call1_c, main_while0b_call1_c_0, main_while0b_call1_c_1, main_while0b_call1_c_2, main_while0b_call1_v0, main_while0b_v165]
theorem while0_body_s0_writes : (while0_body_s0 : List (HloOp τ sig (Elt F))).Forall fun op => op.writes ⊆ (while0_body_s0_W.map (Proc.devRef (τ := τ) .tc)).toFinset :=
  StableHlo.forall_writes_sub_of_map rfl
/-- A buffer `while0_body_s0` does not write keeps its contents. -/
theorem while0_body_s0_keep (V : Valuation τ sig (Elt F)) (r : Ref sig .tc) (h : r ∉ while0_body_s0_W := by decide +kernel) :
    after while0_body_s0 V (Proc.devRef .tc r) = V (Proc.devRef .tc r) :=
  after_of_writes_sub while0_body_s0 V while0_body_s0_writes (by simpa using h)

abbrev while0_body_s1_W : List (Ref sig .tc) := [main_while0b_call2_c, main_while0b_call2_c_0, main_while0b_call2_c_1, main_while0b_call2_c_2, main_while0b_call2_v0, main_while0b_v166]
theorem while0_body_s1_writes : (while0_body_s1 : List (HloOp τ sig (Elt F))).Forall fun op => op.writes ⊆ (while0_body_s1_W.map (Proc.devRef (τ := τ) .tc)).toFinset :=
  StableHlo.forall_writes_sub_of_map rfl
/-- A buffer `while0_body_s1` does not write keeps its contents. -/
theorem while0_body_s1_keep (V : Valuation τ sig (Elt F)) (r : Ref sig .tc) (h : r ∉ while0_body_s1_W := by decide +kernel) :
    after while0_body_s1 V (Proc.devRef .tc r) = V (Proc.devRef .tc r) :=
  after_of_writes_sub while0_body_s1 V while0_body_s1_writes (by simpa using h)

abbrev while0_body_s2_W : List (Ref sig .tc) := [main_while0b_call3_c, main_while0b_call3_c_0, main_while0b_call3_c_1, main_while0b_call3_c_2, main_while0b_call3_v0, main_while0b_v167]
theorem while0_body_s2_writes : (while0_body_s2 : List (HloOp τ sig (Elt F))).Forall fun op => op.writes ⊆ (while0_body_s2_W.map (Proc.devRef (τ := τ) .tc)).toFinset :=
  StableHlo.forall_writes_sub_of_map rfl
/-- A buffer `while0_body_s2` does not write keeps its contents. -/
theorem while0_body_s2_keep (V : Valuation τ sig (Elt F)) (r : Ref sig .tc) (h : r ∉ while0_body_s2_W := by decide +kernel) :
    after while0_body_s2 V (Proc.devRef .tc r) = V (Proc.devRef .tc r) :=
  after_of_writes_sub while0_body_s2 V while0_body_s2_writes (by simpa using h)

abbrev while0_body_s3_W : List (Ref sig .tc) := [main_while0b_v168, main_while0b_v169, main_while0b_v170, main_while0b_v171, main_while0b_v172, main_while0b_v173, main_while0b_v174, main_while0b_v175, main_while0b_v176, main_while0b_v177, main_while0b_v178, main_while0b_v179, main_while0b_v180]
theorem while0_body_s3_writes : (while0_body_s3 : List (HloOp τ sig (Elt F))).Forall fun op => op.writes ⊆ (while0_body_s3_W.map (Proc.devRef (τ := τ) .tc)).toFinset :=
  StableHlo.forall_writes_sub_of_map rfl
/-- A buffer `while0_body_s3` does not write keeps its contents. -/
theorem while0_body_s3_keep (V : Valuation τ sig (Elt F)) (r : Ref sig .tc) (h : r ∉ while0_body_s3_W := by decide +kernel) :
    after while0_body_s3 V (Proc.devRef .tc r) = V (Proc.devRef .tc r) :=
  after_of_writes_sub while0_body_s3 V while0_body_s3_writes (by simpa using h)

abbrev while0_body_s4_W : List (Ref sig .tc) := [main_while0b_call4_v0, main_while0b_call4_c, main_while0b_call4_c_0, main_while0b_call4_c_1, main_while0b_call4_c_2, main_while0b_v181]
theorem while0_body_s4_writes : (while0_body_s4 : List (HloOp τ sig (Elt F))).Forall fun op => op.writes ⊆ (while0_body_s4_W.map (Proc.devRef (τ := τ) .tc)).toFinset :=
  StableHlo.forall_writes_sub_of_map rfl
/-- A buffer `while0_body_s4` does not write keeps its contents. -/
theorem while0_body_s4_keep (V : Valuation τ sig (Elt F)) (r : Ref sig .tc) (h : r ∉ while0_body_s4_W := by decide +kernel) :
    after while0_body_s4 V (Proc.devRef .tc r) = V (Proc.devRef .tc r) :=
  after_of_writes_sub while0_body_s4 V while0_body_s4_writes (by simpa using h)

abbrev while0_body_s5_W : List (Ref sig .tc) := [main_while0b_call5_v0, main_while0b_call5_c, main_while0b_call5_c_0, main_while0b_call5_c_1, main_while0b_call5_c_2, main_while0b_v182]
theorem while0_body_s5_writes : (while0_body_s5 : List (HloOp τ sig (Elt F))).Forall fun op => op.writes ⊆ (while0_body_s5_W.map (Proc.devRef (τ := τ) .tc)).toFinset :=
  StableHlo.forall_writes_sub_of_map rfl
/-- A buffer `while0_body_s5` does not write keeps its contents. -/
theorem while0_body_s5_keep (V : Valuation τ sig (Elt F)) (r : Ref sig .tc) (h : r ∉ while0_body_s5_W := by decide +kernel) :
    after while0_body_s5 V (Proc.devRef .tc r) = V (Proc.devRef .tc r) :=
  after_of_writes_sub while0_body_s5 V while0_body_s5_writes (by simpa using h)

abbrev while0_body_s6_W : List (Ref sig .tc) := [main_while0b_c_34, main_while0b_v183, main_v75_7, main_v75_8, main_v75_9, main_v75_10]
theorem while0_body_s6_writes : (while0_body_s6 : List (HloOp τ sig (Elt F))).Forall fun op => op.writes ⊆ (while0_body_s6_W.map (Proc.devRef (τ := τ) .tc)).toFinset :=
  StableHlo.forall_writes_sub_of_map rfl
/-- A buffer `while0_body_s6` does not write keeps its contents. -/
theorem while0_body_s6_keep (V : Valuation τ sig (Elt F)) (r : Ref sig .tc) (h : r ∉ while0_body_s6_W := by decide +kernel) :
    after while0_body_s6 V (Proc.devRef .tc r) = V (Proc.devRef .tc r) :=
  after_of_writes_sub while0_body_s6 V while0_body_s6_writes (by simpa using h)

abbrev while1_body_s0_W : List (Ref sig .tc) := [main_while1b_call10_c, main_while1b_call10_c_0, main_while1b_call10_c_1, main_while1b_call10_c_2, main_while1b_call10_v0, main_while1b_v165]
theorem while1_body_s0_writes : (while1_body_s0 : List (HloOp τ sig (Elt F))).Forall fun op => op.writes ⊆ (while1_body_s0_W.map (Proc.devRef (τ := τ) .tc)).toFinset :=
  StableHlo.forall_writes_sub_of_map rfl
/-- A buffer `while1_body_s0` does not write keeps its contents. -/
theorem while1_body_s0_keep (V : Valuation τ sig (Elt F)) (r : Ref sig .tc) (h : r ∉ while1_body_s0_W := by decide +kernel) :
    after while1_body_s0 V (Proc.devRef .tc r) = V (Proc.devRef .tc r) :=
  after_of_writes_sub while1_body_s0 V while1_body_s0_writes (by simpa using h)

abbrev while1_body_s1_W : List (Ref sig .tc) := [main_while1b_call11_c, main_while1b_call11_c_0, main_while1b_call11_c_1, main_while1b_call11_c_2, main_while1b_call11_v0, main_while1b_v166]
theorem while1_body_s1_writes : (while1_body_s1 : List (HloOp τ sig (Elt F))).Forall fun op => op.writes ⊆ (while1_body_s1_W.map (Proc.devRef (τ := τ) .tc)).toFinset :=
  StableHlo.forall_writes_sub_of_map rfl
/-- A buffer `while1_body_s1` does not write keeps its contents. -/
theorem while1_body_s1_keep (V : Valuation τ sig (Elt F)) (r : Ref sig .tc) (h : r ∉ while1_body_s1_W := by decide +kernel) :
    after while1_body_s1 V (Proc.devRef .tc r) = V (Proc.devRef .tc r) :=
  after_of_writes_sub while1_body_s1 V while1_body_s1_writes (by simpa using h)

abbrev while1_body_s2_W : List (Ref sig .tc) := [main_while1b_call12_c, main_while1b_call12_c_0, main_while1b_call12_c_1, main_while1b_call12_c_2, main_while1b_call12_v0, main_while1b_v167]
theorem while1_body_s2_writes : (while1_body_s2 : List (HloOp τ sig (Elt F))).Forall fun op => op.writes ⊆ (while1_body_s2_W.map (Proc.devRef (τ := τ) .tc)).toFinset :=
  StableHlo.forall_writes_sub_of_map rfl
/-- A buffer `while1_body_s2` does not write keeps its contents. -/
theorem while1_body_s2_keep (V : Valuation τ sig (Elt F)) (r : Ref sig .tc) (h : r ∉ while1_body_s2_W := by decide +kernel) :
    after while1_body_s2 V (Proc.devRef .tc r) = V (Proc.devRef .tc r) :=
  after_of_writes_sub while1_body_s2 V while1_body_s2_writes (by simpa using h)

abbrev while1_body_s3_W : List (Ref sig .tc) := [main_while1b_v168, main_while1b_v169, main_while1b_v170, main_while1b_v171, main_while1b_v172, main_while1b_v173, main_while1b_v174, main_while1b_v175, main_while1b_v176, main_while1b_v177, main_while1b_v178, main_while1b_v179, main_while1b_v180]
theorem while1_body_s3_writes : (while1_body_s3 : List (HloOp τ sig (Elt F))).Forall fun op => op.writes ⊆ (while1_body_s3_W.map (Proc.devRef (τ := τ) .tc)).toFinset :=
  StableHlo.forall_writes_sub_of_map rfl
/-- A buffer `while1_body_s3` does not write keeps its contents. -/
theorem while1_body_s3_keep (V : Valuation τ sig (Elt F)) (r : Ref sig .tc) (h : r ∉ while1_body_s3_W := by decide +kernel) :
    after while1_body_s3 V (Proc.devRef .tc r) = V (Proc.devRef .tc r) :=
  after_of_writes_sub while1_body_s3 V while1_body_s3_writes (by simpa using h)

abbrev while1_body_s4_W : List (Ref sig .tc) := [main_while1b_call13_v0, main_while1b_call13_c, main_while1b_call13_c_0, main_while1b_call13_c_1, main_while1b_call13_c_2, main_while1b_v181]
theorem while1_body_s4_writes : (while1_body_s4 : List (HloOp τ sig (Elt F))).Forall fun op => op.writes ⊆ (while1_body_s4_W.map (Proc.devRef (τ := τ) .tc)).toFinset :=
  StableHlo.forall_writes_sub_of_map rfl
/-- A buffer `while1_body_s4` does not write keeps its contents. -/
theorem while1_body_s4_keep (V : Valuation τ sig (Elt F)) (r : Ref sig .tc) (h : r ∉ while1_body_s4_W := by decide +kernel) :
    after while1_body_s4 V (Proc.devRef .tc r) = V (Proc.devRef .tc r) :=
  after_of_writes_sub while1_body_s4 V while1_body_s4_writes (by simpa using h)

abbrev while1_body_s5_W : List (Ref sig .tc) := [main_while1b_call14_v0, main_while1b_call14_c, main_while1b_call14_c_0, main_while1b_call14_c_1, main_while1b_call14_c_2, main_while1b_v182]
theorem while1_body_s5_writes : (while1_body_s5 : List (HloOp τ sig (Elt F))).Forall fun op => op.writes ⊆ (while1_body_s5_W.map (Proc.devRef (τ := τ) .tc)).toFinset :=
  StableHlo.forall_writes_sub_of_map rfl
/-- A buffer `while1_body_s5` does not write keeps its contents. -/
theorem while1_body_s5_keep (V : Valuation τ sig (Elt F)) (r : Ref sig .tc) (h : r ∉ while1_body_s5_W := by decide +kernel) :
    after while1_body_s5 V (Proc.devRef .tc r) = V (Proc.devRef .tc r) :=
  after_of_writes_sub while1_body_s5 V while1_body_s5_writes (by simpa using h)

abbrev while1_body_s6_W : List (Ref sig .tc) := [main_while1b_c_34, main_while1b_v183, main_v133_7, main_v133_8, main_v133_9, main_v133_10]
theorem while1_body_s6_writes : (while1_body_s6 : List (HloOp τ sig (Elt F))).Forall fun op => op.writes ⊆ (while1_body_s6_W.map (Proc.devRef (τ := τ) .tc)).toFinset :=
  StableHlo.forall_writes_sub_of_map rfl
/-- A buffer `while1_body_s6` does not write keeps its contents. -/
theorem while1_body_s6_keep (V : Valuation τ sig (Elt F)) (r : Ref sig .tc) (h : r ∉ while1_body_s6_W := by decide +kernel) :
    after while1_body_s6 V (Proc.devRef .tc r) = V (Proc.devRef .tc r) :=
  after_of_writes_sub while1_body_s6 V while1_body_s6_writes (by simpa using h)

abbrev while2_body_s0_W : List (Ref sig .tc) := [main_while2b_c_31, main_while2b_v165, main_while2b_c_32, main_while2b_v166]
theorem while2_body_s0_writes : (while2_body_s0 : List (HloOp τ sig (Elt F))).Forall fun op => op.writes ⊆ (while2_body_s0_W.map (Proc.devRef (τ := τ) .tc)).toFinset :=
  StableHlo.forall_writes_sub_of_map rfl
/-- A buffer `while2_body_s0` does not write keeps its contents. -/
theorem while2_body_s0_keep (V : Valuation τ sig (Elt F)) (r : Ref sig .tc) (h : r ∉ while2_body_s0_W := by decide +kernel) :
    after while2_body_s0 V (Proc.devRef .tc r) = V (Proc.devRef .tc r) :=
  after_of_writes_sub while2_body_s0 V while2_body_s0_writes (by simpa using h)

abbrev while2_body_s1_W : List (Ref sig .tc) := [main_while2b_call17_c, main_while2b_call17_c_0, main_while2b_call17_c_1, main_while2b_call17_c_2, main_while2b_call17_v0, main_while2b_v167]
theorem while2_body_s1_writes : (while2_body_s1 : List (HloOp τ sig (Elt F))).Forall fun op => op.writes ⊆ (while2_body_s1_W.map (Proc.devRef (τ := τ) .tc)).toFinset :=
  StableHlo.forall_writes_sub_of_map rfl
/-- A buffer `while2_body_s1` does not write keeps its contents. -/
theorem while2_body_s1_keep (V : Valuation τ sig (Elt F)) (r : Ref sig .tc) (h : r ∉ while2_body_s1_W := by decide +kernel) :
    after while2_body_s1 V (Proc.devRef .tc r) = V (Proc.devRef .tc r) :=
  after_of_writes_sub while2_body_s1 V while2_body_s1_writes (by simpa using h)

abbrev while2_body_s2_W : List (Ref sig .tc) := [main_while2b_call18_c, main_while2b_call18_c_0, main_while2b_call18_c_1, main_while2b_call18_c_2, main_while2b_call18_v0, main_while2b_v168]
theorem while2_body_s2_writes : (while2_body_s2 : List (HloOp τ sig (Elt F))).Forall fun op => op.writes ⊆ (while2_body_s2_W.map (Proc.devRef (τ := τ) .tc)).toFinset :=
  StableHlo.forall_writes_sub_of_map rfl
/-- A buffer `while2_body_s2` does not write keeps its contents. -/
theorem while2_body_s2_keep (V : Valuation τ sig (Elt F)) (r : Ref sig .tc) (h : r ∉ while2_body_s2_W := by decide +kernel) :
    after while2_body_s2 V (Proc.devRef .tc r) = V (Proc.devRef .tc r) :=
  after_of_writes_sub while2_body_s2 V while2_body_s2_writes (by simpa using h)

abbrev while2_body_s3_W : List (Ref sig .tc) := [main_while2b_call19_c, main_while2b_call19_c_0, main_while2b_call19_c_1, main_while2b_call19_c_2, main_while2b_call19_v0, main_while2b_v169]
theorem while2_body_s3_writes : (while2_body_s3 : List (HloOp τ sig (Elt F))).Forall fun op => op.writes ⊆ (while2_body_s3_W.map (Proc.devRef (τ := τ) .tc)).toFinset :=
  StableHlo.forall_writes_sub_of_map rfl
/-- A buffer `while2_body_s3` does not write keeps its contents. -/
theorem while2_body_s3_keep (V : Valuation τ sig (Elt F)) (r : Ref sig .tc) (h : r ∉ while2_body_s3_W := by decide +kernel) :
    after while2_body_s3 V (Proc.devRef .tc r) = V (Proc.devRef .tc r) :=
  after_of_writes_sub while2_body_s3 V while2_body_s3_writes (by simpa using h)

abbrev while2_body_s4_W : List (Ref sig .tc) := [main_while2b_call20_c, main_while2b_call20_c_0, main_while2b_call20_c_1, main_while2b_call20_c_2, main_while2b_call20_v0, main_while2b_v170]
theorem while2_body_s4_writes : (while2_body_s4 : List (HloOp τ sig (Elt F))).Forall fun op => op.writes ⊆ (while2_body_s4_W.map (Proc.devRef (τ := τ) .tc)).toFinset :=
  StableHlo.forall_writes_sub_of_map rfl
/-- A buffer `while2_body_s4` does not write keeps its contents. -/
theorem while2_body_s4_keep (V : Valuation τ sig (Elt F)) (r : Ref sig .tc) (h : r ∉ while2_body_s4_W := by decide +kernel) :
    after while2_body_s4 V (Proc.devRef .tc r) = V (Proc.devRef .tc r) :=
  after_of_writes_sub while2_body_s4 V while2_body_s4_writes (by simpa using h)

abbrev while2_body_s5_W : List (Ref sig .tc) := [main_while2b_v171, main_while2b_v172, main_while2b_v173, main_while2b_v174, main_while2b_v175, main_while2b_v176, main_while2b_v177]
theorem while2_body_s5_writes : (while2_body_s5 : List (HloOp τ sig (Elt F))).Forall fun op => op.writes ⊆ (while2_body_s5_W.map (Proc.devRef (τ := τ) .tc)).toFinset :=
  StableHlo.forall_writes_sub_of_map rfl
/-- A buffer `while2_body_s5` does not write keeps its contents. -/
theorem while2_body_s5_keep (V : Valuation τ sig (Elt F)) (r : Ref sig .tc) (h : r ∉ while2_body_s5_W := by decide +kernel) :
    after while2_body_s5 V (Proc.devRef .tc r) = V (Proc.devRef .tc r) :=
  after_of_writes_sub while2_body_s5 V while2_body_s5_writes (by simpa using h)

abbrev while2_body_s6_W : List (Ref sig .tc) := [main_while2b_call21_v0, main_while2b_call21_c, main_while2b_call21_c_0, main_while2b_call21_c_1, main_while2b_call21_c_2, main_while2b_v178]
theorem while2_body_s6_writes : (while2_body_s6 : List (HloOp τ sig (Elt F))).Forall fun op => op.writes ⊆ (while2_body_s6_W.map (Proc.devRef (τ := τ) .tc)).toFinset :=
  StableHlo.forall_writes_sub_of_map rfl
/-- A buffer `while2_body_s6` does not write keeps its contents. -/
theorem while2_body_s6_keep (V : Valuation τ sig (Elt F)) (r : Ref sig .tc) (h : r ∉ while2_body_s6_W := by decide +kernel) :
    after while2_body_s6 V (Proc.devRef .tc r) = V (Proc.devRef .tc r) :=
  after_of_writes_sub while2_body_s6 V while2_body_s6_writes (by simpa using h)

abbrev while2_body_s7_W : List (Ref sig .tc) := [main_while2b_c_33, main_while2b_v179, main_v148_6, main_v148_7]
theorem while2_body_s7_writes : (while2_body_s7 : List (HloOp τ sig (Elt F))).Forall fun op => op.writes ⊆ (while2_body_s7_W.map (Proc.devRef (τ := τ) .tc)).toFinset :=
  StableHlo.forall_writes_sub_of_map rfl
/-- A buffer `while2_body_s7` does not write keeps its contents. -/
theorem while2_body_s7_keep (V : Valuation τ sig (Elt F)) (r : Ref sig .tc) (h : r ∉ while2_body_s7_W := by decide +kernel) :
    after while2_body_s7 V (Proc.devRef .tc r) = V (Proc.devRef .tc r) :=
  after_of_writes_sub while2_body_s7 V while2_body_s7_writes (by simpa using h)

abbrev while3_body_s0_W : List (Ref sig .tc) := [main_while3b_c_31, main_while3b_v165, main_while3b_c_32, main_while3b_v166]
theorem while3_body_s0_writes : (while3_body_s0 : List (HloOp τ sig (Elt F))).Forall fun op => op.writes ⊆ (while3_body_s0_W.map (Proc.devRef (τ := τ) .tc)).toFinset :=
  StableHlo.forall_writes_sub_of_map rfl
/-- A buffer `while3_body_s0` does not write keeps its contents. -/
theorem while3_body_s0_keep (V : Valuation τ sig (Elt F)) (r : Ref sig .tc) (h : r ∉ while3_body_s0_W := by decide +kernel) :
    after while3_body_s0 V (Proc.devRef .tc r) = V (Proc.devRef .tc r) :=
  after_of_writes_sub while3_body_s0 V while3_body_s0_writes (by simpa using h)

abbrev while3_body_s1_W : List (Ref sig .tc) := [main_while3b_call23_c, main_while3b_call23_c_0, main_while3b_call23_c_1, main_while3b_call23_c_2, main_while3b_call23_v0, main_while3b_v167]
theorem while3_body_s1_writes : (while3_body_s1 : List (HloOp τ sig (Elt F))).Forall fun op => op.writes ⊆ (while3_body_s1_W.map (Proc.devRef (τ := τ) .tc)).toFinset :=
  StableHlo.forall_writes_sub_of_map rfl
/-- A buffer `while3_body_s1` does not write keeps its contents. -/
theorem while3_body_s1_keep (V : Valuation τ sig (Elt F)) (r : Ref sig .tc) (h : r ∉ while3_body_s1_W := by decide +kernel) :
    after while3_body_s1 V (Proc.devRef .tc r) = V (Proc.devRef .tc r) :=
  after_of_writes_sub while3_body_s1 V while3_body_s1_writes (by simpa using h)

abbrev while3_body_s2_W : List (Ref sig .tc) := [main_while3b_call24_c, main_while3b_call24_c_0, main_while3b_call24_c_1, main_while3b_call24_c_2, main_while3b_call24_v0, main_while3b_v168]
theorem while3_body_s2_writes : (while3_body_s2 : List (HloOp τ sig (Elt F))).Forall fun op => op.writes ⊆ (while3_body_s2_W.map (Proc.devRef (τ := τ) .tc)).toFinset :=
  StableHlo.forall_writes_sub_of_map rfl
/-- A buffer `while3_body_s2` does not write keeps its contents. -/
theorem while3_body_s2_keep (V : Valuation τ sig (Elt F)) (r : Ref sig .tc) (h : r ∉ while3_body_s2_W := by decide +kernel) :
    after while3_body_s2 V (Proc.devRef .tc r) = V (Proc.devRef .tc r) :=
  after_of_writes_sub while3_body_s2 V while3_body_s2_writes (by simpa using h)

abbrev while3_body_s3_W : List (Ref sig .tc) := [main_while3b_call25_c, main_while3b_call25_c_0, main_while3b_call25_c_1, main_while3b_call25_c_2, main_while3b_call25_v0, main_while3b_v169]
theorem while3_body_s3_writes : (while3_body_s3 : List (HloOp τ sig (Elt F))).Forall fun op => op.writes ⊆ (while3_body_s3_W.map (Proc.devRef (τ := τ) .tc)).toFinset :=
  StableHlo.forall_writes_sub_of_map rfl
/-- A buffer `while3_body_s3` does not write keeps its contents. -/
theorem while3_body_s3_keep (V : Valuation τ sig (Elt F)) (r : Ref sig .tc) (h : r ∉ while3_body_s3_W := by decide +kernel) :
    after while3_body_s3 V (Proc.devRef .tc r) = V (Proc.devRef .tc r) :=
  after_of_writes_sub while3_body_s3 V while3_body_s3_writes (by simpa using h)

abbrev while3_body_s4_W : List (Ref sig .tc) := [main_while3b_call26_c, main_while3b_call26_c_0, main_while3b_call26_c_1, main_while3b_call26_c_2, main_while3b_call26_v0, main_while3b_v170]
theorem while3_body_s4_writes : (while3_body_s4 : List (HloOp τ sig (Elt F))).Forall fun op => op.writes ⊆ (while3_body_s4_W.map (Proc.devRef (τ := τ) .tc)).toFinset :=
  StableHlo.forall_writes_sub_of_map rfl
/-- A buffer `while3_body_s4` does not write keeps its contents. -/
theorem while3_body_s4_keep (V : Valuation τ sig (Elt F)) (r : Ref sig .tc) (h : r ∉ while3_body_s4_W := by decide +kernel) :
    after while3_body_s4 V (Proc.devRef .tc r) = V (Proc.devRef .tc r) :=
  after_of_writes_sub while3_body_s4 V while3_body_s4_writes (by simpa using h)

abbrev while3_body_s5_W : List (Ref sig .tc) := [main_while3b_v171, main_while3b_v172, main_while3b_v173, main_while3b_v174, main_while3b_v175, main_while3b_v176, main_while3b_v177]
theorem while3_body_s5_writes : (while3_body_s5 : List (HloOp τ sig (Elt F))).Forall fun op => op.writes ⊆ (while3_body_s5_W.map (Proc.devRef (τ := τ) .tc)).toFinset :=
  StableHlo.forall_writes_sub_of_map rfl
/-- A buffer `while3_body_s5` does not write keeps its contents. -/
theorem while3_body_s5_keep (V : Valuation τ sig (Elt F)) (r : Ref sig .tc) (h : r ∉ while3_body_s5_W := by decide +kernel) :
    after while3_body_s5 V (Proc.devRef .tc r) = V (Proc.devRef .tc r) :=
  after_of_writes_sub while3_body_s5 V while3_body_s5_writes (by simpa using h)

abbrev while3_body_s6_W : List (Ref sig .tc) := [main_while3b_call27_v0, main_while3b_call27_c, main_while3b_call27_c_0, main_while3b_call27_c_1, main_while3b_call27_c_2, main_while3b_v178]
theorem while3_body_s6_writes : (while3_body_s6 : List (HloOp τ sig (Elt F))).Forall fun op => op.writes ⊆ (while3_body_s6_W.map (Proc.devRef (τ := τ) .tc)).toFinset :=
  StableHlo.forall_writes_sub_of_map rfl
/-- A buffer `while3_body_s6` does not write keeps its contents. -/
theorem while3_body_s6_keep (V : Valuation τ sig (Elt F)) (r : Ref sig .tc) (h : r ∉ while3_body_s6_W := by decide +kernel) :
    after while3_body_s6 V (Proc.devRef .tc r) = V (Proc.devRef .tc r) :=
  after_of_writes_sub while3_body_s6 V while3_body_s6_writes (by simpa using h)

abbrev while3_body_s7_W : List (Ref sig .tc) := [main_while3b_c_33, main_while3b_v179, main_v155_6, main_v155_7]
theorem while3_body_s7_writes : (while3_body_s7 : List (HloOp τ sig (Elt F))).Forall fun op => op.writes ⊆ (while3_body_s7_W.map (Proc.devRef (τ := τ) .tc)).toFinset :=
  StableHlo.forall_writes_sub_of_map rfl
/-- A buffer `while3_body_s7` does not write keeps its contents. -/
theorem while3_body_s7_keep (V : Valuation τ sig (Elt F)) (r : Ref sig .tc) (h : r ∉ while3_body_s7_W := by decide +kernel) :
    after while3_body_s7 V (Proc.devRef .tc r) = V (Proc.devRef .tc r) :=
  after_of_writes_sub while3_body_s7 V while3_body_s7_writes (by simpa using h)

abbrev part0_s0_W : List (Ref sig .tc) := [main_v0, main_v1, main_v2, main_v3, main_v4, main_v5, main_v6, main_v7, main_v8, main_v9, main_v10, main_v11, main_v12, main_v13, main_v14, main_v15, main_v16, main_cst, main_v17, main_v18, main_v19, main_v20, main_v21, main_v22, main_v23, main_v24, main_v25, main_v26, main_v27, main_v28, main_cst_0, main_v29, main_v30, main_v31, main_cst_1, main_v32, main_v33, main_v34, main_v35, main_v36, main_v37, main_v38, main_cst_2]
theorem part0_s0_writes : (part0_s0 : List (HloOp τ sig (Elt F))).Forall fun op => op.writes ⊆ (part0_s0_W.map (Proc.devRef (τ := τ) .tc)).toFinset :=
  StableHlo.forall_writes_sub_of_map rfl
/-- A buffer `part0_s0` does not write keeps its contents. -/
theorem part0_s0_keep (V : Valuation τ sig (Elt F)) (r : Ref sig .tc) (h : r ∉ part0_s0_W := by decide +kernel) :
    after part0_s0 V (Proc.devRef .tc r) = V (Proc.devRef .tc r) :=
  after_of_writes_sub part0_s0 V part0_s0_writes (by simpa using h)

abbrev part0_s1_W : List (Ref sig .tc) := [main_call0_v0, main_call0_v1, main_call0_v2, main_v39]
theorem part0_s1_writes : (part0_s1 : List (HloOp τ sig (Elt F))).Forall fun op => op.writes ⊆ (part0_s1_W.map (Proc.devRef (τ := τ) .tc)).toFinset :=
  StableHlo.forall_writes_sub_of_map rfl
/-- A buffer `part0_s1` does not write keeps its contents. -/
theorem part0_s1_keep (V : Valuation τ sig (Elt F)) (r : Ref sig .tc) (h : r ∉ part0_s1_W := by decide +kernel) :
    after part0_s1 V (Proc.devRef .tc r) = V (Proc.devRef .tc r) :=
  after_of_writes_sub part0_s1 V part0_s1_writes (by simpa using h)

abbrev part0_s2_W : List (Ref sig .tc) := [main_v40, main_cst_3, main_v41, main_v42, main_v43, main_v44, main_v45, main_v46, main_v47, main_v48, main_v49, main_cst_4, main_v50, main_v51, main_v52, main_v53]
theorem part0_s2_writes : (part0_s2 : List (HloOp τ sig (Elt F))).Forall fun op => op.writes ⊆ (part0_s2_W.map (Proc.devRef (τ := τ) .tc)).toFinset :=
  StableHlo.forall_writes_sub_of_map rfl
/-- A buffer `part0_s2` does not write keeps its contents. -/
theorem part0_s2_keep (V : Valuation τ sig (Elt F)) (r : Ref sig .tc) (h : r ∉ part0_s2_W := by decide +kernel) :
    after part0_s2 V (Proc.devRef .tc r) = V (Proc.devRef .tc r) :=
  after_of_writes_sub part0_s2 V part0_s2_writes (by simpa using h)

abbrev part1_s0_W : List (Ref sig .tc) := [main_v54, main_v55, main_v56, main_v57, main_cst_5, main_v58, main_v59, main_v60, main_v61, main_cst_6, main_v62, main_v63, main_v64, main_v65, main_v66, main_v67, main_v68, main_v69, main_v70, main_v71, main_v72, main_cst_7, main_v73, main_cst_8, main_v74, main_c, main_v75_0, main_v75_1, main_v75_2, main_v75_3, main_v75_4, main_v75_5, main_v75_6, main_v75_7, main_v75_8, main_v75_9, main_v75_10]
theorem part1_s0_writes : (part1_s0 : List (HloOp τ sig (Elt F))).Forall fun op => op.writes ⊆ (part1_s0_W.map (Proc.devRef (τ := τ) .tc)).toFinset :=
  StableHlo.forall_writes_sub_of_map rfl
/-- A buffer `part1_s0` does not write keeps its contents. -/
theorem part1_s0_keep (V : Valuation τ sig (Elt F)) (r : Ref sig .tc) (h : r ∉ part1_s0_W := by decide +kernel) :
    after part1_s0 V (Proc.devRef .tc r) = V (Proc.devRef .tc r) :=
  after_of_writes_sub part1_s0 V part1_s0_writes (by simpa using h)

abbrev part1_s2_W : List (Ref sig .tc) := [main_v76, main_v77]
theorem part1_s2_writes : (part1_s2 : List (HloOp τ sig (Elt F))).Forall fun op => op.writes ⊆ (part1_s2_W.map (Proc.devRef (τ := τ) .tc)).toFinset :=
  StableHlo.forall_writes_sub_of_map rfl
/-- A buffer `part1_s2` does not write keeps its contents. -/
theorem part1_s2_keep (V : Valuation τ sig (Elt F)) (r : Ref sig .tc) (h : r ∉ part1_s2_W := by decide +kernel) :
    after part1_s2 V (Proc.devRef .tc r) = V (Proc.devRef .tc r) :=
  after_of_writes_sub part1_s2 V part1_s2_writes (by simpa using h)

abbrev part1_s3_W : List (Ref sig .tc) := [main_v78]
theorem part1_s3_writes : (part1_s3 : List (HloOp τ sig (Elt F))).Forall fun op => op.writes ⊆ (part1_s3_W.map (Proc.devRef (τ := τ) .tc)).toFinset :=
  StableHlo.forall_writes_sub_of_map rfl
/-- A buffer `part1_s3` does not write keeps its contents. -/
theorem part1_s3_keep (V : Valuation τ sig (Elt F)) (r : Ref sig .tc) (h : r ∉ part1_s3_W := by decide +kernel) :
    after part1_s3 V (Proc.devRef .tc r) = V (Proc.devRef .tc r) :=
  after_of_writes_sub part1_s3 V part1_s3_writes (by simpa using h)

abbrev part1_s4_W : List (Ref sig .tc) := [main_v79]
theorem part1_s4_writes : (part1_s4 : List (HloOp τ sig (Elt F))).Forall fun op => op.writes ⊆ (part1_s4_W.map (Proc.devRef (τ := τ) .tc)).toFinset :=
  StableHlo.forall_writes_sub_of_map rfl
/-- A buffer `part1_s4` does not write keeps its contents. -/
theorem part1_s4_keep (V : Valuation τ sig (Elt F)) (r : Ref sig .tc) (h : r ∉ part1_s4_W := by decide +kernel) :
    after part1_s4 V (Proc.devRef .tc r) = V (Proc.devRef .tc r) :=
  after_of_writes_sub part1_s4 V part1_s4_writes (by simpa using h)

abbrev part1_s5_W : List (Ref sig .tc) := [main_v80]
theorem part1_s5_writes : (part1_s5 : List (HloOp τ sig (Elt F))).Forall fun op => op.writes ⊆ (part1_s5_W.map (Proc.devRef (τ := τ) .tc)).toFinset :=
  StableHlo.forall_writes_sub_of_map rfl
/-- A buffer `part1_s5` does not write keeps its contents. -/
theorem part1_s5_keep (V : Valuation τ sig (Elt F)) (r : Ref sig .tc) (h : r ∉ part1_s5_W := by decide +kernel) :
    after part1_s5 V (Proc.devRef .tc r) = V (Proc.devRef .tc r) :=
  after_of_writes_sub part1_s5 V part1_s5_writes (by simpa using h)

abbrev part1_s6_W : List (Ref sig .tc) := [main_v81, main_v82, main_v83, main_v84, main_v85, main_v86, main_cst_9, main_v87, main_v88, main_v89, main_cst_10, main_v90, main_v91, main_v92, main_v93, main_v94, main_v95]
theorem part1_s6_writes : (part1_s6 : List (HloOp τ sig (Elt F))).Forall fun op => op.writes ⊆ (part1_s6_W.map (Proc.devRef (τ := τ) .tc)).toFinset :=
  StableHlo.forall_writes_sub_of_map rfl
/-- A buffer `part1_s6` does not write keeps its contents. -/
theorem part1_s6_keep (V : Valuation τ sig (Elt F)) (r : Ref sig .tc) (h : r ∉ part1_s6_W := by decide +kernel) :
    after part1_s6 V (Proc.devRef .tc r) = V (Proc.devRef .tc r) :=
  after_of_writes_sub part1_s6 V part1_s6_writes (by simpa using h)

abbrev part2_s0_W : List (Ref sig .tc) := [main_v96, main_cst_11]
theorem part2_s0_writes : (part2_s0 : List (HloOp τ sig (Elt F))).Forall fun op => op.writes ⊆ (part2_s0_W.map (Proc.devRef (τ := τ) .tc)).toFinset :=
  StableHlo.forall_writes_sub_of_map rfl
/-- A buffer `part2_s0` does not write keeps its contents. -/
theorem part2_s0_keep (V : Valuation τ sig (Elt F)) (r : Ref sig .tc) (h : r ∉ part2_s0_W := by decide +kernel) :
    after part2_s0 V (Proc.devRef .tc r) = V (Proc.devRef .tc r) :=
  after_of_writes_sub part2_s0 V part2_s0_writes (by simpa using h)

abbrev part2_s1_W : List (Ref sig .tc) := [main_call9_v0, main_call9_v1, main_call9_v2, main_v97]
theorem part2_s1_writes : (part2_s1 : List (HloOp τ sig (Elt F))).Forall fun op => op.writes ⊆ (part2_s1_W.map (Proc.devRef (τ := τ) .tc)).toFinset :=
  StableHlo.forall_writes_sub_of_map rfl
/-- A buffer `part2_s1` does not write keeps its contents. -/
theorem part2_s1_keep (V : Valuation τ sig (Elt F)) (r : Ref sig .tc) (h : r ∉ part2_s1_W := by decide +kernel) :
    after part2_s1 V (Proc.devRef .tc r) = V (Proc.devRef .tc r) :=
  after_of_writes_sub part2_s1 V part2_s1_writes (by simpa using h)

abbrev part2_s2_W : List (Ref sig .tc) := [main_v98, main_cst_12, main_v99, main_v100, main_v101, main_v102, main_v103, main_v104, main_v105, main_v106, main_v107, main_cst_13, main_v108, main_v109, main_v110, main_v111, main_v112, main_v113, main_v114, main_v115, main_cst_14, main_v116, main_v117, main_v118, main_v119, main_cst_15, main_v120, main_v121, main_v122, main_v123, main_v124, main_v125, main_v126, main_v127, main_v128, main_v129, main_v130, main_cst_16, main_v131, main_cst_17, main_v132, main_c_18, main_v133_0, main_v133_1, main_v133_2, main_v133_3, main_v133_4, main_v133_5, main_v133_6, main_v133_7, main_v133_8, main_v133_9, main_v133_10]
theorem part2_s2_writes : (part2_s2 : List (HloOp τ sig (Elt F))).Forall fun op => op.writes ⊆ (part2_s2_W.map (Proc.devRef (τ := τ) .tc)).toFinset :=
  StableHlo.forall_writes_sub_of_map rfl
/-- A buffer `part2_s2` does not write keeps its contents. -/
theorem part2_s2_keep (V : Valuation τ sig (Elt F)) (r : Ref sig .tc) (h : r ∉ part2_s2_W := by decide +kernel) :
    after part2_s2 V (Proc.devRef .tc r) = V (Proc.devRef .tc r) :=
  after_of_writes_sub part2_s2 V part2_s2_writes (by simpa using h)

abbrev part2_s4_W : List (Ref sig .tc) := [main_v134, main_v135]
theorem part2_s4_writes : (part2_s4 : List (HloOp τ sig (Elt F))).Forall fun op => op.writes ⊆ (part2_s4_W.map (Proc.devRef (τ := τ) .tc)).toFinset :=
  StableHlo.forall_writes_sub_of_map rfl
/-- A buffer `part2_s4` does not write keeps its contents. -/
theorem part2_s4_keep (V : Valuation τ sig (Elt F)) (r : Ref sig .tc) (h : r ∉ part2_s4_W := by decide +kernel) :
    after part2_s4 V (Proc.devRef .tc r) = V (Proc.devRef .tc r) :=
  after_of_writes_sub part2_s4 V part2_s4_writes (by simpa using h)

abbrev part2_s5_W : List (Ref sig .tc) := [main_v136]
theorem part2_s5_writes : (part2_s5 : List (HloOp τ sig (Elt F))).Forall fun op => op.writes ⊆ (part2_s5_W.map (Proc.devRef (τ := τ) .tc)).toFinset :=
  StableHlo.forall_writes_sub_of_map rfl
/-- A buffer `part2_s5` does not write keeps its contents. -/
theorem part2_s5_keep (V : Valuation τ sig (Elt F)) (r : Ref sig .tc) (h : r ∉ part2_s5_W := by decide +kernel) :
    after part2_s5 V (Proc.devRef .tc r) = V (Proc.devRef .tc r) :=
  after_of_writes_sub part2_s5 V part2_s5_writes (by simpa using h)

abbrev part3_s0_W : List (Ref sig .tc) := [main_v137, main_v138, main_v139, main_v140, main_v141, main_v142, main_v143]
theorem part3_s0_writes : (part3_s0 : List (HloOp τ sig (Elt F))).Forall fun op => op.writes ⊆ (part3_s0_W.map (Proc.devRef (τ := τ) .tc)).toFinset :=
  StableHlo.forall_writes_sub_of_map rfl
/-- A buffer `part3_s0` does not write keeps its contents. -/
theorem part3_s0_keep (V : Valuation τ sig (Elt F)) (r : Ref sig .tc) (h : r ∉ part3_s0_W := by decide +kernel) :
    after part3_s0 V (Proc.devRef .tc r) = V (Proc.devRef .tc r) :=
  after_of_writes_sub part3_s0 V part3_s0_writes (by simpa using h)

abbrev part3_s1_W : List (Ref sig .tc) := [main_v144]
theorem part3_s1_writes : (part3_s1 : List (HloOp τ sig (Elt F))).Forall fun op => op.writes ⊆ (part3_s1_W.map (Proc.devRef (τ := τ) .tc)).toFinset :=
  StableHlo.forall_writes_sub_of_map rfl
/-- A buffer `part3_s1` does not write keeps its contents. -/
theorem part3_s1_keep (V : Valuation τ sig (Elt F)) (r : Ref sig .tc) (h : r ∉ part3_s1_W := by decide +kernel) :
    after part3_s1 V (Proc.devRef .tc r) = V (Proc.devRef .tc r) :=
  after_of_writes_sub part3_s1 V part3_s1_writes (by simpa using h)

abbrev part3_s2_W : List (Ref sig .tc) := [main_v145, main_v146, main_cst_19, main_v147, main_c_20, main_v148_0, main_v148_1, main_v148_2, main_v148_3, main_v148_4, main_v148_5, main_v148_6, main_v148_7]
theorem part3_s2_writes : (part3_s2 : List (HloOp τ sig (Elt F))).Forall fun op => op.writes ⊆ (part3_s2_W.map (Proc.devRef (τ := τ) .tc)).toFinset :=
  StableHlo.forall_writes_sub_of_map rfl
/-- A buffer `part3_s2` does not write keeps its contents. -/
theorem part3_s2_keep (V : Valuation τ sig (Elt F)) (r : Ref sig .tc) (h : r ∉ part3_s2_W := by decide +kernel) :
    after part3_s2 V (Proc.devRef .tc r) = V (Proc.devRef .tc r) :=
  after_of_writes_sub part3_s2 V part3_s2_writes (by simpa using h)

abbrev part3_s4_W : List (Ref sig .tc) := [main_v149, main_v150]
theorem part3_s4_writes : (part3_s4 : List (HloOp τ sig (Elt F))).Forall fun op => op.writes ⊆ (part3_s4_W.map (Proc.devRef (τ := τ) .tc)).toFinset :=
  StableHlo.forall_writes_sub_of_map rfl
/-- A buffer `part3_s4` does not write keeps its contents. -/
theorem part3_s4_keep (V : Valuation τ sig (Elt F)) (r : Ref sig .tc) (h : r ∉ part3_s4_W := by decide +kernel) :
    after part3_s4 V (Proc.devRef .tc r) = V (Proc.devRef .tc r) :=
  after_of_writes_sub part3_s4 V part3_s4_writes (by simpa using h)

abbrev part3_s5_W : List (Ref sig .tc) := [main_v151]
theorem part3_s5_writes : (part3_s5 : List (HloOp τ sig (Elt F))).Forall fun op => op.writes ⊆ (part3_s5_W.map (Proc.devRef (τ := τ) .tc)).toFinset :=
  StableHlo.forall_writes_sub_of_map rfl
/-- A buffer `part3_s5` does not write keeps its contents. -/
theorem part3_s5_keep (V : Valuation τ sig (Elt F)) (r : Ref sig .tc) (h : r ∉ part3_s5_W := by decide +kernel) :
    after part3_s5 V (Proc.devRef .tc r) = V (Proc.devRef .tc r) :=
  after_of_writes_sub part3_s5 V part3_s5_writes (by simpa using h)

abbrev part3_s6_W : List (Ref sig .tc) := [main_v152, main_v153, main_cst_21, main_v154, main_c_22, main_v155_0, main_v155_1, main_v155_2, main_v155_3, main_v155_4, main_v155_5, main_v155_6, main_v155_7]
theorem part3_s6_writes : (part3_s6 : List (HloOp τ sig (Elt F))).Forall fun op => op.writes ⊆ (part3_s6_W.map (Proc.devRef (τ := τ) .tc)).toFinset :=
  StableHlo.forall_writes_sub_of_map rfl
/-- A buffer `part3_s6` does not write keeps its contents. -/
theorem part3_s6_keep (V : Valuation τ sig (Elt F)) (r : Ref sig .tc) (h : r ∉ part3_s6_W := by decide +kernel) :
    after part3_s6 V (Proc.devRef .tc r) = V (Proc.devRef .tc r) :=
  after_of_writes_sub part3_s6 V part3_s6_writes (by simpa using h)

abbrev part3_s8_W : List (Ref sig .tc) := [main_v156, main_v157, main_v158, main_cst_23, main_v159, main_v160, main_v161, main_v162, main_v163, main_v164]
theorem part3_s8_writes : (part3_s8 : List (HloOp τ sig (Elt F))).Forall fun op => op.writes ⊆ (part3_s8_W.map (Proc.devRef (τ := τ) .tc)).toFinset :=
  StableHlo.forall_writes_sub_of_map rfl
/-- A buffer `part3_s8` does not write keeps its contents. -/
theorem part3_s8_keep (V : Valuation τ sig (Elt F)) (r : Ref sig .tc) (h : r ∉ part3_s8_W := by decide +kernel) :
    after part3_s8 V (Proc.devRef .tc r) = V (Proc.devRef .tc r) :=
  after_of_writes_sub part3_s8 V part3_s8_writes (by simpa using h)

/-! ## The conditions -/

/-- The operations of loop 0's condition. -/
abbrev cond0 : List (HloOp τ sig (Elt F)) :=
  [ StableHlo.nullary main_while0c_c_34 (constantI S_ 32 32#32),
    StableHlo.binary main_v75_7 main_while0c_c_34 main_while0c_v165 (cmpi .slt : (⟨S_, .i32⟩ : BufTy).Contents (Elt F) → (⟨S_, .i32⟩ : BufTy).Contents (Elt F) → (⟨S_, .i1⟩ : BufTy).Contents (Elt F)) ]
theorem cond0_writes : (cond0 : List (HloOp τ sig (Elt F))).Forall fun op => op.writes ⊆ ([main_while0c_c_34, main_while0c_v165].map (Proc.devRef (τ := τ) .tc)).toFinset :=
  StableHlo.forall_writes_sub_of_map rfl
abbrev cond0_W : List (Ref sig .tc) := [main_while0c_c_34, main_while0c_v165]
theorem cond0_keep (V : Valuation τ sig (Elt F)) (r : Ref sig .tc) (h : r ∉ cond0_W := by decide +kernel) :
    after cond0 V (Proc.devRef .tc r) = V (Proc.devRef .tc r) :=
  after_of_writes_sub cond0 V cond0_writes (by simpa using h)

/-- The operations of loop 1's condition. -/
abbrev cond1 : List (HloOp τ sig (Elt F)) :=
  [ StableHlo.nullary main_while1c_c_34 (constantI S_ 32 32#32),
    StableHlo.binary main_v133_7 main_while1c_c_34 main_while1c_v165 (cmpi .slt : (⟨S_, .i32⟩ : BufTy).Contents (Elt F) → (⟨S_, .i32⟩ : BufTy).Contents (Elt F) → (⟨S_, .i1⟩ : BufTy).Contents (Elt F)) ]
theorem cond1_writes : (cond1 : List (HloOp τ sig (Elt F))).Forall fun op => op.writes ⊆ ([main_while1c_c_34, main_while1c_v165].map (Proc.devRef (τ := τ) .tc)).toFinset :=
  StableHlo.forall_writes_sub_of_map rfl
abbrev cond1_W : List (Ref sig .tc) := [main_while1c_c_34, main_while1c_v165]
theorem cond1_keep (V : Valuation τ sig (Elt F)) (r : Ref sig .tc) (h : r ∉ cond1_W := by decide +kernel) :
    after cond1 V (Proc.devRef .tc r) = V (Proc.devRef .tc r) :=
  after_of_writes_sub cond1 V cond1_writes (by simpa using h)

/-- The operations of loop 2's condition. -/
abbrev cond2 : List (HloOp τ sig (Elt F)) :=
  [ StableHlo.nullary main_while2c_c_31 (constantI S_ 32 32#32),
    StableHlo.binary main_v148_6 main_while2c_c_31 main_while2c_v165 (cmpi .slt : (⟨S_, .i32⟩ : BufTy).Contents (Elt F) → (⟨S_, .i32⟩ : BufTy).Contents (Elt F) → (⟨S_, .i1⟩ : BufTy).Contents (Elt F)) ]
theorem cond2_writes : (cond2 : List (HloOp τ sig (Elt F))).Forall fun op => op.writes ⊆ ([main_while2c_c_31, main_while2c_v165].map (Proc.devRef (τ := τ) .tc)).toFinset :=
  StableHlo.forall_writes_sub_of_map rfl
abbrev cond2_W : List (Ref sig .tc) := [main_while2c_c_31, main_while2c_v165]
theorem cond2_keep (V : Valuation τ sig (Elt F)) (r : Ref sig .tc) (h : r ∉ cond2_W := by decide +kernel) :
    after cond2 V (Proc.devRef .tc r) = V (Proc.devRef .tc r) :=
  after_of_writes_sub cond2 V cond2_writes (by simpa using h)

/-- The operations of loop 3's condition. -/
abbrev cond3 : List (HloOp τ sig (Elt F)) :=
  [ StableHlo.nullary main_while3c_c_31 (constantI S_ 32 32#32),
    StableHlo.binary main_v155_6 main_while3c_c_31 main_while3c_v165 (cmpi .slt : (⟨S_, .i32⟩ : BufTy).Contents (Elt F) → (⟨S_, .i32⟩ : BufTy).Contents (Elt F) → (⟨S_, .i1⟩ : BufTy).Contents (Elt F)) ]
theorem cond3_writes : (cond3 : List (HloOp τ sig (Elt F))).Forall fun op => op.writes ⊆ ([main_while3c_c_31, main_while3c_v165].map (Proc.devRef (τ := τ) .tc)).toFinset :=
  StableHlo.forall_writes_sub_of_map rfl
abbrev cond3_W : List (Ref sig .tc) := [main_while3c_c_31, main_while3c_v165]
theorem cond3_keep (V : Valuation τ sig (Elt F)) (r : Ref sig .tc) (h : r ∉ cond3_W := by decide +kernel) :
    after cond3 V (Proc.devRef .tc r) = V (Proc.devRef .tc r) :=
  after_of_writes_sub cond3 V cond3_writes (by simpa using h)

/-! ## The contents before, between and after the loops -/

section Contents

variable (m : (ℓ : Loc nD τ sig) → Buf (Elt F) ℓ)

/-- At the entry of loop 0. -/
def in0 : Dev nD → Valuation τ sig (Elt F) := fun c => afterL host0 (launchContents m c)
/-- Before loop 0's condition runs for the `k`-th time. -/
abbrev at0 (k : ℕ) : Dev nD → Valuation τ sig (Elt F) := atTrip cond0 body0 (in0 m) k
/-- After loop 0. -/
def out0 : Dev nD → Valuation τ sig (Elt F) := fun c => after cond0 (at0 m 32 c)
/-- At the entry of loop 1. -/
def in1 : Dev nD → Valuation τ sig (Elt F) := fun c => afterL host1 (out0 m c)
/-- Before loop 1's condition runs for the `k`-th time. -/
abbrev at1 (k : ℕ) : Dev nD → Valuation τ sig (Elt F) := atTrip cond1 body1 (in1 m) k
/-- After loop 1. -/
def out1 : Dev nD → Valuation τ sig (Elt F) := fun c => after cond1 (at1 m 32 c)
/-- At the entry of loop 2. -/
def in2 : Dev nD → Valuation τ sig (Elt F) := fun c => afterL host2 (out1 m c)
/-- Before loop 2's condition runs for the `k`-th time. -/
abbrev at2 (k : ℕ) : Dev nD → Valuation τ sig (Elt F) := atTrip cond2 body2 (in2 m) k
/-- After loop 2. -/
def out2 : Dev nD → Valuation τ sig (Elt F) := fun c => after cond2 (at2 m 32 c)
/-- At the entry of loop 3. -/
def in3 : Dev nD → Valuation τ sig (Elt F) := fun c => afterL host3 (out2 m c)
/-- Before loop 3's condition runs for the `k`-th time. -/
abbrev at3 (k : ℕ) : Dev nD → Valuation τ sig (Elt F) := atTrip cond3 body3 (in3 m) k
/-- After loop 3. -/
def out3 : Dev nD → Valuation τ sig (Elt F) := fun c => after cond3 (at3 m 32 c)
/-- At @main's end. -/
def fin : Dev nD → Valuation τ sig (Elt F) := fun c => afterL host4 (out3 m c)

theorem ctr0_entry (X : Valuation τ sig (Elt F)) : after part1_s0 X (Proc.devRef .tc main_v75_7) = fun _ => (0#32 : BitVec 32) := by
  after_reads_simp
  rfl

set_option maxRecDepth 100000 in
theorem ctr0_step (X : Valuation τ sig (Elt F)) :
    after while0_body_s6 X (Proc.devRef .tc main_v75_7) = addi (X (Proc.devRef .tc main_v75_7)) (constantI S_ 32 1#32) := by
  after_results
  rfl

/-- Loop 0's counter before its `k`-th condition. -/
theorem at0_ctr (c : Dev nD) : ∀ k, at0 m k c (Proc.devRef .tc main_v75_7) = fun _ => Scf.iv 0#32 1#32 k
  | 0 => by
    rw [show at0 m 0 c = in0 m c from rfl, in0]
    simp only [afterL_cons, afterL_nil]
    rw [ctr0_entry, Scf.iv_zero]
  | k + 1 => by
    rw [show at0 m (k + 1) c = afterL body0 (after cond0 (at0 m k c)) from rfl]
    simp only [afterL_cons, afterL_nil]
    rw [ctr0_step, while0_body_s5_keep _ main_v75_7, while0_body_s4_keep _ main_v75_7, while0_body_s3_keep _ main_v75_7, while0_body_s2_keep _ main_v75_7, while0_body_s1_keep _ main_v75_7, while0_body_s0_keep _ main_v75_7, cond0_keep _ main_v75_7, at0_ctr c k, Scf.iv_succ]
    rfl

set_option backward.isDefEq.respectTransparency.types false in
/-- Loop 0's condition holds before its trips 0 … 31 and fails before trip 32. -/
theorem cond0_spec : LoopRun.Cond (pcfgs (F := F)) defs₀ loops (main_while0_cond (F := F)) cond0 body0 (in0 m) 32 := by
  intro k hk c bd
  have hctr := at0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]; imodintro
  isplitr
  · ipureintro
    show Iff (IntOp.cmpi .slt (HloOp.result _ (at0 m k c) main_v75_7 HostLoop.idx0)
      (HloOp.result _ (at0 m k c) main_while0c_c_34 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]
  · iexact Hb
  isplitl [Hh]
  · rw [after_cons, after_cons, after_nil]
    iexact Hh
  · iexact HR

theorem ctr1_entry (X : Valuation τ sig (Elt F)) : after part2_s2 X (Proc.devRef .tc main_v133_7) = fun _ => (0#32 : BitVec 32) := by
  after_reads_simp
  rfl

set_option maxRecDepth 100000 in
theorem ctr1_step (X : Valuation τ sig (Elt F)) :
    after while1_body_s6 X (Proc.devRef .tc main_v133_7) = addi (X (Proc.devRef .tc main_v133_7)) (constantI S_ 32 1#32) := by
  after_results
  rfl

/-- Loop 1's counter before its `k`-th condition. -/
theorem at1_ctr (c : Dev nD) : ∀ k, at1 m k c (Proc.devRef .tc main_v133_7) = fun _ => Scf.iv 0#32 1#32 k
  | 0 => by
    rw [show at1 m 0 c = in1 m c from rfl, in1]
    simp only [afterL_cons, afterL_nil]
    rw [ctr1_entry, Scf.iv_zero]
  | k + 1 => by
    rw [show at1 m (k + 1) c = afterL body1 (after cond1 (at1 m k c)) from rfl]
    simp only [afterL_cons, afterL_nil]
    rw [ctr1_step, while1_body_s5_keep _ main_v133_7, while1_body_s4_keep _ main_v133_7, while1_body_s3_keep _ main_v133_7, while1_body_s2_keep _ main_v133_7, while1_body_s1_keep _ main_v133_7, while1_body_s0_keep _ main_v133_7, cond1_keep _ main_v133_7, at1_ctr c k, Scf.iv_succ]
    rfl

set_option backward.isDefEq.respectTransparency.types false in
/-- Loop 1's condition holds before its trips 0 … 31 and fails before trip 32. -/
theorem cond1_spec : LoopRun.Cond (pcfgs (F := F)) defs₀ loops (main_while1_cond (F := F)) cond1 body1 (in1 m) 32 := by
  intro k hk c bd
  have hctr := at1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]; imodintro
  isplitr
  · ipureintro
    show Iff (IntOp.cmpi .slt (HloOp.result _ (at1 m k c) main_v133_7 HostLoop.idx0)
      (HloOp.result _ (at1 m k c) main_while1c_c_34 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]
  · iexact Hb
  isplitl [Hh]
  · rw [after_cons, after_cons, after_nil]
    iexact Hh
  · iexact HR

theorem ctr2_entry (X : Valuation τ sig (Elt F)) : after part3_s2 X (Proc.devRef .tc main_v148_6) = fun _ => (0#32 : BitVec 32) := by
  after_reads_simp
  rfl

set_option maxRecDepth 100000 in
theorem ctr2_step (X : Valuation τ sig (Elt F)) :
    after while2_body_s7 X (Proc.devRef .tc main_v148_6) = addi (X (Proc.devRef .tc main_v148_6)) (constantI S_ 32 1#32) := by
  after_results
  rfl

/-- Loop 2's counter before its `k`-th condition. -/
theorem at2_ctr (c : Dev nD) : ∀ k, at2 m k c (Proc.devRef .tc main_v148_6) = fun _ => Scf.iv 0#32 1#32 k
  | 0 => by
    rw [show at2 m 0 c = in2 m c from rfl, in2]
    simp only [afterL_cons, afterL_nil]
    rw [ctr2_entry, Scf.iv_zero]
  | k + 1 => by
    rw [show at2 m (k + 1) c = afterL body2 (after cond2 (at2 m k c)) from rfl]
    simp only [afterL_cons, afterL_nil]
    rw [ctr2_step, while2_body_s6_keep _ main_v148_6, while2_body_s5_keep _ main_v148_6, while2_body_s4_keep _ main_v148_6, while2_body_s3_keep _ main_v148_6, while2_body_s2_keep _ main_v148_6, while2_body_s1_keep _ main_v148_6, while2_body_s0_keep _ main_v148_6, cond2_keep _ main_v148_6, at2_ctr c k, Scf.iv_succ]
    rfl

set_option backward.isDefEq.respectTransparency.types false in
/-- Loop 2's condition holds before its trips 0 … 31 and fails before trip 32. -/
theorem cond2_spec : LoopRun.Cond (pcfgs (F := F)) defs₀ loops (main_while2_cond (F := F)) cond2 body2 (in2 m) 32 := by
  intro k hk c bd
  have hctr := at2_ctr m c k
  unfold main_while2_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]; imodintro
  isplitr
  · ipureintro
    show Iff (IntOp.cmpi .slt (HloOp.result _ (at2 m k c) main_v148_6 HostLoop.idx0)
      (HloOp.result _ (at2 m k c) main_while2c_c_31 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]
  · iexact Hb
  isplitl [Hh]
  · rw [after_cons, after_cons, after_nil]
    iexact Hh
  · iexact HR

theorem ctr3_entry (X : Valuation τ sig (Elt F)) : after part3_s6 X (Proc.devRef .tc main_v155_6) = fun _ => (0#32 : BitVec 32) := by
  after_reads_simp
  rfl

set_option maxRecDepth 100000 in
theorem ctr3_step (X : Valuation τ sig (Elt F)) :
    after while3_body_s7 X (Proc.devRef .tc main_v155_6) = addi (X (Proc.devRef .tc main_v155_6)) (constantI S_ 32 1#32) := by
  after_results
  rfl

/-- Loop 3's counter before its `k`-th condition. -/
theorem at3_ctr (c : Dev nD) : ∀ k, at3 m k c (Proc.devRef .tc main_v155_6) = fun _ => Scf.iv 0#32 1#32 k
  | 0 => by
    rw [show at3 m 0 c = in3 m c from rfl, in3]
    simp only [afterL_cons, afterL_nil]
    rw [ctr3_entry, Scf.iv_zero]
  | k + 1 => by
    rw [show at3 m (k + 1) c = afterL body3 (after cond3 (at3 m k c)) from rfl]
    simp only [afterL_cons, afterL_nil]
    rw [ctr3_step, while3_body_s6_keep _ main_v155_6, while3_body_s5_keep _ main_v155_6, while3_body_s4_keep _ main_v155_6, while3_body_s3_keep _ main_v155_6, while3_body_s2_keep _ main_v155_6, while3_body_s1_keep _ main_v155_6, while3_body_s0_keep _ main_v155_6, cond3_keep _ main_v155_6, at3_ctr c k, Scf.iv_succ]
    rfl

set_option backward.isDefEq.respectTransparency.types false in
/-- Loop 3's condition holds before its trips 0 … 31 and fails before trip 32. -/
theorem cond3_spec : LoopRun.Cond (pcfgs (F := F)) defs₀ loops (main_while3_cond (F := F)) cond3 body3 (in3 m) 32 := by
  intro k hk c bd
  have hctr := at3_ctr m c k
  unfold main_while3_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]; imodintro
  isplitr
  · ipureintro
    show Iff (IntOp.cmpi .slt (HloOp.result _ (at3 m k c) main_v155_6 HostLoop.idx0)
      (HloOp.result _ (at3 m k c) main_while3c_c_31 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]
  · iexact Hb
  isplitl [Hh]
  · rw [after_cons, after_cons, after_nil]
    iexact Hh
  · iexact HR

/-! ## The run -/

/-- A stretch list as segments. -/
abbrev stretch (items : List (List (HloOp τ sig (Elt F)))) (h : Plain items) (V : Dev nD → Valuation τ sig (Elt F)) : List (LoopRun.Seg (nD := nD) (τ := τ) (pcfgs (F := F)) defs₀ loops) :=
  segsOf (pcfgs (F := F)) (LoopRun.noAdm (pcfgs (F := F))) defs₀ Variants.none LoopRun.noSig LoopRun.noLvl loops (LoopRun.noTicket (pcfgs (F := F))) LoopRun.Owed items h V

/-- Loop 0 as a segment. -/
def loop0 : LoopRun.Seg (nD := nD) (τ := τ) (pcfgs (F := F)) defs₀ loops :=
  loopSeg (pcfgs (F := F)) (LoopRun.noAdm (pcfgs (F := F))) defs₀ Variants.none LoopRun.noSig LoopRun.noLvl loops (LoopRun.noTicket (pcfgs (F := F)))
    0 main_while0_cond main_while0_body rfl cond0 body0 body0_plain (by rw [while0_body_chain]; rfl) 32 (in0 m) LoopRun.Owed (cond0_spec m)

/-- Loop 1 as a segment. -/
def loop1 : LoopRun.Seg (nD := nD) (τ := τ) (pcfgs (F := F)) defs₀ loops :=
  loopSeg (pcfgs (F := F)) (LoopRun.noAdm (pcfgs (F := F))) defs₀ Variants.none LoopRun.noSig LoopRun.noLvl loops (LoopRun.noTicket (pcfgs (F := F)))
    1 main_while1_cond main_while1_body rfl cond1 body1 body1_plain (by rw [while1_body_chain]; rfl) 32 (in1 m) LoopRun.Owed (cond1_spec m)

/-- Loop 2 as a segment. -/
def loop2 : LoopRun.Seg (nD := nD) (τ := τ) (pcfgs (F := F)) defs₀ loops :=
  loopSeg (pcfgs (F := F)) (LoopRun.noAdm (pcfgs (F := F))) defs₀ Variants.none LoopRun.noSig LoopRun.noLvl loops (LoopRun.noTicket (pcfgs (F := F)))
    2 main_while2_cond main_while2_body rfl cond2 body2 body2_plain (by rw [while2_body_chain]; rfl) 32 (in2 m) LoopRun.Owed (cond2_spec m)

/-- Loop 3 as a segment. -/
def loop3 : LoopRun.Seg (nD := nD) (τ := τ) (pcfgs (F := F)) defs₀ loops :=
  loopSeg (pcfgs (F := F)) (LoopRun.noAdm (pcfgs (F := F))) defs₀ Variants.none LoopRun.noSig LoopRun.noLvl loops (LoopRun.noTicket (pcfgs (F := F)))
    3 main_while3_cond main_while3_body rfl cond3 body3 body3_plain (by rw [while3_body_chain]; rfl) 32 (in3 m) LoopRun.Owed (cond3_spec m)

/-- @main as segments. -/
def segs : List (LoopRun.Seg (nD := nD) (τ := τ) (pcfgs (F := F)) defs₀ loops) :=
  stretch host0 host0_plain (launchContents m) ++ loop0 m :: (stretch host1 host1_plain (out0 m) ++ loop1 m :: (stretch host2 host2_plain (out1 m) ++ loop2 m :: (stretch host3 host3_plain (out2 m) ++ loop3 m :: (stretch host4 host4_plain (out3 m)))))

set_option maxRecDepth 100000 in
theorem segs_prog (c : Dev nD) : main (F := F) c = Pipeline.chain ((segs m).map Pipeline.CSeg.prog) := by
  rw [main_chain]
  unfold segs stretch
  simp only [List.map_append, List.map_cons, segsOf_prog]
  rfl

theorem segs_chains : Pipeline.CSeg.Chains (LoopRun.At (launchContents m)) (segs m) (LoopRun.At (fin m)) :=
  Pipeline.CSeg.Chains.append (segsOf_chains _ _ _ _ _ _ _ _ LoopRun.Owed host0 host0_plain _) ⟨fun _ => .rfl, Pipeline.CSeg.Chains.append (segsOf_chains _ _ _ _ _ _ _ _ LoopRun.Owed host1 host1_plain _) ⟨fun _ => .rfl, Pipeline.CSeg.Chains.append (segsOf_chains _ _ _ _ _ _ _ _ LoopRun.Owed host2 host2_plain _) ⟨fun _ => .rfl, Pipeline.CSeg.Chains.append (segsOf_chains _ _ _ _ _ _ _ _ LoopRun.Owed host3 host3_plain _) ⟨fun _ => .rfl, segsOf_chains _ _ _ _ _ _ _ _ LoopRun.Owed host4 host4_plain _⟩⟩⟩⟩

/-- Every execution ends with every unscoped buffer at `fin`. -/
theorem run_fold (ρ : Dev nD → PrngReg) : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = fin m c (Proc.devRef .tc b)) :=
  LoopRun.run_segs (pcfgs (F := F)) defs₀ loops main m ρ (segs m) (segs_prog m) (fin m) (segs_chains m)

end Contents

/-! ## What keeps its contents through a list of stretches, a loop, and @main -/

abbrev host0_W : List (Ref sig .tc) := part0_s0_W ++ part0_s1_W ++ part0_s2_W ++ part1_s0_W
theorem host0_keep (V : Valuation τ sig (Elt F)) (r : Ref sig .tc) (h : r ∉ host0_W := by decide +kernel) :
    afterL host0 V (Proc.devRef .tc r) = V (Proc.devRef .tc r) := by
  simp only [host0_W, List.mem_append, not_or] at h
  obtain ⟨⟨⟨h0, h1⟩, h2⟩, h3⟩ := h
  simp only [afterL_cons, afterL_nil]
  rw [part1_s0_keep _ r h3, part0_s2_keep _ r h2, part0_s1_keep _ r h1, part0_s0_keep _ r h0]

abbrev host1_W : List (Ref sig .tc) := part1_s2_W ++ part1_s3_W ++ part1_s4_W ++ part1_s5_W ++ part1_s6_W ++ part2_s0_W ++ part2_s1_W ++ part2_s2_W
theorem host1_keep (V : Valuation τ sig (Elt F)) (r : Ref sig .tc) (h : r ∉ host1_W := by decide +kernel) :
    afterL host1 V (Proc.devRef .tc r) = V (Proc.devRef .tc r) := by
  simp only [host1_W, List.mem_append, not_or] at h
  obtain ⟨⟨⟨⟨⟨⟨⟨h0, h1⟩, h2⟩, h3⟩, h4⟩, h5⟩, h6⟩, h7⟩ := h
  simp only [afterL_cons, afterL_nil]
  rw [part2_s2_keep _ r h7, part2_s1_keep _ r h6, part2_s0_keep _ r h5, part1_s6_keep _ r h4, part1_s5_keep _ r h3, part1_s4_keep _ r h2, part1_s3_keep _ r h1, part1_s2_keep _ r h0]

abbrev host2_W : List (Ref sig .tc) := part2_s4_W ++ part2_s5_W ++ part3_s0_W ++ part3_s1_W ++ part3_s2_W
theorem host2_keep (V : Valuation τ sig (Elt F)) (r : Ref sig .tc) (h : r ∉ host2_W := by decide +kernel) :
    afterL host2 V (Proc.devRef .tc r) = V (Proc.devRef .tc r) := by
  simp only [host2_W, List.mem_append, not_or] at h
  obtain ⟨⟨⟨⟨h0, h1⟩, h2⟩, h3⟩, h4⟩ := h
  simp only [afterL_cons, afterL_nil]
  rw [part3_s2_keep _ r h4, part3_s1_keep _ r h3, part3_s0_keep _ r h2, part2_s5_keep _ r h1, part2_s4_keep _ r h0]

abbrev host3_W : List (Ref sig .tc) := part3_s4_W ++ part3_s5_W ++ part3_s6_W
theorem host3_keep (V : Valuation τ sig (Elt F)) (r : Ref sig .tc) (h : r ∉ host3_W := by decide +kernel) :
    afterL host3 V (Proc.devRef .tc r) = V (Proc.devRef .tc r) := by
  simp only [host3_W, List.mem_append, not_or] at h
  obtain ⟨⟨h0, h1⟩, h2⟩ := h
  simp only [afterL_cons, afterL_nil]
  rw [part3_s6_keep _ r h2, part3_s5_keep _ r h1, part3_s4_keep _ r h0]

abbrev host4_W : List (Ref sig .tc) := part3_s8_W
theorem host4_keep (V : Valuation τ sig (Elt F)) (r : Ref sig .tc) (h : r ∉ host4_W := by decide +kernel) :
    afterL host4 V (Proc.devRef .tc r) = V (Proc.devRef .tc r) := by
  simp only [host4_W, List.mem_append, not_or] at h
  simp only [afterL_cons, afterL_nil]
  rw [part3_s8_keep _ r h]

abbrev body0_W : List (Ref sig .tc) := while0_body_s0_W ++ while0_body_s1_W ++ while0_body_s2_W ++ while0_body_s3_W ++ while0_body_s4_W ++ while0_body_s5_W ++ while0_body_s6_W
theorem body0_keep (V : Valuation τ sig (Elt F)) (r : Ref sig .tc) (h : r ∉ body0_W := by decide +kernel) :
    afterL body0 V (Proc.devRef .tc r) = V (Proc.devRef .tc r) := by
  simp only [body0_W, List.mem_append, not_or] at h
  obtain ⟨⟨⟨⟨⟨⟨h0, h1⟩, h2⟩, h3⟩, h4⟩, h5⟩, h6⟩ := h
  simp only [afterL_cons, afterL_nil]
  rw [while0_body_s6_keep _ r h6, while0_body_s5_keep _ r h5, while0_body_s4_keep _ r h4, while0_body_s3_keep _ r h3, while0_body_s2_keep _ r h2, while0_body_s1_keep _ r h1, while0_body_s0_keep _ r h0]

abbrev body1_W : List (Ref sig .tc) := while1_body_s0_W ++ while1_body_s1_W ++ while1_body_s2_W ++ while1_body_s3_W ++ while1_body_s4_W ++ while1_body_s5_W ++ while1_body_s6_W
theorem body1_keep (V : Valuation τ sig (Elt F)) (r : Ref sig .tc) (h : r ∉ body1_W := by decide +kernel) :
    afterL body1 V (Proc.devRef .tc r) = V (Proc.devRef .tc r) := by
  simp only [body1_W, List.mem_append, not_or] at h
  obtain ⟨⟨⟨⟨⟨⟨h0, h1⟩, h2⟩, h3⟩, h4⟩, h5⟩, h6⟩ := h
  simp only [afterL_cons, afterL_nil]
  rw [while1_body_s6_keep _ r h6, while1_body_s5_keep _ r h5, while1_body_s4_keep _ r h4, while1_body_s3_keep _ r h3, while1_body_s2_keep _ r h2, while1_body_s1_keep _ r h1, while1_body_s0_keep _ r h0]

abbrev body2_W : List (Ref sig .tc) := while2_body_s0_W ++ while2_body_s1_W ++ while2_body_s2_W ++ while2_body_s3_W ++ while2_body_s4_W ++ while2_body_s5_W ++ while2_body_s6_W ++ while2_body_s7_W
theorem body2_keep (V : Valuation τ sig (Elt F)) (r : Ref sig .tc) (h : r ∉ body2_W := by decide +kernel) :
    afterL body2 V (Proc.devRef .tc r) = V (Proc.devRef .tc r) := by
  simp only [body2_W, List.mem_append, not_or] at h
  obtain ⟨⟨⟨⟨⟨⟨⟨h0, h1⟩, h2⟩, h3⟩, h4⟩, h5⟩, h6⟩, h7⟩ := h
  simp only [afterL_cons, afterL_nil]
  rw [while2_body_s7_keep _ r h7, while2_body_s6_keep _ r h6, while2_body_s5_keep _ r h5, while2_body_s4_keep _ r h4, while2_body_s3_keep _ r h3, while2_body_s2_keep _ r h2, while2_body_s1_keep _ r h1, while2_body_s0_keep _ r h0]

abbrev body3_W : List (Ref sig .tc) := while3_body_s0_W ++ while3_body_s1_W ++ while3_body_s2_W ++ while3_body_s3_W ++ while3_body_s4_W ++ while3_body_s5_W ++ while3_body_s6_W ++ while3_body_s7_W
theorem body3_keep (V : Valuation τ sig (Elt F)) (r : Ref sig .tc) (h : r ∉ body3_W := by decide +kernel) :
    afterL body3 V (Proc.devRef .tc r) = V (Proc.devRef .tc r) := by
  simp only [body3_W, List.mem_append, not_or] at h
  obtain ⟨⟨⟨⟨⟨⟨⟨h0, h1⟩, h2⟩, h3⟩, h4⟩, h5⟩, h6⟩, h7⟩ := h
  simp only [afterL_cons, afterL_nil]
  rw [while3_body_s7_keep _ r h7, while3_body_s6_keep _ r h6, while3_body_s5_keep _ r h5, while3_body_s4_keep _ r h4, while3_body_s3_keep _ r h3, while3_body_s2_keep _ r h2, while3_body_s1_keep _ r h1, while3_body_s0_keep _ r h0]

theorem at0_keep (m : (ℓ : Loc nD τ sig) → Buf (Elt F) ℓ) (c : Dev nD) (r : Ref sig .tc) (h : r ∉ cond0_W := by decide +kernel) (h' : r ∉ body0_W := by decide +kernel) :
    ∀ k, at0 m k c (Proc.devRef .tc r) = in0 m c (Proc.devRef .tc r)
  | 0 => rfl
  | k + 1 => by
    rw [show at0 m (k + 1) c = afterL body0 (after cond0 (at0 m k c)) from rfl, body0_keep _ r h', cond0_keep _ r h, at0_keep m c r h h' k]

theorem out0_keep (m : (ℓ : Loc nD τ sig) → Buf (Elt F) ℓ) (c : Dev nD) (r : Ref sig .tc) (h : r ∉ cond0_W := by decide +kernel) (h' : r ∉ body0_W := by decide +kernel) :
    out0 m c (Proc.devRef .tc r) = in0 m c (Proc.devRef .tc r) := by
  rw [out0, cond0_keep _ r h, at0_keep m c r h h']

theorem at1_keep (m : (ℓ : Loc nD τ sig) → Buf (Elt F) ℓ) (c : Dev nD) (r : Ref sig .tc) (h : r ∉ cond1_W := by decide +kernel) (h' : r ∉ body1_W := by decide +kernel) :
    ∀ k, at1 m k c (Proc.devRef .tc r) = in1 m c (Proc.devRef .tc r)
  | 0 => rfl
  | k + 1 => by
    rw [show at1 m (k + 1) c = afterL body1 (after cond1 (at1 m k c)) from rfl, body1_keep _ r h', cond1_keep _ r h, at1_keep m c r h h' k]

theorem out1_keep (m : (ℓ : Loc nD τ sig) → Buf (Elt F) ℓ) (c : Dev nD) (r : Ref sig .tc) (h : r ∉ cond1_W := by decide +kernel) (h' : r ∉ body1_W := by decide +kernel) :
    out1 m c (Proc.devRef .tc r) = in1 m c (Proc.devRef .tc r) := by
  rw [out1, cond1_keep _ r h, at1_keep m c r h h']

theorem at2_keep (m : (ℓ : Loc nD τ sig) → Buf (Elt F) ℓ) (c : Dev nD) (r : Ref sig .tc) (h : r ∉ cond2_W := by decide +kernel) (h' : r ∉ body2_W := by decide +kernel) :
    ∀ k, at2 m k c (Proc.devRef .tc r) = in2 m c (Proc.devRef .tc r)
  | 0 => rfl
  | k + 1 => by
    rw [show at2 m (k + 1) c = afterL body2 (after cond2 (at2 m k c)) from rfl, body2_keep _ r h', cond2_keep _ r h, at2_keep m c r h h' k]

theorem out2_keep (m : (ℓ : Loc nD τ sig) → Buf (Elt F) ℓ) (c : Dev nD) (r : Ref sig .tc) (h : r ∉ cond2_W := by decide +kernel) (h' : r ∉ body2_W := by decide +kernel) :
    out2 m c (Proc.devRef .tc r) = in2 m c (Proc.devRef .tc r) := by
  rw [out2, cond2_keep _ r h, at2_keep m c r h h']

theorem at3_keep (m : (ℓ : Loc nD τ sig) → Buf (Elt F) ℓ) (c : Dev nD) (r : Ref sig .tc) (h : r ∉ cond3_W := by decide +kernel) (h' : r ∉ body3_W := by decide +kernel) :
    ∀ k, at3 m k c (Proc.devRef .tc r) = in3 m c (Proc.devRef .tc r)
  | 0 => rfl
  | k + 1 => by
    rw [show at3 m (k + 1) c = afterL body3 (after cond3 (at3 m k c)) from rfl, body3_keep _ r h', cond3_keep _ r h, at3_keep m c r h h' k]

theorem out3_keep (m : (ℓ : Loc nD τ sig) → Buf (Elt F) ℓ) (c : Dev nD) (r : Ref sig .tc) (h : r ∉ cond3_W := by decide +kernel) (h' : r ∉ body3_W := by decide +kernel) :
    out3 m c (Proc.devRef .tc r) = in3 m c (Proc.devRef .tc r) := by
  rw [out3, cond3_keep _ r h, at3_keep m c r h h']

theorem fin_keep (m : (ℓ : Loc nD τ sig) → Buf (Elt F) ℓ) (c : Dev nD) (r : Ref sig .tc)
    (h0 : r ∉ host0_W := by decide +kernel)
    (h1 : r ∉ host1_W := by decide +kernel)
    (h2 : r ∉ host2_W := by decide +kernel)
    (h3 : r ∉ host3_W := by decide +kernel)
    (h4 : r ∉ host4_W := by decide +kernel)
    (c0 : r ∉ cond0_W := by decide +kernel) (b0 : r ∉ body0_W := by decide +kernel)
    (c1 : r ∉ cond1_W := by decide +kernel) (b1 : r ∉ body1_W := by decide +kernel)
    (c2 : r ∉ cond2_W := by decide +kernel) (b2 : r ∉ body2_W := by decide +kernel)
    (c3 : r ∉ cond3_W := by decide +kernel) (b3 : r ∉ body3_W := by decide +kernel)
    : fin m c (Proc.devRef .tc r) = m ((c.tc : Thread nD τ).loc r) := by
  rw [fin, host4_keep _ r h4, out3_keep m c r c3 b3, in3, host3_keep _ r h3, out2_keep m c r c2 b2, in2, host2_keep _ r h2, out1_keep m c r c1 b1, in1, host1_keep _ r h1, out0_keep m c r c0 b0, in0, host0_keep _ r h0]

/-- The arguments end unchanged and every semaphore counter ends at zero. -/
theorem frame (m : (ℓ : Loc nD τ sig) → Buf (Elt F) ℓ) (ρ : Dev nD → PrngReg) : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run (defs (F := F)) _ _).mono (fun r h => ⟨fun c => ⟨(h c main_arg0 rfl).trans (fin_keep m c main_arg0), (h c main_arg1 rfl).trans (fin_keep m c main_arg1), (h c main_arg2 rfl).trans (fin_keep m c main_arg2), (h c main_arg3 rfl).trans (fin_keep m c main_arg3)⟩,
    sem_eq_zero_of_no_sems (by decide) r.2⟩) (run_fold m ρ)

end Cert.ReferenceIdeal.Host
-- ==== Proof.ReferenceLoops.lean ====
/-
  What the reference's four loops leave behind, over the extended reals: the states saved before each chunk (two loops,
  one per direction) and the chunks of the gradient (two loops that go from the last chunk to the first).
-/
module

public import proofs.«01_k».proof.Proof.ReferenceIdealRun
public import proofs.«01_k».proof.Proof.Numbers
public import Idealize.ShloMosaic.Lib.Pointwise
public import Idealize.ShloMosaic.Lib.DynamicIndex
public import Idealize.ShloMosaic.Lib.Pipeline.ValueKit.Point

@[expose] public section

noncomputable section

namespace Cert.ReferenceIdeal.Host

open Idealize.ShloMosaic Idealize.ShloMosaic.TcCoe
open Idealize.ShloMosaic.StableHlo
open Cert.ReferenceIdeal Cert.ReferenceIdeal.Gen Cert.Retention

abbrev Stack := Vec Ideal S32x1x8x128x128 EltTy.f32
abbrev Heads := Vec Ideal S1x8x128x128 EltTy.f32
abbrev PerRow := Vec Ideal S1x8x128x1 EltTy.f32
abbrev PerHead := Vec Ideal S1x8x1x1 EltTy.f32

/-- The entries of an array per head, of a stack of such arrays, of a weight per row and of a weight per head. -/
abbrev atH (x : Heads) (h : Fin 8) (p q : Fin 128) : EReal := x (ix4 0 h p q)
abbrev atS (x : Stack) (n : Fin 32) (h : Fin 8) (p q : Fin 128) : EReal := x (ix5 n 0 h p q)
abbrev atR (x : PerRow) (h : Fin 8) (j : Fin 128) : EReal := x (ix4 0 h j 0)
abbrev atC (x : PerHead) (h : Fin 8) : EReal := x (ix4 0 h 0 0)

/-! ### Taking a chunk of a stack, and putting one back -/

theorem pick (x : Stack) (start : Fin 5 → Int) (n : Fin 32) (h : Fin 8) (p j : Fin 128)
    (e : start = ![(n.val : Int), 0, 0, 0, 0]) :
    atH (shapeCast S1x8x128x128 (Host.dynamicSlice (s := S32x1x8x128x128) S1x1x8x128x128 x start sliceFits_S32x1x8x128x128_S1x1x8x128x128)
      shapeCasts_S1x1x8x128x128_S1x8x128x128) h p j = atS x n h p j := by
  subst e
  have hn := n.isLt
  rw [Idealize.ShloMosaic.Host.dynamicSlice_eq_extractStridedSlice S1x1x8x128x128 x ![(n.val : Int), 0, 0, 0, 0] ![n.val, 0, 0, 0, 0]
    sliceFits_S32x1x8x128x128_S1x1x8x128x128 ⟨rfl, fun a => by fin_cases a <;> simp [Shape.size] <;> omega⟩ (fun a => by fin_cases a <;> rfl)]
  unfold atH atS
  pointwise

theorem put (x : Stack) (u : Heads) (start : Fin 5 → Int) (n i : Fin 32) (h : Fin 8) (p j : Fin 128)
    (e : start = ![(n.val : Int), 0, 0, 0, 0]) :
    atS (Host.dynamicUpdateSlice (s := S32x1x8x128x128) (u := S1x1x8x128x128) x
        (broadcastInDim S1x1x8x128x128 ![1, 2, 3, 4] bcast_S1x8x128x128_S1x1x8x128x128_1_2_3_4 u) start updateFits_S32x1x8x128x128_S1x1x8x128x128)
      i h p j = if i = n then atH u h p j else atS x i h p j := by
  subst e
  have hn := n.isLt
  unfold atH atS
  pointwise
  have c0 : Host.clampedStart S32x1x8x128x128 S1x1x8x128x128 rfl ![(n.val : Int), 0, 0, 0, 0] 0 = n.val :=
    Host.clampedStart_of_le _ _ 0 _ rfl (by show n.val + 1 ≤ 32; omega)
  have c1 : Host.clampedStart S32x1x8x128x128 S1x1x8x128x128 rfl ![(n.val : Int), 0, 0, 0, 0] 1 = 0 :=
    Host.clampedStart_of_le _ _ 1 _ rfl (by decide)
  have c2 : Host.clampedStart S32x1x8x128x128 S1x1x8x128x128 rfl ![(n.val : Int), 0, 0, 0, 0] 2 = 0 :=
    Host.clampedStart_of_le _ _ 2 _ rfl (by decide)
  have c3 : Host.clampedStart S32x1x8x128x128 S1x1x8x128x128 rfl ![(n.val : Int), 0, 0, 0, 0] 3 = 0 :=
    Host.clampedStart_of_le _ _ 3 _ rfl (by decide)
  have c4 : Host.clampedStart S32x1x8x128x128 S1x1x8x128x128 rfl ![(n.val : Int), 0, 0, 0, 0] 4 = 0 :=
    Host.clampedStart_of_le _ _ 4 _ rfl (by decide)
  simp only [c0, c1, c2, c3, c4]
  by_cases hi : i = n
  · subst hi
    rw [if_pos rfl, dif_pos (by omega)]
    rfl
  · rw [if_neg hi, dif_neg (fun h' => hi (Fin.ext (by omega)))]

/-- A chunk's number, in reach of the stack. -/
def nth (n : ℕ) : Fin 32 := ⟨n % 32, Nat.mod_lt _ (by decide)⟩

theorem start_of (x : Fin 5 → Int) (n : ℕ) (hn : n < 32) (h0 : x 0 = (n : Int)) (h1 : x 1 = 0) (h2 : x 2 = 0) (h3 : x 3 = 0) (h4 : x 4 = 0) :
    x = ![((nth n).val : Int), 0, 0, 0, 0] := by
  funext a
  fin_cases a
  · show x 0 = ((n % 32 : ℕ) : Int)
    rw [Nat.mod_eq_of_lt hn]
    exact h0
  · exact h1
  · exact h2
  · exact h3
  · exact h4

theorem ctr_of (n : ℕ) (hn : n < 32) : (Scf.iv 0#32 1#32 n).toInt = (n : Int) :=
  (by decide : ∀ n : Fin 32, (Scf.iv 0#32 1#32 n.val).toInt = (n.val : Int)) ⟨n, hn⟩

/-- The counter of a loop that goes down: 31 less the number of trips. -/
theorem down_of (n : ℕ) (hn : n < 32) : (IntOp.subi (IntOp.subi 32#32 (Scf.iv 0#32 1#32 n)) 1#32).toInt = ((31 - n : ℕ) : Int) :=
  (by decide : ∀ n : Fin 32, (IntOp.subi (IntOp.subi 32#32 (Scf.iv 0#32 1#32 n.val)) 1#32).toInt = ((31 - n.val : ℕ) : Int)) ⟨n, hn⟩

variable (V : Valuation τ sig (Elt Ideal)) (m : (ℓ : Loc nD τ sig) → Buf (Elt Ideal) ℓ) (c : Dev nD)

/-! ### Loop 0: the states -/

theorem k0_read (n : ℕ) (hn : n < 32) (hV : (V (Proc.devRef .tc main_v75_7) : Vec Ideal S_ .i32) = fun _ => Scf.iv 0#32 1#32 n)
    (h : Fin 8) (p j : Fin 128) :
    atH (after while0_body_s1 V (Proc.devRef .tc main_while0b_v166)) h p j = atS (V (Proc.devRef .tc main_v75_1)) (nth n) h p j := by
  after_reads_simp [unaryIndexed_result_read, binaryIndexed_result_read, indexContents_tref_cons, indexContents_tref_empty]
  refine pick (V (Proc.devRef .tc main_v75_1)) _ (nth n) h p j ?_
  refine start_of _ n hn ?_ rfl rfl rfl rfl
  exact (congrArg BitVec.toInt (congrFun hV _)).trans (ctr_of n hn)

theorem v0_read (n : ℕ) (hn : n < 32) (hV : (V (Proc.devRef .tc main_v75_7) : Vec Ideal S_ .i32) = fun _ => Scf.iv 0#32 1#32 n)
    (h : Fin 8) (p j : Fin 128) :
    atH (after while0_body_s2 V (Proc.devRef .tc main_while0b_v167)) h p j = atS (V (Proc.devRef .tc main_v75_2)) (nth n) h p j := by
  after_reads_simp [unaryIndexed_result_read, binaryIndexed_result_read, indexContents_tref_cons, indexContents_tref_empty]
  refine pick (V (Proc.devRef .tc main_v75_2)) _ (nth n) h p j ?_
  refine start_of _ n hn ?_ rfl rfl rfl rfl
  exact (congrArg BitVec.toInt (congrFun hV _)).trans (ctr_of n hn)

theorem step0_read (h : Fin 8) (p q : Fin 128) :
    atH (after while0_body_s3 V (Proc.devRef .tc main_while0b_v180)) h p q
      = atH (V (Proc.devRef .tc main_v75_8)) h p q * atC (V (Proc.devRef .tc main_v75_3)) h
        + ∑ j : Fin 128, atH (V (Proc.devRef .tc main_while0b_v166)) h j p
          * atR (V (Proc.devRef .tc main_v75_4)) h j * atH (V (Proc.devRef .tc main_while0b_v167)) h j q := by
  unfold atH atC atR
  entry_read
  pointwise

theorem save0_read (n : ℕ) (hn : n < 32) (hV : (V (Proc.devRef .tc main_v75_7) : Vec Ideal S_ .i32) = fun _ => Scf.iv 0#32 1#32 n)
    (i : Fin 32) (h : Fin 8) (p j : Fin 128) :
    atS (after while0_body_s5 V (Proc.devRef .tc main_while0b_v182)) i h p j
      = if i = nth n then atH (V (Proc.devRef .tc main_v75_8)) h p j else atS (V (Proc.devRef .tc main_v75_10)) i h p j := by
  after_reads_simp [unaryIndexed_result_read, binaryIndexed_result_read, indexContents_tref_cons, indexContents_tref_empty]
  refine put (V (Proc.devRef .tc main_v75_10)) (V (Proc.devRef .tc main_v75_8)) _ (nth n) i h p j ?_
  refine start_of _ n hn ?_ rfl rfl rfl rfl
  exact (congrArg BitVec.toInt (congrFun hV _)).trans (ctr_of n hn)

theorem state0_copy : after while0_body_s6 V (Proc.devRef .tc main_v75_8) = V (Proc.devRef .tc main_while0b_v180) := by
  entry_read
  rfl

theorem saved0_copy : after while0_body_s6 V (Proc.devRef .tc main_v75_10) = V (Proc.devRef .tc main_while0b_v182) := by
  entry_read
  rfl

/-- The chunks and the weights that loop 0 works with. -/
def k0 (h : Fin 8) (n : ℕ) (j p : Fin 128) : EReal := atS (in0 m c (Proc.devRef .tc main_v75_1)) (nth n) h j p
def v0 (h : Fin 8) (n : ℕ) (j p : Fin 128) : EReal := atS (in0 m c (Proc.devRef .tc main_v75_2)) (nth n) h j p
def w0 (h : Fin 8) : EReal := atC (in0 m c (Proc.devRef .tc main_v75_3)) h
def u0 (h : Fin 8) (j : Fin 128) : EReal := atR (in0 m c (Proc.devRef .tc main_v75_4)) h j

theorem state0_step (k : ℕ) (hk : k < 32) (h : Fin 8) (p q : Fin 128) :
    atH (at0 m (k + 1) c (Proc.devRef .tc main_v75_8)) h p q
      = atH (at0 m k c (Proc.devRef .tc main_v75_8)) h p q * w0 m c h
        + ∑ j : Fin 128, k0 m c h k j p * u0 m c h j * v0 m c h k j q := by
  have hc := at0_ctr m c k
  rw [show at0 m (k + 1) c = afterL body0 (after cond0 (at0 m k c)) from rfl]
  simp only [afterL_cons, afterL_nil]
  rw [state0_copy, while0_body_s5_keep _ main_while0b_v180, while0_body_s4_keep _ main_while0b_v180, step0_read]
  rw [while0_body_s2_keep _ main_v75_8, while0_body_s1_keep _ main_v75_8, while0_body_s0_keep _ main_v75_8, cond0_keep _ main_v75_8]
  rw [while0_body_s2_keep _ main_v75_3, while0_body_s1_keep _ main_v75_3, while0_body_s0_keep _ main_v75_3, cond0_keep _ main_v75_3]
  rw [while0_body_s2_keep _ main_v75_4, while0_body_s1_keep _ main_v75_4, while0_body_s0_keep _ main_v75_4, cond0_keep _ main_v75_4]
  rw [while0_body_s2_keep _ main_while0b_v166]
  have e0 : ∀ j p, atH (after while0_body_s1 (after while0_body_s0 (after cond0 (at0 m k c))) (Proc.devRef .tc main_while0b_v166)) h j p
      = k0 m c h k j p := fun j p => by
    rw [k0_read _ k hk (by rw [while0_body_s0_keep _ main_v75_7, cond0_keep _ main_v75_7, hc]) h j p,
      while0_body_s0_keep _ main_v75_1, cond0_keep _ main_v75_1, at0_keep m c main_v75_1]
    rfl
  have e1 : ∀ j p, atH (after while0_body_s2 (after while0_body_s1 (after while0_body_s0 (after cond0 (at0 m k c))))
      (Proc.devRef .tc main_while0b_v167)) h j p = v0 m c h k j p := fun j p => by
    rw [v0_read _ k hk (by rw [while0_body_s1_keep _ main_v75_7, while0_body_s0_keep _ main_v75_7, cond0_keep _ main_v75_7, hc]) h j p,
      while0_body_s1_keep _ main_v75_2, while0_body_s0_keep _ main_v75_2, cond0_keep _ main_v75_2, at0_keep m c main_v75_2]
    rfl
  rw [at0_keep m c main_v75_3, at0_keep m c main_v75_4]
  simp only [e0, e1]
  rfl

theorem saved0_step (k : ℕ) (hk : k < 32) (i : Fin 32) (h : Fin 8) (p q : Fin 128) :
    atS (at0 m (k + 1) c (Proc.devRef .tc main_v75_10)) i h p q
      = if i = nth k then atH (at0 m k c (Proc.devRef .tc main_v75_8)) h p q else atS (at0 m k c (Proc.devRef .tc main_v75_10)) i h p q := by
  have hc := at0_ctr m c k
  rw [show at0 m (k + 1) c = afterL body0 (after cond0 (at0 m k c)) from rfl]
  simp only [afterL_cons, afterL_nil]
  rw [saved0_copy, save0_read _ k hk (by
    rw [while0_body_s4_keep _ main_v75_7, while0_body_s3_keep _ main_v75_7, while0_body_s2_keep _ main_v75_7, while0_body_s1_keep _ main_v75_7,
      while0_body_s0_keep _ main_v75_7, cond0_keep _ main_v75_7, hc])]
  rw [while0_body_s4_keep _ main_v75_8, while0_body_s3_keep _ main_v75_8, while0_body_s2_keep _ main_v75_8, while0_body_s1_keep _ main_v75_8,
    while0_body_s0_keep _ main_v75_8, cond0_keep _ main_v75_8]
  rw [while0_body_s4_keep _ main_v75_10, while0_body_s3_keep _ main_v75_10, while0_body_s2_keep _ main_v75_10, while0_body_s1_keep _ main_v75_10,
    while0_body_s0_keep _ main_v75_10, cond0_keep _ main_v75_10]

/-- After `k` trips: the running state, and the states saved so far. -/
theorem states0 (h : Fin 8) (hz : ∀ p q, atH (in0 m c (Proc.devRef .tc main_v75_8)) h p q = 0) (k : ℕ) (hk : k ≤ 32) :
    (∀ p q, atH (at0 m k c (Proc.devRef .tc main_v75_8)) h p q = st (w0 m c h) (u0 m c h) (k0 m c h) (v0 m c h) k p q)
    ∧ ∀ i : Fin 32, i.val < k → ∀ p q, atS (at0 m k c (Proc.devRef .tc main_v75_10)) i h p q
      = st (w0 m c h) (u0 m c h) (k0 m c h) (v0 m c h) i.val p q := by
  induction k with
  | zero => exact ⟨fun p q => hz p q, fun i hi => absurd hi (Nat.not_lt_zero _)⟩
  | succ k ih =>
    obtain ⟨ih, ih'⟩ := ih (by omega)
    refine ⟨fun p q => ?_, fun i hi p q => ?_⟩
    · rw [state0_step m c k (by omega), ih]
      rfl
    · rw [saved0_step m c k (by omega)]
      by_cases e : i = nth k
      · rw [if_pos e, ih, show i.val = k from by rw [e]; exact Nat.mod_eq_of_lt (by omega)]
      · rw [if_neg e]
        refine ih' i ?_ p q
        rcases Nat.lt_or_ge i.val k with hlt | hge
        · exact hlt
        · exact absurd (Fin.ext (by show i.val = k % 32; rw [Nat.mod_eq_of_lt (by omega)]; omega)) e

/-! ### Loop 1: the states -/

theorem k1_read (n : ℕ) (hn : n < 32) (hV : (V (Proc.devRef .tc main_v133_7) : Vec Ideal S_ .i32) = fun _ => Scf.iv 0#32 1#32 n)
    (h : Fin 8) (p j : Fin 128) :
    atH (after while1_body_s1 V (Proc.devRef .tc main_while1b_v166)) h p j = atS (V (Proc.devRef .tc main_v133_1)) (nth n) h p j := by
  after_reads_simp [unaryIndexed_result_read, binaryIndexed_result_read, indexContents_tref_cons, indexContents_tref_empty]
  refine pick (V (Proc.devRef .tc main_v133_1)) _ (nth n) h p j ?_
  refine start_of _ n hn ?_ rfl rfl rfl rfl
  exact (congrArg BitVec.toInt (congrFun hV _)).trans (ctr_of n hn)

theorem v1_read (n : ℕ) (hn : n < 32) (hV : (V (Proc.devRef .tc main_v133_7) : Vec Ideal S_ .i32) = fun _ => Scf.iv 0#32 1#32 n)
    (h : Fin 8) (p j : Fin 128) :
    atH (after while1_body_s2 V (Proc.devRef .tc main_while1b_v167)) h p j = atS (V (Proc.devRef .tc main_v133_2)) (nth n) h p j := by
  after_reads_simp [unaryIndexed_result_read, binaryIndexed_result_read, indexContents_tref_cons, indexContents_tref_empty]
  refine pick (V (Proc.devRef .tc main_v133_2)) _ (nth n) h p j ?_
  refine start_of _ n hn ?_ rfl rfl rfl rfl
  exact (congrArg BitVec.toInt (congrFun hV _)).trans (ctr_of n hn)

theorem step1_read (h : Fin 8) (p q : Fin 128) :
    atH (after while1_body_s3 V (Proc.devRef .tc main_while1b_v180)) h p q
      = atH (V (Proc.devRef .tc main_v133_8)) h p q * atC (V (Proc.devRef .tc main_v133_3)) h
        + ∑ j : Fin 128, atH (V (Proc.devRef .tc main_while1b_v166)) h j p
          * atR (V (Proc.devRef .tc main_v133_4)) h j * atH (V (Proc.devRef .tc main_while1b_v167)) h j q := by
  unfold atH atC atR
  entry_read
  pointwise

theorem save1_read (n : ℕ) (hn : n < 32) (hV : (V (Proc.devRef .tc main_v133_7) : Vec Ideal S_ .i32) = fun _ => Scf.iv 0#32 1#32 n)
    (i : Fin 32) (h : Fin 8) (p j : Fin 128) :
    atS (after while1_body_s5 V (Proc.devRef .tc main_while1b_v182)) i h p j
      = if i = nth n then atH (V (Proc.devRef .tc main_v133_8)) h p j else atS (V (Proc.devRef .tc main_v133_10)) i h p j := by
  after_reads_simp [unaryIndexed_result_read, binaryIndexed_result_read, indexContents_tref_cons, indexContents_tref_empty]
  refine put (V (Proc.devRef .tc main_v133_10)) (V (Proc.devRef .tc main_v133_8)) _ (nth n) i h p j ?_
  refine start_of _ n hn ?_ rfl rfl rfl rfl
  exact (congrArg BitVec.toInt (congrFun hV _)).trans (ctr_of n hn)

theorem state1_copy : after while1_body_s6 V (Proc.devRef .tc main_v133_8) = V (Proc.devRef .tc main_while1b_v180) := by
  entry_read
  rfl

theorem saved1_copy : after while1_body_s6 V (Proc.devRef .tc main_v133_10) = V (Proc.devRef .tc main_while1b_v182) := by
  entry_read
  rfl

/-- The chunks and the weights that loop 1 works with. -/
def k1 (h : Fin 8) (n : ℕ) (j p : Fin 128) : EReal := atS (in1 m c (Proc.devRef .tc main_v133_1)) (nth n) h j p
def v1 (h : Fin 8) (n : ℕ) (j p : Fin 128) : EReal := atS (in1 m c (Proc.devRef .tc main_v133_2)) (nth n) h j p
def w1 (h : Fin 8) : EReal := atC (in1 m c (Proc.devRef .tc main_v133_3)) h
def u1 (h : Fin 8) (j : Fin 128) : EReal := atR (in1 m c (Proc.devRef .tc main_v133_4)) h j

theorem state1_step (k : ℕ) (hk : k < 32) (h : Fin 8) (p q : Fin 128) :
    atH (at1 m (k + 1) c (Proc.devRef .tc main_v133_8)) h p q
      = atH (at1 m k c (Proc.devRef .tc main_v133_8)) h p q * w1 m c h
        + ∑ j : Fin 128, k1 m c h k j p * u1 m c h j * v1 m c h k j q := by
  have hc := at1_ctr m c k
  rw [show at1 m (k + 1) c = afterL body1 (after cond1 (at1 m k c)) from rfl]
  simp only [afterL_cons, afterL_nil]
  rw [state1_copy, while1_body_s5_keep _ main_while1b_v180, while1_body_s4_keep _ main_while1b_v180, step1_read]
  rw [while1_body_s2_keep _ main_v133_8, while1_body_s1_keep _ main_v133_8, while1_body_s0_keep _ main_v133_8, cond1_keep _ main_v133_8]
  rw [while1_body_s2_keep _ main_v133_3, while1_body_s1_keep _ main_v133_3, while1_body_s0_keep _ main_v133_3, cond1_keep _ main_v133_3]
  rw [while1_body_s2_keep _ main_v133_4, while1_body_s1_keep _ main_v133_4, while1_body_s0_keep _ main_v133_4, cond1_keep _ main_v133_4]
  rw [while1_body_s2_keep _ main_while1b_v166]
  have e0 : ∀ j p, atH (after while1_body_s1 (after while1_body_s0 (after cond1 (at1 m k c))) (Proc.devRef .tc main_while1b_v166)) h j p
      = k1 m c h k j p := fun j p => by
    rw [k1_read _ k hk (by rw [while1_body_s0_keep _ main_v133_7, cond1_keep _ main_v133_7, hc]) h j p,
      while1_body_s0_keep _ main_v133_1, cond1_keep _ main_v133_1, at1_keep m c main_v133_1]
    rfl
  have e1 : ∀ j p, atH (after while1_body_s2 (after while1_body_s1 (after while1_body_s0 (after cond1 (at1 m k c))))
      (Proc.devRef .tc main_while1b_v167)) h j p = v1 m c h k j p := fun j p => by
    rw [v1_read _ k hk (by rw [while1_body_s1_keep _ main_v133_7, while1_body_s0_keep _ main_v133_7, cond1_keep _ main_v133_7, hc]) h j p,
      while1_body_s1_keep _ main_v133_2, while1_body_s0_keep _ main_v133_2, cond1_keep _ main_v133_2, at1_keep m c main_v133_2]
    rfl
  rw [at1_keep m c main_v133_3, at1_keep m c main_v133_4]
  simp only [e0, e1]
  rfl

theorem saved1_step (k : ℕ) (hk : k < 32) (i : Fin 32) (h : Fin 8) (p q : Fin 128) :
    atS (at1 m (k + 1) c (Proc.devRef .tc main_v133_10)) i h p q
      = if i = nth k then atH (at1 m k c (Proc.devRef .tc main_v133_8)) h p q else atS (at1 m k c (Proc.devRef .tc main_v133_10)) i h p q := by
  have hc := at1_ctr m c k
  rw [show at1 m (k + 1) c = afterL body1 (after cond1 (at1 m k c)) from rfl]
  simp only [afterL_cons, afterL_nil]
  rw [saved1_copy, save1_read _ k hk (by
    rw [while1_body_s4_keep _ main_v133_7, while1_body_s3_keep _ main_v133_7, while1_body_s2_keep _ main_v133_7, while1_body_s1_keep _ main_v133_7,
      while1_body_s0_keep _ main_v133_7, cond1_keep _ main_v133_7, hc])]
  rw [while1_body_s4_keep _ main_v133_8, while1_body_s3_keep _ main_v133_8, while1_body_s2_keep _ main_v133_8, while1_body_s1_keep _ main_v133_8,
    while1_body_s0_keep _ main_v133_8, cond1_keep _ main_v133_8]
  rw [while1_body_s4_keep _ main_v133_10, while1_body_s3_keep _ main_v133_10, while1_body_s2_keep _ main_v133_10, while1_body_s1_keep _ main_v133_10,
    while1_body_s0_keep _ main_v133_10, cond1_keep _ main_v133_10]

/-- After `k` trips: the running state, and the states saved so far. -/
theorem states1 (h : Fin 8) (hz : ∀ p q, atH (in1 m c (Proc.devRef .tc main_v133_8)) h p q = 0) (k : ℕ) (hk : k ≤ 32) :
    (∀ p q, atH (at1 m k c (Proc.devRef .tc main_v133_8)) h p q = st (w1 m c h) (u1 m c h) (k1 m c h) (v1 m c h) k p q)
    ∧ ∀ i : Fin 32, i.val < k → ∀ p q, atS (at1 m k c (Proc.devRef .tc main_v133_10)) i h p q
      = st (w1 m c h) (u1 m c h) (k1 m c h) (v1 m c h) i.val p q := by
  induction k with
  | zero => exact ⟨fun p q => hz p q, fun i hi => absurd hi (Nat.not_lt_zero _)⟩
  | succ k ih =>
    obtain ⟨ih, ih'⟩ := ih (by omega)
    refine ⟨fun p q => ?_, fun i hi p q => ?_⟩
    · rw [state1_step m c k (by omega), ih]
      rfl
    · rw [saved1_step m c k (by omega)]
      by_cases e : i = nth k
      · rw [if_pos e, ih, show i.val = k from by rw [e]; exact Nat.mod_eq_of_lt (by omega)]
      · rw [if_neg e]
        refine ih' i ?_ p q
        rcases Nat.lt_or_ge i.val k with hlt | hge
        · exact hlt
        · exact absurd (Fin.ext (by show i.val = k % 32; rw [Nat.mod_eq_of_lt (by omega)]; omega)) e

/-! ### Loop 2: the chunks of the gradient, from the last to the first -/

theorem num2_read (n : ℕ) (hn : n < 32) (hV : (V (Proc.devRef .tc main_v148_6) : Vec Ideal S_ .i32) = fun _ => Scf.iv 0#32 1#32 n) :
    (after while2_body_s0 V (Proc.devRef .tc main_while2b_v166) : Vec Ideal S_ .i32)
      = fun _ => IntOp.subi (IntOp.subi 32#32 (Scf.iv 0#32 1#32 n)) 1#32 := by
  entry_read
  rw [hV]
  rfl

theorem g2_read (n : ℕ) (hn : n < 32) (hV : (V (Proc.devRef .tc main_while2b_v166) : Vec Ideal S_ .i32) = fun _ => IntOp.subi (IntOp.subi 32#32 (Scf.iv 0#32 1#32 n)) 1#32)
    (h : Fin 8) (p j : Fin 128) :
    atH (after while2_body_s1 V (Proc.devRef .tc main_while2b_v167)) h p j = atS (V (Proc.devRef .tc main_v148_0)) (nth (31 - n)) h p j := by
  after_reads_simp [unaryIndexed_result_read, binaryIndexed_result_read, indexContents_tref_cons, indexContents_tref_empty]
  refine pick (V (Proc.devRef .tc main_v148_0)) _ (nth (31 - n)) h p j ?_
  refine start_of _ (31 - n) (by omega) ?_ rfl rfl rfl rfl
  exact (congrArg BitVec.toInt (congrFun hV _)).trans (down_of n hn)

theorem k2_read (n : ℕ) (hn : n < 32) (hV : (V (Proc.devRef .tc main_while2b_v166) : Vec Ideal S_ .i32) = fun _ => IntOp.subi (IntOp.subi 32#32 (Scf.iv 0#32 1#32 n)) 1#32)
    (h : Fin 8) (p j : Fin 128) :
    atH (after while2_body_s2 V (Proc.devRef .tc main_while2b_v168)) h p j = atS (V (Proc.devRef .tc main_v148_1)) (nth (31 - n)) h p j := by
  after_reads_simp [unaryIndexed_result_read, binaryIndexed_result_read, indexContents_tref_cons, indexContents_tref_empty]
  refine pick (V (Proc.devRef .tc main_v148_1)) _ (nth (31 - n)) h p j ?_
  refine start_of _ (31 - n) (by omega) ?_ rfl rfl rfl rfl
  exact (congrArg BitVec.toInt (congrFun hV _)).trans (down_of n hn)

theorem v2_read (n : ℕ) (hn : n < 32) (hV : (V (Proc.devRef .tc main_while2b_v166) : Vec Ideal S_ .i32) = fun _ => IntOp.subi (IntOp.subi 32#32 (Scf.iv 0#32 1#32 n)) 1#32)
    (h : Fin 8) (p j : Fin 128) :
    atH (after while2_body_s3 V (Proc.devRef .tc main_while2b_v169)) h p j = atS (V (Proc.devRef .tc main_v148_2)) (nth (31 - n)) h p j := by
  after_reads_simp [unaryIndexed_result_read, binaryIndexed_result_read, indexContents_tref_cons, indexContents_tref_empty]
  refine pick (V (Proc.devRef .tc main_v148_2)) _ (nth (31 - n)) h p j ?_
  refine start_of _ (31 - n) (by omega) ?_ rfl rfl rfl rfl
  exact (congrArg BitVec.toInt (congrFun hV _)).trans (down_of n hn)

theorem s2_read (n : ℕ) (hn : n < 32) (hV : (V (Proc.devRef .tc main_while2b_v166) : Vec Ideal S_ .i32) = fun _ => IntOp.subi (IntOp.subi 32#32 (Scf.iv 0#32 1#32 n)) 1#32)
    (h : Fin 8) (p j : Fin 128) :
    atH (after while2_body_s4 V (Proc.devRef .tc main_while2b_v170)) h p j = atS (V (Proc.devRef .tc main_v148_3)) (nth (31 - n)) h p j := by
  after_reads_simp [unaryIndexed_result_read, binaryIndexed_result_read, indexContents_tref_cons, indexContents_tref_empty]
  refine pick (V (Proc.devRef .tc main_v148_3)) _ (nth (31 - n)) h p j ?_
  refine start_of _ (31 - n) (by omega) ?_ rfl rfl rfl rfl
  exact (congrArg BitVec.toInt (congrFun hV _)).trans (down_of n hn)

theorem step2_read (h : Fin 8) (r d : Fin 128) :
    atH (after while2_body_s5 V (Proc.devRef .tc main_while2b_v177)) h r d
      = part (fun d e => atH (V (Proc.devRef .tc main_while2b_v170)) h d e) (atR (V (Proc.devRef .tc main_v148_5)) h r)
        (fun j => atH (V (Proc.devRef .tc main_v148_4)) h r j) (fun e => atH (V (Proc.devRef .tc main_while2b_v167)) h r e)
        (fun j e => atH (V (Proc.devRef .tc main_while2b_v169)) h j e) (fun j d => atH (V (Proc.devRef .tc main_while2b_v168)) h j d) d := by
  unfold part atH atR
  entry_read
  pointwise

theorem put2_read (n : ℕ) (hn : n < 32) (hV : (V (Proc.devRef .tc main_while2b_v166) : Vec Ideal S_ .i32) = fun _ => IntOp.subi (IntOp.subi 32#32 (Scf.iv 0#32 1#32 n)) 1#32)
    (i : Fin 32) (h : Fin 8) (p j : Fin 128) :
    atS (after while2_body_s6 V (Proc.devRef .tc main_while2b_v178)) i h p j
      = if i = nth (31 - n) then atH (V (Proc.devRef .tc main_while2b_v177)) h p j else atS (V (Proc.devRef .tc main_v148_7)) i h p j := by
  after_reads_simp [unaryIndexed_result_read, binaryIndexed_result_read, indexContents_tref_cons, indexContents_tref_empty]
  refine put (V (Proc.devRef .tc main_v148_7)) (V (Proc.devRef .tc main_while2b_v177)) _ (nth (31 - n)) i h p j ?_
  refine start_of _ (31 - n) (by omega) ?_ rfl rfl rfl rfl
  exact (congrArg BitVec.toInt (congrFun hV _)).trans (down_of n hn)

theorem grad2_copy : after while2_body_s7 V (Proc.devRef .tc main_v148_7) = V (Proc.devRef .tc main_while2b_v178) := by
  entry_read
  rfl

/-- One chunk of the gradient, from what loop 2 finds. -/
def chunk2 (h : Fin 8) (i : Fin 32) (r d : Fin 128) : EReal :=
  part (fun d e => atS (in2 m c (Proc.devRef .tc main_v148_3)) i h d e) (atR (in2 m c (Proc.devRef .tc main_v148_5)) h r)
    (fun j => atH (in2 m c (Proc.devRef .tc main_v148_4)) h r j) (fun e => atS (in2 m c (Proc.devRef .tc main_v148_0)) i h r e)
    (fun j e => atS (in2 m c (Proc.devRef .tc main_v148_2)) i h j e) (fun j d => atS (in2 m c (Proc.devRef .tc main_v148_1)) i h j d) d

theorem grad2_step (k : ℕ) (hk : k < 32) (i : Fin 32) (h : Fin 8) (r d : Fin 128) :
    atS (at2 m (k + 1) c (Proc.devRef .tc main_v148_7)) i h r d
      = if i = nth (31 - k) then chunk2 m c h i r d else atS (at2 m k c (Proc.devRef .tc main_v148_7)) i h r d := by
  have hc := at2_ctr m c k
  rw [show at2 m (k + 1) c = afterL body2 (after cond2 (at2 m k c)) from rfl]
  simp only [afterL_cons, afterL_nil]
  have hn := num2_read (after cond2 (at2 m k c)) k hk (by rw [cond2_keep _ main_v148_6, hc])
  generalize hX : after while2_body_s0 (after cond2 (at2 m k c)) = X at hn ⊢
  have hkeep : ∀ b : Ref sig .tc, b ∉ while2_body_s0_W → b ∉ cond2_W → b ∉ body2_W →
      X (Proc.devRef .tc b) = in2 m c (Proc.devRef .tc b) := fun b h0 h1 h2 => by
    rw [← hX, while2_body_s0_keep _ b h0, cond2_keep _ b h1, at2_keep m c b h1 h2]
  rw [grad2_copy, put2_read _ k hk (by
    rw [while2_body_s5_keep _ main_while2b_v166, while2_body_s4_keep _ main_while2b_v166, while2_body_s3_keep _ main_while2b_v166,
      while2_body_s2_keep _ main_while2b_v166, while2_body_s1_keep _ main_while2b_v166, hn])]
  rw [while2_body_s5_keep _ main_v148_7, while2_body_s4_keep _ main_v148_7, while2_body_s3_keep _ main_v148_7, while2_body_s2_keep _ main_v148_7,
    while2_body_s1_keep _ main_v148_7, ← hX, while2_body_s0_keep _ main_v148_7, cond2_keep _ main_v148_7, hX]
  by_cases e : i = nth (31 - k)
  · rw [if_pos e, if_pos e, step2_read, while2_body_s4_keep _ main_v148_5, while2_body_s3_keep _ main_v148_5, while2_body_s2_keep _ main_v148_5,
      while2_body_s1_keep _ main_v148_5, hkeep main_v148_5 (by decide +kernel) (by decide +kernel) (by decide +kernel)]
    rw [while2_body_s4_keep _ main_v148_4, while2_body_s3_keep _ main_v148_4, while2_body_s2_keep _ main_v148_4,
      while2_body_s1_keep _ main_v148_4, hkeep main_v148_4 (by decide +kernel) (by decide +kernel) (by decide +kernel)]
    rw [while2_body_s4_keep _ main_while2b_v167, while2_body_s3_keep _ main_while2b_v167, while2_body_s2_keep _ main_while2b_v167,
      while2_body_s4_keep _ main_while2b_v168, while2_body_s3_keep _ main_while2b_v168, while2_body_s4_keep _ main_while2b_v169]
    have e0 : ∀ p j, atH (after while2_body_s1 X (Proc.devRef .tc main_while2b_v167)) h p j = atS (in2 m c (Proc.devRef .tc main_v148_0)) i h p j :=
      fun p j => by
        rw [g2_read _ k hk hn, hkeep main_v148_0 (by decide +kernel) (by decide +kernel) (by decide +kernel), ← e]
    have e1 : ∀ p j, atH (after while2_body_s2 (after while2_body_s1 X) (Proc.devRef .tc main_while2b_v168)) h p j
        = atS (in2 m c (Proc.devRef .tc main_v148_1)) i h p j := fun p j => by
      rw [k2_read _ k hk (by rw [while2_body_s1_keep _ main_while2b_v166, hn]), while2_body_s1_keep _ main_v148_1,
        hkeep main_v148_1 (by decide +kernel) (by decide +kernel) (by decide +kernel), ← e]
    have e2 : ∀ p j, atH (after while2_body_s3 (after while2_body_s2 (after while2_body_s1 X)) (Proc.devRef .tc main_while2b_v169)) h p j
        = atS (in2 m c (Proc.devRef .tc main_v148_2)) i h p j := fun p j => by
      rw [v2_read _ k hk (by rw [while2_body_s2_keep _ main_while2b_v166, while2_body_s1_keep _ main_while2b_v166, hn]),
        while2_body_s2_keep _ main_v148_2, while2_body_s1_keep _ main_v148_2,
        hkeep main_v148_2 (by decide +kernel) (by decide +kernel) (by decide +kernel), ← e]
    have e3 : ∀ p j, atH (after while2_body_s4 (after while2_body_s3 (after while2_body_s2 (after while2_body_s1 X)))
        (Proc.devRef .tc main_while2b_v170)) h p j = atS (in2 m c (Proc.devRef .tc main_v148_3)) i h p j := fun p j => by
      rw [s2_read _ k hk (by rw [while2_body_s3_keep _ main_while2b_v166, while2_body_s2_keep _ main_while2b_v166, while2_body_s1_keep _ main_while2b_v166, hn]),
        while2_body_s3_keep _ main_v148_3, while2_body_s2_keep _ main_v148_3, while2_body_s1_keep _ main_v148_3,
        hkeep main_v148_3 (by decide +kernel) (by decide +kernel) (by decide +kernel), ← e]
    simp only [e0, e1, e2, e3]
    rfl
  · rw [if_neg e, if_neg e]

/-- After `k` trips the last `k` chunks are in place. -/
theorem grads2 (h : Fin 8) (k : ℕ) (hk : k ≤ 32) (i : Fin 32) (hi : 32 - k ≤ i.val) (r d : Fin 128) :
    atS (at2 m k c (Proc.devRef .tc main_v148_7)) i h r d = chunk2 m c h i r d := by
  induction k with
  | zero => exact absurd i.isLt (by omega)
  | succ k ih =>
    rw [grad2_step m c k (by omega)]
    by_cases e : i = nth (31 - k)
    · rw [if_pos e]
    · rw [if_neg e]
      refine ih (by omega) ?_
      by_contra hlt
      exact e (Fin.ext (by show i.val = (31 - k) % 32; rw [Nat.mod_eq_of_lt (by omega)]; omega))

/-! ### Loop 3: the chunks of the gradient, from the last to the first -/

theorem num3_read (n : ℕ) (hn : n < 32) (hV : (V (Proc.devRef .tc main_v155_6) : Vec Ideal S_ .i32) = fun _ => Scf.iv 0#32 1#32 n) :
    (after while3_body_s0 V (Proc.devRef .tc main_while3b_v166) : Vec Ideal S_ .i32)
      = fun _ => IntOp.subi (IntOp.subi 32#32 (Scf.iv 0#32 1#32 n)) 1#32 := by
  entry_read
  rw [hV]
  rfl

theorem g3_read (n : ℕ) (hn : n < 32) (hV : (V (Proc.devRef .tc main_while3b_v166) : Vec Ideal S_ .i32) = fun _ => IntOp.subi (IntOp.subi 32#32 (Scf.iv 0#32 1#32 n)) 1#32)
    (h : Fin 8) (p j : Fin 128) :
    atH (after while3_body_s1 V (Proc.devRef .tc main_while3b_v167)) h p j = atS (V (Proc.devRef .tc main_v155_0)) (nth (31 - n)) h p j := by
  after_reads_simp [unaryIndexed_result_read, binaryIndexed_result_read, indexContents_tref_cons, indexContents_tref_empty]
  refine pick (V (Proc.devRef .tc main_v155_0)) _ (nth (31 - n)) h p j ?_
  refine start_of _ (31 - n) (by omega) ?_ rfl rfl rfl rfl
  exact (congrArg BitVec.toInt (congrFun hV _)).trans (down_of n hn)

theorem k3_read (n : ℕ) (hn : n < 32) (hV : (V (Proc.devRef .tc main_while3b_v166) : Vec Ideal S_ .i32) = fun _ => IntOp.subi (IntOp.subi 32#32 (Scf.iv 0#32 1#32 n)) 1#32)
    (h : Fin 8) (p j : Fin 128) :
    atH (after while3_body_s2 V (Proc.devRef .tc main_while3b_v168)) h p j = atS (V (Proc.devRef .tc main_v155_1)) (nth (31 - n)) h p j := by
  after_reads_simp [unaryIndexed_result_read, binaryIndexed_result_read, indexContents_tref_cons, indexContents_tref_empty]
  refine pick (V (Proc.devRef .tc main_v155_1)) _ (nth (31 - n)) h p j ?_
  refine start_of _ (31 - n) (by omega) ?_ rfl rfl rfl rfl
  exact (congrArg BitVec.toInt (congrFun hV _)).trans (down_of n hn)

theorem v3_read (n : ℕ) (hn : n < 32) (hV : (V (Proc.devRef .tc main_while3b_v166) : Vec Ideal S_ .i32) = fun _ => IntOp.subi (IntOp.subi 32#32 (Scf.iv 0#32 1#32 n)) 1#32)
    (h : Fin 8) (p j : Fin 128) :
    atH (after while3_body_s3 V (Proc.devRef .tc main_while3b_v169)) h p j = atS (V (Proc.devRef .tc main_v155_2)) (nth (31 - n)) h p j := by
  after_reads_simp [unaryIndexed_result_read, binaryIndexed_result_read, indexContents_tref_cons, indexContents_tref_empty]
  refine pick (V (Proc.devRef .tc main_v155_2)) _ (nth (31 - n)) h p j ?_
  refine start_of _ (31 - n) (by omega) ?_ rfl rfl rfl rfl
  exact (congrArg BitVec.toInt (congrFun hV _)).trans (down_of n hn)

theorem s3_read (n : ℕ) (hn : n < 32) (hV : (V (Proc.devRef .tc main_while3b_v166) : Vec Ideal S_ .i32) = fun _ => IntOp.subi (IntOp.subi 32#32 (Scf.iv 0#32 1#32 n)) 1#32)
    (h : Fin 8) (p j : Fin 128) :
    atH (after while3_body_s4 V (Proc.devRef .tc main_while3b_v170)) h p j = atS (V (Proc.devRef .tc main_v155_3)) (nth (31 - n)) h p j := by
  after_reads_simp [unaryIndexed_result_read, binaryIndexed_result_read, indexContents_tref_cons, indexContents_tref_empty]
  refine pick (V (Proc.devRef .tc main_v155_3)) _ (nth (31 - n)) h p j ?_
  refine start_of _ (31 - n) (by omega) ?_ rfl rfl rfl rfl
  exact (congrArg BitVec.toInt (congrFun hV _)).trans (down_of n hn)

theorem step3_read (h : Fin 8) (r d : Fin 128) :
    atH (after while3_body_s5 V (Proc.devRef .tc main_while3b_v177)) h r d
      = part (fun d e => atH (V (Proc.devRef .tc main_while3b_v170)) h d e) (atR (V (Proc.devRef .tc main_v155_5)) h r)
        (fun j => atH (V (Proc.devRef .tc main_v155_4)) h r j) (fun e => atH (V (Proc.devRef .tc main_while3b_v167)) h r e)
        (fun j e => atH (V (Proc.devRef .tc main_while3b_v169)) h j e) (fun j d => atH (V (Proc.devRef .tc main_while3b_v168)) h j d) d := by
  unfold part atH atR
  entry_read
  pointwise

theorem put3_read (n : ℕ) (hn : n < 32) (hV : (V (Proc.devRef .tc main_while3b_v166) : Vec Ideal S_ .i32) = fun _ => IntOp.subi (IntOp.subi 32#32 (Scf.iv 0#32 1#32 n)) 1#32)
    (i : Fin 32) (h : Fin 8) (p j : Fin 128) :
    atS (after while3_body_s6 V (Proc.devRef .tc main_while3b_v178)) i h p j
      = if i = nth (31 - n) then atH (V (Proc.devRef .tc main_while3b_v177)) h p j else atS (V (Proc.devRef .tc main_v155_7)) i h p j := by
  after_reads_simp [unaryIndexed_result_read, binaryIndexed_result_read, indexContents_tref_cons, indexContents_tref_empty]
  refine put (V (Proc.devRef .tc main_v155_7)) (V (Proc.devRef .tc main_while3b_v177)) _ (nth (31 - n)) i h p j ?_
  refine start_of _ (31 - n) (by omega) ?_ rfl rfl rfl rfl
  exact (congrArg BitVec.toInt (congrFun hV _)).trans (down_of n hn)

theorem grad3_copy : after while3_body_s7 V (Proc.devRef .tc main_v155_7) = V (Proc.devRef .tc main_while3b_v178) := by
  entry_read
  rfl

/-- One chunk of the gradient, from what loop 3 finds. -/
def chunk3 (h : Fin 8) (i : Fin 32) (r d : Fin 128) : EReal :=
  part (fun d e => atS (in3 m c (Proc.devRef .tc main_v155_3)) i h d e) (atR (in3 m c (Proc.devRef .tc main_v155_5)) h r)
    (fun j => atH (in3 m c (Proc.devRef .tc main_v155_4)) h r j) (fun e => atS (in3 m c (Proc.devRef .tc main_v155_0)) i h r e)
    (fun j e => atS (in3 m c (Proc.devRef .tc main_v155_2)) i h j e) (fun j d => atS (in3 m c (Proc.devRef .tc main_v155_1)) i h j d) d

theorem grad3_step (k : ℕ) (hk : k < 32) (i : Fin 32) (h : Fin 8) (r d : Fin 128) :
    atS (at3 m (k + 1) c (Proc.devRef .tc main_v155_7)) i h r d
      = if i = nth (31 - k) then chunk3 m c h i r d else atS (at3 m k c (Proc.devRef .tc main_v155_7)) i h r d := by
  have hc := at3_ctr m c k
  rw [show at3 m (k + 1) c = afterL body3 (after cond3 (at3 m k c)) from rfl]
  simp only [afterL_cons, afterL_nil]
  have hn := num3_read (after cond3 (at3 m k c)) k hk (by rw [cond3_keep _ main_v155_6, hc])
  generalize hX : after while3_body_s0 (after cond3 (at3 m k c)) = X at hn ⊢
  have hkeep : ∀ b : Ref sig .tc, b ∉ while3_body_s0_W → b ∉ cond3_W → b ∉ body3_W →
      X (Proc.devRef .tc b) = in3 m c (Proc.devRef .tc b) := fun b h0 h1 h2 => by
    rw [← hX, while3_body_s0_keep _ b h0, cond3_keep _ b h1, at3_keep m c b h1 h2]
  rw [grad3_copy, put3_read _ k hk (by
    rw [while3_body_s5_keep _ main_while3b_v166, while3_body_s4_keep _ main_while3b_v166, while3_body_s3_keep _ main_while3b_v166,
      while3_body_s2_keep _ main_while3b_v166, while3_body_s1_keep _ main_while3b_v166, hn])]
  rw [while3_body_s5_keep _ main_v155_7, while3_body_s4_keep _ main_v155_7, while3_body_s3_keep _ main_v155_7, while3_body_s2_keep _ main_v155_7,
    while3_body_s1_keep _ main_v155_7, ← hX, while3_body_s0_keep _ main_v155_7, cond3_keep _ main_v155_7, hX]
  by_cases e : i = nth (31 - k)
  · rw [if_pos e, if_pos e, step3_read, while3_body_s4_keep _ main_v155_5, while3_body_s3_keep _ main_v155_5, while3_body_s2_keep _ main_v155_5,
      while3_body_s1_keep _ main_v155_5, hkeep main_v155_5 (by decide +kernel) (by decide +kernel) (by decide +kernel)]
    rw [while3_body_s4_keep _ main_v155_4, while3_body_s3_keep _ main_v155_4, while3_body_s2_keep _ main_v155_4,
      while3_body_s1_keep _ main_v155_4, hkeep main_v155_4 (by decide +kernel) (by decide +kernel) (by decide +kernel)]
    rw [while3_body_s4_keep _ main_while3b_v167, while3_body_s3_keep _ main_while3b_v167, while3_body_s2_keep _ main_while3b_v167,
      while3_body_s4_keep _ main_while3b_v168, while3_body_s3_keep _ main_while3b_v168, while3_body_s4_keep _ main_while3b_v169]
    have e0 : ∀ p j, atH (after while3_body_s1 X (Proc.devRef .tc main_while3b_v167)) h p j = atS (in3 m c (Proc.devRef .tc main_v155_0)) i h p j :=
      fun p j => by
        rw [g3_read _ k hk hn, hkeep main_v155_0 (by decide +kernel) (by decide +kernel) (by decide +kernel), ← e]
    have e1 : ∀ p j, atH (after while3_body_s2 (after while3_body_s1 X) (Proc.devRef .tc main_while3b_v168)) h p j
        = atS (in3 m c (Proc.devRef .tc main_v155_1)) i h p j := fun p j => by
      rw [k3_read _ k hk (by rw [while3_body_s1_keep _ main_while3b_v166, hn]), while3_body_s1_keep _ main_v155_1,
        hkeep main_v155_1 (by decide +kernel) (by decide +kernel) (by decide +kernel), ← e]
    have e2 : ∀ p j, atH (after while3_body_s3 (after while3_body_s2 (after while3_body_s1 X)) (Proc.devRef .tc main_while3b_v169)) h p j
        = atS (in3 m c (Proc.devRef .tc main_v155_2)) i h p j := fun p j => by
      rw [v3_read _ k hk (by rw [while3_body_s2_keep _ main_while3b_v166, while3_body_s1_keep _ main_while3b_v166, hn]),
        while3_body_s2_keep _ main_v155_2, while3_body_s1_keep _ main_v155_2,
        hkeep main_v155_2 (by decide +kernel) (by decide +kernel) (by decide +kernel), ← e]
    have e3 : ∀ p j, atH (after while3_body_s4 (after while3_body_s3 (after while3_body_s2 (after while3_body_s1 X)))
        (Proc.devRef .tc main_while3b_v170)) h p j = atS (in3 m c (Proc.devRef .tc main_v155_3)) i h p j := fun p j => by
      rw [s3_read _ k hk (by rw [while3_body_s3_keep _ main_while3b_v166, while3_body_s2_keep _ main_while3b_v166, while3_body_s1_keep _ main_while3b_v166, hn]),
        while3_body_s3_keep _ main_v155_3, while3_body_s2_keep _ main_v155_3, while3_body_s1_keep _ main_v155_3,
        hkeep main_v155_3 (by decide +kernel) (by decide +kernel) (by decide +kernel), ← e]
    simp only [e0, e1, e2, e3]
    rfl
  · rw [if_neg e, if_neg e]

/-- After `k` trips the last `k` chunks are in place. -/
theorem grads3 (h : Fin 8) (k : ℕ) (hk : k ≤ 32) (i : Fin 32) (hi : 32 - k ≤ i.val) (r d : Fin 128) :
    atS (at3 m k c (Proc.devRef .tc main_v155_7)) i h r d = chunk3 m c h i r d := by
  induction k with
  | zero => exact absurd i.isLt (by omega)
  | succ k ih =>
    rw [grad3_step m c k (by omega)]
    by_cases e : i = nth (31 - k)
    · rw [if_pos e]
    · rw [if_neg e]
      refine ih (by omega) ?_
      by_contra hlt
      exact e (Fin.ext (by show i.val = (31 - k) % 32; rw [Nat.mod_eq_of_lt (by omega)]; omega))

end Cert.ReferenceIdeal.Host

end
-- ==== Proof.ReferenceReads.lean ====
/-
  What the reference's straight-line stretches compute, entry by entry, over the extended reals.
-/
module

public import proofs.«01_k».proof.Proof.ReferenceLoops

@[expose] public section

noncomputable section

namespace Cert.ReferenceIdeal.Host

open Idealize.ShloMosaic Idealize.ShloMosaic.TcCoe
open Idealize.ShloMosaic.StableHlo
open Cert.ReferenceIdeal Cert.ReferenceIdeal.Gen Cert.Retention

/-- The entries of an array of all tokens per head, of the masks, of a weight per head and token, of a number per head, of a
    number per token. -/
abbrev atT (x : Vec Ideal S1x8x4096x128 .f32) (h : Fin 8) (t : Fin 4096) (p : Fin 128) : EReal := x (ix4 0 h t p)
abbrev atM (x : Vec Ideal S8x128x128 .f32) (h : Fin 8) (p j : Fin 128) : EReal := x (ix3 h p j)
abbrev atW (x : Vec Ideal S8x128x1 .f32) (h : Fin 8) (j : Fin 128) : EReal := x (ix3 h j 0)
abbrev atG (x : Vec Ideal S8 .f32) (h : Fin 8) : EReal := x (ix1 h)
abbrev atE (x : Vec Ideal S8x128 .f32) (h : Fin 8) (j : Fin 128) : EReal := x (ix2 h j)
abbrev atF (x : Vec Ideal S1x128 .f32) (j : Fin 128) : EReal := x (ix2 0 j)
abbrev atJ (x : Vec Ideal S128 .f32) (j : Fin 128) : EReal := x (ix1 j)
/-- Token `j` of chunk `n`. -/
abbrev tok (n : Fin 32) (j : Fin 128) : Fin 4096 := ⟨128 * n.val + j.val, by have := n.isLt; have := j.isLt; omega⟩
/-- Column `p` of head `h`, from column `o` on. -/
abbrev colAt (w o : ℕ) (ho : o + 1024 ≤ w) (h : Fin 8) (p : Fin 128) : Fin w := ⟨o + (128 * h.val + p.val), by have := h.isLt; have := p.isLt; omega⟩

variable (V : Valuation τ sig (Elt Ideal))

/-! ### Up to the first loop -/

theorem r_v9 (h : Fin 8) (t : Fin 4096) (d : Fin 128) : atT (after part0_s0 V (Proc.devRef .tc main_v9)) h t d
    = (V (Proc.devRef .tc main_arg1) : Vec Ideal S4096x7168 .bf16) (ix2 t (colAt 7168 4096 (by decide) h d)) := by
  unfold atT colAt
  entry_read
  pointwise
  simp only [Nat.mul_comm]

theorem r_v14 (h : Fin 8) (t : Fin 4096) (d : Fin 128) : atT (after part0_s0 V (Proc.devRef .tc main_v14)) h t d
    = (V (Proc.devRef .tc main_arg1) : Vec Ideal S4096x7168 .bf16) (ix2 t (colAt 7168 5120 (by decide) h d)) := by
  unfold atT colAt
  entry_read
  pointwise
  simp only [Nat.mul_comm]

theorem r_v20 (h : Fin 8) : atG (after part0_s0 V (Proc.devRef .tc main_v20)) h
    = rate ((V (Proc.devRef .tc main_arg2) : Vec Ideal S1x8 .f32) (ix2 0 h)) := by
  unfold atG rate
  entry_read
  pointwise

theorem r_v22 (h : Fin 8) : atG (after part0_s0 V (Proc.devRef .tc main_v22)) h
    = rate ((V (Proc.devRef .tc main_arg3) : Vec Ideal S1x8 .f32) (ix2 0 h)) := by
  unfold atG rate
  entry_read
  pointwise

theorem r_v23 (j : Fin 128) : atJ (after part0_s0 V (Proc.devRef .tc main_v23)) j = ((j.val : ℝ) : EReal) := by
  rw [← float_fin]
  unfold atJ
  entry_read
  pointwise

theorem r_v30 (p j : Fin 128) : (after part0_s0 V (Proc.devRef .tc main_v30) : Vec Ideal S128x128 .i1) (ix2 p j)
    = BitVec.ofBool (decide ((0 : EReal) ≤ (((p.val : ℝ) - (j.val : ℝ) : ℝ) : EReal))) := by
  entry_read
  pointwise
  rw [float_fin, float_fin, ← EReal.coe_sub]

theorem r_v38 (h : Fin 8) (p j : Fin 128) : atM (after part0_s0 V (Proc.devRef .tc main_v38)) h p j
    = Ideal.exp (rate ((V (Proc.devRef .tc main_arg2) : Vec Ideal S1x8 .f32) (ix2 0 h)) * max (((p.val : ℝ) - (j.val : ℝ) : ℝ) : EReal) 0) := by
  unfold atM rate
  entry_read
  pointwise
  rw [float_fin, float_fin, ← EReal.coe_sub]

theorem r_cst_2 : (after part0_s0 V (Proc.devRef .tc main_cst_2) : Vec Ideal S_ .f32) ix0 = (0 : EReal) := by
  entry_read
  pointwise

theorem r_v39 (h : Fin 8) (p j : Fin 128) : atM (after part0_s1 V (Proc.devRef .tc main_v39)) h p j
    = if (V (Proc.devRef .tc main_v30) : Vec Ideal S128x128 .i1) (ix2 p j) = 1#1 then atM (V (Proc.devRef .tc main_v38)) h p j
      else (V (Proc.devRef .tc main_cst_2) : Vec Ideal S_ .f32) ix0 := by
  entry_read
  exact (by intro b x z; unfold atM; pointwise; rfl : ∀ (b : Vec Ideal S128x128 .i1) (x : Vec Ideal S8x128x128 .f32) (z : Vec Ideal S_ .f32),
    atM (select (broadcastInDim S8x128x128 ![1, 2] bcast_S128x128_S8x128x128_1_2 b) x (broadcastInDim S8x128x128 ![] bcast_S_S8x128x128 z)) h p j
      = if b (ix2 p j) = 1#1 then atM x h p j else z ix0) _ _ _

theorem r_v48 (h : Fin 8) (j : Fin 128) : atW (after part0_s2 V (Proc.devRef .tc main_v48)) h j
    = Ideal.exp (atG (V (Proc.devRef .tc main_v20)) h * (atJ (V (Proc.devRef .tc main_v23)) j + Ideal.ofBits .f32 0x3F800000#32)) := by
  unfold atW atG atJ
  entry_read
  pointwise

theorem r_v53 (h : Fin 8) (j : Fin 128) : atE (after part0_s2 V (Proc.devRef .tc main_v53)) h j
    = atG (V (Proc.devRef .tc main_v20)) h := by
  unfold atE atG
  entry_read
  pointwise

theorem r_v52 (j : Fin 128) : atF (after part0_s2 V (Proc.devRef .tc main_v52)) j
    = Ideal.ofBits .f32 0x42FE0000#32 - atJ (V (Proc.devRef .tc main_v23)) j := by
  unfold atF atJ
  entry_read
  pointwise

theorem r_v66 (n : Fin 32) (h : Fin 8) (j p : Fin 128) : atS (after part1_s0 V (Proc.devRef .tc main_v66)) n h j p
    = atT (V (Proc.devRef .tc main_v9)) h (tok n j) p := by
  unfold atS atT tok
  entry_read
  pointwise
  simp only [Nat.mul_comm]

theorem r_v68 (n : Fin 32) (h : Fin 8) (j p : Fin 128) : atS (after part1_s0 V (Proc.devRef .tc main_v68)) n h j p
    = atT (V (Proc.devRef .tc main_v14)) h (tok n j) p := by
  unfold atS atT tok
  entry_read
  pointwise
  simp only [Nat.mul_comm]

theorem r_v75_1 (n : Fin 32) (h : Fin 8) (j p : Fin 128) : atS (after part1_s0 V (Proc.devRef .tc main_v75_1)) n h j p
    = atT (V (Proc.devRef .tc main_v9)) h (tok n j) p := by
  unfold atS atT tok
  entry_read
  pointwise
  simp only [Nat.mul_comm]

theorem r_v75_2 (n : Fin 32) (h : Fin 8) (j p : Fin 128) : atS (after part1_s0 V (Proc.devRef .tc main_v75_2)) n h j p
    = atT (V (Proc.devRef .tc main_v14)) h (tok n j) p := by
  unfold atS atT tok
  entry_read
  pointwise
  simp only [Nat.mul_comm]

theorem r_v75_3 (h : Fin 8) : atC (after part1_s0 V (Proc.devRef .tc main_v75_3)) h
    = Ideal.exp (atG (V (Proc.devRef .tc main_v20)) h * Ideal.ofBits .f32 0x43000000#32) := by
  unfold atC atG
  entry_read
  pointwise

theorem r_v75_4 (h : Fin 8) (j : Fin 128) : atR (after part1_s0 V (Proc.devRef .tc main_v75_4)) h j
    = Ideal.exp (atE (V (Proc.devRef .tc main_v53)) h j * atF (V (Proc.devRef .tc main_v52)) j) := by
  unfold atR atE atF
  entry_read
  pointwise

theorem r_v75_8 (h : Fin 8) (p q : Fin 128) : atH (after part1_s0 V (Proc.devRef .tc main_v75_8)) h p q = 0 := by
  unfold atH
  entry_read
  pointwise

theorem r_v69 (h : Fin 8) (p j : Fin 128) : atH (after part1_s0 V (Proc.devRef .tc main_v69)) h p j = atM (V (Proc.devRef .tc main_v39)) h p j := by
  unfold atH atM
  entry_read
  pointwise

theorem r_v70 (h : Fin 8) (j : Fin 128) : atR (after part1_s0 V (Proc.devRef .tc main_v70)) h j = atW (V (Proc.devRef .tc main_v48)) h j := by
  unfold atR atW
  entry_read
  pointwise

/-! ### Between the loops of the states -/

theorem r_v79 (h : Fin 8) (t : Fin 4096) (p : Fin 128) : atT (after part1_s4 V (Proc.devRef .tc main_v79)) h t p
    = atT (V (Proc.devRef .tc main_v9)) h t.rev p := by
  unfold atT
  entry_read
  exact (by intro x; pointwise; rfl : ∀ x : Vec Ideal S1x8x4096x128 .f32, Host.reverse [2] x (ix4 0 h t p) = x (ix4 0 h t.rev p)) _

theorem r_v80 (h : Fin 8) (t : Fin 4096) (p : Fin 128) : atT (after part1_s5 V (Proc.devRef .tc main_v80)) h t p
    = atT (V (Proc.devRef .tc main_v14)) h t.rev p := by
  unfold atT
  entry_read
  exact (by intro x; pointwise; rfl : ∀ x : Vec Ideal S1x8x4096x128 .f32, Host.reverse [2] x (ix4 0 h t p) = x (ix4 0 h t.rev p)) _

theorem r_v81 (j : Fin 128) : atJ (after part1_s6 V (Proc.devRef .tc main_v81)) j = ((j.val : ℝ) : EReal) := by
  rw [← float_fin]
  unfold atJ
  entry_read
  pointwise

theorem r_v88 (p j : Fin 128) : (after part1_s6 V (Proc.devRef .tc main_v88) : Vec Ideal S128x128 .i1) (ix2 p j)
    = BitVec.ofBool (decide ((0 : EReal) < (((p.val : ℝ) - (j.val : ℝ) : ℝ) : EReal))) := by
  entry_read
  pointwise
  rw [float_fin, float_fin, ← EReal.coe_sub]

theorem r_v95 (h : Fin 8) (p j : Fin 128) : atM (after part1_s6 V (Proc.devRef .tc main_v95)) h p j
    = atG (V (Proc.devRef .tc main_v22)) h * max (((p.val : ℝ) - (j.val : ℝ) : ℝ) : EReal) 0 := by
  unfold atM atG
  entry_read
  pointwise
  rw [float_fin, float_fin, ← EReal.coe_sub]

theorem r_v96 (h : Fin 8) (p j : Fin 128) : atM (after part2_s0 V (Proc.devRef .tc main_v96)) h p j
    = Ideal.exp (atM (V (Proc.devRef .tc main_v95)) h p j) := by
  unfold atM
  entry_read
  pointwise

theorem r_cst_11 : (after part2_s0 V (Proc.devRef .tc main_cst_11) : Vec Ideal S_ .f32) ix0 = (0 : EReal) := by
  entry_read
  pointwise

theorem r_v97 (h : Fin 8) (p j : Fin 128) : atM (after part2_s1 V (Proc.devRef .tc main_v97)) h p j
    = if (V (Proc.devRef .tc main_v88) : Vec Ideal S128x128 .i1) (ix2 p j) = 1#1 then atM (V (Proc.devRef .tc main_v96)) h p j
      else (V (Proc.devRef .tc main_cst_11) : Vec Ideal S_ .f32) ix0 := by
  entry_read
  exact (by intro b x z; unfold atM; pointwise; rfl : ∀ (b : Vec Ideal S128x128 .i1) (x : Vec Ideal S8x128x128 .f32) (z : Vec Ideal S_ .f32),
    atM (select (broadcastInDim S8x128x128 ![1, 2] bcast_S128x128_S8x128x128_1_2 b) x (broadcastInDim S8x128x128 ![] bcast_S_S8x128x128 z)) h p j
      = if b (ix2 p j) = 1#1 then atM x h p j else z ix0) _ _ _

theorem r_v124 (n : Fin 32) (h : Fin 8) (j p : Fin 128) : atS (after part2_s2 V (Proc.devRef .tc main_v124)) n h j p
    = atT (V (Proc.devRef .tc main_v79)) h (tok n j) p := by
  unfold atS atT tok
  entry_read
  pointwise
  simp only [Nat.mul_comm]

theorem r_v126 (n : Fin 32) (h : Fin 8) (j p : Fin 128) : atS (after part2_s2 V (Proc.devRef .tc main_v126)) n h j p
    = atT (V (Proc.devRef .tc main_v80)) h (tok n j) p := by
  unfold atS atT tok
  entry_read
  pointwise
  simp only [Nat.mul_comm]

theorem r_v133_1 : after part2_s2 V (Proc.devRef .tc main_v133_1) = after part2_s2 V (Proc.devRef .tc main_v124) := by
  after_reads_simp
  rfl

theorem r_v133_2 : after part2_s2 V (Proc.devRef .tc main_v133_2) = after part2_s2 V (Proc.devRef .tc main_v126) := by
  after_reads_simp
  rfl

theorem r_v133_3 (h : Fin 8) : atC (after part2_s2 V (Proc.devRef .tc main_v133_3)) h
    = Ideal.exp (atG (V (Proc.devRef .tc main_v22)) h * Ideal.ofBits .f32 0x43000000#32) := by
  unfold atC atG
  entry_read
  pointwise

theorem r_v133_4 (h : Fin 8) (j : Fin 128) : atR (after part2_s2 V (Proc.devRef .tc main_v133_4)) h j
    = Ideal.exp (atG (V (Proc.devRef .tc main_v22)) h * (Ideal.ofBits .f32 0x42FE0000#32 - atJ (V (Proc.devRef .tc main_v81)) j)) := by
  unfold atR atG atJ
  entry_read
  pointwise

theorem r_v133_8 (h : Fin 8) (p q : Fin 128) : atH (after part2_s2 V (Proc.devRef .tc main_v133_8)) h p q = 0 := by
  unfold atH
  entry_read
  pointwise

theorem r_v127 (h : Fin 8) (p j : Fin 128) : atH (after part2_s2 V (Proc.devRef .tc main_v127)) h p j = atM (V (Proc.devRef .tc main_v97)) h p j := by
  unfold atH atM
  entry_read
  pointwise

theorem r_v128 (h : Fin 8) (j : Fin 128) : atR (after part2_s2 V (Proc.devRef .tc main_v128)) h j
    = Ideal.exp (atG (V (Proc.devRef .tc main_v22)) h * (atJ (V (Proc.devRef .tc main_v81)) j + Ideal.ofBits .f32 0x3F800000#32)) := by
  unfold atR atG atJ
  entry_read
  pointwise

/-! ### Around the loops of the gradient -/

theorem r_v143 (h : Fin 8) (t : Fin 4096) (d : Fin 128) : atT (after part3_s0 V (Proc.devRef .tc main_v143)) h t d
    = (V (Proc.devRef .tc main_arg0) : Vec Ideal S4096x1024 .bf16) (ix2 t ⟨128 * h.val + d.val, by omega⟩) := by
  unfold atT
  entry_read
  pointwise
  simp only [Nat.mul_comm]

theorem r_v144 (h : Fin 8) (t : Fin 4096) (p : Fin 128) : atT (after part3_s1 V (Proc.devRef .tc main_v144)) h t p
    = atT (V (Proc.devRef .tc main_v143)) h t.rev p := by
  unfold atT
  entry_read
  exact (by intro x; pointwise; rfl : ∀ x : Vec Ideal S1x8x4096x128 .f32, Host.reverse [2] x (ix4 0 h t p) = x (ix4 0 h t.rev p)) _

theorem r_v148_0 (n : Fin 32) (h : Fin 8) (j p : Fin 128) : atS (after part3_s2 V (Proc.devRef .tc main_v148_0)) n h j p
    = atT (V (Proc.devRef .tc main_v144)) h (tok n j) p := by
  unfold atS atT tok
  entry_read
  pointwise
  simp only [Nat.mul_comm]

theorem r_v148 : after part3_s2 V (Proc.devRef .tc main_v148_1) = V (Proc.devRef .tc main_v124)
    ∧ after part3_s2 V (Proc.devRef .tc main_v148_2) = V (Proc.devRef .tc main_v126)
    ∧ after part3_s2 V (Proc.devRef .tc main_v148_3) = V (Proc.devRef .tc main_v133_10)
    ∧ after part3_s2 V (Proc.devRef .tc main_v148_4) = V (Proc.devRef .tc main_v127)
    ∧ after part3_s2 V (Proc.devRef .tc main_v148_5) = V (Proc.devRef .tc main_v128) := by
  refine ⟨?_, ?_, ?_, ?_, ?_⟩ <;> (after_reads_simp; rfl)

theorem r_v150 (n : Fin 32) (h : Fin 8) (j p : Fin 128) : atT (after part3_s4 V (Proc.devRef .tc main_v150)) h (tok n j) p
    = atS (V (Proc.devRef .tc main_v148_7)) n h j p := by
  unfold atS atT tok
  entry_read
  pointwise

theorem r_v151 (h : Fin 8) (t : Fin 4096) (p : Fin 128) : atT (after part3_s5 V (Proc.devRef .tc main_v151)) h t p
    = atT (V (Proc.devRef .tc main_v150)) h t.rev p := by
  unfold atT
  entry_read
  exact (by intro x; pointwise; rfl : ∀ x : Vec Ideal S1x8x4096x128 .f32, Host.reverse [2] x (ix4 0 h t p) = x (ix4 0 h t.rev p)) _

theorem r_v155_0 (n : Fin 32) (h : Fin 8) (j p : Fin 128) : atS (after part3_s6 V (Proc.devRef .tc main_v155_0)) n h j p
    = atT (V (Proc.devRef .tc main_v143)) h (tok n j) p := by
  unfold atS atT tok
  entry_read
  pointwise
  simp only [Nat.mul_comm]

theorem r_v155 : after part3_s6 V (Proc.devRef .tc main_v155_1) = V (Proc.devRef .tc main_v66)
    ∧ after part3_s6 V (Proc.devRef .tc main_v155_2) = V (Proc.devRef .tc main_v68)
    ∧ after part3_s6 V (Proc.devRef .tc main_v155_3) = V (Proc.devRef .tc main_v75_10)
    ∧ after part3_s6 V (Proc.devRef .tc main_v155_4) = V (Proc.devRef .tc main_v69)
    ∧ after part3_s6 V (Proc.devRef .tc main_v155_5) = V (Proc.devRef .tc main_v70) := by
  refine ⟨?_, ?_, ?_, ?_, ?_⟩ <;> (after_reads_simp; rfl)

theorem r_v164 (n : Fin 32) (r : Fin 128) (h : Fin 8) (d : Fin 128) :
    (after part3_s8 V (Proc.devRef .tc main_v164) : Vec Ideal S4096x1024 .bf16) (ix2 (tok n r) ⟨128 * h.val + d.val, by omega⟩)
      = (atT (V (Proc.devRef .tc main_v151)) h (tok n r) d + atS (V (Proc.devRef .tc main_v155_7)) n h r d) * Ideal.ofBits .f32 0x3DB504F3#32 := by
  unfold atT atS tok
  entry_read
  pointwise
  simp only [show (128 * n.val + r.val) / 128 = n.val by omega, show (128 * n.val + r.val) % 128 = r.val by omega]

end Cert.ReferenceIdeal.Host

end
-- ==== Proof.ReferenceValue.lean ====
/-
  The reference's whole result over the extended reals: what its four loops find and leave, and the one number each entry
  of the result comes to.
-/
module

public import proofs.«01_k».proof.Proof.ReferenceReads

@[expose] public section

noncomputable section

namespace Cert.ReferenceIdeal.Result

open Idealize.ShloMosaic Idealize.ShloMosaic.TcCoe
open Idealize.ShloMosaic.StableHlo
open Cert.ReferenceIdeal Cert.ReferenceIdeal.Gen Cert.ReferenceIdeal.Host Cert.Retention

variable (m : (ℓ : Loc nD τ sig) → Buf (Elt Ideal) ℓ) (c : Dev nD)

/-- The four arguments at their entries. -/
def arg0 (t : Fin 4096) (x : Fin 1024) : EReal := (m ((c.tc : Thread nD τ).loc main_arg0) : Vec Ideal S4096x1024 .bf16) (ix2 t x)
def arg1 (t : Fin 4096) (x : Fin 7168) : EReal := (m ((c.tc : Thread nD τ).loc main_arg1) : Vec Ideal S4096x7168 .bf16) (ix2 t x)
def arg2 (h : Fin 8) : EReal := (m ((c.tc : Thread nD τ).loc main_arg2) : Vec Ideal S1x8 .f32) (ix2 0 h)
def arg3 (h : Fin 8) : EReal := (m ((c.tc : Thread nD τ).loc main_arg3) : Vec Ideal S1x8 .f32) (ix2 0 h)

/-- The chunks of a head's incoming gradient, values and keys, and its two rates. -/
def gs (h : Fin 8) : ℕ → Fin 128 → Fin 128 → EReal := chunks (arg0 m c) (128 * h.val) (by have := h.isLt; omega)
def vs (h : Fin 8) : ℕ → Fin 128 → Fin 128 → EReal := chunks (arg1 m c) (5120 + 128 * h.val) (by have := h.isLt; omega)
def ks (h : Fin 8) : ℕ → Fin 128 → Fin 128 → EReal := chunks (arg1 m c) (4096 + 128 * h.val) (by have := h.isLt; omega)
def lf (h : Fin 8) : EReal := rate (arg2 m c h)
def lb (h : Fin 8) : EReal := rate (arg3 m c h)

theorem of_true (a : Prop) [Decidable a] (x y : EReal) : (if BitVec.ofBool (decide a) = 1#1 then x else y) = if a then x else y := by
  by_cases h : a <;> simp [h]

/-! ### What the first loop finds -/

theorem key (h : Fin 8) (t : Fin 4096) (d : Fin 128) : atT (in0 m c (Proc.devRef .tc main_v9)) h t d
    = arg1 m c t (colAt 7168 4096 (by decide) h d) := by
  unfold in0 host0
  simp only [afterL_cons, afterL_nil]
  rw [part1_s0_keep _ main_v9, part0_s2_keep _ main_v9, part0_s1_keep _ main_v9]
  exact r_v9 _ h t d

theorem val (h : Fin 8) (t : Fin 4096) (d : Fin 128) : atT (in0 m c (Proc.devRef .tc main_v14)) h t d
    = arg1 m c t (colAt 7168 5120 (by decide) h d) := by
  unfold in0 host0
  simp only [afterL_cons, afterL_nil]
  rw [part1_s0_keep _ main_v14, part0_s2_keep _ main_v14, part0_s1_keep _ main_v14]
  exact r_v14 _ h t d

theorem back_rate (h : Fin 8) : atG (in0 m c (Proc.devRef .tc main_v22)) h = lb m c h := by
  unfold in0 host0
  simp only [afterL_cons, afterL_nil]
  rw [part1_s0_keep _ main_v22, part0_s2_keep _ main_v22, part0_s1_keep _ main_v22]
  exact r_v22 _ h

theorem key_chunk (h : Fin 8) (n : ℕ) (j p : Fin 128) :
    arg1 m c (tok (nth n) j) (colAt 7168 4096 (by decide) h p) = ks m c h n j p := by
  unfold ks chunks
  congr 1
  · apply Fin.ext
    show 128 * (n % 32) + j.val = (128 * n + j.val) % 4096
    omega
  · apply Fin.ext
    show 4096 + (128 * h.val + p.val) = 4096 + 128 * h.val + p.val
    omega

theorem val_chunk (h : Fin 8) (n : ℕ) (j p : Fin 128) :
    arg1 m c (tok (nth n) j) (colAt 7168 5120 (by decide) h p) = vs m c h n j p := by
  unfold vs chunks
  congr 1
  · apply Fin.ext
    show 128 * (n % 32) + j.val = (128 * n + j.val) % 4096
    omega
  · apply Fin.ext
    show 5120 + (128 * h.val + p.val) = 5120 + 128 * h.val + p.val
    omega

theorem in0_k (h : Fin 8) : k0 m c h = ks m c h := by
  funext n j p
  rw [← key_chunk]
  unfold k0 in0 host0
  simp only [afterL_cons, afterL_nil]
  rw [r_v75_1, part0_s2_keep _ main_v9, part0_s1_keep _ main_v9]
  exact r_v9 _ h _ p

theorem in0_v (h : Fin 8) : v0 m c h = vs m c h := by
  funext n j p
  rw [← val_chunk]
  unfold v0 in0 host0
  simp only [afterL_cons, afterL_nil]
  rw [r_v75_2, part0_s2_keep _ main_v14, part0_s1_keep _ main_v14]
  exact r_v14 _ h _ p

theorem in0_w (h : Fin 8) : w0 m c h = dec (lf m c h) 128 := by
  unfold w0 in0 host0
  simp only [afterL_cons, afterL_nil]
  rw [r_v75_3, part0_s2_keep _ main_v20, part0_s1_keep _ main_v20, r_v20, bits_128]
  exact dec_of (by norm_num)

theorem in0_u (h : Fin 8) (j : Fin 128) : u0 m c h j = dec (lf m c h) (127 - j.val) := by
  unfold u0 in0 host0
  simp only [afterL_cons, afterL_nil]
  rw [r_v75_4, r_v53, r_v52, part0_s1_keep _ main_v20, part0_s1_keep _ main_v23, r_v20, r_v23, bits_127, ← EReal.coe_sub]
  exact dec_of (by have := j.isLt; rw [Nat.cast_sub (by omega)]; norm_num)

theorem in0_z (h : Fin 8) (p q : Fin 128) : atH (in0 m c (Proc.devRef .tc main_v75_8)) h p q = 0 := by
  unfold in0 host0
  simp only [afterL_cons, afterL_nil]
  exact r_v75_8 _ h p q

theorem in0_mask (h : Fin 8) (p j : Fin 128) : atH (in0 m c (Proc.devRef .tc main_v69)) h p j = back false (lf m c h) p j := by
  unfold in0 host0
  simp only [afterL_cons, afterL_nil]
  rw [r_v69, part0_s2_keep _ main_v39, r_v39, r_v30, r_v38, r_cst_2, of_true]
  exact back_of_le _ p j

theorem in0_q (h : Fin 8) (j : Fin 128) : atR (in0 m c (Proc.devRef .tc main_v70)) h j = dec (lf m c h) (j.val + 1) := by
  unfold in0 host0
  simp only [afterL_cons, afterL_nil]
  rw [r_v70, r_v48, part0_s1_keep _ main_v20, part0_s1_keep _ main_v23, r_v20, r_v23, bits_1, ← EReal.coe_add]
  exact dec_of (by norm_num)

theorem in0_v66 (n : Fin 32) (h : Fin 8) (j p : Fin 128) : atS (in0 m c (Proc.devRef .tc main_v66)) n h j p = ks m c h n.val j p := by
  rw [← key_chunk]
  unfold in0 host0
  simp only [afterL_cons, afterL_nil]
  rw [r_v66, part0_s2_keep _ main_v9, part0_s1_keep _ main_v9, r_v9, show nth n.val = n from Fin.ext (Nat.mod_eq_of_lt n.isLt)]
  rfl

theorem in0_v68 (n : Fin 32) (h : Fin 8) (j p : Fin 128) : atS (in0 m c (Proc.devRef .tc main_v68)) n h j p = vs m c h n.val j p := by
  rw [← val_chunk]
  unfold in0 host0
  simp only [afterL_cons, afterL_nil]
  rw [r_v68, part0_s2_keep _ main_v14, part0_s1_keep _ main_v14, r_v14, show nth n.val = n from Fin.ext (Nat.mod_eq_of_lt n.isLt)]
  rfl

/-- The states the first loop leaves: each chunk's, before the chunk itself is added. -/
theorem out0_state (n : Fin 32) (h : Fin 8) (d e : Fin 128) : atS (out0 m c (Proc.devRef .tc main_v75_10)) n h d e
    = st (dec (lf m c h) 128) (fun j => dec (lf m c h) (127 - j.val)) (vs m c h) (ks m c h) n.val e d := by
  unfold out0
  rw [cond0_keep _ main_v75_10, (states0 m c h (in0_z m c h) 32 (le_refl _)).2 n n.isLt d e, in0_k, in0_v, in0_w, st_swap,
    show u0 m c h = _ from funext (in0_u m c h)]

/-! ### What the second loop finds -/

theorem rev_tok (n : Fin 32) (j : Fin 128) : (tok n j).rev = tok n.rev j.rev := by
  apply Fin.ext
  have := n.isLt
  have := j.isLt
  simp only [Fin.val_rev]
  omega

theorem nth_rev (n : ℕ) (hn : n < 32) : (nth n).rev = nth (31 - n) := by
  apply Fin.ext
  simp only [Fin.val_rev, nth]
  omega

theorem in1_v79 (h : Fin 8) (n : Fin 32) (j p : Fin 128) : atT (afterL [part1_s2, part1_s3, part1_s4] (out0 m c) (Proc.devRef .tc main_v79)) h (tok n j) p
    = ks m c h (31 - n.val) j.rev p := by
  simp only [afterL_cons, afterL_nil]
  rw [r_v79, part1_s3_keep _ main_v9, part1_s2_keep _ main_v9, out0_keep m c main_v9, key, rev_tok, ← key_chunk]
  congr 2
  apply Fin.ext
  have := n.isLt
  simp only [Fin.val_rev, nth]
  omega

theorem in1_v80 (h : Fin 8) (n : Fin 32) (j p : Fin 128) : atT (afterL [part1_s2, part1_s3, part1_s4, part1_s5] (out0 m c) (Proc.devRef .tc main_v80)) h (tok n j) p
    = vs m c h (31 - n.val) j.rev p := by
  simp only [afterL_cons, afterL_nil]
  rw [r_v80, part1_s4_keep _ main_v14, part1_s3_keep _ main_v14, part1_s2_keep _ main_v14, out0_keep m c main_v14, val, rev_tok, ← val_chunk]
  congr 2
  apply Fin.ext
  have := n.isLt
  simp only [Fin.val_rev, nth]
  omega

theorem in1_v124 (n : Fin 32) (h : Fin 8) (j p : Fin 128) : atS (in1 m c (Proc.devRef .tc main_v124)) n h j p = ks m c h (31 - n.val) j.rev p := by
  rw [← in1_v79]
  unfold in1 host1
  simp only [afterL_cons, afterL_nil]
  rw [r_v124, part2_s1_keep _ main_v79, part2_s0_keep _ main_v79, part1_s6_keep _ main_v79, part1_s5_keep _ main_v79]

theorem in1_v126 (n : Fin 32) (h : Fin 8) (j p : Fin 128) : atS (in1 m c (Proc.devRef .tc main_v126)) n h j p = vs m c h (31 - n.val) j.rev p := by
  rw [← in1_v80]
  unfold in1 host1
  simp only [afterL_cons, afterL_nil]
  rw [r_v126, part2_s1_keep _ main_v80, part2_s0_keep _ main_v80, part1_s6_keep _ main_v80]

theorem in1_k (h : Fin 8) (n : ℕ) (hn : n < 32) : k1 m c h n = fun j => ks m c h (31 - n) j.rev := by
  funext j p
  have e := in1_v124 m c (nth n) h j p
  rw [show (nth n).val = n from Nat.mod_eq_of_lt hn] at e
  rw [← e]
  unfold k1 in1 host1
  simp only [afterL_cons, afterL_nil]
  rw [r_v133_1]

theorem in1_v (h : Fin 8) (n : ℕ) (hn : n < 32) : v1 m c h n = fun j => vs m c h (31 - n) j.rev := by
  funext j p
  have e := in1_v126 m c (nth n) h j p
  rw [show (nth n).val = n from Nat.mod_eq_of_lt hn] at e
  rw [← e]
  unfold v1 in1 host1
  simp only [afterL_cons, afterL_nil]
  rw [r_v133_2]

/-- The backward rate reaches the stretches before the second loop. -/
theorem mid_rate (h : Fin 8) : atG (afterL [part1_s2, part1_s3, part1_s4, part1_s5] (out0 m c) (Proc.devRef .tc main_v22)) h = lb m c h := by
  simp only [afterL_cons, afterL_nil]
  rw [part1_s5_keep _ main_v22, part1_s4_keep _ main_v22, part1_s3_keep _ main_v22, part1_s2_keep _ main_v22, out0_keep m c main_v22, back_rate]

theorem in1_w (h : Fin 8) : w1 m c h = dec (lb m c h) 128 := by
  have e := mid_rate m c h
  unfold w1 in1 host1
  simp only [afterL_cons, afterL_nil] at e ⊢
  rw [r_v133_3, part2_s1_keep _ main_v22, part2_s0_keep _ main_v22, part1_s6_keep _ main_v22, e, bits_128]
  exact dec_of (by norm_num)

theorem in1_u (h : Fin 8) (j : Fin 128) : u1 m c h j = dec (lb m c h) (127 - j.val) := by
  have e := mid_rate m c h
  unfold u1 in1 host1
  simp only [afterL_cons, afterL_nil] at e ⊢
  rw [r_v133_4, part2_s1_keep _ main_v22, part2_s0_keep _ main_v22, part1_s6_keep _ main_v22, e, part2_s1_keep _ main_v81, part2_s0_keep _ main_v81,
    r_v81, bits_127, ← EReal.coe_sub]
  exact dec_of (by have := j.isLt; rw [Nat.cast_sub (by omega)]; norm_num)

theorem in1_z (h : Fin 8) (p q : Fin 128) : atH (in1 m c (Proc.devRef .tc main_v133_8)) h p q = 0 := by
  unfold in1 host1
  simp only [afterL_cons, afterL_nil]
  exact r_v133_8 _ h p q

theorem in1_mask (h : Fin 8) (p j : Fin 128) : atH (in1 m c (Proc.devRef .tc main_v127)) h p j = back true (lb m c h) p j := by
  have e := mid_rate m c h
  unfold in1 host1
  simp only [afterL_cons, afterL_nil] at e ⊢
  rw [r_v127, r_v97, part2_s0_keep _ main_v88, r_v88, r_v96, r_v95, r_cst_11, e, of_true]
  exact back_of_lt _ p j

theorem in1_q (h : Fin 8) (j : Fin 128) : atR (in1 m c (Proc.devRef .tc main_v128)) h j = dec (lb m c h) (j.val + 1) := by
  have e := mid_rate m c h
  unfold in1 host1
  simp only [afterL_cons, afterL_nil] at e ⊢
  rw [r_v128, part2_s1_keep _ main_v22, part2_s0_keep _ main_v22, part1_s6_keep _ main_v22, e, part2_s1_keep _ main_v81, part2_s0_keep _ main_v81,
    r_v81, bits_1, ← EReal.coe_add]
  exact dec_of (by norm_num)

/-- The states the second loop leaves, read from the last chunk back. -/
theorem out1_state (n : Fin 32) (h : Fin 8) (d e : Fin 128) : atS (out1 m c (Proc.devRef .tc main_v133_10)) n h d e
    = st (dec (lb m c h) 128) (fun j => dec (lb m c h) j.val) (fun k => vs m c h (31 - k)) (fun k => ks m c h (31 - k)) n.val e d := by
  unfold out1
  rw [cond1_keep _ main_v133_10, (states1 m c h (in1_z m c h) 32 (le_refl _)).2 n n.isLt d e, in1_w, st_swap,
    show u1 m c h = _ from funext (in1_u m c h),
    st_congr _ _ n.val (fun i hi => in1_v m c h i (hi.trans n.isLt)) (fun i hi => in1_k m c h i (hi.trans n.isLt)), ← st_rev (u := fun j => dec (lb m c h) j.val)]
  congr 1
  funext j
  rw [Fin.val_rev]
  congr 1
  have := j.isLt
  omega

/-! ### The gradient through the backward direction -/

theorem grad_in (h : Fin 8) (t : Fin 4096) (d : Fin 128) : atT (afterL [part2_s4, part2_s5, part3_s0] (out1 m c) (Proc.devRef .tc main_v143)) h t d
    = arg0 m c t ⟨128 * h.val + d.val, by omega⟩ := by
  simp only [afterL_cons, afterL_nil]
  rw [r_v143, part2_s5_keep _ main_arg0, part2_s4_keep _ main_arg0, out1_keep m c main_arg0]
  unfold in1
  rw [host1_keep _ main_arg0, out0_keep m c main_arg0]
  unfold in0
  rw [host0_keep _ main_arg0]
  rfl

theorem grad_chunk (h : Fin 8) (n : Fin 32) (j p : Fin 128) : arg0 m c (tok n j) ⟨128 * h.val + p.val, by omega⟩ = gs m c h n.val j p := by
  unfold gs chunks
  congr 1
  apply Fin.ext
  have := n.isLt
  show 128 * n.val + j.val = (128 * n.val + j.val) % 4096
  omega

theorem in2_g (n : Fin 32) (h : Fin 8) (j p : Fin 128) : atS (in2 m c (Proc.devRef .tc main_v148_0)) n h j p = gs m c h (31 - n.val) j.rev p := by
  have e := grad_in m c h (tok n j).rev p
  rw [rev_tok, grad_chunk] at e
  unfold in2 host2
  simp only [afterL_cons, afterL_nil] at e ⊢
  rw [r_v148_0, r_v144, rev_tok, e, show n.rev.val = 31 - n.val by have := n.isLt; rw [Fin.val_rev]; omega]

/-- What stands before the stretch that enters the third loop. -/
def mid2 : Valuation τ sig (Elt Ideal) := afterL [part2_s4, part2_s5, part3_s0, part3_s1] (out1 m c)

theorem in2_eq : in2 m c = after part3_s2 (mid2 m c) := by
  unfold in2 host2 mid2
  simp only [afterL_cons, afterL_nil]

theorem mid2_keep (r : Ref sig .tc) (h4 : r ∉ part2_s4_W := by decide +kernel) (h5 : r ∉ part2_s5_W := by decide +kernel)
    (h0 : r ∉ part3_s0_W := by decide +kernel) (h1 : r ∉ part3_s1_W := by decide +kernel) :
    mid2 m c (Proc.devRef .tc r) = out1 m c (Proc.devRef .tc r) := by
  unfold mid2
  simp only [afterL_cons, afterL_nil]
  rw [part3_s1_keep _ r h1, part3_s0_keep _ r h0, part2_s5_keep _ r h5, part2_s4_keep _ r h4]

theorem in2_k (n : Fin 32) (h : Fin 8) (j p : Fin 128) : atS (in2 m c (Proc.devRef .tc main_v148_1)) n h j p = ks m c h (31 - n.val) j.rev p := by
  rw [← in1_v124, in2_eq, (r_v148 _).1, mid2_keep m c main_v124,
    out1_keep m c main_v124]

theorem in2_v (n : Fin 32) (h : Fin 8) (j p : Fin 128) : atS (in2 m c (Proc.devRef .tc main_v148_2)) n h j p = vs m c h (31 - n.val) j.rev p := by
  rw [← in1_v126, in2_eq, (r_v148 _).2.1, mid2_keep m c main_v126,
    out1_keep m c main_v126]

theorem in2_s (n : Fin 32) (h : Fin 8) (d e : Fin 128) : atS (in2 m c (Proc.devRef .tc main_v148_3)) n h d e
    = st (dec (lb m c h) 128) (fun j => dec (lb m c h) j.val) (fun k => vs m c h (31 - k)) (fun k => ks m c h (31 - k)) n.val e d := by
  rw [← out1_state, in2_eq, (r_v148 _).2.2.1, mid2_keep m c main_v133_10]

theorem in2_mask (h : Fin 8) (p j : Fin 128) : atH (in2 m c (Proc.devRef .tc main_v148_4)) h p j = back true (lb m c h) p j := by
  rw [← in1_mask, in2_eq, (r_v148 _).2.2.2.1, mid2_keep m c main_v127,
    out1_keep m c main_v127]

theorem in2_q (h : Fin 8) (j : Fin 128) : atR (in2 m c (Proc.devRef .tc main_v148_5)) h j = dec (lb m c h) (j.val + 1) := by
  rw [← in1_q, in2_eq, (r_v148 _).2.2.2.2, mid2_keep m c main_v128,
    out1_keep m c main_v128]

/-- A chunk's tokens may be summed from its end. -/
theorem part_rev (S : Fin 128 → Fin 128 → EReal) (q : EReal) (mask : Fin 128 → EReal) (a : Fin 128 → EReal) (b c : Fin 128 → Fin 128 → EReal) (d : Fin 128) :
    part S q mask a (fun j => b j.rev) (fun j => c j.rev) d = part S q (fun j => mask j.rev) a b c d := by
  unfold part
  congr 1
  exact Fintype.sum_equiv Fin.revPerm _ _ fun j => by
    show (∑ e, a e * b j.rev e) * mask j * c j.rev d = (∑ e, a e * b j.rev e) * mask j.rev.rev * c j.rev d
    rw [Fin.rev_rev]

theorem part_congr {S S' : Fin 128 → Fin 128 → EReal} {q q' : EReal} {mask mask' : Fin 128 → EReal} {a a' : Fin 128 → EReal}
    {b b' c c' : Fin 128 → Fin 128 → EReal} {d : Fin 128} (hS : ∀ d e, S d e = S' d e) (hq : q = q') (hm : ∀ j, mask j = mask' j) (ha : ∀ e, a e = a' e)
    (hb : ∀ j e, b j e = b' j e) (hc : ∀ j d, c j d = c' j d) : part S q mask a b c d = part S' q' mask' a' b' c' d := by
  rw [show S = S' from funext fun d => funext fun e => hS d e, hq, funext hm, funext ha, show b = b' from funext fun d => funext fun e => hb d e,
    show c = c' from funext fun d => funext fun e => hc d e]

/-- What reaches token `r` of chunk `n` from the later chunks and the later tokens of its own. -/
theorem late (n : Fin 32) (h : Fin 8) (r d : Fin 128) : atS (out2 m c (Proc.devRef .tc main_v148_7)) n.rev h r.rev d
    = part (fun d e => st (dec (lb m c h) 128) (fun j => dec (lb m c h) j.val) (fun k => vs m c h (31 - k)) (fun k => ks m c h (31 - k)) (31 - n.val) e d)
        (dec (lb m c h) (128 - r.val)) (fun j => back true (lb m c h) j r) (gs m c h n.val r) (vs m c h n.val) (ks m c h n.val) d := by
  unfold out2
  rw [cond2_keep _ main_v148_7, grads2 m c h 32 (le_refl _) n.rev (by omega) r.rev d]
  have hn : 31 - n.rev.val = n.val := by have := n.isLt; rw [Fin.val_rev]; omega
  have hn' : n.rev.val = 31 - n.val := by have := n.isLt; rw [Fin.val_rev]; omega
  have hr : r.rev.val + 1 = 128 - r.val := by have := r.isLt; rw [Fin.val_rev]; omega
  have e := part_rev (fun d e => st (dec (lb m c h) 128) (fun j => dec (lb m c h) j.val) (fun k => vs m c h (31 - k)) (fun k => ks m c h (31 - k)) (31 - n.val) e d)
    (dec (lb m c h) (128 - r.val)) (fun j => back true (lb m c h) r.rev j) (gs m c h n.val r) (vs m c h n.val) (ks m c h n.val) d
  rw [show (fun j : Fin 128 => back true (lb m c h) r.rev j.rev) = fun j => back true (lb m c h) j r from funext fun j => back_rev _ _ _ _] at e
  rw [← e]
  exact part_congr (fun d e => by rw [in2_s, hn']) (by rw [in2_q, hr]) (fun j => in2_mask m c h _ j) (fun e => by rw [in2_g, hn, Fin.rev_rev])
    (fun j e => by rw [in2_v, hn]) (fun j d => by rw [in2_k, hn])

/-! ### The gradient through the forward direction -/

theorem in2_of (r : Ref sig .tc) (h : r ∉ host2_W := by decide +kernel) : in2 m c (Proc.devRef .tc r) = out1 m c (Proc.devRef .tc r) := by
  unfold in2
  exact host2_keep _ r h
theorem in1_of (r : Ref sig .tc) (h : r ∉ host1_W := by decide +kernel) : in1 m c (Proc.devRef .tc r) = out0 m c (Proc.devRef .tc r) := by
  unfold in1
  exact host1_keep _ r h

theorem in3_g (n : Fin 32) (h : Fin 8) (j p : Fin 128) : atS (in3 m c (Proc.devRef .tc main_v155_0)) n h j p = gs m c h n.val j p := by
  have e := grad_in m c h (tok n j) p
  rw [grad_chunk] at e
  unfold in3 host3
  simp only [afterL_cons, afterL_nil] at e ⊢
  rw [r_v155_0, part3_s5_keep _ main_v143, part3_s4_keep _ main_v143, out2_keep m c main_v143]
  unfold in2 host2
  simp only [afterL_cons, afterL_nil]
  rw [part3_s2_keep _ main_v143, part3_s1_keep _ main_v143, e]

/-- What stands before the stretch that enters the last loop. -/
def mid3 : Valuation τ sig (Elt Ideal) := afterL [part3_s4, part3_s5] (out2 m c)

theorem in3_eq : in3 m c = after part3_s6 (mid3 m c) := by
  unfold in3 host3 mid3
  simp only [afterL_cons, afterL_nil]

theorem mid3_keep (r : Ref sig .tc) (h4 : r ∉ part3_s4_W := by decide +kernel) (h5 : r ∉ part3_s5_W := by decide +kernel) :
    mid3 m c (Proc.devRef .tc r) = out2 m c (Proc.devRef .tc r) := by
  unfold mid3
  simp only [afterL_cons, afterL_nil]
  rw [part3_s5_keep _ r h5, part3_s4_keep _ r h4]

theorem in3_k (n : Fin 32) (h : Fin 8) (j p : Fin 128) : atS (in3 m c (Proc.devRef .tc main_v155_1)) n h j p = ks m c h n.val j p := by
  rw [← in0_v66, in3_eq, (r_v155 _).1, mid3_keep m c main_v66,
    out2_keep m c main_v66, in2_of m c main_v66, out1_keep m c main_v66, in1_of m c main_v66, out0_keep m c main_v66]

theorem in3_v (n : Fin 32) (h : Fin 8) (j p : Fin 128) : atS (in3 m c (Proc.devRef .tc main_v155_2)) n h j p = vs m c h n.val j p := by
  rw [← in0_v68, in3_eq, (r_v155 _).2.1, mid3_keep m c main_v68,
    out2_keep m c main_v68, in2_of m c main_v68, out1_keep m c main_v68, in1_of m c main_v68, out0_keep m c main_v68]

theorem in3_s (n : Fin 32) (h : Fin 8) (d e : Fin 128) : atS (in3 m c (Proc.devRef .tc main_v155_3)) n h d e
    = st (dec (lf m c h) 128) (fun j => dec (lf m c h) (127 - j.val)) (vs m c h) (ks m c h) n.val e d := by
  rw [← out0_state, in3_eq, (r_v155 _).2.2.1, mid3_keep m c main_v75_10,
    out2_keep m c main_v75_10, in2_of m c main_v75_10, out1_keep m c main_v75_10, in1_of m c main_v75_10]

theorem in3_mask (h : Fin 8) (p j : Fin 128) : atH (in3 m c (Proc.devRef .tc main_v155_4)) h p j = back false (lf m c h) p j := by
  rw [← in0_mask, in3_eq, (r_v155 _).2.2.2.1, mid3_keep m c main_v69,
    out2_keep m c main_v69, in2_of m c main_v69, out1_keep m c main_v69, in1_of m c main_v69, out0_keep m c main_v69]

theorem in3_q (h : Fin 8) (j : Fin 128) : atR (in3 m c (Proc.devRef .tc main_v155_5)) h j = dec (lf m c h) (j.val + 1) := by
  rw [← in0_q, in3_eq, (r_v155 _).2.2.2.2, mid3_keep m c main_v70,
    out2_keep m c main_v70, in2_of m c main_v70, out1_keep m c main_v70, in1_of m c main_v70, out0_keep m c main_v70]

/-- What reaches token `r` of chunk `n` from the earlier chunks and from its own up to itself. -/
theorem early (n : Fin 32) (h : Fin 8) (r d : Fin 128) : atS (out3 m c (Proc.devRef .tc main_v155_7)) n h r d
    = part (fun d e => st (dec (lf m c h) 128) (fun j => dec (lf m c h) (127 - j.val)) (vs m c h) (ks m c h) n.val e d)
        (dec (lf m c h) (r.val + 1)) (back false (lf m c h) r) (gs m c h n.val r) (vs m c h n.val) (ks m c h n.val) d := by
  unfold out3
  rw [cond3_keep _ main_v155_7, grads3 m c h 32 (le_refl _) n (by omega) r d]
  exact part_congr (fun d e => in3_s m c n h d e) (in3_q m c h r) (fun j => in3_mask m c h r j) (fun e => in3_g m c n h r e)
    (fun j e => in3_v m c n h j e) (fun j d => in3_k m c n h j d)

/-! ### The result -/

theorem v151 (n : Fin 32) (h : Fin 8) (r d : Fin 128) : atT (out3 m c (Proc.devRef .tc main_v151)) h (tok n r) d
    = atS (out2 m c (Proc.devRef .tc main_v148_7)) n.rev h r.rev d := by
  rw [out3_keep m c main_v151]
  unfold in3 host3
  simp only [afterL_cons, afterL_nil]
  rw [part3_s6_keep _ main_v151, r_v151, rev_tok, r_v150]

theorem entry (n : Fin 32) (r : Fin 128) (h : Fin 8) (d : Fin 128) :
    (fin m c (Proc.devRef .tc main_v164) : Vec Ideal S4096x1024 .bf16) (ix2 (tok n r) ⟨128 * h.val + d.val, by omega⟩)
      = value (arg0 m c) (arg1 m c) (arg2 m c) (arg3 m c) n r h d := by
  unfold fin host4
  simp only [afterL_cons, afterL_nil]
  refine (r_v164 _ n r h d).trans ?_
  rw [v151, late, early]
  unfold value target
  exact congrArg (· * Ideal.ofBits .f32 0x3DB504F3#32) (both_eq _ _ _ _ _ _ _ _ (dec_nonneg (lf m c h) _) (dec_nonneg (lb m c h) _)
    (dec_ne_top (rate_nonpos (arg2 m c h)) _) (dec_ne_top (rate_nonpos (arg3 m c h)) _) (fun j => back_or (lf m c h) (lb m c h) r j)).symm

/-- The result, entry by entry. -/
theorem final : (fin m c (Proc.devRef .tc main_v164) : Vec Ideal S4096x1024 .bf16) = fun i =>
    value (arg0 m c) (arg1 m c) (arg2 m c) (arg3 m c) ⟨(i 0).val / 128, by have : (i 0).val < 4096 := (i 0).isLt; omega⟩
      ⟨(i 0).val % 128, Nat.mod_lt _ (by decide)⟩ ⟨(i 1).val / 128, by have : (i 1).val < 1024 := (i 1).isLt; omega⟩
      ⟨(i 1).val % 128, Nat.mod_lt _ (by decide)⟩ := by
  funext i
  rw [← entry]
  congr 1
  funext a
  match a with
  | 0 => exact Fin.ext (Nat.div_add_mod (i 0).val 128).symm
  | 1 => exact Fin.ext (Nat.div_add_mod (i 1).val 128).symm

end Cert.ReferenceIdeal.Result

end
-- ==== Proof.lean ====
/-
  The claims put together: each program's side conditions and frame, the idealization, and the equality of the kernel's
  result with the reference's over the extended reals. The kernel and its ideal
  program have the same text, so that the run of the ideal program, which holds over any float values, is the frame of
  both.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Regions
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.OptimiserFrames
public import proofs.«01_k».proof.Proof.OptimiserValues
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Read
public import proofs.«01_k».proof.Proof.Gen.Pre_finite2
public import proofs.«01_k».proof.Proof.Frames
public import proofs.«01_k».proof.Proof.Values
public import proofs.«01_k».proof.Proof.KernelResult
public import proofs.«01_k».proof.Proof.ReferenceValue
public import Idealize.ShloMosaic.Adequacy
public import Idealize.ShloMosaic.Init

@[expose] public section

noncomputable section

namespace Cert.Proof

open Idealize.ShloMosaic Idealize.SL.Sem

/-- The two programs have one body table: the kernel's function is the same text in both. -/
theorem bodies_eq {F : FTy → Type} [FloatOps F] :
    @Cert.Kernel.defs₀ F _ Cert.Kernel.Gen.facts = @Cert.KernelIdeal.defs₀ F _ Cert.KernelIdeal.Gen.facts := by
  unfold Cert.Kernel.defs₀ Cert.KernelIdeal.defs₀
  congr 1
  funext l a
  match l, a with
  | 0, (_, _) => rfl
  | ⟨_ + 1, h⟩, _ => exact absurd h (Nat.not_lt.2 (Nat.le_add_left _ _))

/-- The two programs have one table of labels, the pipelines' included. -/
theorem defs_eq {F : FTy → Type} [FloatOps F] :
    @Cert.Kernel.defs F _ Cert.Kernel.Gen.facts = @Cert.KernelIdeal.defs F _ Cert.KernelIdeal.Gen.facts :=
  congrArg (Pipeline.defs (@Cert.KernelIdeal.pcfgs F Cert.KernelIdeal.Gen.facts)) bodies_eq

/-- The kernel's frame is the ideal program's run, read at machine floats. -/
theorem frame_kernel : Cert.quiescent_Kernel := by
  intro m ρ _
  rw [defs_eq]
  exact (θ_run Cert.KernelIdeal.defs _ _).mono (fun _ h => h) (Cert.KernelIdeal.Body.frame (F := Bits) m ρ)

/-- The two programs' results are one function of the arguments. -/
theorem value : Cert.algebraic_KernelIdeal_ReferenceIdeal := by
  intro m g m' g' _ hm
  refine ⟨fun c => Cert.KernelIdeal.Result.result m c, Cert.KernelIdeal.Result.run m g, ?_⟩
  refine (θ_run Cert.ReferenceIdeal.defs _ _).mono (fun r h c => ⟨?_, h.2.1 c⟩)
    (θ_run_and (Cert.ReferenceIdeal.Host.run_fold m' g') (Cert.ReferenceIdeal.Host.frame m' g'))
  refine ((h.1 c Cert.ReferenceIdeal.main_v164 rfl).trans (Cert.ReferenceIdeal.Result.final m' c)).trans ?_
  have e0 : Cert.ReferenceIdeal.Result.arg0 m' c = Cert.KernelIdeal.Result.arg0 m c := by
    funext t x; exact congrFun (hm c).1 (ix2 t x)
  have e1 : Cert.ReferenceIdeal.Result.arg1 m' c = Cert.KernelIdeal.Result.arg1 m c := by
    funext t x; exact congrFun (hm c).2.1 (ix2 t x)
  have e2 : Cert.ReferenceIdeal.Result.arg2 m' c = Cert.KernelIdeal.Result.arg2 m c := by
    funext x; exact congrFun (hm c).2.2.1 (ix2 0 x)
  have e3 : Cert.ReferenceIdeal.Result.arg3 m' c = Cert.KernelIdeal.Result.arg3 m c := by
    funext x; exact congrFun (hm c).2.2.2 (ix2 0 x)
  rw [e0, e1, e2, e3]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite2.Gen.facts,
  frame_kernel, fun m ρ _ => Cert.KernelIdeal.Body.frame m ρ, fun m ρ _ => Cert.ReferenceIdeal.Host.frame m ρ,
  frame_kernel2, frame_ideal2, fun m ρ _ => frame_ideal2 m ρ trivial, frame_reference2, fun m ρ _ => frame_reference2 m ρ trivial,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  trivial, value, trivial, value2, trivial, value3, trivial, value4, trivial, value5, trivial, value6, trivial, value7,
  trivial, value8, trivial, value9⟩

end Cert.Proof

end
